-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSampleReferenceIdeal (m : (ℓ : Loc Cert.ProjectSampleReferenceIdeal.nD Cert.ProjectSampleReferenceIdeal.τ Cert.ProjectSampleReferenceIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleReferenceIdeal (m : (ℓ : Loc Cert.NormSampleReferenceIdeal.nD Cert.NormSampleReferenceIdeal.τ Cert.NormSampleReferenceIdeal.sig) → Buf (Elt Ideal) ℓ) : Prop :=
  True

def Pre_GlaSample (m : (ℓ : Loc Cert.GlaSample.nD Cert.GlaSample.τ Cert.GlaSample.sig) → Buf (Elt Bits) ℓ) : Prop :=
  True

def Pre_GlaSampleIdeal (m : (ℓ : Loc Cert.GlaSampleIdeal.nD Cert.GlaSampleIdeal.τ Cert.GlaSampleIdeal.sig) → Buf (Elt Ideal) ℓ) : Prop :=
  True

def Pre_GlaSampleIdeal_finite_kv [hPre_finite_kv : Cert.Pre_finite_kv.Facts] (m : (ℓ : Loc Cert.GlaSampleIdeal.nD Cert.GlaSampleIdeal.τ Cert.GlaSampleIdeal.sig) → Buf (Elt Ideal) ℓ) : Prop :=
  ∀ c : Dev Cert.GlaSampleIdeal.nD,
    (Cert.Pre_finite_kv.fn (F := Ideal) (m ((c.tc : Thread Cert.GlaSampleIdeal.nD Cert.GlaSampleIdeal.τ).loc Cert.GlaSampleIdeal.main_arg0)) (m ((c.tc : Thread Cert.GlaSampleIdeal.nD Cert.GlaSampleIdeal.τ).loc Cert.GlaSampleIdeal.main_arg1)) (m ((c.tc : Thread Cert.GlaSampleIdeal.nD Cert.GlaSampleIdeal.τ).loc Cert.GlaSampleIdeal.main_arg2)) (m ((c.tc : Thread Cert.GlaSampleIdeal.nD Cert.GlaSampleIdeal.τ).loc Cert.GlaSampleIdeal.main_arg3)) (m ((c.tc : Thread Cert.GlaSampleIdeal.nD Cert.GlaSampleIdeal.τ).loc Cert.GlaSampleIdeal.main_arg4)) (m ((c.tc : Thread Cert.GlaSampleIdeal.nD Cert.GlaSampleIdeal.τ).loc Cert.GlaSampleIdeal.main_arg5)) (m ((c.tc : Thread Cert.GlaSampleIdeal.nD Cert.GlaSampleIdeal.τ).loc Cert.GlaSampleIdeal.main_arg6)) (m ((c.tc : Thread Cert.GlaSampleIdeal.nD Cert.GlaSampleIdeal.τ).loc Cert.GlaSampleIdeal.main_arg7)) (m ((c.tc : Thread Cert.GlaSampleIdeal.nD Cert.GlaSampleIdeal.τ).loc Cert.GlaSampleIdeal.main_arg8))) = (fun _ => 1#1)

def Pre_GlaSampleReferenceIdeal (m : (ℓ : Loc Cert.GlaSampleReferenceIdeal.nD Cert.GlaSampleReferenceIdeal.τ Cert.GlaSampleReferenceIdeal.sig) → Buf (Elt Ideal) ℓ) : Prop :=
  True

def Pre_GlaSampleReferenceIdeal_finite_kv [hPre_finite_kv : Cert.Pre_finite_kv.Facts] (m : (ℓ : Loc Cert.GlaSampleReferenceIdeal.nD Cert.GlaSampleReferenceIdeal.τ Cert.GlaSampleReferenceIdeal.sig) → Buf (Elt Ideal) ℓ) : Prop :=
  ∀ c : Dev Cert.GlaSampleReferenceIdeal.nD,
    (Cert.Pre_finite_kv.fn (F := Ideal) (m ((c.tc : Thread Cert.GlaSampleReferenceIdeal.nD Cert.GlaSampleReferenceIdeal.τ).loc Cert.GlaSampleReferenceIdeal.main_arg0)) (m ((c.tc : Thread Cert.GlaSampleReferenceIdeal.nD Cert.GlaSampleReferenceIdeal.τ).loc Cert.GlaSampleReferenceIdeal.main_arg1)) (m ((c.tc : Thread Cert.GlaSampleReferenceIdeal.nD Cert.GlaSampleReferenceIdeal.τ).loc Cert.GlaSampleReferenceIdeal.main_arg2)) (m ((c.tc : Thread Cert.GlaSampleReferenceIdeal.nD Cert.GlaSampleReferenceIdeal.τ).loc Cert.GlaSampleReferenceIdeal.main_arg3)) (m ((c.tc : Thread Cert.GlaSampleReferenceIdeal.nD Cert.GlaSampleReferenceIdeal.τ).loc Cert.GlaSampleReferenceIdeal.main_arg4)) (m ((c.tc : Thread Cert.GlaSampleReferenceIdeal.nD Cert.GlaSampleReferenceIdeal.τ).loc Cert.GlaSampleReferenceIdeal.main_arg5)) (m ((c.tc : Thread Cert.GlaSampleReferenceIdeal.nD Cert.GlaSampleReferenceIdeal.τ).loc Cert.GlaSampleReferenceIdeal.main_arg6)) (m ((c.tc : Thread Cert.GlaSampleReferenceIdeal.nD Cert.GlaSampleReferenceIdeal.τ).loc Cert.GlaSampleReferenceIdeal.main_arg7)) (m ((c.tc : Thread Cert.GlaSampleReferenceIdeal.nD Cert.GlaSampleReferenceIdeal.τ).loc Cert.GlaSampleReferenceIdeal.main_arg8))) = (fun _ => 1#1)

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_gates [hPre_finite_gates : Cert.Pre_finite_gates.Facts] (m : (ℓ : Loc Cert.GlaIdeal.nD Cert.GlaIdeal.τ Cert.GlaIdeal.sig) → Buf (Elt Ideal) ℓ) : Prop :=
  ∀ c : Dev Cert.GlaIdeal.nD,
    (Cert.Pre_finite_gates.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7))) = (fun _ => 1#1)

def Pre_GlaReferenceIdeal (m : (ℓ : Loc Cert.GlaReferenceIdeal.nD Cert.GlaReferenceIdeal.τ Cert.GlaReferenceIdeal.sig) → Buf (Elt Ideal) ℓ) : Prop :=
  True

def Pre_GlaReferenceIdeal_finite_gates [hPre_finite_gates : Cert.Pre_finite_gates.Facts] (m : (ℓ : Loc Cert.GlaReferenceIdeal.nD Cert.GlaReferenceIdeal.τ Cert.GlaReferenceIdeal.sig) → Buf (Elt Ideal) ℓ) : Prop :=
  ∀ c : Dev Cert.GlaReferenceIdeal.nD,
    (Cert.Pre_finite_gates.fn (F := Ideal) (m ((c.tc : Thread Cert.GlaReferenceIdeal.nD Cert.GlaReferenceIdeal.τ).loc Cert.GlaReferenceIdeal.main_arg0)) (m ((c.tc : Thread Cert.GlaReferenceIdeal.nD Cert.GlaReferenceIdeal.τ).loc Cert.GlaReferenceIdeal.main_arg1)) (m ((c.tc : Thread Cert.GlaReferenceIdeal.nD Cert.GlaReferenceIdeal.τ).loc Cert.GlaReferenceIdeal.main_arg2)) (m ((c.tc : Thread Cert.GlaReferenceIdeal.nD Cert.GlaReferenceIdeal.τ).loc Cert.GlaReferenceIdeal.main_arg3)) (m ((c.tc : Thread Cert.GlaReferenceIdeal.nD Cert.GlaReferenceIdeal.τ).loc Cert.GlaReferenceIdeal.main_arg4)) (m ((c.tc : Thread Cert.GlaReferenceIdeal.nD Cert.GlaReferenceIdeal.τ).loc Cert.GlaReferenceIdeal.main_arg5)) (m ((c.tc : Thread Cert.GlaReferenceIdeal.nD Cert.GlaReferenceIdeal.τ).loc Cert.GlaReferenceIdeal.main_arg6)) (m ((c.tc : Thread Cert.GlaReferenceIdeal.nD Cert.GlaReferenceIdeal.τ).loc Cert.GlaReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2))
      ∧ r.2.sem = fun _ => 0)

def quiescent_ProjectSampleReferenceIdeal [hProjectSampleReferenceIdeal : Cert.ProjectSampleReferenceIdeal.Facts] : Prop :=
  ∀ (m : (ℓ : Loc Cert.ProjectSampleReferenceIdeal.nD Cert.ProjectSampleReferenceIdeal.τ Cert.ProjectSampleReferenceIdeal.sig) → Buf (Elt Ideal) ℓ) (g : Dev Cert.ProjectSampleReferenceIdeal.nD → PrngReg), Pre_ProjectSampleReferenceIdeal m →
    θ_run (Cert.ProjectSampleReferenceIdeal.defs (F := Ideal)) (onTc (τ := Cert.ProjectSampleReferenceIdeal.τ) (Cert.ProjectSampleReferenceIdeal.main (F := Ideal))) ⟨m, fun _ => 0, g⟩ (fun r => (∀ c : Dev Cert.ProjectSampleReferenceIdeal.nD,
      r.2.mem ((c.tc : Thread Cert.ProjectSampleReferenceIdeal.nD Cert.ProjectSampleReferenceIdeal.τ).loc Cert.ProjectSampleReferenceIdeal.main_arg0) = m ((c.tc : Thread Cert.ProjectSampleReferenceIdeal.nD Cert.ProjectSampleReferenceIdeal.τ).loc Cert.ProjectSampleReferenceIdeal.main_arg0)
      ∧ r.2.mem ((c.tc : Thread Cert.ProjectSampleReferenceIdeal.nD Cert.ProjectSampleReferenceIdeal.τ).loc Cert.ProjectSampleReferenceIdeal.main_arg1) = m ((c.tc : Thread Cert.ProjectSampleReferenceIdeal.nD Cert.ProjectSampleReferenceIdeal.τ).loc Cert.ProjectSampleReferenceIdeal.main_arg1)
      ∧ r.2.mem ((c.tc : Thread Cert.ProjectSampleReferenceIdeal.nD Cert.ProjectSampleReferenceIdeal.τ).loc Cert.ProjectSampleReferenceIdeal.main_arg2) = m ((c.tc : Thread Cert.ProjectSampleReferenceIdeal.nD Cert.ProjectSampleReferenceIdeal.τ).loc Cert.ProjectSampleReferenceIdeal.main_arg2))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleReferenceIdeal [hNormSampleReferenceIdeal : Cert.NormSampleReferenceIdeal.Facts] : Prop :=
  ∀ (m : (ℓ : Loc Cert.NormSampleReferenceIdeal.nD Cert.NormSampleReferenceIdeal.τ Cert.NormSampleReferenceIdeal.sig) → Buf (Elt Ideal) ℓ) (g : Dev Cert.NormSampleReferenceIdeal.nD → PrngReg), Pre_NormSampleReferenceIdeal m →
    θ_run (Cert.NormSampleReferenceIdeal.defs (F := Ideal)) (onTc (τ := Cert.NormSampleReferenceIdeal.τ) (Cert.NormSampleReferenceIdeal.main (F := Ideal))) ⟨m, fun _ => 0, g⟩ (fun r => (∀ c : Dev Cert.NormSampleReferenceIdeal.nD,
      r.2.mem ((c.tc : Thread Cert.NormSampleReferenceIdeal.nD Cert.NormSampleReferenceIdeal.τ).loc Cert.NormSampleReferenceIdeal.main_arg0) = m ((c.tc : Thread Cert.NormSampleReferenceIdeal.nD Cert.NormSampleReferenceIdeal.τ).loc Cert.NormSampleReferenceIdeal.main_arg0)
      ∧ r.2.mem ((c.tc : Thread Cert.NormSampleReferenceIdeal.nD Cert.NormSampleReferenceIdeal.τ).loc Cert.NormSampleReferenceIdeal.main_arg1) = m ((c.tc : Thread Cert.NormSampleReferenceIdeal.nD Cert.NormSampleReferenceIdeal.τ).loc Cert.NormSampleReferenceIdeal.main_arg1))
      ∧ r.2.sem = fun _ => 0)

def quiescent_GlaSample [hGlaSample : Cert.GlaSample.Facts] : Prop :=
  ∀ (m : (ℓ : Loc Cert.GlaSample.nD Cert.GlaSample.τ Cert.GlaSample.sig) → Buf (Elt Bits) ℓ) (g : Dev Cert.GlaSample.nD → PrngReg), Pre_GlaSample m →
    θ_run (Cert.GlaSample.defs (F := Bits)) (onTc (τ := Cert.GlaSample.τ) (Cert.GlaSample.main (F := Bits))) ⟨m, fun _ => 0, g⟩ (fun r => (∀ c : Dev Cert.GlaSample.nD,
      r.2.mem ((c.tc : Thread Cert.GlaSample.nD Cert.GlaSample.τ).loc Cert.GlaSample.main_arg0) = m ((c.tc : Thread Cert.GlaSample.nD Cert.GlaSample.τ).loc Cert.GlaSample.main_arg0)
      ∧ r.2.mem ((c.tc : Thread Cert.GlaSample.nD Cert.GlaSample.τ).loc Cert.GlaSample.main_arg1) = m ((c.tc : Thread Cert.GlaSample.nD Cert.GlaSample.τ).loc Cert.GlaSample.main_arg1)
      ∧ r.2.mem ((c.tc : Thread Cert.GlaSample.nD Cert.GlaSample.τ).loc Cert.GlaSample.main_arg2) = m ((c.tc : Thread Cert.GlaSample.nD Cert.GlaSample.τ).loc Cert.GlaSample.main_arg2)
      ∧ r.2.mem ((c.tc : Thread Cert.GlaSample.nD Cert.GlaSample.τ).loc Cert.GlaSample.main_arg3) = m ((c.tc : Thread Cert.GlaSample.nD Cert.GlaSample.τ).loc Cert.GlaSample.main_arg3)
      ∧ r.2.mem ((c.tc : Thread Cert.GlaSample.nD Cert.GlaSample.τ).loc Cert.GlaSample.main_arg4) = m ((c.tc : Thread Cert.GlaSample.nD Cert.GlaSample.τ).loc Cert.GlaSample.main_arg4)
      ∧ r.2.mem ((c.tc : Thread Cert.GlaSample.nD Cert.GlaSample.τ).loc Cert.GlaSample.main_arg5) = m ((c.tc : Thread Cert.GlaSample.nD Cert.GlaSample.τ).loc Cert.GlaSample.main_arg5)
      ∧ r.2.mem ((c.tc : Thread Cert.GlaSample.nD Cert.GlaSample.τ).loc Cert.GlaSample.main_arg6) = m ((c.tc : Thread Cert.GlaSample.nD Cert.GlaSample.τ).loc Cert.GlaSample.main_arg6)
      ∧ r.2.mem ((c.tc : Thread Cert.GlaSample.nD Cert.GlaSample.τ).loc Cert.GlaSample.main_arg7) = m ((c.tc : Thread Cert.GlaSample.nD Cert.GlaSample.τ).loc Cert.GlaSample.main_arg7)
      ∧ r.2.mem ((c.tc : Thread Cert.GlaSample.nD Cert.GlaSample.τ).loc Cert.GlaSample.main_arg8) = m ((c.tc : Thread Cert.GlaSample.nD Cert.GlaSample.τ).loc Cert.GlaSample.main_arg8))
      ∧ r.2.sem = fun _ => 0)

def quiescent_GlaSampleIdeal [hGlaSampleIdeal : Cert.GlaSampleIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4)
      ∧ r.2.mem ((c.tc : Thread Cert.GlaSampleIdeal.nD Cert.GlaSampleIdeal.τ).loc Cert.GlaSampleIdeal.main_arg5) = m ((c.tc : Thread Cert.GlaSampleIdeal.nD Cert.GlaSampleIdeal.τ).loc Cert.GlaSampleIdeal.main_arg5)
      ∧ r.2.mem ((c.tc : Thread Cert.GlaSampleIdeal.nD Cert.GlaSampleIdeal.τ).loc Cert.GlaSampleIdeal.main_arg6) = m ((c.tc : Thread Cert.GlaSampleIdeal.nD Cert.GlaSampleIdeal.τ).loc Cert.GlaSampleIdeal.main_arg6)
      ∧ r.2.mem ((c.tc : Thread Cert.GlaSampleIdeal.nD Cert.GlaSampleIdeal.τ).loc Cert.GlaSampleIdeal.main_arg7) = m ((c.tc : Thread Cert.GlaSampleIdeal.nD Cert.GlaSampleIdeal.τ).loc Cert.GlaSampleIdeal.main_arg7)
      ∧ r.2.mem ((c.tc : Thread Cert.GlaSampleIdeal.nD Cert.GlaSampleIdeal.τ).loc Cert.GlaSampleIdeal.main_arg8) = m ((c.tc : Thread Cert.GlaSampleIdeal.nD Cert.GlaSampleIdeal.τ).loc Cert.GlaSampleIdeal.main_arg8))
      ∧ r.2.sem = fun _ => 0)

def quiescent_GlaSampleIdeal_pre_finite_kv [hGlaSampleIdeal : Cert.GlaSampleIdeal.Facts] [hPre_finite_kv : Cert.Pre_finite_kv.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal_finite_kv m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4)
      ∧ r.2.mem ((c.tc : Thread Cert.GlaSampleIdeal.nD Cert.GlaSampleIdeal.τ).loc Cert.GlaSampleIdeal.main_arg5) = m ((c.tc : Thread Cert.GlaSampleIdeal.nD Cert.GlaSampleIdeal.τ).loc Cert.GlaSampleIdeal.main_arg5)
      ∧ r.2.mem ((c.tc : Thread Cert.GlaSampleIdeal.nD Cert.GlaSampleIdeal.τ).loc Cert.GlaSampleIdeal.main_arg6) = m ((c.tc : Thread Cert.GlaSampleIdeal.nD Cert.GlaSampleIdeal.τ).loc Cert.GlaSampleIdeal.main_arg6)
      ∧ r.2.mem ((c.tc : Thread Cert.GlaSampleIdeal.nD Cert.GlaSampleIdeal.τ).loc Cert.GlaSampleIdeal.main_arg7) = m ((c.tc : Thread Cert.GlaSampleIdeal.nD Cert.GlaSampleIdeal.τ).loc Cert.GlaSampleIdeal.main_arg7)
      ∧ r.2.mem ((c.tc : Thread Cert.GlaSampleIdeal.nD Cert.GlaSampleIdeal.τ).loc Cert.GlaSampleIdeal.main_arg8) = m ((c.tc : Thread Cert.GlaSampleIdeal.nD Cert.GlaSampleIdeal.τ).loc Cert.GlaSampleIdeal.main_arg8))
      ∧ r.2.sem = fun _ => 0)

def quiescent_GlaSampleReferenceIdeal [hGlaSampleReferenceIdeal : Cert.GlaSampleReferenceIdeal.Facts] : Prop :=
  ∀ (m : (ℓ : Loc Cert.GlaSampleReferenceIdeal.nD Cert.GlaSampleReferenceIdeal.τ Cert.GlaSampleReferenceIdeal.sig) → Buf (Elt Ideal) ℓ) (g : Dev Cert.GlaSampleReferenceIdeal.nD → PrngReg), Pre_GlaSampleReferenceIdeal m →
    θ_run (Cert.GlaSampleReferenceIdeal.defs (F := Ideal)) (onTc (τ := Cert.GlaSampleReferenceIdeal.τ) (Cert.GlaSampleReferenceIdeal.main (F := Ideal))) ⟨m, fun _ => 0, g⟩ (fun r => (∀ c : Dev Cert.GlaSampleReferenceIdeal.nD,
      r.2.mem ((c.tc : Thread Cert.GlaSampleReferenceIdeal.nD Cert.GlaSampleReferenceIdeal.τ).loc Cert.GlaSampleReferenceIdeal.main_arg0) = m ((c.tc : Thread Cert.GlaSampleReferenceIdeal.nD Cert.GlaSampleReferenceIdeal.τ).loc Cert.GlaSampleReferenceIdeal.main_arg0)
      ∧ r.2.mem ((c.tc : Thread Cert.GlaSampleReferenceIdeal.nD Cert.GlaSampleReferenceIdeal.τ).loc Cert.GlaSampleReferenceIdeal.main_arg1) = m ((c.tc : Thread Cert.GlaSampleReferenceIdeal.nD Cert.GlaSampleReferenceIdeal.τ).loc Cert.GlaSampleReferenceIdeal.main_arg1)
      ∧ r.2.mem ((c.tc : Thread Cert.GlaSampleReferenceIdeal.nD Cert.GlaSampleReferenceIdeal.τ).loc Cert.GlaSampleReferenceIdeal.main_arg2) = m ((c.tc : Thread Cert.GlaSampleReferenceIdeal.nD Cert.GlaSampleReferenceIdeal.τ).loc Cert.GlaSampleReferenceIdeal.main_arg2)
      ∧ r.2.mem ((c.tc : Thread Cert.GlaSampleReferenceIdeal.nD Cert.GlaSampleReferenceIdeal.τ).loc Cert.GlaSampleReferenceIdeal.main_arg3) = m ((c.tc : Thread Cert.GlaSampleReferenceIdeal.nD Cert.GlaSampleReferenceIdeal.τ).loc Cert.GlaSampleReferenceIdeal.main_arg3)
      ∧ r.2.mem ((c.tc : Thread Cert.GlaSampleReferenceIdeal.nD Cert.GlaSampleReferenceIdeal.τ).loc Cert.GlaSampleReferenceIdeal.main_arg4) = m ((c.tc : Thread Cert.GlaSampleReferenceIdeal.nD Cert.GlaSampleReferenceIdeal.τ).loc Cert.GlaSampleReferenceIdeal.main_arg4)
      ∧ r.2.mem ((c.tc : Thread Cert.GlaSampleReferenceIdeal.nD Cert.GlaSampleReferenceIdeal.τ).loc Cert.GlaSampleReferenceIdeal.main_arg5) = m ((c.tc : Thread Cert.GlaSampleReferenceIdeal.nD Cert.GlaSampleReferenceIdeal.τ).loc Cert.GlaSampleReferenceIdeal.main_arg5)
      ∧ r.2.mem ((c.tc : Thread Cert.GlaSampleReferenceIdeal.nD Cert.GlaSampleReferenceIdeal.τ).loc Cert.GlaSampleReferenceIdeal.main_arg6) = m ((c.tc : Thread Cert.GlaSampleReferenceIdeal.nD Cert.GlaSampleReferenceIdeal.τ).loc Cert.GlaSampleReferenceIdeal.main_arg6)
      ∧ r.2.mem ((c.tc : Thread Cert.GlaSampleReferenceIdeal.nD Cert.GlaSampleReferenceIdeal.τ).loc Cert.GlaSampleReferenceIdeal.main_arg7) = m ((c.tc : Thread Cert.GlaSampleReferenceIdeal.nD Cert.GlaSampleReferenceIdeal.τ).loc Cert.GlaSampleReferenceIdeal.main_arg7)
      ∧ r.2.mem ((c.tc : Thread Cert.GlaSampleReferenceIdeal.nD Cert.GlaSampleReferenceIdeal.τ).loc Cert.GlaSampleReferenceIdeal.main_arg8) = m ((c.tc : Thread Cert.GlaSampleReferenceIdeal.nD Cert.GlaSampleReferenceIdeal.τ).loc Cert.GlaSampleReferenceIdeal.main_arg8))
      ∧ r.2.sem = fun _ => 0)

def quiescent_GlaSampleReferenceIdeal_pre_finite_kv [hGlaSampleReferenceIdeal : Cert.GlaSampleReferenceIdeal.Facts] [hPre_finite_kv : Cert.Pre_finite_kv.Facts] : Prop :=
  ∀ (m : (ℓ : Loc Cert.GlaSampleReferenceIdeal.nD Cert.GlaSampleReferenceIdeal.τ Cert.GlaSampleReferenceIdeal.sig) → Buf (Elt Ideal) ℓ) (g : Dev Cert.GlaSampleReferenceIdeal.nD → PrngReg), Pre_GlaSampleReferenceIdeal_finite_kv m →
    θ_run (Cert.GlaSampleReferenceIdeal.defs (F := Ideal)) (onTc (τ := Cert.GlaSampleReferenceIdeal.τ) (Cert.GlaSampleReferenceIdeal.main (F := Ideal))) ⟨m, fun _ => 0, g⟩ (fun r => (∀ c : Dev Cert.GlaSampleReferenceIdeal.nD,
      r.2.mem ((c.tc : Thread Cert.GlaSampleReferenceIdeal.nD Cert.GlaSampleReferenceIdeal.τ).loc Cert.GlaSampleReferenceIdeal.main_arg0) = m ((c.tc : Thread Cert.GlaSampleReferenceIdeal.nD Cert.GlaSampleReferenceIdeal.τ).loc Cert.GlaSampleReferenceIdeal.main_arg0)
      ∧ r.2.mem ((c.tc : Thread Cert.GlaSampleReferenceIdeal.nD Cert.GlaSampleReferenceIdeal.τ).loc Cert.GlaSampleReferenceIdeal.main_arg1) = m ((c.tc : Thread Cert.GlaSampleReferenceIdeal.nD Cert.GlaSampleReferenceIdeal.τ).loc Cert.GlaSampleReferenceIdeal.main_arg1)
      ∧ r.2.mem ((c.tc : Thread Cert.GlaSampleReferenceIdeal.nD Cert.GlaSampleReferenceIdeal.τ).loc Cert.GlaSampleReferenceIdeal.main_arg2) = m ((c.tc : Thread Cert.GlaSampleReferenceIdeal.nD Cert.GlaSampleReferenceIdeal.τ).loc Cert.GlaSampleReferenceIdeal.main_arg2)
      ∧ r.2.mem ((c.tc : Thread Cert.GlaSampleReferenceIdeal.nD Cert.GlaSampleReferenceIdeal.τ).loc Cert.GlaSampleReferenceIdeal.main_arg3) = m ((c.tc : Thread Cert.GlaSampleReferenceIdeal.nD Cert.GlaSampleReferenceIdeal.τ).loc Cert.GlaSampleReferenceIdeal.main_arg3)
      ∧ r.2.mem ((c.tc : Thread Cert.GlaSampleReferenceIdeal.nD Cert.GlaSampleReferenceIdeal.τ).loc Cert.GlaSampleReferenceIdeal.main_arg4) = m ((c.tc : Thread Cert.GlaSampleReferenceIdeal.nD Cert.GlaSampleReferenceIdeal.τ).loc Cert.GlaSampleReferenceIdeal.main_arg4)
      ∧ r.2.mem ((c.tc : Thread Cert.GlaSampleReferenceIdeal.nD Cert.GlaSampleReferenceIdeal.τ).loc Cert.GlaSampleReferenceIdeal.main_arg5) = m ((c.tc : Thread Cert.GlaSampleReferenceIdeal.nD Cert.GlaSampleReferenceIdeal.τ).loc Cert.GlaSampleReferenceIdeal.main_arg5)
      ∧ r.2.mem ((c.tc : Thread Cert.GlaSampleReferenceIdeal.nD Cert.GlaSampleReferenceIdeal.τ).loc Cert.GlaSampleReferenceIdeal.main_arg6) = m ((c.tc : Thread Cert.GlaSampleReferenceIdeal.nD Cert.GlaSampleReferenceIdeal.τ).loc Cert.GlaSampleReferenceIdeal.main_arg6)
      ∧ r.2.mem ((c.tc : Thread Cert.GlaSampleReferenceIdeal.nD Cert.GlaSampleReferenceIdeal.τ).loc Cert.GlaSampleReferenceIdeal.main_arg7) = m ((c.tc : Thread Cert.GlaSampleReferenceIdeal.nD Cert.GlaSampleReferenceIdeal.τ).loc Cert.GlaSampleReferenceIdeal.main_arg7)
      ∧ r.2.mem ((c.tc : Thread Cert.GlaSampleReferenceIdeal.nD Cert.GlaSampleReferenceIdeal.τ).loc Cert.GlaSampleReferenceIdeal.main_arg8) = m ((c.tc : Thread Cert.GlaSampleReferenceIdeal.nD Cert.GlaSampleReferenceIdeal.τ).loc Cert.GlaSampleReferenceIdeal.main_arg8))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ r.2.sem = fun _ => 0)

def quiescent_GlaIdeal_pre_finite_gates [hGlaIdeal : Cert.GlaIdeal.Facts] [hPre_finite_gates : Cert.Pre_finite_gates.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_gates m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5)
      ∧ r.2.mem ((c.tc : Thread Cert.GlaReferenceIdeal.nD Cert.GlaReferenceIdeal.τ).loc Cert.GlaReferenceIdeal.main_arg6) = m ((c.tc : Thread Cert.GlaReferenceIdeal.nD Cert.GlaReferenceIdeal.τ).loc Cert.GlaReferenceIdeal.main_arg6)
      ∧ r.2.mem ((c.tc : Thread Cert.GlaReferenceIdeal.nD Cert.GlaReferenceIdeal.τ).loc Cert.GlaReferenceIdeal.main_arg7) = m ((c.tc : Thread Cert.GlaReferenceIdeal.nD Cert.GlaReferenceIdeal.τ).loc Cert.GlaReferenceIdeal.main_arg7))
      ∧ r.2.sem = fun _ => 0)

def quiescent_GlaReferenceIdeal_pre_finite_gates [hGlaReferenceIdeal : Cert.GlaReferenceIdeal.Facts] [hPre_finite_gates : Cert.Pre_finite_gates.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal_finite_gates m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5)
      ∧ r.2.mem ((c.tc : Thread Cert.GlaReferenceIdeal.nD Cert.GlaReferenceIdeal.τ).loc Cert.GlaReferenceIdeal.main_arg6) = m ((c.tc : Thread Cert.GlaReferenceIdeal.nD Cert.GlaReferenceIdeal.τ).loc Cert.GlaReferenceIdeal.main_arg6)
      ∧ r.2.mem ((c.tc : Thread Cert.GlaReferenceIdeal.nD Cert.GlaReferenceIdeal.τ).loc Cert.GlaReferenceIdeal.main_arg7) = m ((c.tc : Thread Cert.GlaReferenceIdeal.nD Cert.GlaReferenceIdeal.τ).loc Cert.GlaReferenceIdeal.main_arg7))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v31) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v29)) (v1 : (c : Dev Cert.ProjectIdeal.nD) → Buf (Elt Ideal) ((c.tc : Thread Cert.ProjectIdeal.nD Cert.ProjectIdeal.τ).loc Cert.ProjectIdeal.main_v30)) (v2 : (c : Dev Cert.ProjectIdeal.nD) → Buf (Elt Ideal) ((c.tc : Thread Cert.ProjectIdeal.nD Cert.ProjectIdeal.τ).loc Cert.ProjectIdeal.main_v31)) (v3 : (c : Dev Cert.ProjectIdeal.nD) → Buf (Elt Ideal) ((c.tc : Thread Cert.ProjectIdeal.nD Cert.ProjectIdeal.τ).loc Cert.ProjectIdeal.main_v48)) (v4 : (c : Dev Cert.ProjectIdeal.nD) → Buf (Elt Ideal) ((c.tc : Thread Cert.ProjectIdeal.nD Cert.ProjectIdeal.τ).loc Cert.ProjectIdeal.main_v33)) (v5 : (c : Dev Cert.ProjectIdeal.nD) → Buf (Elt Ideal) ((c.tc : Thread Cert.ProjectIdeal.nD Cert.ProjectIdeal.τ).loc Cert.ProjectIdeal.main_v34)) (v6 : (c : Dev Cert.ProjectIdeal.nD) → Buf (Elt Ideal) ((c.tc : Thread Cert.ProjectIdeal.nD Cert.ProjectIdeal.τ).loc Cert.ProjectIdeal.main_v49)) (v7 : (c : Dev Cert.ProjectIdeal.nD) → Buf (Elt Ideal) ((c.tc : Thread Cert.ProjectIdeal.nD Cert.ProjectIdeal.τ).loc Cert.ProjectIdeal.main_v37)) (v8 : (c : Dev Cert.ProjectIdeal.nD) → Buf (Elt Ideal) ((c.tc : Thread Cert.ProjectIdeal.nD Cert.ProjectIdeal.τ).loc Cert.ProjectIdeal.main_v40)) (v9 : (c : Dev Cert.ProjectIdeal.nD) → Buf (Elt Ideal) ((c.tc : Thread Cert.ProjectIdeal.nD Cert.ProjectIdeal.τ).loc Cert.ProjectIdeal.main_v50)) (v10 : (c : Dev Cert.ProjectIdeal.nD) → Buf (Elt Ideal) ((c.tc : Thread Cert.ProjectIdeal.nD Cert.ProjectIdeal.τ).loc Cert.ProjectIdeal.main_v51)) (v11 : (c : Dev Cert.ProjectIdeal.nD) → Buf (Elt Ideal) ((c.tc : Thread Cert.ProjectIdeal.nD Cert.ProjectIdeal.τ).loc Cert.ProjectIdeal.main_v52)) (v12 : (c : Dev Cert.ProjectIdeal.nD) → Buf (Elt Ideal) ((c.tc : Thread Cert.ProjectIdeal.nD Cert.ProjectIdeal.τ).loc Cert.ProjectIdeal.main_v46)) (v13 : (c : Dev Cert.ProjectIdeal.nD) → Buf (Elt Ideal) ((c.tc : Thread Cert.ProjectIdeal.nD Cert.ProjectIdeal.τ).loc Cert.ProjectIdeal.main_v47)) (v14 : (c : Dev Cert.ProjectIdeal.nD) → Buf (Elt Ideal) ((c.tc : Thread Cert.ProjectIdeal.nD Cert.ProjectIdeal.τ).loc Cert.ProjectIdeal.main_v54)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v29) = v0 c
          ∧ r.2.mem ((c.tc : Thread Cert.ProjectIdeal.nD Cert.ProjectIdeal.τ).loc Cert.ProjectIdeal.main_v30) = v1 c
          ∧ r.2.mem ((c.tc : Thread Cert.ProjectIdeal.nD Cert.ProjectIdeal.τ).loc Cert.ProjectIdeal.main_v31) = v2 c
          ∧ r.2.mem ((c.tc : Thread Cert.ProjectIdeal.nD Cert.ProjectIdeal.τ).loc Cert.ProjectIdeal.main_v48) = v3 c
          ∧ r.2.mem ((c.tc : Thread Cert.ProjectIdeal.nD Cert.ProjectIdeal.τ).loc Cert.ProjectIdeal.main_v33) = v4 c
          ∧ r.2.mem ((c.tc : Thread Cert.ProjectIdeal.nD Cert.ProjectIdeal.τ).loc Cert.ProjectIdeal.main_v34) = v5 c
          ∧ r.2.mem ((c.tc : Thread Cert.ProjectIdeal.nD Cert.ProjectIdeal.τ).loc Cert.ProjectIdeal.main_v49) = v6 c
          ∧ r.2.mem ((c.tc : Thread Cert.ProjectIdeal.nD Cert.ProjectIdeal.τ).loc Cert.ProjectIdeal.main_v37) = v7 c
          ∧ r.2.mem ((c.tc : Thread Cert.ProjectIdeal.nD Cert.ProjectIdeal.τ).loc Cert.ProjectIdeal.main_v40) = v8 c
          ∧ r.2.mem ((c.tc : Thread Cert.ProjectIdeal.nD Cert.ProjectIdeal.τ).loc Cert.ProjectIdeal.main_v50) = v9 c
          ∧ r.2.mem ((c.tc : Thread Cert.ProjectIdeal.nD Cert.ProjectIdeal.τ).loc Cert.ProjectIdeal.main_v51) = v10 c
          ∧ r.2.mem ((c.tc : Thread Cert.ProjectIdeal.nD Cert.ProjectIdeal.τ).loc Cert.ProjectIdeal.main_v52) = v11 c
          ∧ r.2.mem ((c.tc : Thread Cert.ProjectIdeal.nD Cert.ProjectIdeal.τ).loc Cert.ProjectIdeal.main_v46) = v12 c
          ∧ r.2.mem ((c.tc : Thread Cert.ProjectIdeal.nD Cert.ProjectIdeal.τ).loc Cert.ProjectIdeal.main_v47) = v13 c
          ∧ r.2.mem ((c.tc : Thread Cert.ProjectIdeal.nD Cert.ProjectIdeal.τ).loc Cert.ProjectIdeal.main_v54) = v14 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v1) = v0 c
          ∧ r.2.mem ((c.tc : Thread Cert.ProjectReferenceIdeal.nD Cert.ProjectReferenceIdeal.τ).loc Cert.ProjectReferenceIdeal.main_v2) = v1 c
          ∧ r.2.mem ((c.tc : Thread Cert.ProjectReferenceIdeal.nD Cert.ProjectReferenceIdeal.τ).loc Cert.ProjectReferenceIdeal.main_v3) = v2 c
          ∧ r.2.mem ((c.tc : Thread Cert.ProjectReferenceIdeal.nD Cert.ProjectReferenceIdeal.τ).loc Cert.ProjectReferenceIdeal.main_v4) = v3 c
          ∧ r.2.mem ((c.tc : Thread Cert.ProjectReferenceIdeal.nD Cert.ProjectReferenceIdeal.τ).loc Cert.ProjectReferenceIdeal.main_v5) = v4 c
          ∧ r.2.mem ((c.tc : Thread Cert.ProjectReferenceIdeal.nD Cert.ProjectReferenceIdeal.τ).loc Cert.ProjectReferenceIdeal.main_v6) = v5 c
          ∧ r.2.mem ((c.tc : Thread Cert.ProjectReferenceIdeal.nD Cert.ProjectReferenceIdeal.τ).loc Cert.ProjectReferenceIdeal.main_v8) = v6 c
          ∧ r.2.mem ((c.tc : Thread Cert.ProjectReferenceIdeal.nD Cert.ProjectReferenceIdeal.τ).loc Cert.ProjectReferenceIdeal.main_v9) = v7 c
          ∧ r.2.mem ((c.tc : Thread Cert.ProjectReferenceIdeal.nD Cert.ProjectReferenceIdeal.τ).loc Cert.ProjectReferenceIdeal.main_v12) = v8 c
          ∧ r.2.mem ((c.tc : Thread Cert.ProjectReferenceIdeal.nD Cert.ProjectReferenceIdeal.τ).loc Cert.ProjectReferenceIdeal.main_v21) = v9 c
          ∧ r.2.mem ((c.tc : Thread Cert.ProjectReferenceIdeal.nD Cert.ProjectReferenceIdeal.τ).loc Cert.ProjectReferenceIdeal.main_v22) = v10 c
          ∧ r.2.mem ((c.tc : Thread Cert.ProjectReferenceIdeal.nD Cert.ProjectReferenceIdeal.τ).loc Cert.ProjectReferenceIdeal.main_v23) = v11 c
          ∧ r.2.mem ((c.tc : Thread Cert.ProjectReferenceIdeal.nD Cert.ProjectReferenceIdeal.τ).loc Cert.ProjectReferenceIdeal.main_v19) = v12 c
          ∧ r.2.mem ((c.tc : Thread Cert.ProjectReferenceIdeal.nD Cert.ProjectReferenceIdeal.τ).loc Cert.ProjectReferenceIdeal.main_v20) = v13 c
          ∧ r.2.mem ((c.tc : Thread Cert.ProjectReferenceIdeal.nD Cert.ProjectReferenceIdeal.τ).loc Cert.ProjectReferenceIdeal.main_v25) = v14 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_ProjectSample_ProjectSampleIdeal : Prop :=
  True

def algebraic_ProjectSampleIdeal_ProjectSampleReferenceIdeal [hProjectSampleIdeal : Cert.ProjectSampleIdeal.Facts] [hProjectSampleReferenceIdeal : Cert.ProjectSampleReferenceIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSampleReferenceIdeal.nD Cert.ProjectSampleReferenceIdeal.τ Cert.ProjectSampleReferenceIdeal.sig) → Buf (Elt Ideal) ℓ) (g' : Dev Cert.ProjectSampleReferenceIdeal.nD → PrngReg), Pre_ProjectSampleIdeal m →
    (∀ c : Dev Cert.ProjectSampleIdeal.nD,
      m' ((c.tc : Thread Cert.ProjectSampleReferenceIdeal.nD Cert.ProjectSampleReferenceIdeal.τ).loc Cert.ProjectSampleReferenceIdeal.main_arg0) = m ((c.tc : Thread Cert.ProjectSampleIdeal.nD Cert.ProjectSampleIdeal.τ).loc Cert.ProjectSampleIdeal.main_arg0)
      ∧ m' ((c.tc : Thread Cert.ProjectSampleReferenceIdeal.nD Cert.ProjectSampleReferenceIdeal.τ).loc Cert.ProjectSampleReferenceIdeal.main_arg1) = m ((c.tc : Thread Cert.ProjectSampleIdeal.nD Cert.ProjectSampleIdeal.τ).loc Cert.ProjectSampleIdeal.main_arg1)
      ∧ m' ((c.tc : Thread Cert.ProjectSampleReferenceIdeal.nD Cert.ProjectSampleReferenceIdeal.τ).loc Cert.ProjectSampleReferenceIdeal.main_arg2) = m ((c.tc : Thread Cert.ProjectSampleIdeal.nD Cert.ProjectSampleIdeal.τ).loc Cert.ProjectSampleIdeal.main_arg2)) →
    ∃ (v0 : (c : Dev Cert.ProjectSampleIdeal.nD) → Buf (Elt Ideal) ((c.tc : Thread Cert.ProjectSampleIdeal.nD Cert.ProjectSampleIdeal.τ).loc Cert.ProjectSampleIdeal.main_v29)) (v1 : (c : Dev Cert.ProjectSampleIdeal.nD) → Buf (Elt Ideal) ((c.tc : Thread Cert.ProjectSampleIdeal.nD Cert.ProjectSampleIdeal.τ).loc Cert.ProjectSampleIdeal.main_v30)) (v2 : (c : Dev Cert.ProjectSampleIdeal.nD) → Buf (Elt Ideal) ((c.tc : Thread Cert.ProjectSampleIdeal.nD Cert.ProjectSampleIdeal.τ).loc Cert.ProjectSampleIdeal.main_v31)) (v3 : (c : Dev Cert.ProjectSampleIdeal.nD) → Buf (Elt Ideal) ((c.tc : Thread Cert.ProjectSampleIdeal.nD Cert.ProjectSampleIdeal.τ).loc Cert.ProjectSampleIdeal.main_v50)) (v4 : (c : Dev Cert.ProjectSampleIdeal.nD) → Buf (Elt Ideal) ((c.tc : Thread Cert.ProjectSampleIdeal.nD Cert.ProjectSampleIdeal.τ).loc Cert.ProjectSampleIdeal.main_v33)) (v5 : (c : Dev Cert.ProjectSampleIdeal.nD) → Buf (Elt Ideal) ((c.tc : Thread Cert.ProjectSampleIdeal.nD Cert.ProjectSampleIdeal.τ).loc Cert.ProjectSampleIdeal.main_v34)) (v6 : (c : Dev Cert.ProjectSampleIdeal.nD) → Buf (Elt Ideal) ((c.tc : Thread Cert.ProjectSampleIdeal.nD Cert.ProjectSampleIdeal.τ).loc Cert.ProjectSampleIdeal.main_v51)) (v7 : (c : Dev Cert.ProjectSampleIdeal.nD) → Buf (Elt Ideal) ((c.tc : Thread Cert.ProjectSampleIdeal.nD Cert.ProjectSampleIdeal.τ).loc Cert.ProjectSampleIdeal.main_v37)) (v8 : (c : Dev Cert.ProjectSampleIdeal.nD) → Buf (Elt Ideal) ((c.tc : Thread Cert.ProjectSampleIdeal.nD Cert.ProjectSampleIdeal.τ).loc Cert.ProjectSampleIdeal.main_v40)) (v9 : (c : Dev Cert.ProjectSampleIdeal.nD) → Buf (Elt Ideal) ((c.tc : Thread Cert.ProjectSampleIdeal.nD Cert.ProjectSampleIdeal.τ).loc Cert.ProjectSampleIdeal.main_v52)) (v10 : (c : Dev Cert.ProjectSampleIdeal.nD) → Buf (Elt Ideal) ((c.tc : Thread Cert.ProjectSampleIdeal.nD Cert.ProjectSampleIdeal.τ).loc Cert.ProjectSampleIdeal.main_v53)) (v11 : (c : Dev Cert.ProjectSampleIdeal.nD) → Buf (Elt Ideal) ((c.tc : Thread Cert.ProjectSampleIdeal.nD Cert.ProjectSampleIdeal.τ).loc Cert.ProjectSampleIdeal.main_v54)) (v12 : (c : Dev Cert.ProjectSampleIdeal.nD) → Buf (Elt Ideal) ((c.tc : Thread Cert.ProjectSampleIdeal.nD Cert.ProjectSampleIdeal.τ).loc Cert.ProjectSampleIdeal.main_v46)) (v13 : (c : Dev Cert.ProjectSampleIdeal.nD) → Buf (Elt Ideal) ((c.tc : Thread Cert.ProjectSampleIdeal.nD Cert.ProjectSampleIdeal.τ).loc Cert.ProjectSampleIdeal.main_v49)) (v14 : (c : Dev Cert.ProjectSampleIdeal.nD) → Buf (Elt Ideal) ((c.tc : Thread Cert.ProjectSampleIdeal.nD Cert.ProjectSampleIdeal.τ).loc Cert.ProjectSampleIdeal.main_v56)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v29) = v0 c
          ∧ r.2.mem ((c.tc : Thread Cert.ProjectSampleIdeal.nD Cert.ProjectSampleIdeal.τ).loc Cert.ProjectSampleIdeal.main_v30) = v1 c
          ∧ r.2.mem ((c.tc : Thread Cert.ProjectSampleIdeal.nD Cert.ProjectSampleIdeal.τ).loc Cert.ProjectSampleIdeal.main_v31) = v2 c
          ∧ r.2.mem ((c.tc : Thread Cert.ProjectSampleIdeal.nD Cert.ProjectSampleIdeal.τ).loc Cert.ProjectSampleIdeal.main_v50) = v3 c
          ∧ r.2.mem ((c.tc : Thread Cert.ProjectSampleIdeal.nD Cert.ProjectSampleIdeal.τ).loc Cert.ProjectSampleIdeal.main_v33) = v4 c
          ∧ r.2.mem ((c.tc : Thread Cert.ProjectSampleIdeal.nD Cert.ProjectSampleIdeal.τ).loc Cert.ProjectSampleIdeal.main_v34) = v5 c
          ∧ r.2.mem ((c.tc : Thread Cert.ProjectSampleIdeal.nD Cert.ProjectSampleIdeal.τ).loc Cert.ProjectSampleIdeal.main_v51) = v6 c
          ∧ r.2.mem ((c.tc : Thread Cert.ProjectSampleIdeal.nD Cert.ProjectSampleIdeal.τ).loc Cert.ProjectSampleIdeal.main_v37) = v7 c
          ∧ r.2.mem ((c.tc : Thread Cert.ProjectSampleIdeal.nD Cert.ProjectSampleIdeal.τ).loc Cert.ProjectSampleIdeal.main_v40) = v8 c
          ∧ r.2.mem ((c.tc : Thread Cert.ProjectSampleIdeal.nD Cert.ProjectSampleIdeal.τ).loc Cert.ProjectSampleIdeal.main_v52) = v9 c
          ∧ r.2.mem ((c.tc : Thread Cert.ProjectSampleIdeal.nD Cert.ProjectSampleIdeal.τ).loc Cert.ProjectSampleIdeal.main_v53) = v10 c
          ∧ r.2.mem ((c.tc : Thread Cert.ProjectSampleIdeal.nD Cert.ProjectSampleIdeal.τ).loc Cert.ProjectSampleIdeal.main_v54) = v11 c
          ∧ r.2.mem ((c.tc : Thread Cert.ProjectSampleIdeal.nD Cert.ProjectSampleIdeal.τ).loc Cert.ProjectSampleIdeal.main_v46) = v12 c
          ∧ r.2.mem ((c.tc : Thread Cert.ProjectSampleIdeal.nD Cert.ProjectSampleIdeal.τ).loc Cert.ProjectSampleIdeal.main_v49) = v13 c
          ∧ r.2.mem ((c.tc : Thread Cert.ProjectSampleIdeal.nD Cert.ProjectSampleIdeal.τ).loc Cert.ProjectSampleIdeal.main_v56) = v14 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2))
      ∧ θ_run (Cert.ProjectSampleReferenceIdeal.defs (F := Ideal)) (onTc (τ := Cert.ProjectSampleReferenceIdeal.τ) (Cert.ProjectSampleReferenceIdeal.main (F := Ideal))) ⟨m', fun _ => 0, g'⟩ (fun r => ∀ c : Dev Cert.ProjectSampleReferenceIdeal.nD,
          r.2.mem ((c.tc : Thread Cert.ProjectSampleReferenceIdeal.nD Cert.ProjectSampleReferenceIdeal.τ).loc Cert.ProjectSampleReferenceIdeal.main_v1) = v0 c
          ∧ r.2.mem ((c.tc : Thread Cert.ProjectSampleReferenceIdeal.nD Cert.ProjectSampleReferenceIdeal.τ).loc Cert.ProjectSampleReferenceIdeal.main_v2) = v1 c
          ∧ r.2.mem ((c.tc : Thread Cert.ProjectSampleReferenceIdeal.nD Cert.ProjectSampleReferenceIdeal.τ).loc Cert.ProjectSampleReferenceIdeal.main_v3) = v2 c
          ∧ r.2.mem ((c.tc : Thread Cert.ProjectSampleReferenceIdeal.nD Cert.ProjectSampleReferenceIdeal.τ).loc Cert.ProjectSampleReferenceIdeal.main_v4) = v3 c
          ∧ r.2.mem ((c.tc : Thread Cert.ProjectSampleReferenceIdeal.nD Cert.ProjectSampleReferenceIdeal.τ).loc Cert.ProjectSampleReferenceIdeal.main_v5) = v4 c
          ∧ r.2.mem ((c.tc : Thread Cert.ProjectSampleReferenceIdeal.nD Cert.ProjectSampleReferenceIdeal.τ).loc Cert.ProjectSampleReferenceIdeal.main_v6) = v5 c
          ∧ r.2.mem ((c.tc : Thread Cert.ProjectSampleReferenceIdeal.nD Cert.ProjectSampleReferenceIdeal.τ).loc Cert.ProjectSampleReferenceIdeal.main_v8) = v6 c
          ∧ r.2.mem ((c.tc : Thread Cert.ProjectSampleReferenceIdeal.nD Cert.ProjectSampleReferenceIdeal.τ).loc Cert.ProjectSampleReferenceIdeal.main_v9) = v7 c
          ∧ r.2.mem ((c.tc : Thread Cert.ProjectSampleReferenceIdeal.nD Cert.ProjectSampleReferenceIdeal.τ).loc Cert.ProjectSampleReferenceIdeal.main_v12) = v8 c
          ∧ r.2.mem ((c.tc : Thread Cert.ProjectSampleReferenceIdeal.nD Cert.ProjectSampleReferenceIdeal.τ).loc Cert.ProjectSampleReferenceIdeal.main_v23) = v9 c
          ∧ r.2.mem ((c.tc : Thread Cert.ProjectSampleReferenceIdeal.nD Cert.ProjectSampleReferenceIdeal.τ).loc Cert.ProjectSampleReferenceIdeal.main_v24) = v10 c
          ∧ r.2.mem ((c.tc : Thread Cert.ProjectSampleReferenceIdeal.nD Cert.ProjectSampleReferenceIdeal.τ).loc Cert.ProjectSampleReferenceIdeal.main_v25) = v11 c
          ∧ r.2.mem ((c.tc : Thread Cert.ProjectSampleReferenceIdeal.nD Cert.ProjectSampleReferenceIdeal.τ).loc Cert.ProjectSampleReferenceIdeal.main_v19) = v12 c
          ∧ r.2.mem ((c.tc : Thread Cert.ProjectSampleReferenceIdeal.nD Cert.ProjectSampleReferenceIdeal.τ).loc Cert.ProjectSampleReferenceIdeal.main_v22) = v13 c
          ∧ r.2.mem ((c.tc : Thread Cert.ProjectSampleReferenceIdeal.nD Cert.ProjectSampleReferenceIdeal.τ).loc Cert.ProjectSampleReferenceIdeal.main_v27) = v14 c
          ∧ r.2.mem ((c.tc : Thread Cert.ProjectSampleReferenceIdeal.nD Cert.ProjectSampleReferenceIdeal.τ).loc Cert.ProjectSampleReferenceIdeal.main_arg0) = m' ((c.tc : Thread Cert.ProjectSampleReferenceIdeal.nD Cert.ProjectSampleReferenceIdeal.τ).loc Cert.ProjectSampleReferenceIdeal.main_arg0)
          ∧ r.2.mem ((c.tc : Thread Cert.ProjectSampleReferenceIdeal.nD Cert.ProjectSampleReferenceIdeal.τ).loc Cert.ProjectSampleReferenceIdeal.main_arg1) = m' ((c.tc : Thread Cert.ProjectSampleReferenceIdeal.nD Cert.ProjectSampleReferenceIdeal.τ).loc Cert.ProjectSampleReferenceIdeal.main_arg1)
          ∧ r.2.mem ((c.tc : Thread Cert.ProjectSampleReferenceIdeal.nD Cert.ProjectSampleReferenceIdeal.τ).loc Cert.ProjectSampleReferenceIdeal.main_arg2) = m' ((c.tc : Thread Cert.ProjectSampleReferenceIdeal.nD Cert.ProjectSampleReferenceIdeal.τ).loc Cert.ProjectSampleReferenceIdeal.main_arg2))

def preserves_NormSample_NormSampleIdeal : Prop :=
  True

def algebraic_NormSampleIdeal_NormSampleReferenceIdeal [hNormSampleIdeal : Cert.NormSampleIdeal.Facts] [hNormSampleReferenceIdeal : Cert.NormSampleReferenceIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleReferenceIdeal.nD Cert.NormSampleReferenceIdeal.τ Cert.NormSampleReferenceIdeal.sig) → Buf (Elt Ideal) ℓ) (g' : Dev Cert.NormSampleReferenceIdeal.nD → PrngReg), Pre_NormSampleIdeal m →
    (∀ c : Dev Cert.NormSampleIdeal.nD,
      m' ((c.tc : Thread Cert.NormSampleReferenceIdeal.nD Cert.NormSampleReferenceIdeal.τ).loc Cert.NormSampleReferenceIdeal.main_arg0) = m ((c.tc : Thread Cert.NormSampleIdeal.nD Cert.NormSampleIdeal.τ).loc Cert.NormSampleIdeal.main_arg0)
      ∧ m' ((c.tc : Thread Cert.NormSampleReferenceIdeal.nD Cert.NormSampleReferenceIdeal.τ).loc Cert.NormSampleReferenceIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v2)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v2) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleReferenceIdeal.defs (F := Ideal)) (onTc (τ := Cert.NormSampleReferenceIdeal.τ) (Cert.NormSampleReferenceIdeal.main (F := Ideal))) ⟨m', fun _ => 0, g'⟩ (fun r => ∀ c : Dev Cert.NormSampleReferenceIdeal.nD,
          r.2.mem ((c.tc : Thread Cert.NormSampleReferenceIdeal.nD Cert.NormSampleReferenceIdeal.τ).loc Cert.NormSampleReferenceIdeal.main_v13) = v0 c
          ∧ r.2.mem ((c.tc : Thread Cert.NormSampleReferenceIdeal.nD Cert.NormSampleReferenceIdeal.τ).loc Cert.NormSampleReferenceIdeal.main_arg0) = m' ((c.tc : Thread Cert.NormSampleReferenceIdeal.nD Cert.NormSampleReferenceIdeal.τ).loc Cert.NormSampleReferenceIdeal.main_arg0)
          ∧ r.2.mem ((c.tc : Thread Cert.NormSampleReferenceIdeal.nD Cert.NormSampleReferenceIdeal.τ).loc Cert.NormSampleReferenceIdeal.main_arg1) = m' ((c.tc : Thread Cert.NormSampleReferenceIdeal.nD Cert.NormSampleReferenceIdeal.τ).loc Cert.NormSampleReferenceIdeal.main_arg1))

def preserves_GlaSample_GlaSampleIdeal : Prop :=
  True

def algebraic_GlaSampleIdeal_GlaSampleReferenceIdeal_pre_finite_kv [hGlaSampleIdeal : Cert.GlaSampleIdeal.Facts] [hGlaSampleReferenceIdeal : Cert.GlaSampleReferenceIdeal.Facts] [hPre_finite_kv : Cert.Pre_finite_kv.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg)
    (m' : (ℓ : Loc Cert.GlaSampleReferenceIdeal.nD Cert.GlaSampleReferenceIdeal.τ Cert.GlaSampleReferenceIdeal.sig) → Buf (Elt Ideal) ℓ) (g' : Dev Cert.GlaSampleReferenceIdeal.nD → PrngReg), Pre_GlaSampleIdeal_finite_kv m →
    (∀ c : Dev Cert.GlaSampleIdeal.nD,
      m' ((c.tc : Thread Cert.GlaSampleReferenceIdeal.nD Cert.GlaSampleReferenceIdeal.τ).loc Cert.GlaSampleReferenceIdeal.main_arg0) = m ((c.tc : Thread Cert.GlaSampleIdeal.nD Cert.GlaSampleIdeal.τ).loc Cert.GlaSampleIdeal.main_arg0)
      ∧ m' ((c.tc : Thread Cert.GlaSampleReferenceIdeal.nD Cert.GlaSampleReferenceIdeal.τ).loc Cert.GlaSampleReferenceIdeal.main_arg1) = m ((c.tc : Thread Cert.GlaSampleIdeal.nD Cert.GlaSampleIdeal.τ).loc Cert.GlaSampleIdeal.main_arg1)
      ∧ m' ((c.tc : Thread Cert.GlaSampleReferenceIdeal.nD Cert.GlaSampleReferenceIdeal.τ).loc Cert.GlaSampleReferenceIdeal.main_arg2) = m ((c.tc : Thread Cert.GlaSampleIdeal.nD Cert.GlaSampleIdeal.τ).loc Cert.GlaSampleIdeal.main_arg2)
      ∧ m' ((c.tc : Thread Cert.GlaSampleReferenceIdeal.nD Cert.GlaSampleReferenceIdeal.τ).loc Cert.GlaSampleReferenceIdeal.main_arg3) = m ((c.tc : Thread Cert.GlaSampleIdeal.nD Cert.GlaSampleIdeal.τ).loc Cert.GlaSampleIdeal.main_arg3)
      ∧ m' ((c.tc : Thread Cert.GlaSampleReferenceIdeal.nD Cert.GlaSampleReferenceIdeal.τ).loc Cert.GlaSampleReferenceIdeal.main_arg4) = m ((c.tc : Thread Cert.GlaSampleIdeal.nD Cert.GlaSampleIdeal.τ).loc Cert.GlaSampleIdeal.main_arg4)
      ∧ m' ((c.tc : Thread Cert.GlaSampleReferenceIdeal.nD Cert.GlaSampleReferenceIdeal.τ).loc Cert.GlaSampleReferenceIdeal.main_arg5) = m ((c.tc : Thread Cert.GlaSampleIdeal.nD Cert.GlaSampleIdeal.τ).loc Cert.GlaSampleIdeal.main_arg5)
      ∧ m' ((c.tc : Thread Cert.GlaSampleReferenceIdeal.nD Cert.GlaSampleReferenceIdeal.τ).loc Cert.GlaSampleReferenceIdeal.main_arg6) = m ((c.tc : Thread Cert.GlaSampleIdeal.nD Cert.GlaSampleIdeal.τ).loc Cert.GlaSampleIdeal.main_arg6)
      ∧ m' ((c.tc : Thread Cert.GlaSampleReferenceIdeal.nD Cert.GlaSampleReferenceIdeal.τ).loc Cert.GlaSampleReferenceIdeal.main_arg7) = m ((c.tc : Thread Cert.GlaSampleIdeal.nD Cert.GlaSampleIdeal.τ).loc Cert.GlaSampleIdeal.main_arg7)
      ∧ m' ((c.tc : Thread Cert.GlaSampleReferenceIdeal.nD Cert.GlaSampleReferenceIdeal.τ).loc Cert.GlaSampleReferenceIdeal.main_arg8) = m ((c.tc : Thread Cert.GlaSampleIdeal.nD Cert.GlaSampleIdeal.τ).loc Cert.GlaSampleIdeal.main_arg8)) →
    ∃ (v0 : (c : Dev Cert.GlaSampleIdeal.nD) → Buf (Elt Ideal) ((c.tc : Thread Cert.GlaSampleIdeal.nD Cert.GlaSampleIdeal.τ).loc Cert.GlaSampleIdeal.main_v35)),
      θ_run (Cert.GlaSampleIdeal.defs (F := Ideal)) (onTc (τ := Cert.GlaSampleIdeal.τ) (Cert.GlaSampleIdeal.main (F := Ideal))) ⟨m, fun _ => 0, g⟩ (fun r => ∀ c : Dev Cert.GlaSampleIdeal.nD,
          r.2.mem ((c.tc : Thread Cert.GlaSampleIdeal.nD Cert.GlaSampleIdeal.τ).loc Cert.GlaSampleIdeal.main_v35) = v0 c
          ∧ r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
          ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
          ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
          ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
          ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4)
          ∧ r.2.mem ((c.tc : Thread Cert.GlaSampleIdeal.nD Cert.GlaSampleIdeal.τ).loc Cert.GlaSampleIdeal.main_arg5) = m ((c.tc : Thread Cert.GlaSampleIdeal.nD Cert.GlaSampleIdeal.τ).loc Cert.GlaSampleIdeal.main_arg5)
          ∧ r.2.mem ((c.tc : Thread Cert.GlaSampleIdeal.nD Cert.GlaSampleIdeal.τ).loc Cert.GlaSampleIdeal.main_arg6) = m ((c.tc : Thread Cert.GlaSampleIdeal.nD Cert.GlaSampleIdeal.τ).loc Cert.GlaSampleIdeal.main_arg6)
          ∧ r.2.mem ((c.tc : Thread Cert.GlaSampleIdeal.nD Cert.GlaSampleIdeal.τ).loc Cert.GlaSampleIdeal.main_arg7) = m ((c.tc : Thread Cert.GlaSampleIdeal.nD Cert.GlaSampleIdeal.τ).loc Cert.GlaSampleIdeal.main_arg7)
          ∧ r.2.mem ((c.tc : Thread Cert.GlaSampleIdeal.nD Cert.GlaSampleIdeal.τ).loc Cert.GlaSampleIdeal.main_arg8) = m ((c.tc : Thread Cert.GlaSampleIdeal.nD Cert.GlaSampleIdeal.τ).loc Cert.GlaSampleIdeal.main_arg8))
      ∧ θ_run (Cert.GlaSampleReferenceIdeal.defs (F := Ideal)) (onTc (τ := Cert.GlaSampleReferenceIdeal.τ) (Cert.GlaSampleReferenceIdeal.main (F := Ideal))) ⟨m', fun _ => 0, g'⟩ (fun r => ∀ c : Dev Cert.GlaSampleReferenceIdeal.nD,
          r.2.mem ((c.tc : Thread Cert.GlaSampleReferenceIdeal.nD Cert.GlaSampleReferenceIdeal.τ).loc Cert.GlaSampleReferenceIdeal.main_v22) = v0 c
          ∧ r.2.mem ((c.tc : Thread Cert.GlaSampleReferenceIdeal.nD Cert.GlaSampleReferenceIdeal.τ).loc Cert.GlaSampleReferenceIdeal.main_arg0) = m' ((c.tc : Thread Cert.GlaSampleReferenceIdeal.nD Cert.GlaSampleReferenceIdeal.τ).loc Cert.GlaSampleReferenceIdeal.main_arg0)
          ∧ r.2.mem ((c.tc : Thread Cert.GlaSampleReferenceIdeal.nD Cert.GlaSampleReferenceIdeal.τ).loc Cert.GlaSampleReferenceIdeal.main_arg1) = m' ((c.tc : Thread Cert.GlaSampleReferenceIdeal.nD Cert.GlaSampleReferenceIdeal.τ).loc Cert.GlaSampleReferenceIdeal.main_arg1)
          ∧ r.2.mem ((c.tc : Thread Cert.GlaSampleReferenceIdeal.nD Cert.GlaSampleReferenceIdeal.τ).loc Cert.GlaSampleReferenceIdeal.main_arg2) = m' ((c.tc : Thread Cert.GlaSampleReferenceIdeal.nD Cert.GlaSampleReferenceIdeal.τ).loc Cert.GlaSampleReferenceIdeal.main_arg2)
          ∧ r.2.mem ((c.tc : Thread Cert.GlaSampleReferenceIdeal.nD Cert.GlaSampleReferenceIdeal.τ).loc Cert.GlaSampleReferenceIdeal.main_arg3) = m' ((c.tc : Thread Cert.GlaSampleReferenceIdeal.nD Cert.GlaSampleReferenceIdeal.τ).loc Cert.GlaSampleReferenceIdeal.main_arg3)
          ∧ r.2.mem ((c.tc : Thread Cert.GlaSampleReferenceIdeal.nD Cert.GlaSampleReferenceIdeal.τ).loc Cert.GlaSampleReferenceIdeal.main_arg4) = m' ((c.tc : Thread Cert.GlaSampleReferenceIdeal.nD Cert.GlaSampleReferenceIdeal.τ).loc Cert.GlaSampleReferenceIdeal.main_arg4)
          ∧ r.2.mem ((c.tc : Thread Cert.GlaSampleReferenceIdeal.nD Cert.GlaSampleReferenceIdeal.τ).loc Cert.GlaSampleReferenceIdeal.main_arg5) = m' ((c.tc : Thread Cert.GlaSampleReferenceIdeal.nD Cert.GlaSampleReferenceIdeal.τ).loc Cert.GlaSampleReferenceIdeal.main_arg5)
          ∧ r.2.mem ((c.tc : Thread Cert.GlaSampleReferenceIdeal.nD Cert.GlaSampleReferenceIdeal.τ).loc Cert.GlaSampleReferenceIdeal.main_arg6) = m' ((c.tc : Thread Cert.GlaSampleReferenceIdeal.nD Cert.GlaSampleReferenceIdeal.τ).loc Cert.GlaSampleReferenceIdeal.main_arg6)
          ∧ r.2.mem ((c.tc : Thread Cert.GlaSampleReferenceIdeal.nD Cert.GlaSampleReferenceIdeal.τ).loc Cert.GlaSampleReferenceIdeal.main_arg7) = m' ((c.tc : Thread Cert.GlaSampleReferenceIdeal.nD Cert.GlaSampleReferenceIdeal.τ).loc Cert.GlaSampleReferenceIdeal.main_arg7)
          ∧ r.2.mem ((c.tc : Thread Cert.GlaSampleReferenceIdeal.nD Cert.GlaSampleReferenceIdeal.τ).loc Cert.GlaSampleReferenceIdeal.main_arg8) = m' ((c.tc : Thread Cert.GlaSampleReferenceIdeal.nD Cert.GlaSampleReferenceIdeal.τ).loc Cert.GlaSampleReferenceIdeal.main_arg8))

def preserves_Gla_GlaIdeal : Prop :=
  True

def algebraic_GlaIdeal_GlaReferenceIdeal_pre_finite_gates [hGlaIdeal : Cert.GlaIdeal.Facts] [hGlaReferenceIdeal : Cert.GlaReferenceIdeal.Facts] [hPre_finite_gates : Cert.Pre_finite_gates.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaIdeal_finite_gates m →
    (∀ c : Dev Cert.GlaIdeal.nD,
      m' ((c.tc : Thread Cert.GlaReferenceIdeal.nD Cert.GlaReferenceIdeal.τ).loc Cert.GlaReferenceIdeal.main_arg0) = m ((c.tc : Thread Cert.GlaIdeal.nD Cert.GlaIdeal.τ).loc Cert.GlaIdeal.main_arg0)
      ∧ m' ((c.tc : Thread Cert.GlaReferenceIdeal.nD Cert.GlaReferenceIdeal.τ).loc Cert.GlaReferenceIdeal.main_arg1) = m ((c.tc : Thread Cert.GlaIdeal.nD Cert.GlaIdeal.τ).loc Cert.GlaIdeal.main_arg1)
      ∧ m' ((c.tc : Thread Cert.GlaReferenceIdeal.nD Cert.GlaReferenceIdeal.τ).loc Cert.GlaReferenceIdeal.main_arg2) = m ((c.tc : Thread Cert.GlaIdeal.nD Cert.GlaIdeal.τ).loc Cert.GlaIdeal.main_arg2)
      ∧ m' ((c.tc : Thread Cert.GlaReferenceIdeal.nD Cert.GlaReferenceIdeal.τ).loc Cert.GlaReferenceIdeal.main_arg3) = m ((c.tc : Thread Cert.GlaIdeal.nD Cert.GlaIdeal.τ).loc Cert.GlaIdeal.main_arg3)
      ∧ m' ((c.tc : Thread Cert.GlaReferenceIdeal.nD Cert.GlaReferenceIdeal.τ).loc Cert.GlaReferenceIdeal.main_arg4) = m ((c.tc : Thread Cert.GlaIdeal.nD Cert.GlaIdeal.τ).loc Cert.GlaIdeal.main_arg4)
      ∧ m' ((c.tc : Thread Cert.GlaReferenceIdeal.nD Cert.GlaReferenceIdeal.τ).loc Cert.GlaReferenceIdeal.main_arg5) = m ((c.tc : Thread Cert.GlaIdeal.nD Cert.GlaIdeal.τ).loc Cert.GlaIdeal.main_arg5)
      ∧ m' ((c.tc : Thread Cert.GlaReferenceIdeal.nD Cert.GlaReferenceIdeal.τ).loc Cert.GlaReferenceIdeal.main_arg6) = m ((c.tc : Thread Cert.GlaIdeal.nD Cert.GlaIdeal.τ).loc Cert.GlaIdeal.main_arg6)
      ∧ m' ((c.tc : Thread Cert.GlaReferenceIdeal.nD Cert.GlaReferenceIdeal.τ).loc Cert.GlaReferenceIdeal.main_arg7) = m ((c.tc : Thread Cert.GlaIdeal.nD Cert.GlaIdeal.τ).loc Cert.GlaIdeal.main_arg7)) →
    ∃ (v0 : (c : Dev Cert.GlaIdeal.nD) → Buf (Elt Ideal) ((c.tc : Thread Cert.GlaIdeal.nD Cert.GlaIdeal.τ).loc Cert.GlaIdeal.main_v24)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v24) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v16) = v0 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4)
          ∧ r.2.mem ((c.tc : Thread Cert.GlaReferenceIdeal.nD Cert.GlaReferenceIdeal.τ).loc Cert.GlaReferenceIdeal.main_arg5) = m' ((c.tc : Thread Cert.GlaReferenceIdeal.nD Cert.GlaReferenceIdeal.τ).loc Cert.GlaReferenceIdeal.main_arg5)
          ∧ r.2.mem ((c.tc : Thread Cert.GlaReferenceIdeal.nD Cert.GlaReferenceIdeal.τ).loc Cert.GlaReferenceIdeal.main_arg6) = m' ((c.tc : Thread Cert.GlaReferenceIdeal.nD Cert.GlaReferenceIdeal.τ).loc Cert.GlaReferenceIdeal.main_arg6)
          ∧ r.2.mem ((c.tc : Thread Cert.GlaReferenceIdeal.nD Cert.GlaReferenceIdeal.τ).loc Cert.GlaReferenceIdeal.main_arg7) = m' ((c.tc : Thread Cert.GlaReferenceIdeal.nD Cert.GlaReferenceIdeal.τ).loc Cert.GlaReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hProject : Cert.Project.Facts) (hProjectIdeal : Cert.ProjectIdeal.Facts) (hProjectReferenceIdeal : Cert.ProjectReferenceIdeal.Facts) (hNorm : Cert.Norm.Facts) (hNormIdeal : Cert.NormIdeal.Facts) (hNormReferenceIdeal : Cert.NormReferenceIdeal.Facts) (hProjectSample : Cert.ProjectSample.Facts) (hProjectSampleIdeal : Cert.ProjectSampleIdeal.Facts) (hProjectSampleReferenceIdeal : Cert.ProjectSampleReferenceIdeal.Facts) (hNormSample : Cert.NormSample.Facts) (hNormSampleIdeal : Cert.NormSampleIdeal.Facts) (hNormSampleReferenceIdeal : Cert.NormSampleReferenceIdeal.Facts) (hGlaSample : Cert.GlaSample.Facts) (hGlaSampleIdeal : Cert.GlaSampleIdeal.Facts) (hGlaSampleReferenceIdeal : Cert.GlaSampleReferenceIdeal.Facts) (hGla : Cert.Gla.Facts) (hGlaIdeal : Cert.GlaIdeal.Facts) (hGlaReferenceIdeal : Cert.GlaReferenceIdeal.Facts) (hPre_finite_router : Cert.Pre_finite_router.Facts) (hPre_finite_kv : Cert.Pre_finite_kv.Facts) (hPre_finite_gates : Cert.Pre_finite_gates.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_ProjectSample (hProjectSample := hProjectSample)
    ∧ quiescent_ProjectSampleIdeal (hProjectSampleIdeal := hProjectSampleIdeal)
    ∧ quiescent_ProjectSampleReferenceIdeal (hProjectSampleReferenceIdeal := hProjectSampleReferenceIdeal)
    ∧ quiescent_NormSample (hNormSample := hNormSample)
    ∧ quiescent_NormSampleIdeal (hNormSampleIdeal := hNormSampleIdeal)
    ∧ quiescent_NormSampleReferenceIdeal (hNormSampleReferenceIdeal := hNormSampleReferenceIdeal)
    ∧ quiescent_GlaSample (hGlaSample := hGlaSample)
    ∧ quiescent_GlaSampleIdeal (hGlaSampleIdeal := hGlaSampleIdeal)
    ∧ quiescent_GlaSampleIdeal_pre_finite_kv (hGlaSampleIdeal := hGlaSampleIdeal) (hPre_finite_kv := hPre_finite_kv)
    ∧ quiescent_GlaSampleReferenceIdeal (hGlaSampleReferenceIdeal := hGlaSampleReferenceIdeal)
    ∧ quiescent_GlaSampleReferenceIdeal_pre_finite_kv (hGlaSampleReferenceIdeal := hGlaSampleReferenceIdeal) (hPre_finite_kv := hPre_finite_kv)
    ∧ quiescent_Gla (hGla := hGla)
    ∧ quiescent_GlaIdeal (hGlaIdeal := hGlaIdeal)
    ∧ quiescent_GlaIdeal_pre_finite_gates (hGlaIdeal := hGlaIdeal) (hPre_finite_gates := hPre_finite_gates)
    ∧ quiescent_GlaReferenceIdeal (hGlaReferenceIdeal := hGlaReferenceIdeal)
    ∧ quiescent_GlaReferenceIdeal_pre_finite_gates (hGlaReferenceIdeal := hGlaReferenceIdeal) (hPre_finite_gates := hPre_finite_gates)
    ∧ preserves_Kernel_KernelIdeal
    ∧ algebraic_KernelIdeal_ReferenceIdeal_pre_finite_router (hKernelIdeal := hKernelIdeal) (hReferenceIdeal := hReferenceIdeal) (hPre_finite_router := hPre_finite_router)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Project_ProjectIdeal
    ∧ algebraic_ProjectIdeal_ProjectReferenceIdeal (hProjectIdeal := hProjectIdeal) (hProjectReferenceIdeal := hProjectReferenceIdeal)
    ∧ preserves_Norm_NormIdeal
    ∧ algebraic_NormIdeal_NormReferenceIdeal (hNormIdeal := hNormIdeal) (hNormReferenceIdeal := hNormReferenceIdeal)
    ∧ preserves_ProjectSample_ProjectSampleIdeal
    ∧ algebraic_ProjectSampleIdeal_ProjectSampleReferenceIdeal (hProjectSampleIdeal := hProjectSampleIdeal) (hProjectSampleReferenceIdeal := hProjectSampleReferenceIdeal)
    ∧ preserves_NormSample_NormSampleIdeal
    ∧ algebraic_NormSampleIdeal_NormSampleReferenceIdeal (hNormSampleIdeal := hNormSampleIdeal) (hNormSampleReferenceIdeal := hNormSampleReferenceIdeal)
    ∧ preserves_GlaSample_GlaSampleIdeal
    ∧ algebraic_GlaSampleIdeal_GlaSampleReferenceIdeal_pre_finite_kv (hGlaSampleIdeal := hGlaSampleIdeal) (hGlaSampleReferenceIdeal := hGlaSampleReferenceIdeal) (hPre_finite_kv := hPre_finite_kv)
    ∧ preserves_Gla_GlaIdeal
    ∧ algebraic_GlaIdeal_GlaReferenceIdeal_pre_finite_gates (hGlaIdeal := hGlaIdeal) (hGlaReferenceIdeal := hGlaReferenceIdeal) (hPre_finite_gates := hPre_finite_gates)
-- ==== Pre_finite_gates.lean ====
abbrev S2x8192x128 : Shape := ⟨3, ![2, 8192, 128]⟩
abbrev S2x8192x256 : Shape := ⟨3, ![2, 8192, 256]⟩
abbrev S2x8192x16 : Shape := ⟨3, ![2, 8192, 16]⟩
abbrev S16x128 : Shape := ⟨2, ![16, 128]⟩
abbrev S128 : Shape := ⟨1, ![128]⟩
abbrev S64 : Shape := ⟨1, ![64]⟩
abbrev S_ : Shape := ⟨0, ![]⟩

class Facts : Prop where
  bcast_S_S2x8192x128 : S_.BroadcastsInDim S2x8192x128 (![] : Fin 0 → Fin S2x8192x128.rank)
  reducesTo_S2x8192x128_S_d0_1_2 : S2x8192x128.ReducesTo [0, 1, 2] S_
  h_S_ : 0 < S_.numel
  bcast_S_S2x8192x256 : S_.BroadcastsInDim S2x8192x256 (![] : Fin 0 → Fin S2x8192x256.rank)
  reducesTo_S2x8192x256_S_d0_1_2 : S2x8192x256.ReducesTo [0, 1, 2] S_
  bcast_S_S2x8192x16 : S_.BroadcastsInDim S2x8192x16 (![] : Fin 0 → Fin S2x8192x16.rank)
  reducesTo_S2x8192x16_S_d0_1_2 : S2x8192x16.ReducesTo [0, 1, 2] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2x8192x128 .f32) (main_arg1 : FVec F S2x8192x128 .f32) (main_arg2 : FVec F S2x8192x256 .f32) (main_arg3 : FVec F S2x8192x16 .f32) (main_arg4 : FVec F S2x8192x256 .f32) (main_arg5 : FVec F S16x128 .f32) (main_arg6 : FVec F S128 .f32) (main_arg7 : FVec F S64 .f32) : IVec S_ 1 :=
  let main_v0 : FVec F S2x8192x128 .f32 := Host.absf main_arg1
  let main_cst : FVec F S_ .f32 := constant S_ .f32 0x7F800000#32
  let main_v1 : FVec F S2x8192x128 .f32 := broadcastInDim S2x8192x128 ![] bcast_S_S2x8192x128 main_cst
  let main_v2 : IVec S2x8192x128 1 := cmpf .olt main_v0 main_v1
  let main_c : IVec S_ 1 := constantI S_ 1 1#1
  let main_v3 : IVec S_ 1 := (fun x v => Host.reduce IntOp.andi x v reducesTo_S2x8192x128_S_d0_1_2 h_S_) main_v2 main_c
  let main_v4 : FVec F S2x8192x256 .f32 := Host.absf main_arg2
  let main_cst_0 : FVec F S_ .f32 := constant S_ .f32 0x7F800000#32
  let main_v5 : FVec F S2x8192x256 .f32 := broadcastInDim S2x8192x256 ![] bcast_S_S2x8192x256 main_cst_0
  let main_v6 : IVec S2x8192x256 1 := cmpf .olt main_v4 main_v5
  let main_c_1 : IVec S_ 1 := constantI S_ 1 1#1
  let main_v7 : IVec S_ 1 := (fun x v => Host.reduce IntOp.andi x v reducesTo_S2x8192x256_S_d0_1_2 h_S_) main_v6 main_c_1
  let main_v8 : IVec S_ 1 := andi main_v3 main_v7
  let main_v9 : FVec F S2x8192x16 .f32 := Host.absf main_arg3
  let main_cst_2 : FVec F S_ .f32 := constant S_ .f32 0x7F800000#32
  let main_v10 : FVec F S2x8192x16 .f32 := broadcastInDim S2x8192x16 ![] bcast_S_S2x8192x16 main_cst_2
  let main_v11 : IVec S2x8192x16 1 := cmpf .olt main_v9 main_v10
  let main_c_3 : IVec S_ 1 := constantI S_ 1 1#1
  let main_v12 : IVec S_ 1 := (fun x v => Host.reduce IntOp.andi x v reducesTo_S2x8192x16_S_d0_1_2 h_S_) main_v11 main_c_3
  let main_v13 : IVec S_ 1 := andi main_v8 main_v12
  let main_v14 : FVec F S16x128 .f32 := Host.absf main_arg5
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg6 main_v13 main_v16
-- ==== Pre_finite_kv.lean ====
abbrev S32x8x128 : Shape := ⟨3, ![32, 8, 128]⟩
abbrev S32x8x256 : Shape := ⟨3, ![32, 8, 256]⟩
abbrev S32x8x16 : Shape := ⟨3, ![32, 8, 16]⟩
abbrev S16x128 : Shape := ⟨2, ![16, 128]⟩
abbrev S128 : Shape := ⟨1, ![128]⟩
abbrev S64 : Shape := ⟨1, ![64]⟩
abbrev S32x4x32x64 : Shape := ⟨4, ![32, 4, 32, 64]⟩
abbrev S_ : Shape := ⟨0, ![]⟩

class Facts : Prop where
  bcast_S_S32x8x128 : S_.BroadcastsInDim S32x8x128 (![] : Fin 0 → Fin S32x8x128.rank)
  reducesTo_S32x8x128_S_d0_1_2 : S32x8x128.ReducesTo [0, 1, 2] S_
  h_S_ : 0 < S_.numel
  bcast_S_S32x8x256 : S_.BroadcastsInDim S32x8x256 (![] : Fin 0 → Fin S32x8x256.rank)
  reducesTo_S32x8x256_S_d0_1_2 : S32x8x256.ReducesTo [0, 1, 2] S_

variable [Facts]

def fn {F : FTy → Type} [FloatOps F] (main_arg0 : FVec F S32x8x128 .f32) (main_arg1 : FVec F S32x8x128 .f32) (main_arg2 : FVec F S32x8x256 .f32) (main_arg3 : FVec F S32x8x16 .f32) (main_arg4 : FVec F S32x8x256 .f32) (main_arg5 : FVec F S16x128 .f32) (main_arg6 : FVec F S128 .f32) (main_arg7 : FVec F S64 .f32) (main_arg8 : FVec F S32x4x32x64 .f32) : IVec S_ 1 :=
  let main_v0 : FVec F S32x8x128 .f32 := Host.absf main_arg1
  let main_cst : FVec F S_ .f32 := constant S_ .f32 0x7F800000#32
  let main_v1 : FVec F S32x8x128 .f32 := broadcastInDim S32x8x128 ![] bcast_S_S32x8x128 main_cst
  let main_v2 : IVec S32x8x128 1 := cmpf .olt main_v0 main_v1
  let main_c : IVec S_ 1 := constantI S_ 1 1#1
  let main_v3 : IVec S_ 1 := (fun x v => Host.reduce IntOp.andi x v reducesTo_S32x8x128_S_d0_1_2 h_S_) main_v2 main_c
  let main_v4 : FVec F S32x8x256 .f32 := Host.absf main_arg2
  let main_cst_0 : FVec F S_ .f32 := constant S_ .f32 0x7F800000#32
  let main_v5 : FVec F S32x8x256 .f32 := broadcastInDim S32x8x256 ![] bcast_S_S32x8x256 main_cst_0
  let main_v6 : IVec S32x8x256 1 := cmpf .olt main_v4 main_v5
  let main_c_1 : IVec S_ 1 := constantI S_ 1 1#1
  let main_v7 : IVec S_ 1 := (fun x v => Host.reduce IntOp.andi x v reducesTo_S32x8x256_S_d0_1_2 h_S_) main_v6 main_c_1
  let main_v8 : IVec S_ 1 := andi main_v3 main_v7
  main_v8
-- ==== Pre_finite_router.lean ====
abbrev S2x8192x1024 : Shape := ⟨3, ![2, 8192, 1024]⟩
abbrev S1024 : Shape := ⟨1, ![1024]⟩
abbrev S1024x8 : Shape := ⟨2, ![1024, 8]⟩
abbrev S8x1024x1024 : Shape := ⟨3, ![8, 1024, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S2x8192x1024 .f32) (main_arg1 : FVec F S1024 .f32) (main_arg2 : FVec F S1024x8 .f32) (main_arg3 : FVec F S8x1024x1024 .f32) (main_arg4 : FVec F S8x1024x1024 .f32) (main_arg5 : FVec F S8x1024x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S2x8192x1024 : Shape := ⟨3, ![2, 8192, 1024]⟩
abbrev S1024 : Shape := ⟨1, ![1024]⟩
abbrev S1024x8 : Shape := ⟨2, ![1024, 8]⟩
abbrev S8x1024x1024 : Shape := ⟨3, ![8, 1024, 1024]⟩
abbrev S_ : Shape := ⟨0, ![]⟩
abbrev S1024x128 : Shape := ⟨2, ![1024, 128]⟩
abbrev S16384x1024 : Shape := ⟨2, ![16384, 1024]⟩
abbrev S1x1024 : Shape := ⟨2, ![1, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 15
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x8, .f32⟩
  | .hbm, ⟨3, _⟩ => ⟨S8x1024x1024, .f32⟩
  | .hbm, ⟨4, _⟩ => ⟨S8x1024x1024, .f32⟩
  | .hbm, ⟨5, _⟩ => ⟨S8x1024x1024, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S16384x1024, .f32⟩
  | .hbm, ⟨10, _⟩ => ⟨S8x1024x1024, .bf16⟩
  | .hbm, ⟨11, _⟩ => ⟨S8x1024x1024, .bf16⟩
  | .hbm, ⟨12, _⟩ => ⟨S8x1024x1024, .bf16⟩
  | .hbm, ⟨13, _⟩ => ⟨S1x1024, .f32⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | .local _ .vmem, ⟨14, _⟩ => ⟨S1024x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 8, 2], ![false, false, false]⟩

def k0_cond2 (i : grid0.Coords) : BitVec 1 :=
  let arg1 : BitVec 32 := BitVec.ofNat 32 (i 1).val
  let c7_i32 : BitVec 32 := 7#32
  let v3 : BitVec 1 := Scalar.cmpi .eq arg1 c7_i32
  let arg2 : BitVec 32 := BitVec.ofNat 32 (i 2).val
  let c1_i32 : BitVec 32 := 1#32
  let v4 : BitVec 1 := Scalar.cmpi .eq arg2 c1_i32
  let v5 : BitVec 1 := Scalar.andi v3 v4
  let v37 : BitVec 32 := Scalar.extui v5
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ReferenceIdeal.lean ====
abbrev S2x8192x1024 : Shape := ⟨3, ![2, 8192, 1024]⟩
abbrev S1024 : Shape := ⟨1, ![1024]⟩
abbrev S1024x8 : Shape := ⟨2, ![1024, 8]⟩
abbrev S8x1024x1024 : Shape := ⟨3, ![8, 1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x8 : Shape := ⟨3, ![2, 8192, 8]⟩
abbrev S2x8192x2 : Shape := ⟨3, ![2, 8192, 2]⟩
abbrev S2x8192x2x1 : Shape := ⟨4, ![2, 8192, 2, 1]⟩
abbrev S1x1x1x8 : Shape := ⟨4, ![1, 1, 1, 8]⟩
abbrev S2x8192x2x8 : Shape := ⟨4, ![2, 8192, 2, 8]⟩
abbrev S1x1024x1024 : Shape := ⟨3, ![1, 1024, 1024]⟩
abbrev S1024x1024 : Shape := ⟨2, ![1024, 1024]⟩
abbrev S16384x1024 : Shape := ⟨2, ![16384, 1024]⟩

abbrev nBuf : Space → Nat
  | .hbm => 234
  | .vmem => 0
  | .smem => 0
  | _ => 0

abbrev hbmTy0_0 (i : Nat) : BufTy := match i % 128 with
  | 0 => ⟨S2x8192x1024, .f32⟩
  | 1 => ⟨S1024, .f32⟩
  | 2 => ⟨S1024x8, .f32⟩
  | 3 => ⟨S8x1024x1024, .f32⟩
  | 4 => ⟨S8x1024x1024, .f32⟩
  | 5 => ⟨S8x1024x1024, .f32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S1x1x1024, .f32⟩
  | 20 => ⟨S2x8192x1024, .f32⟩
  | 21 => ⟨S2x8192x1024, .f32⟩
  | 22 => ⟨S2x8192x8, .f32⟩
  | 23 => ⟨S2x8192x2, .f32⟩
  | 24 => ⟨S2x8192x2, .i32⟩
  | 25 => ⟨S_, .f32⟩
  | 26 => ⟨S2x8192, .f32⟩
  | 27 => ⟨S_, .f32⟩
  | 28 => ⟨S2x8192, .f32⟩
  | 29 => ⟨S2x8192, .f32⟩
  | 30 => ⟨S2x8192x1, .f32⟩
  | 31 => ⟨S2x8192x2, .f32⟩
  | 32 => ⟨S2x8192x2, .f32⟩
  | 33 => ⟨S2x8192x2, .f32⟩
  | 34 => ⟨S_, .f32⟩
  | 35 => ⟨S2x8192, .f32⟩
  | 36 => ⟨S2x8192x1, .f32⟩
  | 37 => ⟨S2x8192x2, .f32⟩
  | 38 => ⟨S2x8192x2, .f32⟩
  | 39 => ⟨S2x8192x2x1, .i32⟩
  | 40 => ⟨S1x1x1x8, .i32⟩
  | 41 => ⟨S2x8192x2x8, .i32⟩
  | 42 => ⟨S2x8192x2x8, .i32⟩
  | 43 => ⟨S2x8192x2x8, .i1⟩
  | 44 => ⟨S2x8192x2x8, .f32⟩
  | 45 => ⟨S2x8192x8, .f32⟩
  | 46 => ⟨S_, .f32⟩
  | 47 => ⟨S2x8192x1024, .f32⟩
  | 48 => ⟨S2x8192x1, .f32⟩
  | 49 => ⟨S1x1024x1024, .f32⟩
  | 50 => ⟨S1024x1024, .f32⟩
  | 51 => ⟨S1x1024x1024, .f32⟩
  | 52 => ⟨S1024x1024, .f32⟩
  | 53 => ⟨S1x1024x1024, .f32⟩
  | 54 => ⟨S1024x1024, .f32⟩
  | 55 => ⟨S2x8192x1024, .f32⟩
  | 56 => ⟨S2x8192x1024, .f32⟩
  | 57 => ⟨S2x8192x1024, .f32⟩
  | 58 => ⟨S_, .f32⟩
  | 59 => ⟨S2x8192x1024, .f32⟩
  | 60 => ⟨S2x8192x1024, .f32⟩
  | 61 => ⟨S_, .f32⟩
  | 62 => ⟨S2x8192x1024, .f32⟩
  | 63 => ⟨S2x8192x1024, .f32⟩
  | 64 => ⟨S2x8192x1024, .f32⟩
  | 65 => ⟨S2x8192x1024, .f32⟩
  | 66 => ⟨S2x8192x1024, .f32⟩
  | 67 => ⟨S2x8192x1024, .f32⟩
  | 68 => ⟨S2x8192x1024, .f32⟩
  | 69 => ⟨S2x8192x1024, .f32⟩
  | 70 => ⟨S2x8192x1024, .f32⟩
  | 71 => ⟨S2x8192x1, .f32⟩
  | 72 => ⟨S1x1024x1024, .f32⟩
  | 73 => ⟨S1024x1024, .f32⟩
  | 74 => ⟨S1x1024x1024, .f32⟩
  | 75 => ⟨S1024x1024, .f32⟩
  | 76 => ⟨S1x1024x1024, .f32⟩
  | 77 => ⟨S1024x1024, .f32⟩
  | 78 => ⟨S2x8192x1024, .f32⟩
  | 79 => ⟨S2x8192x1024, .f32⟩
  | 80 => ⟨S2x8192x1024, .f32⟩
  | 81 => ⟨S_, .f32⟩
  | 82 => ⟨S2x8192x1024, .f32⟩
  | 83 => ⟨S2x8192x1024, .f32⟩
  | 84 => ⟨S_, .f32⟩
  | 85 => ⟨S2x8192x1024, .f32⟩
  | 86 => ⟨S2x8192x1024, .f32⟩
  | 87 => ⟨S2x8192x1024, .f32⟩
  | 88 => ⟨S2x8192x1024, .f32⟩
  | 89 => ⟨S2x8192x1024, .f32⟩
  | 90 => ⟨S2x8192x1024, .f32⟩
  | 91 => ⟨S2x8192x1024, .f32⟩
  | 92 => ⟨S2x8192x1024, .f32⟩
  | 93 => ⟨S2x8192x1024, .f32⟩
  | 94 => ⟨S2x8192x1, .f32⟩
  | 95 => ⟨S1x1024x1024, .f32⟩
  | 96 => ⟨S1024x1024, .f32⟩
  | 97 => ⟨S1x1024x1024, .f32⟩
  | 98 => ⟨S1024x1024, .f32⟩
  | 99 => ⟨S1x1024x1024, .f32⟩
  | 100 => ⟨S1024x1024, .f32⟩
  | 101 => ⟨S2x8192x1024, .f32⟩
  | 102 => ⟨S2x8192x1024, .f32⟩
  | 103 => ⟨S2x8192x1024, .f32⟩
  | 104 => ⟨S_, .f32⟩
  | 105 => ⟨S2x8192x1024, .f32⟩
  | 106 => ⟨S2x8192x1024, .f32⟩
  | 107 => ⟨S_, .f32⟩
  | 108 => ⟨S2x8192x1024, .f32⟩
  | 109 => ⟨S2x8192x1024, .f32⟩
  | 110 => ⟨S2x8192x1024, .f32⟩
  | 111 => ⟨S2x8192x1024, .f32⟩
  | 112 => ⟨S2x8192x1024, .f32⟩
  | 113 => ⟨S2x8192x1024, .f32⟩
  | 114 => ⟨S2x8192x1024, .f32⟩
  | 115 => ⟨S2x8192x1024, .f32⟩
  | 116 => ⟨S2x8192x1024, .f32⟩
  | 117 => ⟨S2x8192x1, .f32⟩
  | 118 => ⟨S1x1024x1024, .f32⟩
  | 119 => ⟨S1024x1024, .f32⟩
  | 120 => ⟨S1x1024x1024, .f32⟩
  | 121 => ⟨S1024x1024, .f32⟩
  | 122 => ⟨S1x1024x1024, .f32⟩
  | 123 => ⟨S1024x1024, .f32⟩
  | 124 => ⟨S2x8192x1024, .f32⟩
  | 125 => ⟨S2x8192x1024, .f32⟩
  | 126 => ⟨S2x8192x1024, .f32⟩
  | 127 => ⟨S_, .f32⟩
  | _ => ⟨S2x8192x1024, .f32⟩

abbrev hbmTy0_1 (i : Nat) : BufTy := match i % 128 with
  | 0 => ⟨S2x8192x1024, .f32⟩
  | 1 => ⟨S2x8192x1024, .f32⟩
  | 2 => ⟨S_, .f32⟩
  | 3 => ⟨S2x8192x1024, .f32⟩
  | 4 => ⟨S2x8192x1024, .f32⟩
  | 5 => ⟨S2x8192x1024, .f32⟩
  | 6 => ⟨S2x8192x1024, .f32⟩
  | 7 => ⟨S2x8192x1024, .f32⟩
  | 8 => ⟨S2x8192x1024, .f32⟩
  | 9 => ⟨S2x8192x1024, .f32⟩
  | 10 => ⟨S2x8192x1024, .f32⟩
  | 11 => ⟨S2x8192x1024, .f32⟩
  | 12 => ⟨S2x8192x1, .f32⟩
  | 13 => ⟨S1x1024x1024, .f32⟩
  | 14 => ⟨S1024x1024, .f32⟩
  | 15 => ⟨S1x1024x1024, .f32⟩
  | 16 => ⟨S1024x1024, .f32⟩
  | 17 => ⟨S1x1024x1024, .f32⟩
  | 18 => ⟨S1024x1024, .f32⟩
  | 19 => ⟨S2x8192x1024, .f32⟩
  | 20 => ⟨S2x8192x1024, .f32⟩
  | 21 => ⟨S2x8192x1024, .f32⟩
  | 22 => ⟨S_, .f32⟩
  | 23 => ⟨S2x8192x1024, .f32⟩
  | 24 => ⟨S2x8192x1024, .f32⟩
  | 25 => ⟨S_, .f32⟩
  | 26 => ⟨S2x8192x1024, .f32⟩
  | 27 => ⟨S2x8192x1024, .f32⟩
  | 28 => ⟨S2x8192x1024, .f32⟩
  | 29 => ⟨S2x8192x1024, .f32⟩
  | 30 => ⟨S2x8192x1024, .f32⟩
  | 31 => ⟨S2x8192x1024, .f32⟩
  | 32 => ⟨S2x8192x1024, .f32⟩
  | 33 => ⟨S2x8192x1024, .f32⟩
  | 34 => ⟨S2x8192x1024, .f32⟩
  | 35 => ⟨S2x8192x1, .f32⟩
  | 36 => ⟨S1x1024x1024, .f32⟩
  | 37 => ⟨S1024x1024, .f32⟩
  | 38 => ⟨S1x1024x1024, .f32⟩
  | 39 => ⟨S1024x1024, .f32⟩
  | 40 => ⟨S1x1024x1024, .f32⟩
  | 41 => ⟨S1024x1024, .f32⟩
  | 42 => ⟨S2x8192x1024, .f32⟩
  | 43 => ⟨S2x8192x1024, .f32⟩
  | 44 => ⟨S2x8192x1024, .f32⟩
  | 45 => ⟨S_, .f32⟩
  | 46 => ⟨S2x8192x1024, .f32⟩
  | 47 => ⟨S2x8192x1024, .f32⟩
  | 48 => ⟨S_, .f32⟩
  | 49 => ⟨S2x8192x1024, .f32⟩
  | 50 => ⟨S2x8192x1024, .f32⟩
  | 51 => ⟨S2x8192x1024, .f32⟩
  | 52 => ⟨S2x8192x1024, .f32⟩
  | 53 => ⟨S2x8192x1024, .f32⟩
  | 54 => ⟨S2x8192x1024, .f32⟩
  | 55 => ⟨S2x8192x1024, .f32⟩
  | 56 => ⟨S2x8192x1024, .f32⟩
  | 57 => ⟨S2x8192x1024, .f32⟩
  | 58 => ⟨S2x8192x1, .f32⟩
  | 59 => ⟨S1x1024x1024, .f32⟩
  | 60 => ⟨S1024x1024, .f32⟩
  | 61 => ⟨S1x1024x1024, .f32⟩
  | 62 => ⟨S1024x1024, .f32⟩
  | 63 => ⟨S1x1024x1024, .f32⟩
  | 64 => ⟨S1024x1024, .f32⟩
  | 65 => ⟨S2x8192x1024, .f32⟩
  | 66 => ⟨S2x8192x1024, .f32⟩
  | 67 => ⟨S2x8192x1024, .f32⟩
  | 68 => ⟨S_, .f32⟩
  | 69 => ⟨S2x8192x1024, .f32⟩
  | 70 => ⟨S2x8192x1024, .f32⟩
  | 71 => ⟨S_, .f32⟩
  | 72 => ⟨S2x8192x1024, .f32⟩
  | 73 => ⟨S2x8192x1024, .f32⟩
  | 74 => ⟨S2x8192x1024, .f32⟩
  | 75 => ⟨S2x8192x1024, .f32⟩
  | 76 => ⟨S2x8192x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S2x8192x1, .f32⟩
  | 82 => ⟨S1x1024x1024, .f32⟩
  | 83 => ⟨S1024x1024, .f32⟩
  | 84 => ⟨S1x1024x1024, .f32⟩
  | 85 => ⟨S1024x1024, .f32⟩
  | 86 => ⟨S1x1024x1024, .f32⟩
  | 87 => ⟨S1024x1024, .f32⟩
  | 88 => ⟨S2x8192x1024, .f32⟩
  | 89 => ⟨S2x8192x1024, .f32⟩
  | 90 => ⟨S2x8192x1024, .f32⟩
  | 91 => ⟨S_, .f32⟩
  | 92 => ⟨S2x8192x1024, .f32⟩
  | 93 => ⟨S2x8192x1024, .f32⟩
  | 94 => ⟨S_, .f32⟩
  | 95 => ⟨S2x8192x1024, .f32⟩
  | 96 => ⟨S2x8192x1024, .f32⟩
  | 97 => ⟨S2x8192x1024, .f32⟩
  | 98 => ⟨S2x8192x1024, .f32⟩
  | 99 => ⟨S2x8192x1024, .f32⟩
  | 100 => ⟨S2x8192x1024, .f32⟩
  | 101 => ⟨S2x8192x1024, .f32⟩
  | 102 => ⟨S2x8192x1024, .f32⟩
  | 103 => ⟨S2x8192x1024, .f32⟩
  | 104 => ⟨S2x8192x1024, .f32⟩
  | 105 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_cst_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call3_v0 : Ref sig .tc := ⟨.hbm, 102, rfl⟩
abbrev main_call3_v1 : Ref sig .tc := ⟨.hbm, 103, rfl⟩
abbrev main_call3_cst : Ref sig .tc := ⟨.hbm, 104, rfl⟩
abbrev main_call3_v2 : Ref sig .tc := ⟨.hbm, 105, rfl⟩
abbrev main_call3_v3 : Ref sig .tc := ⟨.hbm, 106, rfl⟩
abbrev main_call3_cst_0 : Ref sig .tc := ⟨.hbm, 107, rfl⟩
abbrev main_call3_v4 : Ref sig .tc := ⟨.hbm, 108, rfl⟩
abbrev main_call3_v5 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_call4_v0 : Ref sig .tc := ⟨.hbm, 125, rfl⟩
abbrev main_call4_v1 : Ref sig .tc := ⟨.hbm, 126, rfl⟩
abbrev main_call4_cst : Ref sig .tc := ⟨.hbm, 127, rfl⟩
abbrev main_call4_v2 : Ref sig .tc := ⟨.hbm, 128, rfl⟩
abbrev main_call4_v3 : Ref sig .tc := ⟨.hbm, 129, rfl⟩
abbrev main_call4_cst_0 : Ref sig .tc := ⟨.hbm, 130, rfl⟩
abbrev main_call4_v4 : Ref sig .tc := ⟨.hbm, 131, rfl⟩
abbrev main_call4_v5 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_call5_v0 : Ref sig .tc := ⟨.hbm, 148, rfl⟩
abbrev main_call5_v1 : Ref sig .tc := ⟨.hbm, 149, rfl⟩
abbrev main_call5_cst : Ref sig .tc := ⟨.hbm, 150, rfl⟩
abbrev main_call5_v2 : Ref sig .tc := ⟨.hbm, 151, rfl⟩
abbrev main_call5_v3 : Ref sig .tc := ⟨.hbm, 152, rfl⟩
abbrev main_call5_cst_0 : Ref sig .tc := ⟨.hbm, 153, rfl⟩
abbrev main_call5_v4 : Ref sig .tc := ⟨.hbm, 154, rfl⟩
abbrev main_call5_v5 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_call6_v0 : Ref sig .tc := ⟨.hbm, 171, rfl⟩
abbrev main_call6_v1 : Ref sig .tc := ⟨.hbm, 172, rfl⟩
abbrev main_call6_cst : Ref sig .tc := ⟨.hbm, 173, rfl⟩
abbrev main_call6_v2 : Ref sig .tc := ⟨.hbm, 174, rfl⟩
abbrev main_call6_v3 : Ref sig .tc := ⟨.hbm, 175, rfl⟩
abbrev main_call6_cst_0 : Ref sig .tc := ⟨.hbm, 176, rfl⟩
abbrev main_call6_v4 : Ref sig .tc := ⟨.hbm, 177, rfl⟩
abbrev main_call6_v5 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_call7_v0 : Ref sig .tc := ⟨.hbm, 194, rfl⟩
abbrev main_call7_v1 : Ref sig .tc := ⟨.hbm, 195, rfl⟩
abbrev main_call7_cst : Ref sig .tc := ⟨.hbm, 196, rfl⟩
abbrev main_call7_v2 : Ref sig .tc := ⟨.hbm, 197, rfl⟩
abbrev main_call7_v3 : Ref sig .tc := ⟨.hbm, 198, rfl⟩
abbrev main_call7_cst_0 : Ref sig .tc := ⟨.hbm, 199, rfl⟩
abbrev main_call7_v4 : Ref sig .tc := ⟨.hbm, 200, rfl⟩
abbrev main_call7_v5 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_call8_v0 : Ref sig .tc := ⟨.hbm, 217, rfl⟩
abbrev main_call8_v1 : Ref sig .tc := ⟨.hbm, 218, rfl⟩
abbrev main_call8_cst : Ref sig .tc := ⟨.hbm, 219, rfl⟩
abbrev main_call8_v2 : Ref sig .tc := ⟨.hbm, 220, rfl⟩
abbrev main_call8_v3 : Ref sig .tc := ⟨.hbm, 221, rfl⟩
abbrev main_call8_cst_0 : Ref sig .tc := ⟨.hbm, 222, rfl⟩
abbrev main_call8_v4 : Ref sig .tc := ⟨.hbm, 223, rfl⟩
abbrev main_call8_v5 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩

abbrev nD : Nat := 1
abbrev τ : Topo := Topo.v7x

variable {F : FTy → Type} [FloatOps F]
-- ==== Ffn.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x2816, .f32⟩
  | .hbm, ⟨22, _⟩ => ⟨S2x8192x2816, .f32⟩
  | .hbm, ⟨23, _⟩ => ⟨S2x8192x2816, .f32⟩
  | .hbm, ⟨24, _⟩ => ⟨S_, .f32⟩
  | .hbm, ⟨25, _⟩ => ⟨S2x8192x2816, .f32⟩
  | .hbm, ⟨26, _⟩ => ⟨S2x8192x2816, .f32⟩
  | .hbm, ⟨27, _⟩ => ⟨S_, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x1024, .f32⟩
  | .hbm, ⟨34, _⟩ => ⟨S2x8192x1024, .f32⟩
  | .hbm, ⟨35, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Merge.lean ====
abbrev S2x8192x1024 : Shape := ⟨3, ![2, 8192, 1024]⟩
abbrev S2x8192x256 : Shape := ⟨3, ![2, 8192, 256]⟩
abbrev S1024x7324 : Shape := ⟨2, ![1024, 7324]⟩
abbrev S4x256x1024 : Shape := ⟨3, ![4, 256, 1024]⟩
abbrev S1024x1024 : Shape := ⟨2, ![1024, 1024]⟩
abbrev S16384x1024 : Shape := ⟨2, ![16384, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S16384x256 : Shape := ⟨2, ![16384, 256]⟩
abbrev S512x1024 : Shape := ⟨2, ![512, 1024]⟩
abbrev S512x256 : Shape := ⟨2, ![512, 256]⟩
abbrev S1x1024x1024 : Shape := ⟨3, ![1, 1024, 1024]⟩
abbrev S1x256x1024 : Shape := ⟨3, ![1, 256, 1024]⟩
abbrev S256x1024 : Shape := ⟨2, ![256, 1024]⟩

abbrev nBuf : Space → Nat
  | .hbm => 23
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S2x8192x256, .f32⟩
  | .hbm, ⟨6, _⟩ => ⟨S1024x7324, .f32⟩
  | .hbm, ⟨7, _⟩ => ⟨S4x256x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S16384x1024, .bf16⟩
  | .hbm, ⟨12, _⟩ => ⟨S1024x4096, .f32⟩
  | .hbm, ⟨13, _⟩ => ⟨S1024x4x1024, .f32⟩
  | .hbm, ⟨14, _⟩ => ⟨S4x1024x1024, .f32⟩
  | .hbm, ⟨15, _⟩ => ⟨S4x1024x1024, .bf16⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S4x256x1024, .bf16⟩
  | .hbm, ⟨21, _⟩ => ⟨S1024x1024, .bf16⟩
  | .hbm, ⟨22, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x1024, .f32⟩
  | .local _ .vmem, ⟨11, _⟩ => ⟨S512x1024, .f32⟩
  | .local _ .vmem, ⟨12, _⟩ => ⟨S4x1024x1024, .bf16⟩
  | .local _ .vmem, ⟨13, _⟩ => ⟨S4x256x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S2x8192x1024 : Shape := ⟨3, ![2, 8192, 1024]⟩
abbrev S2x8192x256 : Shape := ⟨3, ![2, 8192, 256]⟩
abbrev S1024x7324 : Shape := ⟨2, ![1024, 7324]⟩
abbrev S4x256x1024 : Shape := ⟨3, ![4, 256, 1024]⟩
abbrev S1024x1024 : Shape := ⟨2, ![1024, 1024]⟩
abbrev S2x8192x7324 : Shape := ⟨3, ![2, 8192, 7324]⟩
abbrev S2x8192x128 : Shape := ⟨3, ![2, 8192, 128]⟩
abbrev S2x8192x16 : Shape := ⟨3, ![2, 8192, 16]⟩
abbrev S2x8192x384 : Shape := ⟨3, ![2, 8192, 384]⟩
abbrev S2x8192x12 : Shape := ⟨3, ![2, 8192, 12]⟩
abbrev S2x8192x4096 : Shape := ⟨3, ![2, 8192, 4096]⟩
abbrev S2x8192x1x256 : Shape := ⟨4, ![2, 8192, 1, 256]⟩
abbrev S2x8192x4x256 : Shape := ⟨4, ![2, 8192, 4, 256]⟩
abbrev S4x1024x2x8192 : Shape := ⟨4, ![4, 1024, 2, 8192]⟩
abbrev S2x8192x4x1024 : Shape := ⟨4, ![2, 8192, 4, 1024]⟩
abbrev S_ : Shape := ⟨0, ![]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x256, .f32⟩
  | .hbm, ⟨3, _⟩ => ⟨S2x8192x256, .f32⟩
  | .hbm, ⟨4, _⟩ => ⟨S2x8192x256, .f32⟩
  | .hbm, ⟨5, _⟩ => ⟨S2x8192x256, .f32⟩
  | .hbm, ⟨6, _⟩ => ⟨S1024x7324, .f32⟩
  | .hbm, ⟨7, _⟩ => ⟨S4x256x1024, .f32⟩
  | .hbm, ⟨8, _⟩ => ⟨S1024x1024, .f32⟩
  | .hbm, ⟨9, _⟩ => ⟨S2x8192x7324, .f32⟩
  | .hbm, ⟨10, _⟩ => ⟨S2x8192x128, .f32⟩
  | .hbm, ⟨11, _⟩ => ⟨S2x8192x128, .f32⟩
  | .hbm, ⟨12, _⟩ => ⟨S2x8192x256, .f32⟩
  | .hbm, ⟨13, _⟩ => ⟨S2x8192x16, .f32⟩
  | .hbm, ⟨14, _⟩ => ⟨S2x8192x256, .f32⟩
  | .hbm, ⟨15, _⟩ => ⟨S2x8192x256, .f32⟩
  | .hbm, ⟨16, _⟩ => ⟨S2x8192x384, .f32⟩
  | .hbm, ⟨17, _⟩ => ⟨S2x8192x12, .f32⟩
  | .hbm, ⟨18, _⟩ => ⟨S2x8192x256, .f32⟩
  | .hbm, ⟨19, _⟩ => ⟨S2x8192x256, .f32⟩
  | .hbm, ⟨20, _⟩ => ⟨S2x8192x256, .f32⟩
  | .hbm, ⟨21, _⟩ => ⟨S2x8192x1024, .f32⟩
  | .hbm, ⟨22, _⟩ => ⟨S2x8192x4096, .f32⟩
  | .hbm, ⟨23, _⟩ => ⟨S2x8192x1x256, .f32⟩
  | .hbm, ⟨24, _⟩ => ⟨S2x8192x1x256, .f32⟩
  | .hbm, ⟨25, _⟩ => ⟨S2x8192x1x256, .f32⟩
  | .hbm, ⟨26, _⟩ => ⟨S2x8192x1x256, .f32⟩
  | .hbm, ⟨27, _⟩ => ⟨S2x8192x4x256, .f32⟩
  | .hbm, ⟨28, _⟩ => ⟨S4x1024x2x8192, .f32⟩
  | .hbm, ⟨29, _⟩ => ⟨S2x8192x4x1024, .f32⟩
  | .hbm, ⟨30, _⟩ => ⟨S2x8192x4096, .f32⟩
  | .hbm, ⟨31, _⟩ => ⟨S2x8192x4096, .f32⟩
  | .hbm, ⟨32, _⟩ => ⟨S_, .f32⟩
  | .hbm, ⟨33, _⟩ => ⟨S2x8192x4096, .f32⟩
  | .hbm, ⟨34, _⟩ => ⟨S2x8192x4096, .f32⟩
  | .hbm, ⟨35, _⟩ => ⟨S_, .f32⟩
  | .hbm, ⟨36, _⟩ => ⟨S2x8192x4096, .f32⟩
  | .hbm, ⟨37, _⟩ => ⟨S2x8192x4096, .f32⟩
  | .hbm, ⟨38, _⟩ => ⟨S2x8192x4x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Project.lean ====
abbrev S2x8192x1024 : Shape := ⟨3, ![2, 8192, 1024]⟩
abbrev S1024x7324 : Shape := ⟨2, ![1024, 7324]⟩
abbrev S1024x128 : Shape := ⟨2, ![1024, 128]⟩
abbrev S_ : Shape := ⟨0, ![]⟩
abbrev S1024x256 : Shape := ⟨2, ![1024, 256]⟩
abbrev S1024x16 : Shape := ⟨2, ![1024, 16]⟩
abbrev S1024x384 : Shape := ⟨2, ![1024, 384]⟩
abbrev S1024x12 : Shape := ⟨2, ![1024, 12]⟩
abbrev S1024x1024 : Shape := ⟨2, ![1024, 1024]⟩
abbrev S1024x3456 : Shape := ⟨2, ![1024, 3456]⟩
abbrev S16384x1024 : Shape := ⟨2, ![16384, 1024]⟩
abbrev S16384x128 : Shape := ⟨2, ![16384, 128]⟩
abbrev S16384x256 : Shape := ⟨2, ![16384, 256]⟩
abbrev S16384x384 : Shape := ⟨2, ![16384, 384]⟩
abbrev S512x1024 : Shape := ⟨2, ![512, 1024]⟩
abbrev S512x128 : Shape := ⟨2, ![512, 128]⟩
abbrev S512x256 : Shape := ⟨2, ![512, 256]⟩
abbrev S512x384 : Shape := ⟨2, ![512, 384]⟩
abbrev S2x8192x128 : Shape := ⟨3, ![2, 8192, 128]⟩
abbrev S2x8192x256 : Shape := ⟨3, ![2, 8192, 256]⟩
abbrev S2x8192x384 : Shape := ⟨3, ![2, 8192, 384]⟩
abbrev S2x8192x6x64 : Shape := ⟨4, ![2, 8192, 6, 64]⟩
abbrev S2x8192x4x64 : Shape := ⟨4, ![2, 8192, 4, 64]⟩
abbrev S2x8192x1x4x64 : Shape := ⟨5, ![2, 8192, 1, 4, 64]⟩
abbrev S2x8192x2x4x64 : Shape := ⟨5, ![2, 8192, 2, 4, 64]⟩
abbrev S2x512x2x64 : Shape := ⟨4, ![2, 512, 2, 64]⟩
abbrev S2x8192x16 : Shape := ⟨3, ![2, 8192, 16]⟩
abbrev S2x8192x12 : Shape := ⟨3, ![2, 8192, 12]⟩
abbrev S2x8192x2x64 : Shape := ⟨4, ![2, 8192, 2, 64]⟩
abbrev S2x1x1024 : Shape := ⟨3, ![2, 1, 1024]⟩
abbrev S2x1024 : Shape := ⟨2, ![2, 1024]⟩

abbrev nBuf : Space → Nat
  | .hbm => 92
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S1024x7324, .f32⟩
  | .hbm, ⟨2, _⟩ => ⟨S1024x128, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x256, .f32⟩
  | .hbm, ⟨11, _⟩ => ⟨S_, .i32⟩
  | .hbm, ⟨12, _⟩ => ⟨S_, .f32⟩
  | .hbm, ⟨13, _⟩ => ⟨S1024x256, .f32⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x256, .f32⟩
  | .hbm, ⟨19, _⟩ => ⟨S_, .i32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S_, .i32⟩
  | .hbm, ⟨24, _⟩ => ⟨S_, .f32⟩
  | .hbm, ⟨25, _⟩ => ⟨S1024x256, .f32⟩
  | .hbm, ⟨26, _⟩ => ⟨S1024x384, .f32⟩
  | .hbm, ⟨27, _⟩ => ⟨S_, .i32⟩
  | .hbm, ⟨28, _⟩ => ⟨S_, .f32⟩
  | .hbm, ⟨29, _⟩ => ⟨S1024x384, .f32⟩
  | .hbm, ⟨30, _⟩ => ⟨S1024x12, .f32⟩
  | .hbm, ⟨31, _⟩ => ⟨S_, .i32⟩
  | .hbm, ⟨32, _⟩ => ⟨S_, .f32⟩
  | .hbm, ⟨33, _⟩ => ⟨S1024x128, .f32⟩
  | .hbm, ⟨34, _⟩ => ⟨S1024x256, .f32⟩
  | .hbm, ⟨35, _⟩ => ⟨S_, .i32⟩
  | .hbm, ⟨36, _⟩ => ⟨S_, .f32⟩
  | .hbm, ⟨37, _⟩ => ⟨S1024x256, .f32⟩
  | .hbm, ⟨38, _⟩ => ⟨S1024x256, .f32⟩
  | .hbm, ⟨39, _⟩ => ⟨S_, .i32⟩
  | .hbm, ⟨40, _⟩ => ⟨S_, .f32⟩
  | .hbm, ⟨41, _⟩ => ⟨S1024x256, .f32⟩
  | .hbm, ⟨42, _⟩ => ⟨S1024x256, .f32⟩
  | .hbm, ⟨43, _⟩ => ⟨S_, .i32⟩
  | .hbm, ⟨44, _⟩ => ⟨S_, .f32⟩
  | .hbm, ⟨45, _⟩ => ⟨S1024x256, .f32⟩
  | .hbm, ⟨46, _⟩ => ⟨S1024x1024, .f32⟩
  | .hbm, ⟨47, _⟩ => ⟨S_, .i32⟩
  | .hbm, ⟨48, _⟩ => ⟨S_, .f32⟩
  | .hbm, ⟨49, _⟩ => ⟨S1024x1024, .f32⟩
  | .hbm, ⟨50, _⟩ => ⟨S1024x3456, .f32⟩
  | .hbm, ⟨51, _⟩ => ⟨S1024x3456, .bf16⟩
  | .hbm, ⟨52, _⟩ => ⟨S16384x1024, .f32⟩
  | .hbm, ⟨53, _⟩ => ⟨S16384x1024, .bf16⟩
  | .hbm, ⟨54, _⟩ => ⟨S16384x128, .f32⟩
  | .hbm, ⟨55, _⟩ => ⟨S16384x128, .f32⟩
  | .hbm, ⟨56, _⟩ => ⟨S16384x256, .f32⟩
  | .hbm, ⟨57, _⟩ => ⟨S16384x128, .f32⟩
  | .hbm, ⟨58, _⟩ => ⟨S16384x256, .f32⟩
  | .hbm, ⟨59, _⟩ => ⟨S16384x256, .f32⟩
  | .hbm, ⟨60, _⟩ => ⟨S16384x384, .f32⟩
  | .hbm, ⟨61, _⟩ => ⟨S16384x128, .f32⟩
  | .hbm, ⟨62, _⟩ => ⟨S16384x256, .f32⟩
  | .hbm, ⟨63, _⟩ => ⟨S16384x256, .f32⟩
  | .hbm, ⟨64, _⟩ => ⟨S16384x256, .f32⟩
  | .hbm, ⟨65, _⟩ => ⟨S16384x1024, .f32⟩
  | .hbm, ⟨66, _⟩ => ⟨S2x8192x128, .f32⟩
  | .hbm, ⟨67, _⟩ => ⟨S2x8192x128, .f32⟩
  | .hbm, ⟨68, _⟩ => ⟨S2x8192x256, .f32⟩
  | .hbm, ⟨69, _⟩ => ⟨S2x8192x128, .f32⟩
  | .hbm, ⟨70, _⟩ => ⟨S2x8192x256, .f32⟩
  | .hbm, ⟨71, _⟩ => ⟨S2x8192x256, .f32⟩
  | .hbm, ⟨72, _⟩ => ⟨S2x8192x384, .f32⟩
  | .hbm, ⟨73, _⟩ => ⟨S2x8192x128, .f32⟩
  | .hbm, ⟨74, _⟩ => ⟨S2x8192x256, .f32⟩
  | .hbm, ⟨75, _⟩ => ⟨S2x8192x256, .f32⟩
  | .hbm, ⟨76, _⟩ => ⟨S2x8192x256, .f32⟩
  | .hbm, ⟨77, _⟩ => ⟨S2x8192x1024, .f32⟩
  | .hbm, ⟨78, _⟩ => ⟨S2x8192x6x64, .f32⟩
  | .hbm, ⟨79, _⟩ => ⟨S2x8192x4x64, .f32⟩
  | .hbm, ⟨80, _⟩ => ⟨S2x8192x4x64, .f32⟩
  | .hbm, ⟨81, _⟩ => ⟨S2x8192x1x4x64, .f32⟩
  | .hbm, ⟨82, _⟩ => ⟨S2x8192x1x4x64, .f32⟩
  | .hbm, ⟨83, _⟩ => ⟨S2x8192x2x4x64, .f32⟩
  | .hbm, ⟨84, _⟩ => ⟨S2x512x2x64, .f32⟩
  | .hbm, ⟨85, _⟩ => ⟨S2x8192x16, .f32⟩
  | .hbm, ⟨86, _⟩ => ⟨S2x8192x12, .f32⟩
  | .hbm, ⟨87, _⟩ => ⟨S2x8192x2x64, .f32⟩
  | .hbm, ⟨88, _⟩ => ⟨S2x8192x2x64, .f32⟩
  | .hbm, ⟨89, _⟩ => ⟨S2x8192x2x64, .f32⟩
  | .hbm, ⟨90, _⟩ => ⟨S2x1x1024, .f32⟩
  | .hbm, ⟨91, _⟩ => ⟨S2x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3456, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x256, .f32⟩
  | .local _ .vmem, ⟨8, _⟩ => ⟨S512x256, .f32⟩
  | .local _ .vmem, ⟨9, _⟩ => ⟨S512x128, .f32⟩
  | .local _ .vmem, ⟨10, _⟩ => ⟨S512x128, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x384, .f32⟩
  | .local _ .vmem, ⟨16, _⟩ => ⟨S512x384, .f32⟩
  | .local _ .vmem, ⟨17, _⟩ => ⟨S512x128, .f32⟩
  | .local _ .vmem, ⟨18, _⟩ => ⟨S512x128, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x1024, .f32⟩
  | .local _ .vmem, ⟨26, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call2_v0 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_call3_v0 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_call4_v0 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_call5_v0 : Ref sig .tc := ⟨.hbm, 24, rfl⟩
abbrev main_v11 : Ref sig .tc := ⟨.hbm, 25, rfl⟩
abbrev main_v12 : Ref sig .tc := ⟨.hbm, 26, rfl⟩
abbrev main_c_5 : Ref sig .tc := ⟨.hbm, 27, rfl⟩
abbrev main_call6_v0 : Ref sig .tc := ⟨.hbm, 28, rfl⟩
abbrev main_v13 : Ref sig .tc := ⟨.hbm, 29, rfl⟩
abbrev main_v14 : Ref sig .tc := ⟨.hbm, 30, rfl⟩
abbrev main_c_6 : Ref sig .tc := ⟨.hbm, 31, rfl⟩
abbrev main_call7_v0 : Ref sig .tc := ⟨.hbm, 32, rfl⟩
abbrev main_v15 : Ref sig .tc := ⟨.hbm, 33, rfl⟩
abbrev main_v16 : Ref sig .tc := ⟨.hbm, 34, rfl⟩
abbrev main_c_7 : Ref sig .tc := ⟨.hbm, 35, rfl⟩
abbrev main_call8_v0 : Ref sig .tc := ⟨.hbm, 36, rfl⟩
abbrev main_v17 : Ref sig .tc := ⟨.hbm, 37, rfl⟩
abbrev main_v18 : Ref sig .tc := ⟨.hbm, 38, rfl⟩
abbrev main_c_8 : Ref sig .tc := ⟨.hbm, 39, rfl⟩
abbrev main_call9_v0 : Ref sig .tc := ⟨.hbm, 40, rfl⟩
abbrev main_v19 : Ref sig .tc := ⟨.hbm, 41, rfl⟩
abbrev main_v20 : Ref sig .tc := ⟨.hbm, 42, rfl⟩
abbrev main_c_9 : Ref sig .tc := ⟨.hbm, 43, rfl⟩
abbrev main_call10_v0 : Ref sig .tc := ⟨.hbm, 44, rfl⟩
abbrev main_v21 : Ref sig .tc := ⟨.hbm, 45, rfl⟩
abbrev main_v22 : Ref sig .tc := ⟨.hbm, 46, rfl⟩
abbrev main_c_10 : Ref sig .tc := ⟨.hbm, 47, rfl⟩
abbrev main_call11_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28_0 : Ref sig .tc := ⟨.hbm, 54, rfl⟩
abbrev main_v28_1 : Ref sig .tc := ⟨.hbm, 55, rfl⟩
abbrev main_v28_2 : Ref sig .tc := ⟨.hbm, 56, rfl⟩
abbrev main_v28_3 : Ref sig .tc := ⟨.hbm, 57, rfl⟩
abbrev main_v28_4 : Ref sig .tc := ⟨.hbm, 58, rfl⟩
abbrev main_v28_5 : Ref sig .tc := ⟨.hbm, 59, rfl⟩
abbrev main_v28_6 : Ref sig .tc := ⟨.hbm, 60, rfl⟩
abbrev main_v28_7 : Ref sig .tc := ⟨.hbm, 61, rfl⟩
abbrev main_v28_8 : Ref sig .tc := ⟨.hbm, 62, rfl⟩
abbrev main_v28_9 : Ref sig .tc := ⟨.hbm, 63, rfl⟩
abbrev main_v28_10 : Ref sig .tc := ⟨.hbm, 64, rfl⟩
abbrev main_v28_11 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjectIdeal.lean ====
abbrev S2x8192x1024 : Shape := ⟨3, ![2, 8192, 1024]⟩
abbrev S1024x7324 : Shape := ⟨2, ![1024, 7324]⟩
abbrev S1024x128 : Shape := ⟨2, ![1024, 128]⟩
abbrev S_ : Shape := ⟨0, ![]⟩
abbrev S1024x256 : Shape := ⟨2, ![1024, 256]⟩
abbrev S1024x16 : Shape := ⟨2, ![1024, 16]⟩
abbrev S1024x384 : Shape := ⟨2, ![1024, 384]⟩
abbrev S1024x12 : Shape := ⟨2, ![1024, 12]⟩
abbrev S1024x1024 : Shape := ⟨2, ![1024, 1024]⟩
abbrev S1024x3456 : Shape := ⟨2, ![1024, 3456]⟩
abbrev S16384x1024 : Shape := ⟨2, ![16384, 1024]⟩
abbrev S16384x128 : Shape := ⟨2, ![16384, 128]⟩
abbrev S16384x256 : Shape := ⟨2, ![16384, 256]⟩
abbrev S16384x384 : Shape := ⟨2, ![16384, 384]⟩
abbrev S512x1024 : Shape := ⟨2, ![512, 1024]⟩
abbrev S512x128 : Shape := ⟨2, ![512, 128]⟩
abbrev S512x256 : Shape := ⟨2, ![512, 256]⟩
abbrev S512x384 : Shape := ⟨2, ![512, 384]⟩
abbrev S2x8192x128 : Shape := ⟨3, ![2, 8192, 128]⟩
abbrev S2x8192x256 : Shape := ⟨3, ![2, 8192, 256]⟩
abbrev S2x8192x384 : Shape := ⟨3, ![2, 8192, 384]⟩
abbrev S2x8192x6x64 : Shape := ⟨4, ![2, 8192, 6, 64]⟩
abbrev S2x8192x4x64 : Shape := ⟨4, ![2, 8192, 4, 64]⟩
abbrev S2x8192x1x4x64 : Shape := ⟨5, ![2, 8192, 1, 4, 64]⟩
abbrev S2x8192x2x4x64 : Shape := ⟨5, ![2, 8192, 2, 4, 64]⟩
abbrev S2x512x2x64 : Shape := ⟨4, ![2, 512, 2, 64]⟩
abbrev S2x8192x16 : Shape := ⟨3, ![2, 8192, 16]⟩
abbrev S2x8192x12 : Shape := ⟨3, ![2, 8192, 12]⟩
abbrev S2x8192x2x64 : Shape := ⟨4, ![2, 8192, 2, 64]⟩
abbrev S2x1x1024 : Shape := ⟨3, ![2, 1, 1024]⟩
abbrev S2x1024 : Shape := ⟨2, ![2, 1024]⟩

abbrev nBuf : Space → Nat
  | .hbm => 92
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S1024x7324, .f32⟩
  | .hbm, ⟨2, _⟩ => ⟨S1024x128, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x256, .f32⟩
  | .hbm, ⟨11, _⟩ => ⟨S_, .i32⟩
  | .hbm, ⟨12, _⟩ => ⟨S_, .f32⟩
  | .hbm, ⟨13, _⟩ => ⟨S1024x256, .f32⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x256, .f32⟩
  | .hbm, ⟨19, _⟩ => ⟨S_, .i32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S_, .i32⟩
  | .hbm, ⟨24, _⟩ => ⟨S_, .f32⟩
  | .hbm, ⟨25, _⟩ => ⟨S1024x256, .f32⟩
  | .hbm, ⟨26, _⟩ => ⟨S1024x384, .f32⟩
  | .hbm, ⟨27, _⟩ => ⟨S_, .i32⟩
  | .hbm, ⟨28, _⟩ => ⟨S_, .f32⟩
  | .hbm, ⟨29, _⟩ => ⟨S1024x384, .f32⟩
  | .hbm, ⟨30, _⟩ => ⟨S1024x12, .f32⟩
  | .hbm, ⟨31, _⟩ => ⟨S_, .i32⟩
  | .hbm, ⟨32, _⟩ => ⟨S_, .f32⟩
  | .hbm, ⟨33, _⟩ => ⟨S1024x128, .f32⟩
  | .hbm, ⟨34, _⟩ => ⟨S1024x256, .f32⟩
  | .hbm, ⟨35, _⟩ => ⟨S_, .i32⟩
  | .hbm, ⟨36, _⟩ => ⟨S_, .f32⟩
  | .hbm, ⟨37, _⟩ => ⟨S1024x256, .f32⟩
  | .hbm, ⟨38, _⟩ => ⟨S1024x256, .f32⟩
  | .hbm, ⟨39, _⟩ => ⟨S_, .i32⟩
  | .hbm, ⟨40, _⟩ => ⟨S_, .f32⟩
  | .hbm, ⟨41, _⟩ => ⟨S1024x256, .f32⟩
  | .hbm, ⟨42, _⟩ => ⟨S1024x256, .f32⟩
  | .hbm, ⟨43, _⟩ => ⟨S_, .i32⟩
  | .hbm, ⟨44, _⟩ => ⟨S_, .f32⟩
  | .hbm, ⟨45, _⟩ => ⟨S1024x256, .f32⟩
  | .hbm, ⟨46, _⟩ => ⟨S1024x1024, .f32⟩
  | .hbm, ⟨47, _⟩ => ⟨S_, .i32⟩
  | .hbm, ⟨48, _⟩ => ⟨S_, .f32⟩
  | .hbm, ⟨49, _⟩ => ⟨S1024x1024, .f32⟩
  | .hbm, ⟨50, _⟩ => ⟨S1024x3456, .f32⟩
  | .hbm, ⟨51, _⟩ => ⟨S1024x3456, .bf16⟩
  | .hbm, ⟨52, _⟩ => ⟨S16384x1024, .f32⟩
  | .hbm, ⟨53, _⟩ => ⟨S16384x1024, .bf16⟩
  | .hbm, ⟨54, _⟩ => ⟨S16384x128, .f32⟩
  | .hbm, ⟨55, _⟩ => ⟨S16384x128, .f32⟩
  | .hbm, ⟨56, _⟩ => ⟨S16384x256, .f32⟩
  | .hbm, ⟨57, _⟩ => ⟨S16384x128, .f32⟩
  | .hbm, ⟨58, _⟩ => ⟨S16384x256, .f32⟩
  | .hbm, ⟨59, _⟩ => ⟨S16384x256, .f32⟩
  | .hbm, ⟨60, _⟩ => ⟨S16384x384, .f32⟩
  | .hbm, ⟨61, _⟩ => ⟨S16384x128, .f32⟩
  | .hbm, ⟨62, _⟩ => ⟨S16384x256, .f32⟩
  | .hbm, ⟨63, _⟩ => ⟨S16384x256, .f32⟩
  | .hbm, ⟨64, _⟩ => ⟨S16384x256, .f32⟩
  | .hbm, ⟨65, _⟩ => ⟨S16384x1024, .f32⟩
  | .hbm, ⟨66, _⟩ => ⟨S2x8192x128, .f32⟩
  | .hbm, ⟨67, _⟩ => ⟨S2x8192x128, .f32⟩
  | .hbm, ⟨68, _⟩ => ⟨S2x8192x256, .f32⟩
  | .hbm, ⟨69, _⟩ => ⟨S2x8192x128, .f32⟩
  | .hbm, ⟨70, _⟩ => ⟨S2x8192x256, .f32⟩
  | .hbm, ⟨71, _⟩ => ⟨S2x8192x256, .f32⟩
  | .hbm, ⟨72, _⟩ => ⟨S2x8192x384, .f32⟩
  | .hbm, ⟨73, _⟩ => ⟨S2x8192x128, .f32⟩
  | .hbm, ⟨74, _⟩ => ⟨S2x8192x256, .f32⟩
  | .hbm, ⟨75, _⟩ => ⟨S2x8192x256, .f32⟩
  | .hbm, ⟨76, _⟩ => ⟨S2x8192x256, .f32⟩
  | .hbm, ⟨77, _⟩ => ⟨S2x8192x1024, .f32⟩
  | .hbm, ⟨78, _⟩ => ⟨S2x8192x6x64, .f32⟩
  | .hbm, ⟨79, _⟩ => ⟨S2x8192x4x64, .f32⟩
  | .hbm, ⟨80, _⟩ => ⟨S2x8192x4x64, .f32⟩
  | .hbm, ⟨81, _⟩ => ⟨S2x8192x1x4x64, .f32⟩
  | .hbm, ⟨82, _⟩ => ⟨S2x8192x1x4x64, .f32⟩
  | .hbm, ⟨83, _⟩ => ⟨S2x8192x2x4x64, .f32⟩
  | .hbm, ⟨84, _⟩ => ⟨S2x512x2x64, .f32⟩
  | .hbm, ⟨85, _⟩ => ⟨S2x8192x16, .f32⟩
  | .hbm, ⟨86, _⟩ => ⟨S2x8192x12, .f32⟩
  | .hbm, ⟨87, _⟩ => ⟨S2x8192x2x64, .f32⟩
  | .hbm, ⟨88, _⟩ => ⟨S2x8192x2x64, .f32⟩
  | .hbm, ⟨89, _⟩ => ⟨S2x8192x2x64, .f32⟩
  | .hbm, ⟨90, _⟩ => ⟨S2x1x1024, .f32⟩
  | .hbm, ⟨91, _⟩ => ⟨S2x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3456, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x256, .f32⟩
  | .local _ .vmem, ⟨8, _⟩ => ⟨S512x256, .f32⟩
  | .local _ .vmem, ⟨9, _⟩ => ⟨S512x128, .f32⟩
  | .local _ .vmem, ⟨10, _⟩ => ⟨S512x128, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x384, .f32⟩
  | .local _ .vmem, ⟨16, _⟩ => ⟨S512x384, .f32⟩
  | .local _ .vmem, ⟨17, _⟩ => ⟨S512x128, .f32⟩
  | .local _ .vmem, ⟨18, _⟩ => ⟨S512x128, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x1024, .f32⟩
  | .local _ .vmem, ⟨26, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call2_v0 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_call3_v0 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_call4_v0 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_call5_v0 : Ref sig .tc := ⟨.hbm, 24, rfl⟩
abbrev main_v11 : Ref sig .tc := ⟨.hbm, 25, rfl⟩
abbrev main_v12 : Ref sig .tc := ⟨.hbm, 26, rfl⟩
abbrev main_c_5 : Ref sig .tc := ⟨.hbm, 27, rfl⟩
abbrev main_call6_v0 : Ref sig .tc := ⟨.hbm, 28, rfl⟩
abbrev main_v13 : Ref sig .tc := ⟨.hbm, 29, rfl⟩
abbrev main_v14 : Ref sig .tc := ⟨.hbm, 30, rfl⟩
abbrev main_c_6 : Ref sig .tc := ⟨.hbm, 31, rfl⟩
abbrev main_call7_v0 : Ref sig .tc := ⟨.hbm, 32, rfl⟩
abbrev main_v15 : Ref sig .tc := ⟨.hbm, 33, rfl⟩
abbrev main_v16 : Ref sig .tc := ⟨.hbm, 34, rfl⟩
abbrev main_c_7 : Ref sig .tc := ⟨.hbm, 35, rfl⟩
abbrev main_call8_v0 : Ref sig .tc := ⟨.hbm, 36, rfl⟩
abbrev main_v17 : Ref sig .tc := ⟨.hbm, 37, rfl⟩
abbrev main_v18 : Ref sig .tc := ⟨.hbm, 38, rfl⟩
abbrev main_c_8 : Ref sig .tc := ⟨.hbm, 39, rfl⟩
abbrev main_call9_v0 : Ref sig .tc := ⟨.hbm, 40, rfl⟩
abbrev main_v19 : Ref sig .tc := ⟨.hbm, 41, rfl⟩
abbrev main_v20 : Ref sig .tc := ⟨.hbm, 42, rfl⟩
abbrev main_c_9 : Ref sig .tc := ⟨.hbm, 43, rfl⟩
abbrev main_call10_v0 : Ref sig .tc := ⟨.hbm, 44, rfl⟩
abbrev main_v21 : Ref sig .tc := ⟨.hbm, 45, rfl⟩
abbrev main_v22 : Ref sig .tc := ⟨.hbm, 46, rfl⟩
abbrev main_c_10 : Ref sig .tc := ⟨.hbm, 47, rfl⟩
abbrev main_call11_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28_0 : Ref sig .tc := ⟨.hbm, 54, rfl⟩
abbrev main_v28_1 : Ref sig .tc := ⟨.hbm, 55, rfl⟩
abbrev main_v28_2 : Ref sig .tc := ⟨.hbm, 56, rfl⟩
abbrev main_v28_3 : Ref sig .tc := ⟨.hbm, 57, rfl⟩
abbrev main_v28_4 : Ref sig .tc := ⟨.hbm, 58, rfl⟩
abbrev main_v28_5 : Ref sig .tc := ⟨.hbm, 59, rfl⟩
abbrev main_v28_6 : Ref sig .tc := ⟨.hbm, 60, rfl⟩
abbrev main_v28_7 : Ref sig .tc := ⟨.hbm, 61, rfl⟩
abbrev main_v28_8 : Ref sig .tc := ⟨.hbm, 62, rfl⟩
abbrev main_v28_9 : Ref sig .tc := ⟨.hbm, 63, rfl⟩
abbrev main_v28_10 : Ref sig .tc := ⟨.hbm, 64, rfl⟩
abbrev main_v28_11 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjectReferenceIdeal.lean ====
abbrev S2x8192x1024 : Shape := ⟨3, ![2, 8192, 1024]⟩
abbrev S1024x7324 : Shape := ⟨2, ![1024, 7324]⟩
abbrev S2x8192x7324 : Shape := ⟨3, ![2, 8192, 7324]⟩
abbrev S2x8192x128 : Shape := ⟨3, ![2, 8192, 128]⟩
abbrev S2x8192x256 : Shape := ⟨3, ![2, 8192, 256]⟩
abbrev S2x8192x16 : Shape := ⟨3, ![2, 8192, 16]⟩
abbrev S2x8192x384 : Shape := ⟨3, ![2, 8192, 384]⟩
abbrev S2x8192x12 : Shape := ⟨3, ![2, 8192, 12]⟩
abbrev S2x8192x4096 : Shape := ⟨3, ![2, 8192, 4096]⟩
abbrev S2x8192x6x64 : Shape := ⟨4, ![2, 8192, 6, 64]⟩
abbrev S2x8192x4x64 : Shape := ⟨4, ![2, 8192, 4, 64]⟩
abbrev S2x8192x1x4x64 : Shape := ⟨5, ![2, 8192, 1, 4, 64]⟩
abbrev S2x8192x2x4x64 : Shape := ⟨5, ![2, 8192, 2, 4, 64]⟩
abbrev S2x512x2x64 : Shape := ⟨4, ![2, 512, 2, 64]⟩
abbrev S2x8192x2x64 : Shape := ⟨4, ![2, 8192, 2, 64]⟩
abbrev S2x1x1024 : Shape := ⟨3, ![2, 1, 1024]⟩
abbrev S2x1024 : Shape := ⟨2, ![2, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x7324, .f32⟩
  | .hbm, ⟨2, _⟩ => ⟨S2x8192x7324, .f32⟩
  | .hbm, ⟨3, _⟩ => ⟨S2x8192x128, .f32⟩
  | .hbm, ⟨4, _⟩ => ⟨S2x8192x128, .f32⟩
  | .hbm, ⟨5, _⟩ => ⟨S2x8192x256, .f32⟩
  | .hbm, ⟨6, _⟩ => ⟨S2x8192x16, .f32⟩
  | .hbm, ⟨7, _⟩ => ⟨S2x8192x256, .f32⟩
  | .hbm, ⟨8, _⟩ => ⟨S2x8192x256, .f32⟩
  | .hbm, ⟨9, _⟩ => ⟨S2x8192x384, .f32⟩
  | .hbm, ⟨10, _⟩ => ⟨S2x8192x12, .f32⟩
  | .hbm, ⟨11, _⟩ => ⟨S2x8192x256, .f32⟩
  | .hbm, ⟨12, _⟩ => ⟨S2x8192x256, .f32⟩
  | .hbm, ⟨13, _⟩ => ⟨S2x8192x256, .f32⟩
  | .hbm, ⟨14, _⟩ => ⟨S2x8192x1024, .f32⟩
  | .hbm, ⟨15, _⟩ => ⟨S2x8192x4096, .f32⟩
  | .hbm, ⟨16, _⟩ => ⟨S2x8192x6x64, .f32⟩
  | .hbm, ⟨17, _⟩ => ⟨S2x8192x4x64, .f32⟩
  | .hbm, ⟨18, _⟩ => ⟨S2x8192x4x64, .f32⟩
  | .hbm, ⟨19, _⟩ => ⟨S2x8192x1x4x64, .f32⟩
  | .hbm, ⟨20, _⟩ => ⟨S2x8192x1x4x64, .f32⟩
  | .hbm, ⟨21, _⟩ => ⟨S2x8192x2x4x64, .f32⟩
  | .hbm, ⟨22, _⟩ => ⟨S2x512x2x64, .f32⟩
  | .hbm, ⟨23, _⟩ => ⟨S2x8192x2x64, .f32⟩
  | .hbm, ⟨24, _⟩ => ⟨S2x8192x2x64, .f32⟩
  | .hbm, ⟨25, _⟩ => ⟨S2x8192x2x64, .f32⟩
  | .hbm, ⟨26, _⟩ => ⟨S2x1x1024, .f32⟩
  | .hbm, ⟨27, _⟩ => ⟨S2x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩

abbrev nD : Nat := 1
abbrev τ : Topo := Topo.v7x

variable {F : FTy → Type} [FloatOps F]
-- ==== Norm.lean ====
abbrev S2x8192x1024 : Shape := ⟨3, ![2, 8192, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S2x8192x1024 : Shape := ⟨3, ![2, 8192, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x8192x1024, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x1024, .f32⟩
  | .hbm, ⟨14, _⟩ => ⟨S2x8192x1024, .f32⟩
  | .hbm, ⟨15, _⟩ => ⟨S1x1x1024, .f32⟩
  | .hbm, ⟨16, _⟩ => ⟨S2x8192x1024, .f32⟩
  | .hbm, ⟨17, _⟩ => ⟨S2x8192x1024, .f32⟩
  | .hbm, ⟨18, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ProjectSample.lean ====
abbrev S32x8x1024 : Shape := ⟨3, ![32, 8, 1024]⟩
abbrev S1024x7324 : Shape := ⟨2, ![1024, 7324]⟩
abbrev S32x512x2x64 : Shape := ⟨4, ![32, 512, 2, 64]⟩
abbrev S1024x128 : Shape := ⟨2, ![1024, 128]⟩
abbrev S_ : Shape := ⟨0, ![]⟩
abbrev S1024x256 : Shape := ⟨2, ![1024, 256]⟩
abbrev S1024x16 : Shape := ⟨2, ![1024, 16]⟩
abbrev S1024x384 : Shape := ⟨2, ![1024, 384]⟩
abbrev S1024x12 : Shape := ⟨2, ![1024, 12]⟩
abbrev S1024x1024 : Shape := ⟨2, ![1024, 1024]⟩
abbrev S1024x3456 : Shape := ⟨2, ![1024, 3456]⟩
abbrev S256x1024 : Shape := ⟨2, ![256, 1024]⟩
abbrev S256x128 : Shape := ⟨2, ![256, 128]⟩
abbrev S256x256 : Shape := ⟨2, ![256, 256]⟩
abbrev S256x384 : Shape := ⟨2, ![256, 384]⟩
abbrev S32x8x128 : Shape := ⟨3, ![32, 8, 128]⟩
abbrev S32x8x256 : Shape := ⟨3, ![32, 8, 256]⟩
abbrev S32x8x384 : Shape := ⟨3, ![32, 8, 384]⟩
abbrev S32x8x6x64 : Shape := ⟨4, ![32, 8, 6, 64]⟩
abbrev S32x8x4x64 : Shape := ⟨4, ![32, 8, 4, 64]⟩
abbrev S32x8x1x4x64 : Shape := ⟨5, ![32, 8, 1, 4, 64]⟩
abbrev S32x8x2x4x64 : Shape := ⟨5, ![32, 8, 2, 4, 64]⟩
abbrev S32x8x2x64 : Shape := ⟨4, ![32, 8, 2, 64]⟩
abbrev S32x520x2x64 : Shape := ⟨4, ![32, 520, 2, 64]⟩
abbrev S32x8x16 : Shape := ⟨3, ![32, 8, 16]⟩
abbrev S32x8x12 : Shape := ⟨3, ![32, 8, 12]⟩
abbrev S32x1x1024 : Shape := ⟨3, ![32, 1, 1024]⟩
abbrev S32x1024 : Shape := ⟨2, ![32, 1024]⟩

abbrev nBuf : Space → Nat
  | .hbm => 95
  | .vmem => 14
  | .smem => 0
  | _ => 0

abbrev bufTy : (tb : Table) → Fin (tcTables nBuf tb) → BufTy
  | .hbm, ⟨0, _⟩ => ⟨S32x8x1024, .f32⟩
  | .hbm, ⟨1, _⟩ => ⟨S1024x7324, .f32⟩
  | .hbm, ⟨2, _⟩ => ⟨S32x512x2x64, .f32⟩
  | .hbm, ⟨3, _⟩ => ⟨S1024x128, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x128, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x256, .f32⟩
  | .hbm, ⟨12, _⟩ => ⟨S_, .i32⟩
  | .hbm, ⟨13, _⟩ => ⟨S_, .f32⟩
  | .hbm, ⟨14, _⟩ => ⟨S1024x256, .f32⟩
  | .hbm, ⟨15, _⟩ => ⟨S1024x16, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x256, .f32⟩
  | .hbm, ⟨20, _⟩ => ⟨S_, .i32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .i32⟩
  | .hbm, ⟨25, _⟩ => ⟨S_, .f32⟩
  | .hbm, ⟨26, _⟩ => ⟨S1024x256, .f32⟩
  | .hbm, ⟨27, _⟩ => ⟨S1024x384, .f32⟩
  | .hbm, ⟨28, _⟩ => ⟨S_, .i32⟩
  | .hbm, ⟨29, _⟩ => ⟨S_, .f32⟩
  | .hbm, ⟨30, _⟩ => ⟨S1024x384, .f32⟩
  | .hbm, ⟨31, _⟩ => ⟨S1024x12, .f32⟩
  | .hbm, ⟨32, _⟩ => ⟨S_, .i32⟩
  | .hbm, ⟨33, _⟩ => ⟨S_, .f32⟩
  | .hbm, ⟨34, _⟩ => ⟨S1024x128, .f32⟩
  | .hbm, ⟨35, _⟩ => ⟨S1024x256, .f32⟩
  | .hbm, ⟨36, _⟩ => ⟨S_, .i32⟩
  | .hbm, ⟨37, _⟩ => ⟨S_, .f32⟩
  | .hbm, ⟨38, _⟩ => ⟨S1024x256, .f32⟩
  | .hbm, ⟨39, _⟩ => ⟨S1024x256, .f32⟩
  | .hbm, ⟨40, _⟩ => ⟨S_, .i32⟩
  | .hbm, ⟨41, _⟩ => ⟨S_, .f32⟩
  | .hbm, ⟨42, _⟩ => ⟨S1024x256, .f32⟩
  | .hbm, ⟨43, _⟩ => ⟨S1024x256, .f32⟩
  | .hbm, ⟨44, _⟩ => ⟨S_, .i32⟩
  | .hbm, ⟨45, _⟩ => ⟨S_, .f32⟩
  | .hbm, ⟨46, _⟩ => ⟨S1024x256, .f32⟩
  | .hbm, ⟨47, _⟩ => ⟨S1024x1024, .f32⟩
  | .hbm, ⟨48, _⟩ => ⟨S_, .i32⟩
  | .hbm, ⟨49, _⟩ => ⟨S_, .f32⟩
  | .hbm, ⟨50, _⟩ => ⟨S1024x1024, .f32⟩
  | .hbm, ⟨51, _⟩ => ⟨S1024x3456, .f32⟩
  | .hbm, ⟨52, _⟩ => ⟨S1024x3456, .bf16⟩
  | .hbm, ⟨53, _⟩ => ⟨S256x1024, .f32⟩
  | .hbm, ⟨54, _⟩ => ⟨S256x1024, .bf16⟩
  | .hbm, ⟨55, _⟩ => ⟨S256x128, .f32⟩
  | .hbm, ⟨56, _⟩ => ⟨S256x128, .f32⟩
  | .hbm, ⟨57, _⟩ => ⟨S256x256, .f32⟩
  | .hbm, ⟨58, _⟩ => ⟨S256x128, .f32⟩
  | .hbm, ⟨59, _⟩ => ⟨S256x256, .f32⟩
  | .hbm, ⟨60, _⟩ => ⟨S256x256, .f32⟩
  | .hbm, ⟨61, _⟩ => ⟨S256x384, .f32⟩
  | .hbm, ⟨62, _⟩ => ⟨S256x128, .f32⟩
  | .hbm, ⟨63, _⟩ => ⟨S256x256, .f32⟩
  | .hbm, ⟨64, _⟩ => ⟨S256x256, .f32⟩
  | .hbm, ⟨65, _⟩ => ⟨S256x256, .f32⟩
  | .hbm, ⟨66, _⟩ => ⟨S256x1024, .f32⟩
  | .hbm, ⟨67, _⟩ => ⟨S32x8x128, .f32⟩
  | .hbm, ⟨68, _⟩ => ⟨S32x8x128, .f32⟩
  | .hbm, ⟨69, _⟩ => ⟨S32x8x256, .f32⟩
  | .hbm, ⟨70, _⟩ => ⟨S32x8x128, .f32⟩
  | .hbm, ⟨71, _⟩ => ⟨S32x8x256, .f32⟩
  | .hbm, ⟨72, _⟩ => ⟨S32x8x256, .f32⟩
  | .hbm, ⟨73, _⟩ => ⟨S32x8x384, .f32⟩
  | .hbm, ⟨74, _⟩ => ⟨S32x8x128, .f32⟩
  | .hbm, ⟨75, _⟩ => ⟨S32x8x256, .f32⟩
  | .hbm, ⟨76, _⟩ => ⟨S32x8x256, .f32⟩
  | .hbm, ⟨77, _⟩ => ⟨S32x8x256, .f32⟩
  | .hbm, ⟨78, _⟩ => ⟨S32x8x1024, .f32⟩
  | .hbm, ⟨79, _⟩ => ⟨S32x8x6x64, .f32⟩
  | .hbm, ⟨80, _⟩ => ⟨S32x8x4x64, .f32⟩
  | .hbm, ⟨81, _⟩ => ⟨S32x8x4x64, .f32⟩
  | .hbm, ⟨82, _⟩ => ⟨S32x8x1x4x64, .f32⟩
  | .hbm, ⟨83, _⟩ => ⟨S32x8x1x4x64, .f32⟩
  | .hbm, ⟨84, _⟩ => ⟨S32x8x2x4x64, .f32⟩
  | .hbm, ⟨85, _⟩ => ⟨S32x8x2x64, .f32⟩
  | .hbm, ⟨86, _⟩ => ⟨S32x520x2x64, .f32⟩
  | .hbm, ⟨87, _⟩ => ⟨S32x512x2x64, .f32⟩
  | .hbm, ⟨88, _⟩ => ⟨S32x8x16, .f32⟩
  | .hbm, ⟨89, _⟩ => ⟨S32x8x12, .f32⟩
  | .hbm, ⟨90, _⟩ => ⟨S32x8x2x64, .f32⟩
  | .hbm, ⟨91, _⟩ => ⟨S32x8x2x64, .f32⟩
  | .hbm, ⟨92, _⟩ => ⟨S32x8x2x64, .f32⟩
  | .hbm, ⟨93, _⟩ => ⟨S32x1x1024, .f32⟩
  | .hbm, ⟨94, _⟩ => ⟨S32x1024, .f32⟩
  | .local _ .vmem, ⟨0, _⟩ => ⟨S256x1024, .bf16⟩
  | .local _ .vmem, ⟨1, _⟩ => ⟨S1024x3456, .bf16⟩
  | .local _ .vmem, ⟨2, _⟩ => ⟨S256x128, .f32⟩
  | .local _ .vmem, ⟨3, _⟩ => ⟨S256x128, .f32⟩
  | .local _ .vmem, ⟨4, _⟩ => ⟨S256x256, .f32⟩
  | .local _ .vmem, ⟨5, _⟩ => ⟨S256x128, .f32⟩
  | .local _ .vmem, ⟨6, _⟩ => ⟨S256x256, .f32⟩
  | .local _ .vmem, ⟨7, _⟩ => ⟨S256x256, .f32⟩
  | .local _ .vmem, ⟨8, _⟩ => ⟨S256x384, .f32⟩
  | .local _ .vmem, ⟨9, _⟩ => ⟨S256x128, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call3_v0 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_call4_v0 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_call5_v0 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_call6_v0 : Ref sig .tc := ⟨.hbm, 29, rfl⟩
abbrev main_v13 : Ref sig .tc := ⟨.hbm, 30, rfl⟩
abbrev main_v14 : Ref sig .tc := ⟨.hbm, 31, rfl⟩
abbrev main_c_6 : Ref sig .tc := ⟨.hbm, 32, rfl⟩
abbrev main_call7_v0 : Ref sig .tc := ⟨.hbm, 33, rfl⟩
abbrev main_v15 : Ref sig .tc := ⟨.hbm, 34, rfl⟩
abbrev main_v16 : Ref sig .tc := ⟨.hbm, 35, rfl⟩
abbrev main_c_7 : Ref sig .tc := ⟨.hbm, 36, rfl⟩
abbrev main_call8_v0 : Ref sig .tc := ⟨.hbm, 37, rfl⟩
abbrev main_v17 : Ref sig .tc := ⟨.hbm, 38, rfl⟩
abbrev main_v18 : Ref sig .tc := ⟨.hbm, 39, rfl⟩
abbrev main_c_8 : Ref sig .tc := ⟨.hbm, 40, rfl⟩
abbrev main_call9_v0 : Ref sig .tc := ⟨.hbm, 41, rfl⟩
abbrev main_v19 : Ref sig .tc := ⟨.hbm, 42, rfl⟩
abbrev main_v20 : Ref sig .tc := ⟨.hbm, 43, rfl⟩
abbrev main_c_9 : Ref sig .tc := ⟨.hbm, 44, rfl⟩
abbrev main_call10_v0 : Ref sig .tc := ⟨.hbm, 45, rfl⟩
abbrev main_v21 : Ref sig .tc := ⟨.hbm, 46, rfl⟩
abbrev main_v22 : Ref sig .tc := ⟨.hbm, 47, rfl⟩
abbrev main_c_10 : Ref sig .tc := ⟨.hbm, 48, rfl⟩
abbrev main_call11_v0 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28_0 : Ref sig .tc := ⟨.hbm, 55, rfl⟩
abbrev main_v28_1 : Ref sig .tc := ⟨.hbm, 56, rfl⟩
abbrev main_v28_2 : Ref sig .tc := ⟨.hbm, 57, rfl⟩
abbrev main_v28_3 : Ref sig .tc := ⟨.hbm, 58, rfl⟩
abbrev main_v28_4 : Ref sig .tc := ⟨.hbm, 59, rfl⟩
abbrev main_v28_5 : Ref sig .tc := ⟨.hbm, 60, rfl⟩
abbrev main_v28_6 : Ref sig .tc := ⟨.hbm, 61, rfl⟩
abbrev main_v28_7 : Ref sig .tc := ⟨.hbm, 62, rfl⟩
abbrev main_v28_8 : Ref sig .tc := ⟨.hbm, 63, rfl⟩
abbrev main_v28_9 : Ref sig .tc := ⟨.hbm, 64, rfl⟩
abbrev main_v28_10 : Ref sig .tc := ⟨.hbm, 65, rfl⟩
abbrev main_v28_11 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== ProjectSampleReferenceIdeal.lean ====
abbrev S32x8x1024 : Shape := ⟨3, ![32, 8, 1024]⟩
abbrev S1024x7324 : Shape := ⟨2, ![1024, 7324]⟩
abbrev S32x512x2x64 : Shape := ⟨4, ![32, 512, 2, 64]⟩
abbrev S32x8x7324 : Shape := ⟨3, ![32, 8, 7324]⟩
abbrev S32x8x128 : Shape := ⟨3, ![32, 8, 128]⟩
abbrev S32x8x256 : Shape := ⟨3, ![32, 8, 256]⟩
abbrev S32x8x16 : Shape := ⟨3, ![32, 8, 16]⟩
abbrev S32x8x384 : Shape := ⟨3, ![32, 8, 384]⟩
abbrev S32x8x12 : Shape := ⟨3, ![32, 8, 12]⟩
abbrev S32x8x4096 : Shape := ⟨3, ![32, 8, 4096]⟩
abbrev S32x8x6x64 : Shape := ⟨4, ![32, 8, 6, 64]⟩
abbrev S32x8x4x64 : Shape := ⟨4, ![32, 8, 4, 64]⟩
abbrev S32x8x1x4x64 : Shape := ⟨5, ![32, 8, 1, 4, 64]⟩
abbrev S32x8x2x4x64 : Shape := ⟨5, ![32, 8, 2, 4, 64]⟩
abbrev S32x8x2x64 : Shape := ⟨4, ![32, 8, 2, 64]⟩
abbrev S32x520x2x64 : Shape := ⟨4, ![32, 520, 2, 64]⟩
abbrev S32x1x1024 : Shape := ⟨3, ![32, 1, 1024]⟩
abbrev S32x1024 : Shape := ⟨2, ![32, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024x7324, .f32⟩
  | .hbm, ⟨2, _⟩ => ⟨S32x512x2x64, .f32⟩
  | .hbm, ⟨3, _⟩ => ⟨S32x8x7324, .f32⟩
  | .hbm, ⟨4, _⟩ => ⟨S32x8x128, .f32⟩
  | .hbm, ⟨5, _⟩ => ⟨S32x8x128, .f32⟩
  | .hbm, ⟨6, _⟩ => ⟨S32x8x256, .f32⟩
  | .hbm, ⟨7, _⟩ => ⟨S32x8x16, .f32⟩
  | .hbm, ⟨8, _⟩ => ⟨S32x8x256, .f32⟩
  | .hbm, ⟨9, _⟩ => ⟨S32x8x256, .f32⟩
  | .hbm, ⟨10, _⟩ => ⟨S32x8x384, .f32⟩
  | .hbm, ⟨11, _⟩ => ⟨S32x8x12, .f32⟩
  | .hbm, ⟨12, _⟩ => ⟨S32x8x256, .f32⟩
  | .hbm, ⟨13, _⟩ => ⟨S32x8x256, .f32⟩
  | .hbm, ⟨14, _⟩ => ⟨S32x8x256, .f32⟩
  | .hbm, ⟨15, _⟩ => ⟨S32x8x1024, .f32⟩
  | .hbm, ⟨16, _⟩ => ⟨S32x8x4096, .f32⟩
  | .hbm, ⟨17, _⟩ => ⟨S32x8x6x64, .f32⟩
  | .hbm, ⟨18, _⟩ => ⟨S32x8x4x64, .f32⟩
  | .hbm, ⟨19, _⟩ => ⟨S32x8x4x64, .f32⟩
  | .hbm, ⟨20, _⟩ => ⟨S32x8x1x4x64, .f32⟩
  | .hbm, ⟨21, _⟩ => ⟨S32x8x1x4x64, .f32⟩
  | .hbm, ⟨22, _⟩ => ⟨S32x8x2x4x64, .f32⟩
  | .hbm, ⟨23, _⟩ => ⟨S32x8x2x64, .f32⟩
  | .hbm, ⟨24, _⟩ => ⟨S32x520x2x64, .f32⟩
  | .hbm, ⟨25, _⟩ => ⟨S32x512x2x64, .f32⟩
  | .hbm, ⟨26, _⟩ => ⟨S32x8x2x64, .f32⟩
  | .hbm, ⟨27, _⟩ => ⟨S32x8x2x64, .f32⟩
  | .hbm, ⟨28, _⟩ => ⟨S32x8x2x64, .f32⟩
  | .hbm, ⟨29, _⟩ => ⟨S32x1x1024, .f32⟩
  | .hbm, ⟨30, _⟩ => ⟨S32x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== NormSample.lean ====
abbrev S32x8x1024 : Shape := ⟨3, ![32, 8, 1024]⟩
abbrev S1024 : Shape := ⟨1, ![1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 5
  | .vmem => 3
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSampleReferenceIdeal.lean ====
abbrev S32x8x1024 : Shape := ⟨3, ![32, 8, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S256x1024 : Shape := ⟨2, ![256, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S32x8x1024, .f32⟩
  | .hbm, ⟨3, _⟩ => ⟨S_, .f32⟩
  | .hbm, ⟨4, _⟩ => ⟨S32x8, .f32⟩
  | .hbm, ⟨5, _⟩ => ⟨S32x8x1, .f32⟩
  | .hbm, ⟨6, _⟩ => ⟨S_, .f32⟩
  | .hbm, ⟨7, _⟩ => ⟨S32x8x1, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S32x8x1, .f32⟩
  | .hbm, ⟨13, _⟩ => ⟨S32x8x1024, .f32⟩
  | .hbm, ⟨14, _⟩ => ⟨S32x8x1024, .f32⟩
  | .hbm, ⟨15, _⟩ => ⟨S1x1x1024, .f32⟩
  | .hbm, ⟨16, _⟩ => ⟨S32x8x1024, .f32⟩
  | .hbm, ⟨17, _⟩ => ⟨S32x8x1024, .f32⟩
  | .hbm, ⟨18, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GlaSample.lean ====
abbrev S32x8x128 : Shape := ⟨3, ![32, 8, 128]⟩
abbrev S32x8x256 : Shape := ⟨3, ![32, 8, 256]⟩
abbrev S32x8x16 : Shape := ⟨3, ![32, 8, 16]⟩
abbrev S16x128 : Shape := ⟨2, ![16, 128]⟩
abbrev S128 : Shape := ⟨1, ![128]⟩
abbrev S64 : Shape := ⟨1, ![64]⟩
abbrev S32x4x32x64 : Shape := ⟨4, ![32, 4, 32, 64]⟩
abbrev S_ : Shape := ⟨0, ![]⟩
abbrev S4x4 : Shape := ⟨2, ![4, 4]⟩
abbrev S32x4x32x1x64 : Shape := ⟨5, ![32, 4, 32, 1, 64]⟩
abbrev S1x4x1x4x1 : Shape := ⟨5, ![1, 4, 1, 4, 1]⟩
abbrev S32x4x32x4x64 : Shape := ⟨5, ![32, 4, 32, 4, 64]⟩
abbrev S32x128x256 : Shape := ⟨3, ![32, 128, 256]⟩
abbrev S128x128 : Shape := ⟨2, ![128, 128]⟩
abbrev S1x128 : Shape := ⟨2, ![1, 128]⟩
abbrev S128x1 : Shape := ⟨2, ![128, 1]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8x8x128 : Shape := ⟨3, ![8, 8, 128]⟩
abbrev S8x8x256 : Shape := ⟨3, ![8, 8, 256]⟩
abbrev S8x128x256 : Shape := ⟨3, ![8, 128, 256]⟩
abbrev S8x8 : Shape := ⟨2, ![8, 8]⟩
abbrev S128x256 : Shape := ⟨2, ![128, 256]⟩
abbrev S256x256 : Shape := ⟨2, ![256, 256]⟩
abbrev S1x8x128 : Shape := ⟨3, ![1, 8, 128]⟩
abbrev S8x128 : Shape := ⟨2, ![8, 128]⟩
abbrev S128x8 : Shape := ⟨2, ![128, 8]⟩
abbrev S1x8x256 : Shape := ⟨3, ![1, 8, 256]⟩
abbrev S8x256 : Shape := ⟨2, ![8, 256]⟩
abbrev S1x128x256 : Shape := ⟨3, ![1, 128, 256]⟩
abbrev S8x1x128 : Shape := ⟨3, ![8, 1, 128]⟩
abbrev S8x1x256 : Shape := ⟨3, ![8, 1, 256]⟩
abbrev S64x128 : Shape := ⟨2, ![64, 128]⟩
abbrev S64x256 : Shape := ⟨2, ![64, 256]⟩
abbrev S32x1x32x1x64 : Shape := ⟨5, ![32, 1, 32, 1, 64]⟩
abbrev S32x32x64 : Shape := ⟨3, ![32, 32, 64]⟩
abbrev S32x1x32x64 : Shape := ⟨4, ![32, 1, 32, 64]⟩

abbrev nBuf : Space → Nat
  | .hbm => 51
  | .vmem => 25
  | .smem => 0
  | _ => 0

abbrev bufTy : (tb : Table) → Fin (tcTables nBuf tb) → BufTy
  | .hbm, ⟨0, _⟩ => ⟨S32x8x128, .f32⟩
  | .hbm, ⟨1, _⟩ => ⟨S32x8x128, .f32⟩
  | .hbm, ⟨2, _⟩ => ⟨S32x8x256, .f32⟩
  | .hbm, ⟨3, _⟩ => ⟨S32x8x16, .f32⟩
  | .hbm, ⟨4, _⟩ => ⟨S32x8x256, .f32⟩
  | .hbm, ⟨5, _⟩ => ⟨S16x128, .f32⟩
  | .hbm, ⟨6, _⟩ => ⟨S128, .f32⟩
  | .hbm, ⟨7, _⟩ => ⟨S64, .f32⟩
  | .hbm, ⟨8, _⟩ => ⟨S32x4x32x64, .f32⟩
  | .hbm, ⟨9, _⟩ => ⟨S_, .i32⟩
  | .hbm, ⟨10, _⟩ => ⟨S_, .f32⟩
  | .hbm, ⟨11, _⟩ => ⟨S32x8x128, .f32⟩
  | .hbm, ⟨12, _⟩ => ⟨S4x4, .i32⟩
  | .hbm, ⟨13, _⟩ => ⟨S4x4, .i32⟩
  | .hbm, ⟨14, _⟩ => ⟨S_, .i32⟩
  | .hbm, ⟨15, _⟩ => ⟨S4x4, .i32⟩
  | .hbm, ⟨16, _⟩ => ⟨S4x4, .i32⟩
  | .hbm, ⟨17, _⟩ => ⟨S4x4, .i1⟩
  | .hbm, ⟨18, _⟩ => ⟨S4x4, .f32⟩
  | .hbm, ⟨19, _⟩ => ⟨S32x4x32x1x64, .f32⟩
  | .hbm, ⟨20, _⟩ => ⟨S1x4x1x4x1, .f32⟩
  | .hbm, ⟨21, _⟩ => ⟨S32x4x32x4x64, .f32⟩
  | .hbm, ⟨22, _⟩ => ⟨S32x4x32x4x64, .f32⟩
  | .hbm, ⟨23, _⟩ => ⟨S32x4x32x4x64, .f32⟩
  | .hbm, ⟨24, _⟩ => ⟨S32x128x256, .f32⟩
  | .hbm, ⟨25, _⟩ => ⟨S_, .i32⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S1x128, .f32⟩
  | .hbm, ⟨30, _⟩ => ⟨S128x1, .f32⟩
  | .hbm, ⟨31, _⟩ => ⟨S1x64, .f32⟩
  | .hbm, ⟨32, _⟩ => ⟨S4x64, .f32⟩
  | .hbm, ⟨33, _⟩ => ⟨S256, .f32⟩
  | .hbm, ⟨34, _⟩ => ⟨S1x256, .f32⟩
  | .hbm, ⟨35, _⟩ => ⟨S32x8x256, .f32⟩
  | .hbm, ⟨36, _⟩ => ⟨S32x128x256, .f32⟩
  | .hbm, ⟨37, _⟩ => ⟨S32x4x32x4x64, .f32⟩
  | .hbm, ⟨38, _⟩ => ⟨S32x1x32x1x64, .f32⟩
  | .hbm, ⟨39, _⟩ => ⟨S32x32x64, .f32⟩
  | .hbm, ⟨40, _⟩ => ⟨S32x1x32x1x64, .f32⟩
  | .hbm, ⟨41, _⟩ => ⟨S32x32x64, .f32⟩
  | .hbm, ⟨42, _⟩ => ⟨S32x1x32x1x64, .f32⟩
  | .hbm, ⟨43, _⟩ => ⟨S32x32x64, .f32⟩
  | .hbm, ⟨44, _⟩ => ⟨S32x1x32x1x64, .f32⟩
  | .hbm, ⟨45, _⟩ => ⟨S32x32x64, .f32⟩
  | .hbm, ⟨46, _⟩ => ⟨S32x1x32x64, .f32⟩
  | .hbm, ⟨47, _⟩ => ⟨S32x1x32x64, .f32⟩
  | .hbm, ⟨48, _⟩ => ⟨S32x1x32x64, .f32⟩
  | .hbm, ⟨49, _⟩ => ⟨S32x1x32x64, .f32⟩
  | .hbm, ⟨50, _⟩ => ⟨S32x4x32x64, .f32⟩
  | .local _ .vmem, ⟨0, _⟩ => ⟨S8x8x128, .f32⟩
  | .local _ .vmem, ⟨1, _⟩ => ⟨S8x8x128, .f32⟩
  | .local _ .vmem, ⟨2, _⟩ => ⟨S8x8x128, .f32⟩
  | .local _ .vmem, ⟨3, _⟩ => ⟨S8x8x128, .f32⟩
  | .local _ .vmem, ⟨4, _⟩ => ⟨S8x8x256, .f32⟩
  | .local _ .vmem, ⟨5, _⟩ => ⟨S8x8x256, .f32⟩
  | .local _ .vmem, ⟨6, _⟩ => ⟨S8x8x128, .f32⟩
  | .local _ .vmem, ⟨7, _⟩ => ⟨S8x8x128, .f32⟩
  | .local _ .vmem, ⟨8, _⟩ => ⟨S8x8x256, .f32⟩
  | .local _ .vmem, ⟨9, _⟩ => ⟨S8x8x256, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x1, .f32⟩
  | .local _ .vmem, ⟨14, _⟩ => ⟨S1x256, .f32⟩
  | .local _ .vmem, ⟨15, _⟩ => ⟨S8x128x256, .f32⟩
  | .local _ .vmem, ⟨16, _⟩ => ⟨S8x128x256, .f32⟩
  | .local _ .vmem, ⟨17, _⟩ => ⟨S8x8x256, .f32⟩
  | .local _ .vmem, ⟨18, _⟩ => ⟨S8x8x256, .f32⟩
  | .local _ .vmem, ⟨19, _⟩ => ⟨S8x128x256, .f32⟩
  | .local _ .vmem, ⟨20, _⟩ => ⟨S8x128x256, .f32⟩
  | .local _ .vmem, ⟨21, _⟩ => ⟨S8x128x256, .f32⟩
  | .local _ .vmem, ⟨22, _⟩ => ⟨S8x8x128, .f32⟩
  | .local _ .vmem, ⟨23, _⟩ => ⟨S8x8x128, .f32⟩
  | .local _ .vmem, ⟨24, _⟩ => ⟨S8x8x256, .f32⟩
  | _, _ => ⟨S32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 1], ![false, false]⟩

@[reducible] def k0_t1_loop : Scf.Loop 32 :=
  let c0_i32_462 : BitVec 32 := 0#32
  let c8_i32 : BitVec 32 := 8#32
  let v1071 : BitVec 32 := Scalar.addi c0_i32_462 c8_i32
  let c1_i32_463 : BitVec 32 := 1#32
  ⟨c0_i32_462, v1071, c1_i32_463⟩
def k0_off1 (k0_t1 : Fin k0_t1_loop.trips) : Fin 3 → Nat :=
  let c0_563 : Index := 0#32
  let c0_i32_462 : BitVec 32 := 0#32
  let c1_i32_463 : BitVec 32 := 1#32
  let arg19 : BitVec 32 := Scf.iv c0_i32_462 c1_i32_463 k0_t1
  let v1308 : Index := Scalar.indexCast arg19
  let c0_564 : Index := 0#32
  ![0, v1308.toNat, 0]
def k0_off2 (k0_t1 : Fin k0_t1_loop.trips) : Fin 3 → Nat :=
  let c0_567 : Index := 0#32
  let c0_i32_462 : BitVec 32 := 0#32
  let c1_i32_463 : BitVec 32 := 1#32
  let arg19 : BitVec 32 := Scf.iv c0_i32_462 c1_i32_463 k0_t1
  let v1312 : Index := Scalar.indexCast arg19
  let c0_568 : Index := 0#32
  ![0, v1312.toNat, 0]
def k0_cond2 (i : grid0.Coords) : BitVec 1 :=
  let arg1 : BitVec 32 := BitVec.ofNat 32 (i 1).val
  let c0_i32_561 : BitVec 32 := 0#32
  let v1305 : BitVec 1 := Scalar.cmpi .eq arg1 c0_i32_561
  let v1306 : BitVec 32 := Scalar.extui v1305
  let c0_i32_562 : BitVec 32 := 0#32
  let v1307 : BitVec 1 := Scalar.cmpi .ne v1306 c0_i32_562
  v1307

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== GlaSampleIdeal.lean ====
abbrev S32x8x128 : Shape := ⟨3, ![32, 8, 128]⟩
abbrev S32x8x256 : Shape := ⟨3, ![32, 8, 256]⟩
abbrev S32x8x16 : Shape := ⟨3, ![32, 8, 16]⟩
abbrev S16x128 : Shape := ⟨2, ![16, 128]⟩
abbrev S128 : Shape := ⟨1, ![128]⟩
abbrev S64 : Shape := ⟨1, ![64]⟩
abbrev S32x4x32x64 : Shape := ⟨4, ![32, 4, 32, 64]⟩
abbrev S_ : Shape := ⟨0, ![]⟩
abbrev S4x4 : Shape := ⟨2, ![4, 4]⟩
abbrev S32x4x32x1x64 : Shape := ⟨5, ![32, 4, 32, 1, 64]⟩
abbrev S1x4x1x4x1 : Shape := ⟨5, ![1, 4, 1, 4, 1]⟩
abbrev S32x4x32x4x64 : Shape := ⟨5, ![32, 4, 32, 4, 64]⟩
abbrev S32x128x256 : Shape := ⟨3, ![32, 128, 256]⟩
abbrev S128x128 : Shape := ⟨2, ![128, 128]⟩
abbrev S1x128 : Shape := ⟨2, ![1, 128]⟩
abbrev S128x1 : Shape := ⟨2, ![128, 1]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8x8x128 : Shape := ⟨3, ![8, 8, 128]⟩
abbrev S8x8x256 : Shape := ⟨3, ![8, 8, 256]⟩
abbrev S8x128x256 : Shape := ⟨3, ![8, 128, 256]⟩
abbrev S8x8 : Shape := ⟨2, ![8, 8]⟩
abbrev S128x256 : Shape := ⟨2, ![128, 256]⟩
abbrev S256x256 : Shape := ⟨2, ![256, 256]⟩
abbrev S1x8x128 : Shape := ⟨3, ![1, 8, 128]⟩
abbrev S8x128 : Shape := ⟨2, ![8, 128]⟩
abbrev S128x8 : Shape := ⟨2, ![128, 8]⟩
abbrev S1x8x256 : Shape := ⟨3, ![1, 8, 256]⟩
abbrev S8x256 : Shape := ⟨2, ![8, 256]⟩
abbrev S1x128x256 : Shape := ⟨3, ![1, 128, 256]⟩
abbrev S8x1x128 : Shape := ⟨3, ![8, 1, 128]⟩
abbrev S8x1x256 : Shape := ⟨3, ![8, 1, 256]⟩
abbrev S64x128 : Shape := ⟨2, ![64, 128]⟩
abbrev S64x256 : Shape := ⟨2, ![64, 256]⟩
abbrev S32x1x32x1x64 : Shape := ⟨5, ![32, 1, 32, 1, 64]⟩
abbrev S32x32x64 : Shape := ⟨3, ![32, 32, 64]⟩
abbrev S32x1x32x64 : Shape := ⟨4, ![32, 1, 32, 64]⟩

abbrev nBuf : Space → Nat
  | .hbm => 51
  | .vmem => 25
  | .smem => 0
  | _ => 0

abbrev bufTy : (tb : Table) → Fin (tcTables nBuf tb) → BufTy
  | .hbm, ⟨0, _⟩ => ⟨S32x8x128, .f32⟩
  | .hbm, ⟨1, _⟩ => ⟨S32x8x128, .f32⟩
  | .hbm, ⟨2, _⟩ => ⟨S32x8x256, .f32⟩
  | .hbm, ⟨3, _⟩ => ⟨S32x8x16, .f32⟩
  | .hbm, ⟨4, _⟩ => ⟨S32x8x256, .f32⟩
  | .hbm, ⟨5, _⟩ => ⟨S16x128, .f32⟩
  | .hbm, ⟨6, _⟩ => ⟨S128, .f32⟩
  | .hbm, ⟨7, _⟩ => ⟨S64, .f32⟩
  | .hbm, ⟨8, _⟩ => ⟨S32x4x32x64, .f32⟩
  | .hbm, ⟨9, _⟩ => ⟨S_, .i32⟩
  | .hbm, ⟨10, _⟩ => ⟨S_, .f32⟩
  | .hbm, ⟨11, _⟩ => ⟨S32x8x128, .f32⟩
  | .hbm, ⟨12, _⟩ => ⟨S4x4, .i32⟩
  | .hbm, ⟨13, _⟩ => ⟨S4x4, .i32⟩
  | .hbm, ⟨14, _⟩ => ⟨S_, .i32⟩
  | .hbm, ⟨15, _⟩ => ⟨S4x4, .i32⟩
  | .hbm, ⟨16, _⟩ => ⟨S4x4, .i32⟩
  | .hbm, ⟨17, _⟩ => ⟨S4x4, .i1⟩
  | .hbm, ⟨18, _⟩ => ⟨S4x4, .f32⟩
  | .hbm, ⟨19, _⟩ => ⟨S32x4x32x1x64, .f32⟩
  | .hbm, ⟨20, _⟩ => ⟨S1x4x1x4x1, .f32⟩
  | .hbm, ⟨21, _⟩ => ⟨S32x4x32x4x64, .f32⟩
  | .hbm, ⟨22, _⟩ => ⟨S32x4x32x4x64, .f32⟩
  | .hbm, ⟨23, _⟩ => ⟨S32x4x32x4x64, .f32⟩
  | .hbm, ⟨24, _⟩ => ⟨S32x128x256, .f32⟩
  | .hbm, ⟨25, _⟩ => ⟨S_, .i32⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S1x128, .f32⟩
  | .hbm, ⟨30, _⟩ => ⟨S128x1, .f32⟩
  | .hbm, ⟨31, _⟩ => ⟨S1x64, .f32⟩
  | .hbm, ⟨32, _⟩ => ⟨S4x64, .f32⟩
  | .hbm, ⟨33, _⟩ => ⟨S256, .f32⟩
  | .hbm, ⟨34, _⟩ => ⟨S1x256, .f32⟩
  | .hbm, ⟨35, _⟩ => ⟨S32x8x256, .f32⟩
  | .hbm, ⟨36, _⟩ => ⟨S32x128x256, .f32⟩
  | .hbm, ⟨37, _⟩ => ⟨S32x4x32x4x64, .f32⟩
  | .hbm, ⟨38, _⟩ => ⟨S32x1x32x1x64, .f32⟩
  | .hbm, ⟨39, _⟩ => ⟨S32x32x64, .f32⟩
  | .hbm, ⟨40, _⟩ => ⟨S32x1x32x1x64, .f32⟩
  | .hbm, ⟨41, _⟩ => ⟨S32x32x64, .f32⟩
  | .hbm, ⟨42, _⟩ => ⟨S32x1x32x1x64, .f32⟩
  | .hbm, ⟨43, _⟩ => ⟨S32x32x64, .f32⟩
  | .hbm, ⟨44, _⟩ => ⟨S32x1x32x1x64, .f32⟩
  | .hbm, ⟨45, _⟩ => ⟨S32x32x64, .f32⟩
  | .hbm, ⟨46, _⟩ => ⟨S32x1x32x64, .f32⟩
  | .hbm, ⟨47, _⟩ => ⟨S32x1x32x64, .f32⟩
  | .hbm, ⟨48, _⟩ => ⟨S32x1x32x64, .f32⟩
  | .hbm, ⟨49, _⟩ => ⟨S32x1x32x64, .f32⟩
  | .hbm, ⟨50, _⟩ => ⟨S32x4x32x64, .f32⟩
  | .local _ .vmem, ⟨0, _⟩ => ⟨S8x8x128, .f32⟩
  | .local _ .vmem, ⟨1, _⟩ => ⟨S8x8x128, .f32⟩
  | .local _ .vmem, ⟨2, _⟩ => ⟨S8x8x128, .f32⟩
  | .local _ .vmem, ⟨3, _⟩ => ⟨S8x8x128, .f32⟩
  | .local _ .vmem, ⟨4, _⟩ => ⟨S8x8x256, .f32⟩
  | .local _ .vmem, ⟨5, _⟩ => ⟨S8x8x256, .f32⟩
  | .local _ .vmem, ⟨6, _⟩ => ⟨S8x8x128, .f32⟩
  | .local _ .vmem, ⟨7, _⟩ => ⟨S8x8x128, .f32⟩
  | .local _ .vmem, ⟨8, _⟩ => ⟨S8x8x256, .f32⟩
  | .local _ .vmem, ⟨9, _⟩ => ⟨S8x8x256, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x1, .f32⟩
  | .local _ .vmem, ⟨14, _⟩ => ⟨S1x256, .f32⟩
  | .local _ .vmem, ⟨15, _⟩ => ⟨S8x128x256, .f32⟩
  | .local _ .vmem, ⟨16, _⟩ => ⟨S8x128x256, .f32⟩
  | .local _ .vmem, ⟨17, _⟩ => ⟨S8x8x256, .f32⟩
  | .local _ .vmem, ⟨18, _⟩ => ⟨S8x8x256, .f32⟩
  | .local _ .vmem, ⟨19, _⟩ => ⟨S8x128x256, .f32⟩
  | .local _ .vmem, ⟨20, _⟩ => ⟨S8x128x256, .f32⟩
  | .local _ .vmem, ⟨21, _⟩ => ⟨S8x128x256, .f32⟩
  | .local _ .vmem, ⟨22, _⟩ => ⟨S8x8x128, .f32⟩
  | .local _ .vmem, ⟨23, _⟩ => ⟨S8x8x128, .f32⟩
  | .local _ .vmem, ⟨24, _⟩ => ⟨S8x8x256, .f32⟩
  | _, _ => ⟨S32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 1], ![false, false]⟩

@[reducible] def k0_t1_loop : Scf.Loop 32 :=
  let c0_i32_462 : BitVec 32 := 0#32
  let c8_i32 : BitVec 32 := 8#32
  let v1071 : BitVec 32 := Scalar.addi c0_i32_462 c8_i32
  let c1_i32_463 : BitVec 32 := 1#32
  ⟨c0_i32_462, v1071, c1_i32_463⟩
def k0_off1 (k0_t1 : Fin k0_t1_loop.trips) : Fin 3 → Nat :=
  let c0_563 : Index := 0#32
  let c0_i32_462 : BitVec 32 := 0#32
  let c1_i32_463 : BitVec 32 := 1#32
  let arg19 : BitVec 32 := Scf.iv c0_i32_462 c1_i32_463 k0_t1
  let v1308 : Index := Scalar.indexCast arg19
  let c0_564 : Index := 0#32
  ![0, v1308.toNat, 0]
def k0_off2 (k0_t1 : Fin k0_t1_loop.trips) : Fin 3 → Nat :=
  let c0_567 : Index := 0#32
  let c0_i32_462 : BitVec 32 := 0#32
  let c1_i32_463 : BitVec 32 := 1#32
  let arg19 : BitVec 32 := Scf.iv c0_i32_462 c1_i32_463 k0_t1
  let v1312 : Index := Scalar.indexCast arg19
  let c0_568 : Index := 0#32
  ![0, v1312.toNat, 0]
def k0_cond2 (i : grid0.Coords) : BitVec 1 :=
  let arg1 : BitVec 32 := BitVec.ofNat 32 (i 1).val
  let c0_i32_561 : BitVec 32 := 0#32
  let v1305 : BitVec 1 := Scalar.cmpi .eq arg1 c0_i32_561
  let v1306 : BitVec 32 := Scalar.extui v1305
  let c0_i32_562 : BitVec 32 := 0#32
  let v1307 : BitVec 1 := Scalar.cmpi .ne v1306 c0_i32_562
  v1307

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== GlaSampleReferenceIdeal.lean ====
abbrev S32x8x128 : Shape := ⟨3, ![32, 8, 128]⟩
abbrev S32x8x256 : Shape := ⟨3, ![32, 8, 256]⟩
abbrev S32x8x16 : Shape := ⟨3, ![32, 8, 16]⟩
abbrev S16x128 : Shape := ⟨2, ![16, 128]⟩
abbrev S128 : Shape := ⟨1, ![128]⟩
abbrev S64 : Shape := ⟨1, ![64]⟩
abbrev S32x4x32x64 : Shape := ⟨4, ![32, 4, 32, 64]⟩
abbrev S32x8x4x32 : Shape := ⟨4, ![32, 8, 4, 32]⟩
abbrev S32x8x4x64 : Shape := ⟨4, ![32, 8, 4, 64]⟩
abbrev S1x1x128 : Shape := ⟨3, ![1, 1, 128]⟩
abbrev S_ : Shape := ⟨0, ![]⟩
abbrev S32x1x4x32 : Shape := ⟨4, ![32, 1, 4, 32]⟩
abbrev S32x4x32 : Shape := ⟨3, ![32, 4, 32]⟩
abbrev S32x4x32x1 : Shape := ⟨4, ![32, 4, 32, 1]⟩

abbrev nBuf : Space → Nat
  | .hbm => 50
  | .vmem => 0
  | .smem => 0
  | _ => 0

abbrev bufTy : (tb : Table) → Fin (tcTables nBuf tb) → BufTy
  | .hbm, ⟨0, _⟩ => ⟨S32x8x128, .f32⟩
  | .hbm, ⟨1, _⟩ => ⟨S32x8x128, .f32⟩
  | .hbm, ⟨2, _⟩ => ⟨S32x8x256, .f32⟩
  | .hbm, ⟨3, _⟩ => ⟨S32x8x16, .f32⟩
  | .hbm, ⟨4, _⟩ => ⟨S32x8x256, .f32⟩
  | .hbm, ⟨5, _⟩ => ⟨S16x128, .f32⟩
  | .hbm, ⟨6, _⟩ => ⟨S128, .f32⟩
  | .hbm, ⟨7, _⟩ => ⟨S64, .f32⟩
  | .hbm, ⟨8, _⟩ => ⟨S32x4x32x64, .f32⟩
  | .hbm, ⟨9, _⟩ => ⟨S32x8x4x32, .f32⟩
  | .hbm, ⟨10, _⟩ => ⟨S32x8x4x64, .f32⟩
  | .hbm, ⟨11, _⟩ => ⟨S32x8x128, .f32⟩
  | .hbm, ⟨12, _⟩ => ⟨S1x1x128, .f32⟩
  | .hbm, ⟨13, _⟩ => ⟨S32x8x128, .f32⟩
  | .hbm, ⟨14, _⟩ => ⟨S32x8x128, .f32⟩
  | .hbm, ⟨15, _⟩ => ⟨S32x8x128, .f32⟩
  | .hbm, ⟨16, _⟩ => ⟨S_, .f32⟩
  | .hbm, ⟨17, _⟩ => ⟨S32x8x128, .f32⟩
  | .hbm, ⟨18, _⟩ => ⟨S32x8x128, .f32⟩
  | .hbm, ⟨19, _⟩ => ⟨S32x8x128, .f32⟩
  | .hbm, ⟨20, _⟩ => ⟨S32x8x128, .f32⟩
  | .hbm, ⟨21, _⟩ => ⟨S32x8x128, .i1⟩
  | .hbm, ⟨22, _⟩ => ⟨S32x8x128, .f32⟩
  | .hbm, ⟨23, _⟩ => ⟨S32x8x128, .f32⟩
  | .hbm, ⟨24, _⟩ => ⟨S32x8x128, .f32⟩
  | .hbm, ⟨25, _⟩ => ⟨S32x8x128, .f32⟩
  | .hbm, ⟨26, _⟩ => ⟨S32x8x128, .f32⟩
  | .hbm, ⟨27, _⟩ => ⟨S32x8x128, .f32⟩
  | .hbm, ⟨28, _⟩ => ⟨S32x8x128, .f32⟩
  | .hbm, ⟨29, _⟩ => ⟨S32x8x128, .f32⟩
  | .hbm, ⟨30, _⟩ => ⟨S32x8x128, .f32⟩
  | .hbm, ⟨31, _⟩ => ⟨S_, .f32⟩
  | .hbm, ⟨32, _⟩ => ⟨S32x8x128, .f32⟩
  | .hbm, ⟨33, _⟩ => ⟨S32x8x128, .f32⟩
  | .hbm, ⟨34, _⟩ => ⟨S32x8x4x32, .f32⟩
  | .hbm, ⟨35, _⟩ => ⟨S_, .f32⟩
  | .hbm, ⟨36, _⟩ => ⟨S_, .f32⟩
  | .hbm, ⟨37, _⟩ => ⟨S32x8x4x32, .f32⟩
  | .hbm, ⟨38, _⟩ => ⟨S32x1x4x32, .f32⟩
  | .hbm, ⟨39, _⟩ => ⟨S32x8x4x32, .f32⟩
  | .hbm, ⟨40, _⟩ => ⟨S32x8x4x32, .f32⟩
  | .hbm, ⟨41, _⟩ => ⟨S32x8x4x32, .f32⟩
  | .hbm, ⟨42, _⟩ => ⟨S32x8x4x32, .f32⟩
  | .hbm, ⟨43, _⟩ => ⟨S32x4x32x64, .f32⟩
  | .hbm, ⟨44, _⟩ => ⟨S32x1x4x32, .f32⟩
  | .hbm, ⟨45, _⟩ => ⟨S32x4x32, .f32⟩
  | .hbm, ⟨46, _⟩ => ⟨S32x4x32x1, .f32⟩
  | .hbm, ⟨47, _⟩ => ⟨S32x4x32x64, .f32⟩
  | .hbm, ⟨48, _⟩ => ⟨S32x4x32x64, .f32⟩
  | .hbm, ⟨49, _⟩ => ⟨S32x4x32x64, .f32⟩
  | _, _ => ⟨S32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_call1_call0_cst : Ref sig .tc := ⟨.hbm, 35, rfl⟩
abbrev main_call1_call0_v0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩

abbrev nD : Nat := 1
abbrev τ : Topo := Topo.v7x

variable {F : FTy → Type} [FloatOps F]
-- ==== Gla.lean ====
abbrev S2x8192x128 : Shape := ⟨3, ![2, 8192, 128]⟩
abbrev S2x8192x256 : Shape := ⟨3, ![2, 8192, 256]⟩
abbrev S2x8192x16 : Shape := ⟨3, ![2, 8192, 16]⟩
abbrev S16x128 : Shape := ⟨2, ![16, 128]⟩
abbrev S128 : Shape := ⟨1, ![128]⟩
abbrev S64 : Shape := ⟨1, ![64]⟩
abbrev S_ : Shape := ⟨0, ![]⟩
abbrev S2x128x256 : Shape := ⟨3, ![2, 128, 256]⟩
abbrev S128x128 : Shape := ⟨2, ![128, 128]⟩
abbrev S1x128 : Shape := ⟨2, ![1, 128]⟩
abbrev S128x1 : Shape := ⟨2, ![128, 1]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S2x64x128 : Shape := ⟨3, ![2, 64, 128]⟩
abbrev S2x64x256 : Shape := ⟨3, ![2, 64, 256]⟩
abbrev S64x64 : Shape := ⟨2, ![64, 64]⟩
abbrev S128x256 : Shape := ⟨2, ![128, 256]⟩
abbrev S256x256 : Shape := ⟨2, ![256, 256]⟩
abbrev S1x64x128 : Shape := ⟨3, ![1, 64, 128]⟩
abbrev S64x128 : Shape := ⟨2, ![64, 128]⟩
abbrev S128x64 : Shape := ⟨2, ![128, 64]⟩
abbrev S1x64x256 : Shape := ⟨3, ![1, 64, 256]⟩
abbrev S64x256 : Shape := ⟨2, ![64, 256]⟩
abbrev S1x128x256 : Shape := ⟨3, ![1, 128, 256]⟩
abbrev S2x1x128 : Shape := ⟨3, ![2, 1, 128]⟩
abbrev S2x1x256 : Shape := ⟨3, ![2, 1, 256]⟩
abbrev S2x4x32x4x64 : Shape := ⟨5, ![2, 4, 32, 4, 64]⟩
abbrev S2x1x32x1x64 : Shape := ⟨5, ![2, 1, 32, 1, 64]⟩
abbrev S2x32x64 : Shape := ⟨3, ![2, 32, 64]⟩
abbrev S2x1x32x64 : Shape := ⟨4, ![2, 1, 32, 64]⟩
abbrev S2x4x32x64 : Shape := ⟨4, ![2, 4, 32, 64]⟩

abbrev nBuf : Space → Nat
  | .hbm => 39
  | .vmem => 23
  | .smem => 0
  | _ => 0

abbrev bufTy : (tb : Table) → Fin (tcTables nBuf tb) → BufTy
  | .hbm, ⟨0, _⟩ => ⟨S2x8192x128, .f32⟩
  | .hbm, ⟨1, _⟩ => ⟨S2x8192x128, .f32⟩
  | .hbm, ⟨2, _⟩ => ⟨S2x8192x256, .f32⟩
  | .hbm, ⟨3, _⟩ => ⟨S2x8192x16, .f32⟩
  | .hbm, ⟨4, _⟩ => ⟨S2x8192x256, .f32⟩
  | .hbm, ⟨5, _⟩ => ⟨S16x128, .f32⟩
  | .hbm, ⟨6, _⟩ => ⟨S128, .f32⟩
  | .hbm, ⟨7, _⟩ => ⟨S64, .f32⟩
  | .hbm, ⟨8, _⟩ => ⟨S_, .i32⟩
  | .hbm, ⟨9, _⟩ => ⟨S_, .f32⟩
  | .hbm, ⟨10, _⟩ => ⟨S2x8192x128, .f32⟩
  | .hbm, ⟨11, _⟩ => ⟨S_, .f32⟩
  | .hbm, ⟨12, _⟩ => ⟨S2x128x256, .f32⟩
  | .hbm, ⟨13, _⟩ => ⟨S_, .i32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S1x128, .f32⟩
  | .hbm, ⟨18, _⟩ => ⟨S128x1, .f32⟩
  | .hbm, ⟨19, _⟩ => ⟨S1x64, .f32⟩
  | .hbm, ⟨20, _⟩ => ⟨S4x64, .f32⟩
  | .hbm, ⟨21, _⟩ => ⟨S256, .f32⟩
  | .hbm, ⟨22, _⟩ => ⟨S1x256, .f32⟩
  | .hbm, ⟨23, _⟩ => ⟨S2x8192x256, .f32⟩
  | .hbm, ⟨24, _⟩ => ⟨S2x128x256, .f32⟩
  | .hbm, ⟨25, _⟩ => ⟨S2x4x32x4x64, .f32⟩
  | .hbm, ⟨26, _⟩ => ⟨S2x1x32x1x64, .f32⟩
  | .hbm, ⟨27, _⟩ => ⟨S2x32x64, .f32⟩
  | .hbm, ⟨28, _⟩ => ⟨S2x1x32x1x64, .f32⟩
  | .hbm, ⟨29, _⟩ => ⟨S2x32x64, .f32⟩
  | .hbm, ⟨30, _⟩ => ⟨S2x1x32x1x64, .f32⟩
  | .hbm, ⟨31, _⟩ => ⟨S2x32x64, .f32⟩
  | .hbm, ⟨32, _⟩ => ⟨S2x1x32x1x64, .f32⟩
  | .hbm, ⟨33, _⟩ => ⟨S2x32x64, .f32⟩
  | .hbm, ⟨34, _⟩ => ⟨S2x1x32x64, .f32⟩
  | .hbm, ⟨35, _⟩ => ⟨S2x1x32x64, .f32⟩
  | .hbm, ⟨36, _⟩ => ⟨S2x1x32x64, .f32⟩
  | .hbm, ⟨37, _⟩ => ⟨S2x1x32x64, .f32⟩
  | .hbm, ⟨38, _⟩ => ⟨S2x4x32x64, .f32⟩
  | .local _ .vmem, ⟨0, _⟩ => ⟨S2x64x128, .f32⟩
  | .local _ .vmem, ⟨1, _⟩ => ⟨S2x64x128, .f32⟩
  | .local _ .vmem, ⟨2, _⟩ => ⟨S2x64x128, .f32⟩
  | .local _ .vmem, ⟨3, _⟩ => ⟨S2x64x128, .f32⟩
  | .local _ .vmem, ⟨4, _⟩ => ⟨S2x64x256, .f32⟩
  | .local _ .vmem, ⟨5, _⟩ => ⟨S2x64x256, .f32⟩
  | .local _ .vmem, ⟨6, _⟩ => ⟨S2x64x128, .f32⟩
  | .local _ .vmem, ⟨7, _⟩ => ⟨S2x64x128, .f32⟩
  | .local _ .vmem, ⟨8, _⟩ => ⟨S2x64x256, .f32⟩
  | .local _ .vmem, ⟨9, _⟩ => ⟨S2x64x256, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x1, .f32⟩
  | .local _ .vmem, ⟨14, _⟩ => ⟨S1x256, .f32⟩
  | .local _ .vmem, ⟨15, _⟩ => ⟨S2x128x256, .f32⟩
  | .local _ .vmem, ⟨16, _⟩ => ⟨S2x64x256, .f32⟩
  | .local _ .vmem, ⟨17, _⟩ => ⟨S2x64x256, .f32⟩
  | .local _ .vmem, ⟨18, _⟩ => ⟨S2x128x256, .f32⟩
  | .local _ .vmem, ⟨19, _⟩ => ⟨S2x128x256, .f32⟩
  | .local _ .vmem, ⟨20, _⟩ => ⟨S2x64x128, .f32⟩
  | .local _ .vmem, ⟨21, _⟩ => ⟨S2x64x128, .f32⟩
  | .local _ .vmem, ⟨22, _⟩ => ⟨S2x64x256, .f32⟩
  | _, _ => ⟨S2x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨2, ![1, 128], ![false, false]⟩

@[reducible] def k0_t1_loop : Scf.Loop 32 :=
  let c0_i32_138 : BitVec 32 := 0#32
  let c64_i32_139 : BitVec 32 := 64#32
  let v363 : BitVec 32 := Scalar.addi c0_i32_138 c64_i32_139
  let c1_i32_140 : BitVec 32 := 1#32
  ⟨c0_i32_138, v363, c1_i32_140⟩
def k0_off1 (k0_t1 : Fin k0_t1_loop.trips) : Fin 3 → Nat :=
  let c0_167 : Index := 0#32
  let c0_i32_138 : BitVec 32 := 0#32
  let c1_i32_140 : BitVec 32 := 1#32
  let arg19 : BitVec 32 := Scf.iv c0_i32_138 c1_i32_140 k0_t1
  let v426 : Index := Scalar.indexCast arg19
  let c0_168 : Index := 0#32
  ![0, v426.toNat, 0]
def k0_off2 (k0_t1 : Fin k0_t1_loop.trips) : Fin 3 → Nat :=
  let c0_171 : Index := 0#32
  let c0_i32_138 : BitVec 32 := 0#32
  let c1_i32_140 : BitVec 32 := 1#32
  let arg19 : BitVec 32 := Scf.iv c0_i32_138 c1_i32_140 k0_t1
  let v430 : Index := Scalar.indexCast arg19
  let c0_172 : Index := 0#32
  ![0, v430.toNat, 0]
def k0_cond2 (i : grid0.Coords) : BitVec 1 :=
  let arg1 : BitVec 32 := BitVec.ofNat 32 (i 1).val
  let c127_i32 : BitVec 32 := 127#32
  let v423 : BitVec 1 := Scalar.cmpi .eq arg1 c127_i32
  let v424 : BitVec 32 := Scalar.extui v423
  let c0_i32_166 : BitVec 32 := 0#32
  let v425 : BitVec 1 := Scalar.cmpi .ne v424 c0_i32_166
  v425

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S2x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S2x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== GlaReferenceIdeal.lean ====
abbrev S2x8192x128 : Shape := ⟨3, ![2, 8192, 128]⟩
abbrev S2x8192x256 : Shape := ⟨3, ![2, 8192, 256]⟩
abbrev S2x8192x16 : Shape := ⟨3, ![2, 8192, 16]⟩
abbrev S16x128 : Shape := ⟨2, ![16, 128]⟩
abbrev S128 : Shape := ⟨1, ![128]⟩
abbrev S64 : Shape := ⟨1, ![64]⟩
abbrev S2x8192x4x32 : Shape := ⟨4, ![2, 8192, 4, 32]⟩
abbrev S2x8192x4x64 : Shape := ⟨4, ![2, 8192, 4, 64]⟩
abbrev S1x1x128 : Shape := ⟨3, ![1, 1, 128]⟩
abbrev S_ : Shape := ⟨0, ![]⟩
abbrev S2x1x4x32 : Shape := ⟨4, ![2, 1, 4, 32]⟩
abbrev S2x4x32x64 : Shape := ⟨4, ![2, 4, 32, 64]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x128, .f32⟩
  | .hbm, ⟨1, _⟩ => ⟨S2x8192x128, .f32⟩
  | .hbm, ⟨2, _⟩ => ⟨S2x8192x256, .f32⟩
  | .hbm, ⟨3, _⟩ => ⟨S2x8192x16, .f32⟩
  | .hbm, ⟨4, _⟩ => ⟨S2x8192x256, .f32⟩
  | .hbm, ⟨5, _⟩ => ⟨S16x128, .f32⟩
  | .hbm, ⟨6, _⟩ => ⟨S128, .f32⟩
  | .hbm, ⟨7, _⟩ => ⟨S64, .f32⟩
  | .hbm, ⟨8, _⟩ => ⟨S2x8192x4x32, .f32⟩
  | .hbm, ⟨9, _⟩ => ⟨S2x8192x4x64, .f32⟩
  | .hbm, ⟨10, _⟩ => ⟨S2x8192x128, .f32⟩
  | .hbm, ⟨11, _⟩ => ⟨S1x1x128, .f32⟩
  | .hbm, ⟨12, _⟩ => ⟨S2x8192x128, .f32⟩
  | .hbm, ⟨13, _⟩ => ⟨S2x8192x128, .f32⟩
  | .hbm, ⟨14, _⟩ => ⟨S2x8192x128, .f32⟩
  | .hbm, ⟨15, _⟩ => ⟨S_, .f32⟩
  | .hbm, ⟨16, _⟩ => ⟨S2x8192x128, .f32⟩
  | .hbm, ⟨17, _⟩ => ⟨S2x8192x128, .f32⟩
  | .hbm, ⟨18, _⟩ => ⟨S2x8192x128, .f32⟩
  | .hbm, ⟨19, _⟩ => ⟨S2x8192x128, .f32⟩
  | .hbm, ⟨20, _⟩ => ⟨S2x8192x128, .i1⟩
  | .hbm, ⟨21, _⟩ => ⟨S2x8192x128, .f32⟩
  | .hbm, ⟨22, _⟩ => ⟨S2x8192x128, .f32⟩
  | .hbm, ⟨23, _⟩ => ⟨S2x8192x128, .f32⟩
  | .hbm, ⟨24, _⟩ => ⟨S2x8192x128, .f32⟩
  | .hbm, ⟨25, _⟩ => ⟨S2x8192x128, .f32⟩
  | .hbm, ⟨26, _⟩ => ⟨S2x8192x128, .f32⟩
  | .hbm, ⟨27, _⟩ => ⟨S2x8192x128, .f32⟩
  | .hbm, ⟨28, _⟩ => ⟨S2x8192x128, .f32⟩
  | .hbm, ⟨29, _⟩ => ⟨S2x8192x128, .f32⟩
  | .hbm, ⟨30, _⟩ => ⟨S_, .f32⟩
  | .hbm, ⟨31, _⟩ => ⟨S2x8192x128, .f32⟩
  | .hbm, ⟨32, _⟩ => ⟨S2x8192x128, .f32⟩
  | .hbm, ⟨33, _⟩ => ⟨S2x8192x4x32, .f32⟩
  | .hbm, ⟨34, _⟩ => ⟨S_, .f32⟩
  | .hbm, ⟨35, _⟩ => ⟨S_, .f32⟩
  | .hbm, ⟨36, _⟩ => ⟨S2x8192x4x32, .f32⟩
  | .hbm, ⟨37, _⟩ => ⟨S2x1x4x32, .f32⟩
  | .hbm, ⟨38, _⟩ => ⟨S2x8192x4x32, .f32⟩
  | .hbm, ⟨39, _⟩ => ⟨S2x8192x4x32, .f32⟩
  | .hbm, ⟨40, _⟩ => ⟨S2x8192x4x32, .f32⟩
  | .hbm, ⟨41, _⟩ => ⟨S2x8192x4x32, .f32⟩
  | .hbm, ⟨42, _⟩ => ⟨S2x4x32x64, .f32⟩
  | _, _ => ⟨S2x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_call1_call0_cst : Ref sig .tc := ⟨.hbm, 34, rfl⟩
abbrev main_call1_call0_v0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩

abbrev nD : Nat := 1
abbrev τ : Topo := Topo.v7x

variable {F : FTy → Type} [FloatOps F]
-- ==== Proof.Steps.lean ====
/-
  What one grid point of the routed feed-forward leaves behind, in terms of the kernel body's payloads: the rows `h`
  after the norm, the running sum over the experts' hidden blocks, the routing weights, and the block written out at
  the last point of a row tile.
-/
module

public import proofs.«01_k».proof.Proof.Gen.KernelIdeal.Value
public import Idealize.ShloMosaic.Lib.Pipeline.ValueKit.Acc
public import Idealize.ShloMosaic.Lib.Pipeline.ValueKit.Geometry

@[expose] public section

set_option maxRecDepth 16384

noncomputable section

namespace Cert.Routed

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The scratch of normed rows, filled with `v`, reads back as `v`. -/
theorem read_h (v : Vec F S1024x1024 .bf16) :
    View.read (Elt F) (View.whole cc0_scratch0) ((Memref.isWhole_whole cc0_scratch0).unread v) = v :=
  (Memref.isWhole_whole cc0_scratch0).read_unread v

/-- The scratch of the running sum, filled with `v`, reads back as `v`. -/
theorem read_acc (v : Vec F S1024x1024 .f32) :
    View.read (Elt F) (View.whole cc0_scratch1) ((Memref.isWhole_whole cc0_scratch1).unread v) = v :=
  (Memref.isWhole_whole cc0_scratch1).read_unread v

/-- The scratch of routing weights, filled with `v`, reads back as `v`. -/
theorem read_w (v : Vec F S1024x128 .f32) :
    View.read (Elt F) (View.whole cc0_scratch2) ((Memref.isWhole_whole cc0_scratch2).unread v) = v :=
  (Memref.isWhole_whole cc0_scratch2).read_unread v

/-- The routing weights of a row tile, from its rows, the gains and the padded router. -/
def weights (x : Vec F S1024x1024 .f32) (g : Vec F S1x1024 .f32) (wr : Vec F S1024x128 .f32) : FVec F S1024x128 .f32 :=
  k0_pay8 (k0_pay7 (k0_pay6 x g wr) (iota .tc S1024x128 32 [1] iota_S1024x128_d1_w32) 8#32)

/-- The first point of a row tile stores the normed rows. -/
theorem first_h (c : Dev nD) (t : Fin cfg0.N) (h0 : t.val % 16 = 0) (h1 : ¬t.val % 16 = 15) :
    (outsAt0 m c t.val t.isLt).2.1 = k0_pay4 (iblk m c 0 t) (iblk m c 1 t) := by
  rw [outsAt0_A m c t h0 h1]
  frame_out

/-- The first point of a row tile stores the routing weights. -/
theorem first_w (c : Dev nD) (t : Fin cfg0.N) (h0 : t.val % 16 = 0) (h1 : ¬t.val % 16 = 15) :
    (outsAt0 m c t.val t.isLt).2.2.2 = weights (iblk m c 0 t) (iblk m c 1 t) (iblk m c 2 t) := by
  rw [outsAt0_A m c t h0 h1]
  frame_out
  rfl

/-- The first point of a row tile leaves its own expert block, added to zero. -/
theorem first_acc (c : Dev nD) (t : Fin cfg0.N) (h0 : t.val % 16 = 0) (h1 : ¬t.val % 16 = 15) :
    (outsAt0 m c t.val t.isLt).2.2.1
      = k0_pay1 (k0_pay9 (grid0.coords t) (weights (iblk m c 0 t) (iblk m c 1 t) (iblk m c 2 t))) k0_pay5
          (k0_pay10 (k0_pay4 (iblk m c 0 t) (iblk m c 1 t)) (iblk m c 3 t) (iblk m c 4 t) (iblk m c 5 t)) := by
  rw [outsAt0_A m c t h0 h1]
  frame_out
  rfl

/-- A middle point keeps the normed rows. -/
theorem mid_h (c : Dev nD) (t : Fin cfg0.N) (h0 : ¬t.val % 16 = 0) (h1 : ¬t.val % 16 = 15) :
    (outsAt0 m c t.val t.isLt).2.1 = (outsAt0 m c (t.val - 1) (Nat.lt_of_le_of_lt (Nat.sub_le _ _) t.isLt)).2.1 := by
  rw [outsAt0_B m c t h0 h1]
  rfl

/-- A middle point keeps the routing weights. -/
theorem mid_w (c : Dev nD) (t : Fin cfg0.N) (h0 : ¬t.val % 16 = 0) (h1 : ¬t.val % 16 = 15) :
    (outsAt0 m c t.val t.isLt).2.2.2 = (outsAt0 m c (t.val - 1) (Nat.lt_of_le_of_lt (Nat.sub_le _ _) t.isLt)).2.2.2 := by
  rw [outsAt0_B m c t h0 h1]
  rfl

/-- A middle point adds its expert block. -/
theorem mid_acc (c : Dev nD) (t : Fin cfg0.N) (h0 : ¬t.val % 16 = 0) (h1 : ¬t.val % 16 = 15) :
    (outsAt0 m c t.val t.isLt).2.2.1
      = k0_pay1 (k0_pay9 (grid0.coords t) (outsAt0 m c (t.val - 1) (Nat.lt_of_le_of_lt (Nat.sub_le _ _) t.isLt)).2.2.2)
          (outsAt0 m c (t.val - 1) (Nat.lt_of_le_of_lt (Nat.sub_le _ _) t.isLt)).2.2.1
          (k0_pay10 (outsAt0 m c (t.val - 1) (Nat.lt_of_le_of_lt (Nat.sub_le _ _) t.isLt)).2.1
            (iblk m c 3 t) (iblk m c 4 t) (iblk m c 5 t)) := by
  rw [outsAt0_B m c t h0 h1]
  frame_out
  rw [read_w, read_acc, read_h]

/-- The last point of a row tile writes the rows plus the finished sum. -/
theorem last_out (c : Dev nD) (t : Fin cfg0.N) (h0 : ¬t.val % 16 = 0) (h1 : t.val % 16 = 15) :
    (outsAt0 m c t.val t.isLt).1
      = k0_pay2 (iblk m c 0 t) (k0_pay1 (k0_pay9 (grid0.coords t) (outsAt0 m c (t.val - 1) (Nat.lt_of_le_of_lt (Nat.sub_le _ _) t.isLt)).2.2.2)
          (outsAt0 m c (t.val - 1) (Nat.lt_of_le_of_lt (Nat.sub_le _ _) t.isLt)).2.2.1
          (k0_pay10 (outsAt0 m c (t.val - 1) (Nat.lt_of_le_of_lt (Nat.sub_le _ _) t.isLt)).2.1
            (iblk m c 3 t) (iblk m c 4 t) (iblk m c 5 t))) := by
  rw [outsAt0_C m c t h0 h1]
  frame_out
  rw [read_w, read_acc, read_h]

end Cert.Routed

end
-- ==== Proof.Blocks.lean ====
/-
  The blocks a grid point reads, at an entry, as entries of the arguments: point `t` is row tile `t / 16`, expert
  `t % 16 / 2` and hidden half `t % 2`.
-/
module

public import proofs.«01_k».proof.Proof.Steps
public import Idealize.ShloMosaic.Lib.Pointwise

@[expose] public section

set_option maxRecDepth 16384

noncomputable section

namespace Cert.Routed

open Cert.KernelIdeal Cert.KernelIdeal.Gen Idealize.ShloMosaic Idealize.ShloMosaic.TcCoe Idealize.SL.Sem

variable (m : (ℓ : Loc nD τ sig) → Buf (Elt Ideal) ℓ) (c : Dev nD)

/-- The six arguments on device `c`. -/
abbrev arg0 : (⟨S2x8192x1024, .f32⟩ : BufTy).Contents (Elt Ideal) := m ((c : Thread nD τ).loc main_arg0)
abbrev arg1 : (⟨S1024, .f32⟩ : BufTy).Contents (Elt Ideal) := m ((c : Thread nD τ).loc main_arg1)
abbrev arg2 : (⟨S1024x8, .f32⟩ : BufTy).Contents (Elt Ideal) := m ((c : Thread nD τ).loc main_arg2)
abbrev arg3 : (⟨S8x1024x1024, .f32⟩ : BufTy).Contents (Elt Ideal) := m ((c : Thread nD τ).loc main_arg3)
abbrev arg4 : (⟨S8x1024x1024, .f32⟩ : BufTy).Contents (Elt Ideal) := m ((c : Thread nD τ).loc main_arg4)
abbrev arg5 : (⟨S8x1024x1024, .f32⟩ : BufTy).Contents (Elt Ideal) := m ((c : Thread nD τ).loc main_arg5)

/-- The rows the region reads: the batch flattened. -/
theorem V_v1 : V m c main_v1 = shapeCast S16384x1024 (arg0 m c) shapeCasts_S2x8192x1024_S16384x1024 := by
  simp only [V, StableHlo.after_cons, StableHlo.after_nil, hostOps0, hostOps0_1, hostOps0_2, List.flatten_cons, List.flatten_nil,
    List.append_nil, List.cons_append, List.nil_append]
  rfl

/-- What the host code leaves in an array the call reads. -/
theorem V_v5 : V m c main_v5 = shapeCast S1x1024 (arg1 m c) shapeCasts_S1024_S1x1024 := by
  simp only [V, StableHlo.after_cons, StableHlo.after_nil, hostOps0, hostOps0_1, hostOps0_2, List.flatten_cons, List.flatten_nil,
    List.append_nil, List.cons_append, List.nil_append]
  rfl

/-- The router the region reads: the argument with zero lanes after it. -/
theorem V_v0 : V m c main_v0 = pad S1024x128 ![0, 0] ![0, 120] ![0, 0] (arg2 m c) (sitofp (F := Ideal) .f32 (constantI S_ 32 0#32))
    pads_S1024x8_S1024x128_000_01200 h_S_ := by
  simp only [V, StableHlo.after_cons, StableHlo.after_nil, hostOps0, hostOps0_1, hostOps0_2, List.flatten_cons, List.flatten_nil,
    List.append_nil, List.cons_append, List.nil_append]
  rfl

/-- What the host code leaves in an array the call reads. -/
theorem V_v2 : V m c main_v2 = truncf (F := Ideal) .bf16 (arg3 m c) bitsLt_bf16_f32 := by
  simp only [V, StableHlo.after_cons, StableHlo.after_nil, hostOps0, hostOps0_1, hostOps0_2, List.flatten_cons, List.flatten_nil,
    List.append_nil, List.cons_append, List.nil_append]
  rfl

/-- What the host code leaves in an array the call reads. -/
theorem V_v3 : V m c main_v3 = truncf (F := Ideal) .bf16 (arg4 m c) bitsLt_bf16_f32 := by
  simp only [V, StableHlo.after_cons, StableHlo.after_nil, hostOps0, hostOps0_1, hostOps0_2, List.flatten_cons, List.flatten_nil,
    List.append_nil, List.cons_append, List.nil_append]
  rfl

/-- What the host code leaves in an array the call reads. -/
theorem V_v4 : V m c main_v4 = truncf (F := Ideal) .bf16 (arg5 m c) bitsLt_bf16_f32 := by
  simp only [V, StableHlo.after_cons, StableHlo.after_nil, hostOps0, hostOps0_1, hostOps0_2, List.flatten_cons, List.flatten_nil,
    List.append_nil, List.cons_append, List.nil_append]
  rfl

/-- The windows' block numbers at a point, decided over the grid. -/
theorem idx0 : ∀ t : Fin cfg0.N, win0_0.index t = ![t.val / 16, 0] := (by decide +kernel : ∀ t : Fin grid0.N, _)
/-- The place of window 1's block at a point. -/
theorem idx1 : ∀ t : Fin cfg0.N, win0_1.index t = ![0, 0] := (by decide +kernel : ∀ t : Fin grid0.N, _)
/-- The place of window 2's block at a point. -/
theorem idx2 : ∀ t : Fin cfg0.N, win0_2.index t = ![0, 0] := (by decide +kernel : ∀ t : Fin grid0.N, _)
/-- The place of window 3's block at a point. -/
theorem idx3 : ∀ t : Fin cfg0.N, win0_3.index t = ![t.val % 16 / 2, 0, t.val % 2] := (by decide +kernel : ∀ t : Fin grid0.N, _)
/-- The place of window 4's block at a point. -/
theorem idx4 : ∀ t : Fin cfg0.N, win0_4.index t = ![t.val % 16 / 2, 0, t.val % 2] := (by decide +kernel : ∀ t : Fin grid0.N, _)
/-- The place of window 5's block at a point. -/
theorem idx5 : ∀ t : Fin cfg0.N, win0_5.index t = ![t.val % 16 / 2, t.val % 2, 0] := (by decide +kernel : ∀ t : Fin grid0.N, _)
/-- The expert's number is the point's second coordinate. -/
theorem coord1 : ∀ t : Fin cfg0.N, ((grid0.coords t) 1).val = t.val % 16 / 2 := (by decide +kernel : ∀ t : Fin grid0.N, _)

/-- The rows' block. -/
theorem iblk0_apply (t : Fin cfg0.N) (r k : Fin 1024) (p : Fin 2) (s : Fin 8192) (h : 8192 * p.val + s.val = 1024 * (t.val / 16) + r.val) :
    iblk m c 0 t (ix2 r k) = arg0 m c (ix3 p s k) := by
  have e : iblk m c 0 t (ix2 r k) = V m c main_v1 ((win0_0.blk t).view.emb (ix2 r k)) := by
    blk_simp [iblk]
  have hN := lt_of_lt_of_eq t.isLt (show cfg0.N = 256 from N_0)
  have e' : (win0_0.blk t).view.emb (ix2 r k) = (ix2 ⟨1024 * (t.val / 16) + r.val, by omega⟩ k : S16384x1024.Idx) := by
    blk_ext [idx0 t]
  rw [e, e', V_v1]
  pointwise
  have := s.isLt
  exact congrArg₂ (fun a b => arg0 m c (ix3 a b k)) (Fin.ext (by show _ / 8192 = _; omega)) (Fin.ext (by show _ % 8192 = _; omega))

/-- The gains' block. -/
theorem iblk1_apply (t : Fin cfg0.N) (k : Fin 1024) : iblk m c 1 t (ix2 0 k) = arg1 m c (ix1 k) := by
  have e : iblk m c 1 t (ix2 0 k) = V m c main_v5 ((win0_1.blk t).view.emb (ix2 0 k)) := by
    blk_simp [iblk]
  have e' : (win0_1.blk t).view.emb (ix2 0 k) = (ix2 0 k : S1x1024.Idx) := by
    blk_ext [idx1 t]
  rw [e, e', V_v5]
  pointwise

/-- The router's block, on the eight lanes of the argument. -/
theorem iblk2_apply (t : Fin cfg0.N) (k : Fin 1024) (l : Fin 128) (x : Fin 8) (hl : l.val = x.val) :
    iblk m c 2 t (ix2 k l) = arg2 m c (ix2 k x) := by
  have e : iblk m c 2 t (ix2 k l) = V m c main_v0 ((win0_2.blk t).view.emb (ix2 k l)) := by
    blk_simp [iblk]
  have e' : (win0_2.blk t).view.emb (ix2 k l) = (ix2 k l : S1024x128.Idx) := by
    blk_ext [idx2 t]
  rw [e, e', V_v0]
  pointwise
  rw [dif_pos (by have := x.isLt; omega)]
  exact congrArg (fun a => arg2 m c (ix2 k a)) (Fin.ext hl)

/-- The first gate weights' block. -/
theorem iblk3_apply (t : Fin cfg0.N) (k : Fin 1024) (f : Fin 512) (x : Fin 8) (g : Fin 1024) (hx : x.val = t.val % 16 / 2)
    (hg : g.val = 512 * (t.val % 2) + f.val) : iblk m c 3 t (ix3 0 k f) = arg3 m c (ix3 x k g) := by
  have e : iblk m c 3 t (ix3 0 k f) = V m c main_v2 ((win0_3.blk t).view.emb (ix3 0 k f)) := by
    blk_simp [iblk]
  have e' : (win0_3.blk t).view.emb (ix3 0 k f) = (ix3 x k g : S8x1024x1024.Idx) := by
    blk_ext [idx3 t]
  rw [e, e', V_v2]
  pointwise

/-- The second gate weights' block. -/
theorem iblk4_apply (t : Fin cfg0.N) (k : Fin 1024) (f : Fin 512) (x : Fin 8) (g : Fin 1024) (hx : x.val = t.val % 16 / 2)
    (hg : g.val = 512 * (t.val % 2) + f.val) : iblk m c 4 t (ix3 0 k f) = arg4 m c (ix3 x k g) := by
  have e : iblk m c 4 t (ix3 0 k f) = V m c main_v3 ((win0_4.blk t).view.emb (ix3 0 k f)) := by
    blk_simp [iblk]
  have e' : (win0_4.blk t).view.emb (ix3 0 k f) = (ix3 x k g : S8x1024x1024.Idx) := by
    blk_ext [idx4 t]
  rw [e, e', V_v3]
  pointwise

/-- The output weights' block. -/
theorem iblk5_apply (t : Fin cfg0.N) (f : Fin 512) (n : Fin 1024) (x : Fin 8) (g : Fin 1024) (hx : x.val = t.val % 16 / 2)
    (hg : g.val = 512 * (t.val % 2) + f.val) : iblk m c 5 t (ix3 0 f n) = arg5 m c (ix3 x g n) := by
  have e : iblk m c 5 t (ix3 0 f n) = V m c main_v4 ((win0_5.blk t).view.emb (ix3 0 f n)) := by
    blk_simp [iblk]
  have e' : (win0_5.blk t).view.emb (ix3 0 f n) = (ix3 x g n : S8x1024x1024.Idx) := by
    blk_ext [idx5 t]
  rw [e, e', V_v4]
  pointwise

end Cert.Routed

end
-- ==== Proof.Ref.lean ====
/-
  The reference's result, read at an entry: the entry of `x` plus the eight experts' outputs, each times its routing
  weight. The norm, the logits and the routing weights stay named here (`Routing.lean` reads the weights).
-/
module

public import proofs.«01_k».proof.Proof.Gen.ReferenceIdeal.Read
public import Idealize.ShloMosaic.Lib.Pointwise

@[expose] public section

set_option maxRecDepth 16384

noncomputable section

namespace Cert.Routed.Ref

open Cert.ReferenceIdeal Cert.ReferenceIdeal.Gen Cert.ReferenceIdeal.Read
open Idealize.ShloMosaic Idealize.ShloMosaic.TcCoe Idealize.SL.Sem Idealize.ShloMosaic.StableHlo

/-- A row after the root-mean-square norm. -/
def nrow (x g : Fin 1024 → EReal) (k : Fin 1024) : EReal :=
  x k * Ideal.rsqrt (Ideal.div (∑ j, x j * x j) (Ideal.ofBits .f32 0x44800000#32) + Ideal.ofBits .f32 0x358637BD#32) * g k

/-- One hidden column of a gated feed-forward. -/
def hid (h : Fin 1024 → EReal) (a b : Fin 1024 → EReal) : EReal :=
  (∑ k, h k * a k) * Ideal.logistic (∑ k, h k * a k) * ∑ k, h k * b k

/-- One expert's output at column `n`, for one row. -/
def expert (h : Fin 1024 → EReal) (a b d : Fin 1024 → Fin 1024 → EReal) (n : Fin 1024) : EReal :=
  ∑ f, hid h (fun k => a k f) (fun k => b k f) * d f n

/-- An expert as the reference computes it, on all rows. -/
def expertTerm (h : FVec Ideal S2x8192x1024 .f32) (a b d : FVec Ideal S1024x1024 .f32) : FVec Ideal S2x8192x1024 .f32 :=
  Host.dotGeneral dot_S2x8192x1024_S1024x1024_S2x8192x1024_2_0_01_1_n_n none
    (mulf (mulf (Host.dotGeneral dot_S2x8192x1024_S1024x1024_S2x8192x1024_2_0_01_1_n_n none h a)
      (Host.divf (broadcastInDim S2x8192x1024 ![] bcast_S_S2x8192x1024 (constant S_ .f32 0x3F800000#32))
        (addf (broadcastInDim S2x8192x1024 ![] bcast_S_S2x8192x1024 (constant S_ .f32 0x3F800000#32))
          (Host.exp (Host.negf (Host.dotGeneral dot_S2x8192x1024_S1024x1024_S2x8192x1024_2_0_01_1_n_n none h a))))))
      (Host.dotGeneral dot_S2x8192x1024_S1024x1024_S2x8192x1024_2_0_01_1_n_n none h b)) d

/-- The expert's term at an entry. -/
theorem expertTerm_apply (h : FVec Ideal S2x8192x1024 .f32) (a b d : FVec Ideal S1024x1024 .f32) (p : Fin 2) (s : Fin 8192)
    (n : Fin 1024) :
    expertTerm h a b d (ix3 p s n)
      = expert (fun k => h (ix3 p s k)) (fun k f => a (ix2 k f)) (fun k f => b (ix2 k f)) (fun k f => d (ix2 k f)) n := by
  unfold expert hid Ideal.logistic
  pointwise [expertTerm]

variable (x0 : (⟨S2x8192x1024, .f32⟩ : BufTy).Contents (Elt Ideal)) (x1 : (⟨S1024, .f32⟩ : BufTy).Contents (Elt Ideal))
  (x2 : (⟨S1024x8, .f32⟩ : BufTy).Contents (Elt Ideal)) (x3 x4 x5 : (⟨S8x1024x1024, .f32⟩ : BufTy).Contents (Elt Ideal))

/-- The normed rows at an entry. -/
theorem h_apply (p : Fin 2) (s : Fin 8192) (k : Fin 1024) :
    val_main_v12 (F := Ideal) x0 x1 (ix3 p s k) = nrow (fun j => x0 (ix3 p s j)) (fun j => x1 (ix1 j)) k := by
  unfold nrow
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]

/-- Expert 0 at an entry. -/
theorem expert0_apply (p : Fin 2) (s : Fin 8192) (n : Fin 1024) :
    val_main_v39 (F := Ideal) x0 x1 x3 x4 x5 (ix3 p s n)
      = expert (nrow (fun j => x0 (ix3 p s j)) (fun j => x1 (ix1 j))) (fun k f => x3 (ix3 0 k f)) (fun k f => x4 (ix3 0 k f))
          (fun k f => x5 (ix3 0 k f)) n := by
  have e : val_main_v39 (F := Ideal) x0 x1 x3 x4 x5
      = expertTerm (val_main_v12 (F := Ideal) x0 x1) (val_main_v30 (F := Ideal) x3) (val_main_v32 (F := Ideal) x4)
          (val_main_v34 (F := Ideal) x5) := rfl
  rw [e, expertTerm_apply]
  simp only [h_apply]
  pointwise [val_main_v30, val_main_v29, val_main_v32, val_main_v31, val_main_v34, val_main_v33]

/-- Expert 1 at an entry. -/
theorem expert1_apply (p : Fin 2) (s : Fin 8192) (n : Fin 1024) :
    val_main_v54 (F := Ideal) x0 x1 x3 x4 x5 (ix3 p s n)
      = expert (nrow (fun j => x0 (ix3 p s j)) (fun j => x1 (ix1 j))) (fun k f => x3 (ix3 1 k f)) (fun k f => x4 (ix3 1 k f))
          (fun k f => x5 (ix3 1 k f)) n := by
  have e : val_main_v54 (F := Ideal) x0 x1 x3 x4 x5
      = expertTerm (val_main_v12 (F := Ideal) x0 x1) (val_main_v45 (F := Ideal) x3) (val_main_v47 (F := Ideal) x4)
          (val_main_v49 (F := Ideal) x5) := rfl
  rw [e, expertTerm_apply]
  simp only [h_apply]
  pointwise [val_main_v45, val_main_v44, val_main_v47, val_main_v46, val_main_v49, val_main_v48]

/-- Expert 2 at an entry. -/
theorem expert2_apply (p : Fin 2) (s : Fin 8192) (n : Fin 1024) :
    val_main_v69 (F := Ideal) x0 x1 x3 x4 x5 (ix3 p s n)
      = expert (nrow (fun j => x0 (ix3 p s j)) (fun j => x1 (ix1 j))) (fun k f => x3 (ix3 2 k f)) (fun k f => x4 (ix3 2 k f))
          (fun k f => x5 (ix3 2 k f)) n := by
  have e : val_main_v69 (F := Ideal) x0 x1 x3 x4 x5
      = expertTerm (val_main_v12 (F := Ideal) x0 x1) (val_main_v60 (F := Ideal) x3) (val_main_v62 (F := Ideal) x4)
          (val_main_v64 (F := Ideal) x5) := rfl
  rw [e, expertTerm_apply]
  simp only [h_apply]
  pointwise [val_main_v60, val_main_v59, val_main_v62, val_main_v61, val_main_v64, val_main_v63]

/-- Expert 3 at an entry. -/
theorem expert3_apply (p : Fin 2) (s : Fin 8192) (n : Fin 1024) :
    val_main_v84 (F := Ideal) x0 x1 x3 x4 x5 (ix3 p s n)
      = expert (nrow (fun j => x0 (ix3 p s j)) (fun j => x1 (ix1 j))) (fun k f => x3 (ix3 3 k f)) (fun k f => x4 (ix3 3 k f))
          (fun k f => x5 (ix3 3 k f)) n := by
  have e : val_main_v84 (F := Ideal) x0 x1 x3 x4 x5
      = expertTerm (val_main_v12 (F := Ideal) x0 x1) (val_main_v75 (F := Ideal) x3) (val_main_v77 (F := Ideal) x4)
          (val_main_v79 (F := Ideal) x5) := rfl
  rw [e, expertTerm_apply]
  simp only [h_apply]
  pointwise [val_main_v75, val_main_v74, val_main_v77, val_main_v76, val_main_v79, val_main_v78]

/-- Expert 4 at an entry. -/
theorem expert4_apply (p : Fin 2) (s : Fin 8192) (n : Fin 1024) :
    val_main_v99 (F := Ideal) x0 x1 x3 x4 x5 (ix3 p s n)
      = expert (nrow (fun j => x0 (ix3 p s j)) (fun j => x1 (ix1 j))) (fun k f => x3 (ix3 4 k f)) (fun k f => x4 (ix3 4 k f))
          (fun k f => x5 (ix3 4 k f)) n := by
  have e : val_main_v99 (F := Ideal) x0 x1 x3 x4 x5
      = expertTerm (val_main_v12 (F := Ideal) x0 x1) (val_main_v90 (F := Ideal) x3) (val_main_v92 (F := Ideal) x4)
          (val_main_v94 (F := Ideal) x5) := rfl
  rw [e, expertTerm_apply]
  simp only [h_apply]
  pointwise [val_main_v90, val_main_v89, val_main_v92, val_main_v91, val_main_v94, val_main_v93]

/-- Expert 5 at an entry. -/
theorem expert5_apply (p : Fin 2) (s : Fin 8192) (n : Fin 1024) :
    val_main_v114 (F := Ideal) x0 x1 x3 x4 x5 (ix3 p s n)
      = expert (nrow (fun j => x0 (ix3 p s j)) (fun j => x1 (ix1 j))) (fun k f => x3 (ix3 5 k f)) (fun k f => x4 (ix3 5 k f))
          (fun k f => x5 (ix3 5 k f)) n := by
  have e : val_main_v114 (F := Ideal) x0 x1 x3 x4 x5
      = expertTerm (val_main_v12 (F := Ideal) x0 x1) (val_main_v105 (F := Ideal) x3) (val_main_v107 (F := Ideal) x4)
          (val_main_v109 (F := Ideal) x5) := rfl
  rw [e, expertTerm_apply]
  simp only [h_apply]
  pointwise [val_main_v105, val_main_v104, val_main_v107, val_main_v106, val_main_v109, val_main_v108]

/-- Expert 6 at an entry. -/
theorem expert6_apply (p : Fin 2) (s : Fin 8192) (n : Fin 1024) :
    val_main_v129 (F := Ideal) x0 x1 x3 x4 x5 (ix3 p s n)
      = expert (nrow (fun j => x0 (ix3 p s j)) (fun j => x1 (ix1 j))) (fun k f => x3 (ix3 6 k f)) (fun k f => x4 (ix3 6 k f))
          (fun k f => x5 (ix3 6 k f)) n := by
  have e : val_main_v129 (F := Ideal) x0 x1 x3 x4 x5
      = expertTerm (val_main_v12 (F := Ideal) x0 x1) (val_main_v120 (F := Ideal) x3) (val_main_v122 (F := Ideal) x4)
          (val_main_v124 (F := Ideal) x5) := rfl
  rw [e, expertTerm_apply]
  simp only [h_apply]
  pointwise [val_main_v120, val_main_v119, val_main_v122, val_main_v121, val_main_v124, val_main_v123]

/-- Expert 7 at an entry. -/
theorem expert7_apply (p : Fin 2) (s : Fin 8192) (n : Fin 1024) :
    val_main_v144 (F := Ideal) x0 x1 x3 x4 x5 (ix3 p s n)
      = expert (nrow (fun j => x0 (ix3 p s j)) (fun j => x1 (ix1 j))) (fun k f => x3 (ix3 7 k f)) (fun k f => x4 (ix3 7 k f))
          (fun k f => x5 (ix3 7 k f)) n := by
  have e : val_main_v144 (F := Ideal) x0 x1 x3 x4 x5
      = expertTerm (val_main_v12 (F := Ideal) x0 x1) (val_main_v135 (F := Ideal) x3) (val_main_v137 (F := Ideal) x4)
          (val_main_v139 (F := Ideal) x5) := rfl
  rw [e, expertTerm_apply]
  simp only [h_apply]
  pointwise [val_main_v135, val_main_v134, val_main_v137, val_main_v136, val_main_v139, val_main_v138]

/-- The sum of the experts' outputs at an entry, in the reference's order. -/
theorem experts_apply (p : Fin 2) (s : Fin 8192) (n : Fin 1024) :
    val_main_v147 (F := Ideal) x0 x1 x2 x3 x4 x5 (ix3 p s n)
      = ∑ e : Fin 8, val_main_v26 (F := Ideal) x0 x1 x2 (ix3 p s e)
          * expert (nrow (fun j => x0 (ix3 p s j)) (fun j => x1 (ix1 j))) (fun k f => x3 (ix3 e k f)) (fun k f => x4 (ix3 e k f))
              (fun k f => x5 (ix3 e k f)) n := by
  rw [Fin.sum_univ_eight, ← expert0_apply, ← expert1_apply, ← expert2_apply, ← expert3_apply, ← expert4_apply, ← expert5_apply,
    ← expert6_apply, ← expert7_apply]
  pointwise [val_main_v42, val_main_v41, val_main_v40, val_main_v28, val_main_v57, val_main_v56, val_main_v55, val_main_v43, val_main_v72, val_main_v71, val_main_v70, val_main_v58, val_main_v87, val_main_v86, val_main_v85, val_main_v73, val_main_v102, val_main_v101, val_main_v100, val_main_v88, val_main_v117, val_main_v116, val_main_v115, val_main_v103, val_main_v132, val_main_v131, val_main_v130, val_main_v118, val_main_v147, val_main_v146, val_main_v145, val_main_v133, val_main_v27, val_main_cst_5]

/-- The result at row `p`, `s` of the batch: the entry of `x` plus the weighted experts. -/
theorem result_apply (p : Fin 2) (s : Fin 8192) (r : Fin 16384) (hr : r.val = 8192 * p.val + s.val) (n : Fin 1024) :
    val_main_v149 (F := Ideal) x0 x1 x2 x3 x4 x5 (ix2 r n)
      = x0 (ix3 p s n) + ∑ e : Fin 8, val_main_v26 (F := Ideal) x0 x1 x2 (ix3 p s e)
          * expert (nrow (fun j => x0 (ix3 p s j)) (fun j => x1 (ix1 j))) (fun k f => x3 (ix3 e k f)) (fun k f => x4 (ix3 e k f))
              (fun k f => x5 (ix3 e k f)) n := by
  rw [← experts_apply, val_main_v149_apply]
  have hi : idx_main_v149 (ix2 r n) = ix3 p s n := by
    have := p.isLt; have := s.isLt; have := n.isLt
    refine funext fun a => Fin.ext ?_
    match a with
    | ⟨0, _⟩ => simp [idx_main_v149]; omega
    | ⟨1, _⟩ => simp [idx_main_v149]; omega
    | ⟨2, _⟩ => simp [idx_main_v149]
  rw [hi]
  rfl

end Cert.Routed.Ref

end
-- ==== Proof.Pay.lean ====
/-
  The kernel body's payloads read at an entry: the normed rows, the three-product logits, the routing weights of a row as
  a function of its logits, one expert's column of weights, and one hidden block of an expert.
-/
module

public import proofs.«01_k».proof.Proof.Steps
public import proofs.«01_k».proof.Proof.Ref

@[expose] public section

set_option maxRecDepth 16384

noncomputable section

namespace Cert.Routed

open Cert.KernelIdeal Cert.KernelIdeal.Gen Idealize.ShloMosaic Idealize.ShloMosaic.TcCoe Idealize.SL.Sem
open Cert.Routed.Ref (nrow hid)

/-- The logits with the padding lanes at minus infinity. -/
def masked (L : Fin 128 → EReal) : Fin 128 → EReal := fun x =>
  Scalar.select (IntOp.cmpi .slt (BitVec.ofNat 32 x.val) 8#32) (L x) (Ideal.ofBits .f32 0xFF800000#32)

/-- The greatest of a row. -/
def top (f : Fin 128 → EReal) : EReal := Finset.fold max (Ideal.ofBits .f32 0xFF800000#32) f Finset.univ

/-- The first lane that holds the greatest of a row, as a word. -/
def first (f : Fin 128 → EReal) : BitVec 32 :=
  Finset.fold IntOp.minsi 2147483647#32 (fun x => if f x = top f then BitVec.ofNat 32 x.val else 128#32) Finset.univ

/-- A row with one lane taken out. -/
def without (f : Fin 128 → EReal) (p : BitVec 32) : Fin 128 → EReal := fun x =>
  Scalar.select (IntOp.cmpi .eq (BitVec.ofNat 32 x.val) p) (Ideal.ofBits .f32 0xFF800000#32) (f x)

/-- The routing weights of a row, from its logits. -/
def route (L : Fin 128 → EReal) (x : Fin 128) : EReal :=
  Scalar.select (IntOp.cmpi .eq (BitVec.ofNat 32 x.val) (first (masked L)))
    (Ideal.div 1 (1 + Ideal.exp (top (without (masked L) (first (masked L))) - top (masked L)))) 0
  + Scalar.select (IntOp.cmpi .eq (BitVec.ofNat 32 x.val) (first (without (masked L) (first (masked L)))))
    (Ideal.div (Ideal.exp (top (without (masked L) (first (masked L))) - top (masked L)))
      (1 + Ideal.exp (top (without (masked L) (first (masked L))) - top (masked L)))) 0

/-- The normed rows at an entry. -/
theorem pay3_apply (x : Vec Ideal S1024x1024 .f32) (g : Vec Ideal S1x1024 .f32) (r k : Fin 1024) :
    k0_pay3 (F := Ideal) x g (ix2 r k) = nrow (fun j => x (ix2 r j)) (fun j => g (ix2 0 j)) k := by
  unfold nrow
  pointwise [k0_pay3]

/-- The stored rows at an entry: rounding is the identity on extended reals. -/
theorem pay4_apply (x : Vec Ideal S1024x1024 .f32) (g : Vec Ideal S1x1024 .f32) (r k : Fin 1024) :
    k0_pay4 (F := Ideal) x g (ix2 r k) = nrow (fun j => x (ix2 r j)) (fun j => g (ix2 0 j)) k := by
  rw [← pay3_apply]
  pointwise [k0_pay4]

/-- The sum starts at zero. -/
theorem pay5_apply (r k : Fin 1024) : k0_pay5 (F := Ideal) (ix2 r k) = 0 := by
  pointwise [k0_pay5]

/-- The logits as three products: the rows and the router, each split into itself and the rest. -/
def logits3 (h w : Fin 1024 → EReal) : EReal :=
  ∑ j, h j * w j + ∑ j, (h j - h j) * w j + ∑ j, h j * (w j - w j)

/-- The logits at an entry. -/
theorem pay6_apply (x : Vec Ideal S1024x1024 .f32) (g : Vec Ideal S1x1024 .f32) (w : Vec Ideal S1024x128 .f32) (r : Fin 1024)
    (k : Fin 128) :
    k0_pay6 (F := Ideal) x g w (ix2 r k)
      = logits3 (nrow (fun j => x (ix2 r j)) (fun j => g (ix2 0 j))) (fun j => w (ix2 j k)) := by
  have e : k0_pay6 (F := Ideal) x g w (ix2 r k)
      = logits3 (fun j => k0_pay3 (F := Ideal) x g (ix2 r j)) (fun j => w (ix2 j k)) := by
    unfold logits3
    pointwise [k0_pay6]
  rw [e]
  simp only [pay3_apply]

/-- The routing weights at an entry. -/
theorem pay7_apply (w : FVec Ideal S1024x128 .f32) (r : Fin 1024) (k : Fin 128) :
    k0_pay7 (F := Ideal) w (iota .tc S1024x128 32 [1] iota_S1024x128_d1_w32) 8#32 (ix2 r k) = route (fun l => w (ix2 r l)) k := by
  pointwise [k0_pay7]
  rfl

/-- The stored routing weights at an entry. -/
theorem weights_apply (x : Vec Ideal S1024x1024 .f32) (g : Vec Ideal S1x1024 .f32) (w : Vec Ideal S1024x128 .f32) (r : Fin 1024)
    (k : Fin 128) :
    weights (F := Ideal) x g w (ix2 r k)
      = route (fun l => logits3 (nrow (fun j => x (ix2 r j)) (fun j => g (ix2 0 j))) (fun j => w (ix2 j l))) k := by
  simp only [← pay6_apply]
  rw [← pay7_apply]
  pointwise [weights, k0_pay8]

/-- One expert's weight of a row: the sum over the lanes that equal the expert's number. -/
theorem pay9_apply (i : grid0.Coords) (w : Vec Ideal S1024x128 .f32) (r : Fin 1024) :
    k0_pay9 (F := Ideal) i w (ix2 r 0)
      = ∑ x : Fin 128, Scalar.select (IntOp.cmpi .eq (BitVec.ofNat 32 x.val) (BitVec.ofNat 32 (i 1).val)) (w (ix2 r x)) 0 := by
  pointwise [k0_pay9]

/-- The running sum after one more block. -/
theorem pay1_apply (c : FVec Ideal S1024x1 .f32) (p : Vec Ideal S1024x1024 .f32) (q : FVec Ideal S1024x1024 .f32) (r k : Fin 1024) :
    k0_pay1 (F := Ideal) c p q (ix2 r k) = p (ix2 r k) + c (ix2 r 0) * q (ix2 r k) := by
  pointwise [k0_pay1]

/-- The rows plus the finished sum. -/
theorem pay2_apply (x p : Vec Ideal S1024x1024 .f32) (r k : Fin 1024) :
    k0_pay2 (F := Ideal) x p (ix2 r k) = x (ix2 r k) + p (ix2 r k) := by
  pointwise [k0_pay2]

/-- One hidden block of an expert at an entry. -/
theorem pay10_apply (h : Vec Ideal S1024x1024 .bf16) (a b : Vec Ideal S1x1024x512 .bf16) (d : Vec Ideal S1x512x1024 .bf16)
    (r n : Fin 1024) :
    k0_pay10 (F := Ideal) h a b d (ix2 r n)
      = ∑ f : Fin 512, hid (fun k => h (ix2 r k)) (fun k => a (ix3 0 k f)) (fun k => b (ix3 0 k f)) * d (ix3 0 f n) := by
  unfold hid
  pointwise [k0_pay10]

end Cert.Routed

end
-- ==== Proof.Finite.lean ====
/-
  Real numbers among the extended reals: a row after the norm is real whatever the row is, if the gains are; with it the
  three-product logits are the plain ones.
-/
module

public import proofs.«01_k».proof.Proof.Pay
public import Idealize.ShloMosaic.Lib.IdealHost

@[expose] public section

noncomputable section

namespace Cert.Routed

open Idealize.ShloMosaic
open Cert.Routed.Ref (nrow hid)

/-- An extended real that is a real number. -/
def Real' (x : EReal) : Prop := ∃ r : ℝ, x = (r : EReal)

/-- A product of real numbers is real. -/
theorem Real'.mul {x y : EReal} (hx : Real' x) (hy : Real' y) : Real' (x * y) := by
  obtain ⟨a, rfl⟩ := hx; obtain ⟨b, rfl⟩ := hy
  exact ⟨a * b, (EReal.coe_mul a b).symm⟩

/-- A sum of two real numbers is real. -/
theorem Real'.add {x y : EReal} (hx : Real' x) (hy : Real' y) : Real' (x + y) := by
  obtain ⟨a, rfl⟩ := hx; obtain ⟨b, rfl⟩ := hy
  exact ⟨a + b, (EReal.coe_add a b).symm⟩

/-- A sum of real numbers is real. -/
theorem Real'.sum {ι : Type} (s : Finset ι) (f : ι → EReal) (hf : ∀ i, Real' (f i)) : Real' (∑ i ∈ s, f i) := by
  classical
  induction s using Finset.induction_on with
  | empty => exact ⟨0, by simp⟩
  | insert a s ha ih => rw [Finset.sum_insert ha]; exact (hf a).add ih

/-- A real number less itself is zero. -/
theorem Real'.sub_self {x : EReal} (hx : Real' x) : x - x = 0 := by
  obtain ⟨a, rfl⟩ := hx
  rw [← EReal.coe_sub, _root_.sub_self]; rfl

/-- A real number is above minus infinity. -/
theorem Real'.bot_lt {x : EReal} (hx : Real' x) : ⊥ < x := by
  obtain ⟨a, rfl⟩ := hx; exact EReal.bot_lt_coe a

/-- The word `1024.0`. -/
theorem ofBits_1024 : Ideal.ofBits .f32 0x44800000#32 = ((1024 : ℝ) : EReal) := by
  simp [Ideal.ofBits, Ideal.ieee, -EReal.coe_mul]; norm_num

/-- The word the norm adds under the root is a positive real. -/
theorem ofBits_eps : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

/-- The word the masks use is minus infinity. -/
theorem ofBits_neg_inf : Ideal.ofBits .f32 0xFF800000#32 = ⊥ := by
  simp [Ideal.ofBits, Ideal.ieee]

/-- A row's entry times the reciprocal root of its mean square is real, for every row of extended reals. -/
theorem scaled_real (x : Fin 1024 → EReal) (k : Fin 1024) :
    Real' (x k * Ideal.rsqrt (Ideal.div (∑ j, x j * x j) (Ideal.ofBits .f32 0x44800000#32) + Ideal.ofBits .f32 0x358637BD#32)) := by
  obtain ⟨e, he, hE⟩ := ofBits_eps
  rw [ofBits_1024, hE]
  have h1024 : ((1024 : ℝ) : EReal) ≠ 0 := by norm_cast
  have hdiv : ∀ y : EReal, Ideal.div y ((1024 : ℝ) : EReal) = y * (((1024 : ℝ)⁻¹ : ℝ) : EReal) := fun y => by
    unfold Ideal.div; rw [if_neg h1024, ← EReal.coe_inv]
  rw [hdiv]
  by_cases hx : ∀ j, Real' (x j)
  · obtain ⟨s, hs⟩ := Real'.sum Finset.univ (fun j => x j * x j) fun j => (hx j).mul (hx j)
    have hs0 : 0 ≤ s := by
      have : (0 : EReal) ≤ ∑ j, x j * x j := Finset.sum_nonneg fun j _ => by
        obtain ⟨a, ha⟩ := hx j
        rw [ha, ← EReal.coe_mul]
        exact EReal.coe_nonneg.mpr (mul_self_nonneg a)
      rw [hs] at this
      exact EReal.coe_nonneg.mp this
    rw [hs, ← EReal.coe_mul, ← EReal.coe_add, Ideal.rsqrt_coe]
    have hp : 0 < s * (1024 : ℝ)⁻¹ + e := by positivity
    rw [if_neg (not_lt.mpr hp.le), if_neg hp.ne']
    exact (hx k).mul ⟨_, rfl⟩
  · have htop : ∑ j, x j * x j = ⊤ := by
      push Not at hx
      obtain ⟨j, hj⟩ := hx
      have hjt : x j * x j = ⊤ := by
        induction h : x j with
        | bot => exact EReal.bot_mul_bot
        | top => exact EReal.top_mul_top
        | coe r => exact absurd ⟨r, h⟩ hj
      refine top_le_iff.mp ?_
      rw [← hjt]
      refine Finset.single_le_sum (f := fun j => x j * x j) (fun i _ => ?_) (Finset.mem_univ j)
      show 0 ≤ x i * x i
      induction x i with
      | bot => simp
      | top => simp
      | coe r => rw [← EReal.coe_mul]; exact EReal.coe_nonneg.mpr (mul_self_nonneg r)
    rw [htop, EReal.top_mul_coe_of_pos (by norm_num), EReal.top_add_coe, Ideal.rsqrt_top, mul_zero]
    exact ⟨0, rfl⟩

/-- A normed row is real where the gains are. -/
theorem nrow_real (x g : Fin 1024 → EReal) (hg : ∀ k, Real' (g k)) (k : Fin 1024) : Real' (nrow x g k) :=
  (scaled_real x k).mul (hg k)

/-- On real rows and a real router the three products are the plain product. -/
theorem logits3_eq (h w : Fin 1024 → EReal) (hh : ∀ j, Real' (h j)) (hw : ∀ j, Real' (w j)) :
    logits3 h w = ∑ j, h j * w j := by
  unfold logits3
  simp only [(hh _).sub_self, (hw _).sub_self, zero_mul, mul_zero, Finset.sum_const_zero, add_zero]

end Cert.Routed

end
-- ==== Proof.Routing.lean ====
/-
  Routing to the two best experts. `Best f p q`: in the row `f` of eight logits, `p` is the greatest, first among equals,
  and `q` the greatest of the rest, first among equals. The kernel finds the two by masked maxima over 128 lanes; the
  reference by a stable top-2.
-/
module

public import proofs.«01_k».proof.Proof.Finite
public import Idealize.ShloMosaic.Lib.SortPrefix
public import Idealize.ShloMosaic.Lib.WordArith

@[expose] public section

noncomputable section

namespace Cert.Routed

open Idealize.ShloMosaic

/-- `p` and `q` are the two best of the row `f`, earlier ones first among equals. -/
structure Best (f : Fin 8 → EReal) (p q : Fin 8) : Prop where
  ne : p ≠ q
  fst : ∀ i, i ≠ p → f i < f p ∨ (f i = f p ∧ p < i)
  snd : ∀ i, i ≠ p → i ≠ q → f i < f q ∨ (f i = f q ∧ q < i)

/-- Every nonempty set of lanes has a best lane. -/
theorem exists_best (f : Fin 8 → EReal) (s : Finset (Fin 8)) (hs : s.Nonempty) :
    ∃ p ∈ s, ∀ i ∈ s, i ≠ p → f i < f p ∨ (f i = f p ∧ p < i) := by
  obtain ⟨m, hm, hmax⟩ := s.exists_max_image f hs
  have hne : (s.filter fun i => f i = f m).Nonempty := ⟨m, by simp [hm]⟩
  obtain ⟨p, hp, hmin⟩ := (s.filter fun i => f i = f m).exists_min_image id hne
  rw [Finset.mem_filter] at hp
  refine ⟨p, hp.1, fun i hi hne => ?_⟩
  rcases lt_or_eq_of_le (hmax i hi) with h | h
  · exact Or.inl (hp.2 ▸ h)
  · refine Or.inr ⟨h.trans hp.2.symm, lt_of_le_of_ne (hmin i ?_) (Ne.symm hne)⟩
    rw [Finset.mem_filter]; exact ⟨hi, h⟩

/-- Every row has its two best lanes. -/
theorem exists_Best (f : Fin 8 → EReal) : ∃ p q, Best f p q := by
  obtain ⟨p, -, hp⟩ := exists_best f Finset.univ Finset.univ_nonempty
  have hs : (Finset.univ.erase p).Nonempty := by
    by_cases h : p = 0
    · exact ⟨1, by simp [h]⟩
    · exact ⟨0, by simp [Ne.symm h]⟩
  obtain ⟨q, hq, hq'⟩ := exists_best f (Finset.univ.erase p) hs
  exact ⟨p, q, (Finset.ne_of_mem_erase hq).symm, fun i => hp i (Finset.mem_univ i),
    fun i h h' => hq' i (Finset.mem_erase.mpr ⟨h, Finset.mem_univ i⟩) h'⟩

/-- The second best is not above the best. -/
theorem Best.le {f : Fin 8 → EReal} {p q : Fin 8} (h : Best f p q) : f q ≤ f p := by
  rcases h.fst q h.ne.symm with e | e
  · exact e.le
  · exact e.1.le

/-! ## The stable top-2 -/

/-- A stable sort asks its comparator only of a later element before an earlier one. -/
theorem stableSort_eq_of_pairwise {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The stable sort of a row by "greater" has the two best lanes in front. -/
theorem sortedFrom_best (f : Fin 8 → EReal) (p q : Fin 8) (h : Best f p q) (k : Fin 2) :
    sortedFrom (fun a b : Fin 8 => decide (f b < f a)) (k.castLE (by decide)) = (![p, q] : Fin 2 → Fin 8) k := by
  classical
  have hs : ∀ j : Fin 8, sortedFrom (fun a b : Fin 8 => decide (f b < f a)) j
      = sortedFrom (fun a b : Fin 8 => decide (f b < f a) || (decide (f a = f b) && decide (a < b))) j := by
    intro j
    unfold sortedFrom
    refine List.get_of_eq (stableSort_eq_of_pairwise _ _ _ ?_) _
    refine (List.pairwise_lt_finRange 8).imp fun {a b} hab => ?_
    have : ¬ b < a := not_lt.mpr hab.le
    simp [this]
  rw [hs]
  have hB := StrictTotalBefore.of_key_then_position (fun a b : EReal => decide (b < a)) f (fun a => by simp)
    (fun a b c hab hbc => by simp only [decide_eq_true_eq] at *; exact hbc.trans hab)
    (fun a b => by
      rcases lt_trichotomy a b with h | h | h
      · exact Or.inr (Or.inr (by simpa using h))
      · exact Or.inr (Or.inl h)
      · exact Or.inl (by simpa using h))
  have key : ∀ a b : Fin 8, (f a < f b ∨ (f a = f b ∧ b < a)) →
      (decide (f b < f a) || (decide (f a = f b) && decide (a < b))) = false := by
    rintro a b (h | ⟨h, h'⟩)
    · simp [h.le, h.ne]
    · simp [h, h'.le]
  have e := hB.sortedFrom_eq_of_prefix (k := 2) (by decide) ![p, q]
    (by
      intro i j hij
      fin_cases i <;> fin_cases j <;> first | rfl | exact absurd hij h.ne | exact absurd hij.symm h.ne)
    (by
      intro i j hij
      fin_cases i <;> fin_cases j <;> first | exact absurd hij (by decide) | exact key q p (h.fst q h.ne.symm))
    (by
      intro i r hr
      have h0 : r ≠ p := fun e => hr 0 e.symm
      have h1 : r ≠ q := fun e => hr 1 e.symm
      fin_cases i
      · exact key r p (h.fst r h0)
      · exact key r q (h.snd r h0 h1))
    k
  exact e

/-! ## The masked maxima -/

/-- The greatest of a row is a value that is reached and that nothing exceeds. -/
theorem top_eq (f : Fin 128 → EReal) (P : Fin 128) (h : ∀ i, f i ≤ f P) : top f = f P := by
  unfold top
  refine le_antisymm ?_ ?_
  · rw [Finset.fold_max_le]
    exact ⟨by rw [ofBits_neg_inf]; exact bot_le, fun i _ => h i⟩
  · rw [Finset.le_fold_max]
    exact Or.inr ⟨P, Finset.mem_univ P, le_rfl⟩

/-- A fold of signed minima over words none of which is below `p` is not below `p`. -/
theorem le_fold_minsi (s : Finset (Fin 128)) (g : Fin 128 → BitVec 32) (p : Int) (hp : p ≤ 2147483647) (h : ∀ i ∈ s, p ≤ (g i).toInt) :
    p ≤ (Finset.fold IntOp.minsi 2147483647#32 g s).toInt := by
  classical
  induction s using Finset.induction_on with
  | empty => rw [Finset.fold_empty]; simpa using hp
  | insert a s ha ih =>
    rw [Finset.fold_insert ha]
    have h1 := h a (Finset.mem_insert_self a s)
    have h2 := ih fun i hi => h i (Finset.mem_insert_of_mem hi)
    unfold IntOp.minsi
    split <;> assumption

/-- A signed minimum with a word that is not below. -/
theorem minsi_eq_left (a b : BitVec 32) (h : a.toInt ≤ b.toInt) : IntOp.minsi a b = a := by
  unfold IntOp.minsi
  split
  · rfl
  · rename_i hn
    rw [BitVec.slt_iff_toInt_lt, not_lt] at hn
    exact BitVec.eq_of_toInt_eq (le_antisymm hn h)

/-- The first lane that holds the greatest of a row. -/
theorem first_eq (f : Fin 128 → EReal) (P : Fin 128) (h : ∀ i, f i ≤ f P) (hf : ∀ i, f i = f P → P ≤ i) :
    first f = BitVec.ofNat 32 P.val := by
  classical
  have ht := top_eq f P h
  have toInt_lane : ∀ n : Nat, n < 256 → (BitVec.ofNat 32 n).toInt = n := fun n hn => by
    rw [BitVec.toInt_ofNat']; simp only [Int.bmod]; omega
  unfold first
  rw [← Finset.insert_erase (Finset.mem_univ P), Finset.fold_insert (Finset.notMem_erase P _)]
  have hle : (P.val : Int) ≤ (Finset.fold IntOp.minsi 2147483647#32
      (fun x => if f x = top f then BitVec.ofNat 32 x.val else 128#32) (Finset.univ.erase P)).toInt := by
    refine le_fold_minsi _ _ _ (by have := P.isLt; omega) fun i _ => ?_
    split
    · rename_i hi
      rw [toInt_lane _ (by have := i.isLt; omega)]
      exact_mod_cast hf i (hi.trans ht)
    · have := P.isLt
      rw [show (128#32 : BitVec 32).toInt = 128 by decide]; omega
  rw [if_pos ht.symm]
  refine minsi_eq_left _ _ ?_
  rw [toInt_lane _ (by have := P.isLt; omega)]
  exact hle

/-- The routing weights from the two best logits: a softmax over the two, at their lanes. -/
def gates (f : Fin 8 → EReal) (p q e : Fin 8) : EReal :=
  (if e = p then Ideal.div 1 (1 + Ideal.exp (f q - f p)) else 0)
    + (if e = q then Ideal.div (Ideal.exp (f q - f p)) (1 + Ideal.exp (f q - f p)) else 0)

/-- A lane of eight among the 128. -/
abbrev lane (e : Fin 8) : Fin 128 := ⟨e.val, by have := e.isLt; omega⟩

/-- Two words of small lanes are equal only where the lanes are. -/
theorem word_eq_iff (a b : Nat) (ha : a < 128) (hb : b < 128) : BitVec.ofNat 32 a = BitVec.ofNat 32 b ↔ a = b := by
  constructor
  · intro h
    have := congrArg BitVec.toNat h
    simp only [BitVec.toNat_ofNat] at this
    omega
  · rintro rfl; rfl

/-- A choice by comparing two lanes is a choice by their equality. -/
theorem select_eq (a b : Nat) (ha : a < 128) (hb : b < 128) (x y : EReal) :
    Scalar.select (IntOp.cmpi .eq (BitVec.ofNat 32 a) (BitVec.ofNat 32 b)) x y = if a = b then x else y := by
  have : (IntOp.cmpi .eq (BitVec.ofNat 32 a) (BitVec.ofNat 32 b) : BitVec 1) = BitVec.ofBool (decide (a = b)) := by
    show BitVec.ofBool (BitVec.ofNat 32 a == BitVec.ofNat 32 b) = _
    by_cases h : a = b
    · subst h; simp
    · have hw : BitVec.ofNat 32 a ≠ BitVec.ofNat 32 b := fun e => h ((word_eq_iff a b ha hb).mp e)
      rw [beq_eq_false_iff_ne.mpr hw, decide_eq_false h]
  rw [this]
  unfold Scalar.select
  by_cases h : a = b <;> simp [h]

/-- The masked logits: the logits in the first eight lanes. -/
theorem masked_eq (L : Fin 128 → EReal) (x : Fin 128) : masked L x = if x.val < 8 then L x else ⊥ := by
  unfold masked
  rw [ofBits_neg_inf]
  have : (IntOp.cmpi .slt (BitVec.ofNat 32 x.val) 8#32 : BitVec 1) = BitVec.ofBool (decide (x.val < 8)) := by
    revert x; decide
  rw [this]
  unfold Scalar.select
  by_cases h : x.val < 8 <;> simp [h]

/-- The logits without one lane. -/
theorem without_eq (f : Fin 128 → EReal) (P x : Fin 128) :
    without f (BitVec.ofNat 32 P.val) x = if x = P then ⊥ else f x := by
  unfold without
  rw [select_eq _ _ x.isLt P.isLt, ofBits_neg_inf]
  simp only [Fin.ext_iff]

/-- The kernel's routing weights are the softmax over the two best logits, where the logits are real. -/
theorem route_eq (L : Fin 128 → EReal) (f : Fin 8 → EReal) (hL : ∀ e, L (lane e) = f e) (hf : ∀ e, Real' (f e)) (p q : Fin 8)
    (h : Best f p q) (e : Fin 8) : route L (lane e) = gates f p q e := by
  have hm : ∀ e, masked L (lane e) = f e := fun e => by rw [masked_eq, if_pos e.isLt, hL]
  have hlo : ∀ x : Fin 128, ¬ x.val < 8 → masked L x = ⊥ := fun x hx => by rw [masked_eq, if_neg hx]
  have hmle : ∀ i, masked L i ≤ masked L (lane p) := fun i => by
    by_cases hi : i.val < 8
    · have ei : i = lane ⟨i.val, hi⟩ := rfl
      rw [ei, hm, hm]
      by_cases hp : (⟨i.val, hi⟩ : Fin 8) = p
      · rw [hp]
      · rcases h.fst _ hp with e | e
        · exact e.le
        · exact e.1.le
    · rw [hlo i hi]; exact bot_le
  have hfst : first (masked L) = BitVec.ofNat 32 (lane p).val := by
    refine first_eq _ (lane p) hmle fun i hi => ?_
    by_cases hi8 : i.val < 8
    · have ei : i = lane ⟨i.val, hi8⟩ := rfl
      rw [ei, hm, hm] at hi
      by_cases hp : (⟨i.val, hi8⟩ : Fin 8) = p
      · rw [← hp]
      · rcases h.fst _ hp with e | e
        · exact absurd hi e.ne
        · exact le_of_lt e.2
    · rw [hlo i hi8, hm] at hi
      exact absurd hi (hf p).bot_lt.ne
  have hw : ∀ i, without (masked L) (BitVec.ofNat 32 (lane p).val) i = if i = lane p then ⊥ else masked L i :=
    without_eq _ _
  have hqp : lane q ≠ lane p := fun e => h.ne (Fin.ext (Fin.ext_iff.mp e).symm)
  have hwq : without (masked L) (BitVec.ofNat 32 (lane p).val) (lane q) = f q := by rw [hw, if_neg hqp, hm]
  have hwle : ∀ i, without (masked L) (BitVec.ofNat 32 (lane p).val) i
      ≤ without (masked L) (BitVec.ofNat 32 (lane p).val) (lane q) := fun i => by
    rw [hwq, hw]
    split
    · exact bot_le
    · rename_i hip
      by_cases hi : i.val < 8
      · have ei : i = lane ⟨i.val, hi⟩ := rfl
        have hp : (⟨i.val, hi⟩ : Fin 8) ≠ p := fun e => hip (by rw [ei, e])
        rw [ei, hm]
        by_cases hq : (⟨i.val, hi⟩ : Fin 8) = q
        · rw [hq]
        · rcases h.snd _ hp hq with e | e
          · exact e.le
          · exact e.1.le
      · rw [hlo i hi]; exact bot_le
  have hsnd : first (without (masked L) (BitVec.ofNat 32 (lane p).val)) = BitVec.ofNat 32 (lane q).val := by
    refine first_eq _ (lane q) hwle fun i hi => ?_
    rw [hwq, hw] at hi
    split at hi
    · exact absurd hi (hf q).bot_lt.ne
    · rename_i hip
      by_cases hi8 : i.val < 8
      · have ei : i = lane ⟨i.val, hi8⟩ := rfl
        have hp : (⟨i.val, hi8⟩ : Fin 8) ≠ p := fun e => hip (by rw [ei, e])
        rw [ei, hm] at hi
        by_cases hq : (⟨i.val, hi8⟩ : Fin 8) = q
        · rw [← hq]
        · rcases h.snd _ hp hq with e | e
          · exact absurd hi e.ne
          · exact le_of_lt e.2
      · rw [hlo i hi8] at hi
        exact absurd hi (hf q).bot_lt.ne
  have ht1 : top (masked L) = f p := by rw [top_eq _ _ hmle, hm]
  have ht2 : top (without (masked L) (BitVec.ofNat 32 (lane p).val)) = f q := by rw [top_eq _ _ hwle, hwq]
  unfold route gates
  rw [hfst, hsnd, ht1, ht2, select_eq _ _ (lane e).isLt (lane p).isLt, select_eq _ _ (lane e).isLt (lane q).isLt]
  simp only [Fin.ext_iff]

/-- A routing weight is a real number that is not negative. -/
theorem gates_real (f : Fin 8 → EReal) (hf : ∀ e, Real' (f e)) (p q e : Fin 8) :
    0 ≤ gates f p q e ∧ gates f p q e ≠ ⊤ := by
  obtain ⟨a, ha⟩ := hf p
  obtain ⟨b, hb⟩ := hf q
  have hexp : Ideal.exp (f q - f p) = ((Real.exp (b - a) : ℝ) : EReal) := by
    rw [ha, hb, ← EReal.coe_sub]; rfl
  have hpos := Real.exp_pos (b - a)
  have hsum : (1 : EReal) + ((Real.exp (b - a) : ℝ) : EReal) = ((1 + Real.exp (b - a) : ℝ) : EReal) := by
    rw [EReal.coe_add]; rfl
  have hne : ((1 + Real.exp (b - a) : ℝ) : EReal) ≠ 0 := by
    intro h
    have := EReal.coe_eq_zero.mp h
    linarith
  have hdiv : ∀ r : ℝ, Ideal.div (r : EReal) ((1 + Real.exp (b - a) : ℝ) : EReal) = ((r * (1 + Real.exp (b - a))⁻¹ : ℝ) : EReal) := by
    intro r
    unfold Ideal.div
    rw [if_neg hne, ← EReal.coe_inv, ← EReal.coe_mul]
  unfold gates
  rw [hexp, hsum, hdiv, show (1 : EReal) = ((1 : ℝ) : EReal) from rfl, hdiv]
  have e1 : (if e = p then ((1 * (1 + Real.exp (b - a))⁻¹ : ℝ) : EReal) else 0)
      = ((if e = p then 1 * (1 + Real.exp (b - a))⁻¹ else 0 : ℝ) : EReal) := by split <;> rfl
  have e2 : (if e = q then ((Real.exp (b - a) * (1 + Real.exp (b - a))⁻¹ : ℝ) : EReal) else 0)
      = ((if e = q then Real.exp (b - a) * (1 + Real.exp (b - a))⁻¹ else 0 : ℝ) : EReal) := by split <;> rfl
  rw [e1, e2, ← EReal.coe_add]
  refine ⟨EReal.coe_nonneg.mpr ?_, EReal.coe_ne_top _⟩
  have h1 : 0 ≤ (1 + Real.exp (b - a))⁻¹ := by positivity
  have h2 : 0 ≤ Real.exp (b - a) * (1 + Real.exp (b - a))⁻¹ := by positivity
  split <;> split <;> linarith

end Cert.Routed

end
-- ==== Proof.RefWeights.lean ====
/-
  The reference's routing weights, read at an entry: a softmax over the two best logits of the row, placed at their lanes.
-/
module

public import proofs.«01_k».proof.Proof.Routing

@[expose] public section

set_option maxRecDepth 16384

noncomputable section

namespace Cert.Routed.Ref

open Cert.ReferenceIdeal Cert.ReferenceIdeal.Gen Cert.ReferenceIdeal.Read
open Idealize.ShloMosaic Idealize.ShloMosaic.TcCoe Idealize.SL.Sem Idealize.ShloMosaic.StableHlo

variable (x0 : (⟨S2x8192x1024, .f32⟩ : BufTy).Contents (Elt Ideal)) (x1 : (⟨S1024, .f32⟩ : BufTy).Contents (Elt Ideal))
  (x2 : (⟨S1024x8, .f32⟩ : BufTy).Contents (Elt Ideal))

/-- The logits at an entry. -/
theorem logits_apply (p : Fin 2) (s : Fin 8192) (e : Fin 8) :
    val_main_v13 (F := Ideal) x0 x1 x2 (ix3 p s e)
      = ∑ k, nrow (fun j => x0 (ix3 p s j)) (fun j => x1 (ix1 j)) k * x2 (ix2 k e) := by
  simp only [← h_apply]
  pointwise [val_main_v13]

/-- The top-2's values and positions in a row: the two best lanes. -/
theorem topTwo_apply (p : Fin 2) (s : Fin 8192) (f : Fin 8 → EReal)
    (hf : ∀ e, val_main_v13 (F := Ideal) x0 x1 x2 (ix3 p s e) = f e) (a b : Fin 8) (h : Best f a b) (k : Fin 2) :
    val_main_values (F := Ideal) x0 x1 x2 (ix3 p s k) = f ((![a, b] : Fin 2 → Fin 8) k) ∧
      val_main_indices (F := Ideal) x0 x1 x2 (ix3 p s k) = BitVec.ofNat 32 ((![a, b] : Fin 2 → Fin 8) k).val := by
  have along : ∀ (j : S2x8192x8.Idx) (h0 : j 0 = p) (h1 : j 1 = s) (c : Fin 8), j.along (2 : Fin 3) c = ix3 p s c := by
    intro j h0 h1 c
    funext x
    match x with
    | ⟨0, _⟩ => exact h0
    | ⟨1, _⟩ => exact h1
    | ⟨2, _⟩ => rfl
  have key : ∀ (j : S2x8192x8.Idx) (h0 : j 0 = p) (h1 : j 1 = s) (h2 : j 2 = k.castLE (by decide)),
      j.along (2 : Fin 3) (sortedFrom (fun c c' : Fin 8 =>
        FloatOps.cmpfTotal (F := Ideal) (φ := .f32) .gt (val_main_v13 (F := Ideal) x0 x1 x2 (j.along (2 : Fin 3) c))
          (val_main_v13 (F := Ideal) x0 x1 x2 (j.along (2 : Fin 3) c')) == 1#1) (j 2))
        = ix3 p s ((![a, b] : Fin 2 → Fin 8) k) := by
    intro j h0 h1 h2
    have hB : (fun c c' : Fin 8 =>
        FloatOps.cmpfTotal (F := Ideal) (φ := .f32) .gt (val_main_v13 (F := Ideal) x0 x1 x2 (j.along (2 : Fin 3) c))
          (val_main_v13 (F := Ideal) x0 x1 x2 (j.along (2 : Fin 3) c')) == 1#1) = fun c c' => decide (f c' < f c) := by
      funext c c'
      have hc := (congrArg (val_main_v13 (F := Ideal) x0 x1 x2) (along j h0 h1 c)).trans (hf c)
      have hc' := (congrArg (val_main_v13 (F := Ideal) x0 x1 x2) (along j h0 h1 c')).trans (hf c')
      refine (congrArg₂ (fun u v : EReal => BitVec.ofBool (decide (v < u)) == 1#1) hc hc').trans ?_
      by_cases hlt : f c' < f c <;> simp [hlt]
    refine (along j h0 h1 _).trans (congrArg (ix3 p s) ?_)
    rw [hB]
    refine (congrArg (sortedFrom fun c c' : Fin 8 => decide (f c' < f c)) h2).trans ?_
    exact sortedFrom_best f a b h k
  have e := key (fun x => ⟨0 + (ix3 p s k : S2x8192x2.Idx) x, by
    match x with
    | ⟨0, _⟩ => exact (Nat.zero_add _).trans_lt p.isLt
    | ⟨1, _⟩ => exact (Nat.zero_add _).trans_lt s.isLt
    | ⟨2, _⟩ => exact (Nat.zero_add _).trans_lt (k.isLt.trans (show 2 < 8 by decide))⟩)
    (Fin.ext (Nat.zero_add _)) (Fin.ext (Nat.zero_add _)) (Fin.ext (Nat.zero_add _))
  constructor
  · rw [← hf, ← e]; rfl
  · show _ = iotaInDim S2x8192x8 32 (2 : Fin 3) (ix3 p s ((![a, b] : Fin 2 → Fin 8) k))
    rw [← e]; rfl

/-- One entry of a one-hot row. -/
theorem onehot (a e : Fin 8) :
    FloatOps.uitofp (F := Ideal) .f32 (IntOp.cmpi CmpIPredicate.eq (BitVec.ofNat 32 a.val) (BitVec.ofNat 32 e.val))
      = if e = a then 1 else 0 := by
  have : (IntOp.cmpi CmpIPredicate.eq (BitVec.ofNat 32 a.val) (BitVec.ofNat 32 e.val) : BitVec 1) = BitVec.ofBool (decide (e = a)) := by
    revert a e; decide
  rw [this]
  show (((BitVec.ofBool (decide (e = a))).toNat : ℝ) : EReal) = _
  by_cases h : e = a <;> simp [h]

/-- The routing weights at an entry. -/
theorem weights_apply (p : Fin 2) (s : Fin 8192) (f : Fin 8 → EReal)
    (hf : ∀ e, val_main_v13 (F := Ideal) x0 x1 x2 (ix3 p s e) = f e) (hr : ∀ e, Real' (f e)) (a b : Fin 8) (h : Best f a b)
    (e : Fin 8) :
    val_main_v26 (F := Ideal) x0 x1 x2 (ix3 p s e) = gates f a b e := by
  have hv := fun k => (topTwo_apply x0 x1 x2 p s f hf a b h k).1
  have hi := fun k => (topTwo_apply x0 x1 x2 p s f hf a b h k).2
  have hmax : max (Ideal.ofBits .f32 0xFF800000#32) (Finset.fold max (Ideal.ofBits .f32 0xFF800000#32)
      (fun k => val_main_values (F := Ideal) x0 x1 x2 (ix3 p s k)) Finset.univ) = f a := by
    rw [ofBits_neg_inf, max_eq_right bot_le]
    refine le_antisymm ?_ ?_
    · rw [Finset.fold_max_le]
      refine ⟨bot_le, fun k _ => ?_⟩
      rw [hv]
      fin_cases k
      · exact le_rfl
      · exact h.le
    · rw [Finset.le_fold_max]
      exact Or.inr ⟨0, Finset.mem_univ _, (hv 0).symm.le⟩
  have e0 : Ideal.exp (f a - f a) = 1 := by rw [(hr a).sub_self]; exact congrArg (fun r : ℝ => (r : EReal)) Real.exp_zero
  have hread : val_main_v26 (F := Ideal) x0 x1 x2 (ix3 p s e)
      = ∑ k, Ideal.div (Ideal.exp (val_main_values (F := Ideal) x0 x1 x2 (ix3 p s k)
            - max (Ideal.ofBits .f32 0xFF800000#32) (Finset.fold max (Ideal.ofBits .f32 0xFF800000#32)
              (fun k => val_main_values (F := Ideal) x0 x1 x2 (ix3 p s k)) Finset.univ)))
          (∑ k, Ideal.exp (val_main_values (F := Ideal) x0 x1 x2 (ix3 p s k)
            - max (Ideal.ofBits .f32 0xFF800000#32) (Finset.fold max (Ideal.ofBits .f32 0xFF800000#32)
              (fun k => val_main_values (F := Ideal) x0 x1 x2 (ix3 p s k)) Finset.univ)))
          * FloatOps.uitofp (F := Ideal) .f32 (IntOp.cmpi CmpIPredicate.eq (val_main_indices (F := Ideal) x0 x1 x2 (ix3 p s k)) (BitVec.ofNat 32 e.val)) := by
    pointwise [val_main_v26, val_main_v25, val_main_v24, val_main_v23, val_main_v22, val_main_v21, val_main_v20, val_main_v19,
      val_main_v18, val_main_v17, val_main_v16, val_main_v15, val_main_v14, val_main_cst_2, val_main_cst_3, val_main_cst_4,
      val_main_call0_v0, val_main_call0_v1, val_main_call0_v2, val_main_call0_v3, val_main_call0_v4]
  rw [hread, hmax]
  simp only [hv, hi, onehot, Fin.sum_univ_two]
  show Ideal.div (Ideal.exp (f a - f a)) (Ideal.exp (f a - f a) + Ideal.exp (f b - f a)) * (if e = a then 1 else 0)
    + Ideal.div (Ideal.exp (f b - f a)) (Ideal.exp (f a - f a) + Ideal.exp (f b - f a)) * (if e = b then 1 else 0) = _
  rw [e0]
  unfold gates
  simp only [mul_ite, mul_one, mul_zero]

end Cert.Routed.Ref

end
-- ==== Proof.Total.lean ====
/-
  The run of a row tile: after its sixteen points the block written out is the tile's rows plus, over the experts, the
  routing weight times the expert's output. The kernel adds half an expert at a point; the halves of an expert join
  because a routing weight is a real number that is not negative.
-/
module

public import proofs.«01_k».proof.Proof.Blocks
public import proofs.«01_k».proof.Proof.RefWeights

@[expose] public section

set_option maxRecDepth 16384

noncomputable section

namespace Cert.Routed

open Cert.KernelIdeal Cert.KernelIdeal.Gen Idealize.ShloMosaic Idealize.ShloMosaic.TcCoe Idealize.SL.Sem
open Cert.Routed.Ref (nrow hid expert)

variable (m : (ℓ : Loc nD τ sig) → Buf (Elt Ideal) ℓ) (c : Dev nD)

/-- The normed row `p`, `s` of the batch. -/
def hrow (p : Fin 2) (s : Fin 8192) : Fin 1024 → EReal := nrow (fun j => arg0 m c (ix3 p s j)) (fun j => arg1 m c (ix1 j))

/-- The row's eight logits. -/
def lrow (p : Fin 2) (s : Fin 8192) (e : Fin 8) : EReal := ∑ k, hrow m c p s k * arg2 m c (ix2 k e)

/-- Hidden column `f` of expert `e` on a row, times its output weight. -/
def term (p : Fin 2) (s : Fin 8192) (n : Fin 1024) (e : Fin 8) (f : Fin 1024) : EReal :=
  hid (hrow m c p s) (fun k => arg3 m c (ix3 e k f)) (fun k => arg4 m c (ix3 e k f)) * arg5 m c (ix3 e f n)

/-- The half of an expert that point `j` of a tile adds. -/
def half (p : Fin 2) (s : Fin 8192) (n : Fin 1024) (j : Nat) (hj : j < 16) : EReal :=
  ∑ f : Fin 512, term m c p s n ⟨j / 2, by omega⟩ ⟨512 * (j % 2) + f.val, by have := f.isLt; omega⟩

/-- The sum over 128 lanes that keeps one of the eight lanes. -/
theorem pick (e : Fin 8) (w : Fin 128 → EReal) (g : Nat) (hg : g = e.val) :
    ∑ x : Fin 128, Scalar.select (IntOp.cmpi .eq (BitVec.ofNat 32 x.val) (BitVec.ofNat 32 g)) (w x) 0 = w (lane e) := by
  subst hg
  rw [Finset.sum_eq_single (lane e)]
  · rw [select_eq _ _ (lane e).isLt (lane e).isLt, if_pos rfl]
  · intro x _ hx
    rw [select_eq _ _ x.isLt (lane e).isLt, if_neg fun h => hx (Fin.ext h)]
  · exact fun h => absurd (Finset.mem_univ _) h

/-- One step of the sum at an entry, from the rows and weights it reads. -/
theorem step_apply (t : Fin cfg0.N) (h : Vec Ideal S1024x1024 .bf16) (w : Vec Ideal S1024x128 .f32) (acc : Vec Ideal S1024x1024 .f32)
    (p : Fin 2) (s : Fin 8192) (r n : Fin 1024) (W : Fin 8 → EReal) (hh : ∀ k, h (ix2 r k) = hrow m c p s k)
    (hw : ∀ e, w (ix2 r (lane e)) = W e) :
    k0_pay1 (F := Ideal) (k0_pay9 (grid0.coords t) w) acc (k0_pay10 h (iblk m c 3 t) (iblk m c 4 t) (iblk m c 5 t)) (ix2 r n)
      = acc (ix2 r n) + W ⟨t.val % 16 / 2, by omega⟩ * half m c p s n (t.val % 16) (Nat.mod_lt _ (by decide)) := by
  rw [pay1_apply, pay9_apply, pay10_apply, pick ⟨t.val % 16 / 2, by omega⟩ _ _ (coord1 t), hw]
  congr 2
  unfold half term
  refine Finset.sum_congr rfl fun f _ => ?_
  have hmod : t.val % 16 % 2 = t.val % 2 := by omega
  have hg : 512 * (t.val % 16 % 2) + f.val = 512 * (t.val % 2) + f.val := by rw [hmod]
  rw [iblk5_apply m c t f n ⟨t.val % 16 / 2, by omega⟩ ⟨512 * (t.val % 16 % 2) + f.val, by have := f.isLt; omega⟩ rfl hg]
  congr 1
  congr 1
  · funext k; exact hh k
  · funext k
    exact iblk3_apply m c t k f ⟨t.val % 16 / 2, by omega⟩ ⟨512 * (t.val % 16 % 2) + f.val, by have := f.isLt; omega⟩ rfl hg
  · funext k
    exact iblk4_apply m c t k f ⟨t.val % 16 / 2, by omega⟩ ⟨512 * (t.val % 16 % 2) + f.val, by have := f.isLt; omega⟩ rfl hg

/-- What the first `j + 1` points of a tile add up to. -/
def partSum (p : Fin 2) (s : Fin 8192) (n : Fin 1024) (a b : Fin 8) (j : Nat) (hj : j < 16) : EReal :=
  ∑ x : Fin (j + 1), gates (lrow m c p s) a b ⟨x.val / 2, by have := x.isLt; omega⟩ * half m c p s n x.val (by have := x.isLt; omega)

variable (hg : ∀ k, Real' (arg1 m c (ix1 k))) (hr : ∀ k e, Real' (arg2 m c (ix2 k e)))
include hg in
/-- A normed row is real. -/
theorem hrow_real (p : Fin 2) (s : Fin 8192) (k : Fin 1024) : Real' (hrow m c p s k) := nrow_real _ _ hg k

include hg hr in
/-- A row of logits is real. -/
theorem lrow_real (p : Fin 2) (s : Fin 8192) (e : Fin 8) : Real' (lrow m c p s e) :=
  Real'.sum _ _ fun k => (hrow_real m c hg p s k).mul (hr k e)

variable (i : Nat) (hi : i < 16) (p : Fin 2) (s : Fin 8192) (r n : Fin 1024) (hps : 8192 * p.val + s.val = 1024 * i + r.val)
  (a b : Fin 8) (hab : Best (lrow m c p s) a b)

include hps in
/-- The rows a point of the tile stores are the normed rows. -/
theorem rows_apply (t : Fin cfg0.N) (ht : t.val / 16 = i) (k : Fin 1024) :
    k0_pay4 (F := Ideal) (iblk m c 0 t) (iblk m c 1 t) (ix2 r k) = hrow m c p s k := by
  rw [pay4_apply]
  unfold hrow
  congr 1
  · funext j; exact iblk0_apply m c t r j p s (by rw [ht]; exact hps)
  · funext j; exact iblk1_apply m c t j

include hps hg hr hab in
/-- The weights a point of the tile stores are the softmax over the two best logits. -/
theorem gates_apply (t : Fin cfg0.N) (ht : t.val / 16 = i) (e : Fin 8) :
    weights (F := Ideal) (iblk m c 0 t) (iblk m c 1 t) (iblk m c 2 t) (ix2 r (lane e)) = gates (lrow m c p s) a b e := by
  rw [Cert.Routed.weights_apply]
  have hx : (fun j => iblk m c 0 t (ix2 r j)) = fun j => arg0 m c (ix3 p s j) :=
    funext fun j => iblk0_apply m c t r j p s (by rw [ht]; exact hps)
  have hgn : (fun j => iblk m c 1 t (ix2 0 j)) = fun j => arg1 m c (ix1 j) := funext fun j => iblk1_apply m c t j
  refine route_eq _ (lrow m c p s) (fun e => ?_) (lrow_real m c hg hr p s) a b hab e
  have hw : (fun j => iblk m c 2 t (ix2 j (lane e))) = fun j => arg2 m c (ix2 j e) :=
    funext fun j => iblk2_apply m c t j (lane e) e rfl
  show logits3 (nrow (fun j => iblk m c 0 t (ix2 r j)) (fun j => iblk m c 1 t (ix2 0 j))) (fun j => iblk m c 2 t (ix2 j (lane e))) = _
  rw [hx, hgn, hw]
  exact logits3_eq _ _ (fun j => hrow_real m c hg p s j) fun j => hr j e

include hi hps hg hr hab in
/-- After point `j` of the tile, before the last: the normed rows, the weights and the sum so far. -/
theorem run_apply : ∀ (j : Nat) (hj : j < 15) (h : 16 * i + j < cfg0.N),
    (∀ k, (outsAt0 m c (16 * i + j) h).2.1 (ix2 r k) = hrow m c p s k)
      ∧ (∀ e, (outsAt0 m c (16 * i + j) h).2.2.2 (ix2 r (lane e)) = gates (lrow m c p s) a b e)
      ∧ (outsAt0 m c (16 * i + j) h).2.2.1 (ix2 r n) = partSum m c p s n a b j (by omega) := by
  intro j
  induction j with
  | zero =>
    intro hj h
    have h0 : (⟨16 * i + 0, h⟩ : Fin cfg0.N).val % 16 = 0 := by show (16 * i + 0) % 16 = 0; omega
    have h1 : ¬(⟨16 * i + 0, h⟩ : Fin cfg0.N).val % 16 = 15 := by rw [h0]; decide
    have ht : (⟨16 * i + 0, h⟩ : Fin cfg0.N).val / 16 = i := by show (16 * i + 0) / 16 = i; omega
    have eh := first_h m c ⟨16 * i + 0, h⟩ h0 h1
    have ew := first_w m c ⟨16 * i + 0, h⟩ h0 h1
    have ea := first_acc m c ⟨16 * i + 0, h⟩ h0 h1
    refine ⟨fun k => ?_, fun e => ?_, ?_⟩
    · rw [show (outsAt0 m c (16 * i + 0) h).2.1 = _ from eh]
      exact rows_apply m c i p s r hps _ ht k
    · rw [show (outsAt0 m c (16 * i + 0) h).2.2.2 = _ from ew]
      exact gates_apply m c hg hr i p s r hps a b hab _ ht e
    · rw [show (outsAt0 m c (16 * i + 0) h).2.2.1 = _ from ea]
      rw [step_apply m c _ _ _ _ p s r n (gates (lrow m c p s) a b) (fun k => rows_apply m c i p s r hps _ ht k)
        (fun e => gates_apply m c hg hr i p s r hps a b hab _ ht e), pay5_apply, zero_add]
      unfold partSum
      rw [Fin.sum_univ_one]
      simp only [h0]
      rfl
  | succ j ih =>
    intro hj h
    have h0 : ¬(⟨16 * i + (j + 1), h⟩ : Fin cfg0.N).val % 16 = 0 := by show ¬(16 * i + (j + 1)) % 16 = 0; omega
    have h1 : ¬(⟨16 * i + (j + 1), h⟩ : Fin cfg0.N).val % 16 = 15 := by show ¬(16 * i + (j + 1)) % 16 = 15; omega
    have hm : (⟨16 * i + (j + 1), h⟩ : Fin cfg0.N).val % 16 = j + 1 := by show (16 * i + (j + 1)) % 16 = j + 1; omega
    obtain ⟨ihh, ihw, iha⟩ := ih (by omega) (by omega)
    have eh := mid_h m c ⟨16 * i + (j + 1), h⟩ h0 h1
    have ew := mid_w m c ⟨16 * i + (j + 1), h⟩ h0 h1
    have ea := mid_acc m c ⟨16 * i + (j + 1), h⟩ h0 h1
    refine ⟨fun k => ?_, fun e => ?_, ?_⟩
    · rw [show (outsAt0 m c (16 * i + (j + 1)) h).2.1 = _ from eh]
      exact ihh k
    · rw [show (outsAt0 m c (16 * i + (j + 1)) h).2.2.2 = _ from ew]
      exact ihw e
    · rw [show (outsAt0 m c (16 * i + (j + 1)) h).2.2.1 = _ from ea]
      refine (step_apply m c ⟨16 * i + (j + 1), h⟩ _ _ _ p s r n (gates (lrow m c p s) a b) (fun k => ihh k) (fun e => ihw e)).trans ?_
      refine (congrArg (· + _) iha).trans ?_
      unfold partSum
      rw [Fin.sum_univ_castSucc (n := j + 1)]
      simp only [hm]
      rfl

include hi hps hg hr hab in
/-- The block the tile's last point writes out. -/
theorem out_apply (h : 16 * i + 15 < cfg0.N) :
    (outsAt0 m c (16 * i + 15) h).1 (ix2 r n) = arg0 m c (ix3 p s n) + partSum m c p s n a b 15 (by decide) := by
  have h0 : ¬(⟨16 * i + 15, h⟩ : Fin cfg0.N).val % 16 = 0 := by show ¬(16 * i + 15) % 16 = 0; omega
  have h1 : (⟨16 * i + 15, h⟩ : Fin cfg0.N).val % 16 = 15 := by show (16 * i + 15) % 16 = 15; omega
  have ht : (⟨16 * i + 15, h⟩ : Fin cfg0.N).val / 16 = i := by show (16 * i + 15) / 16 = i; omega
  obtain ⟨ihh, ihw, iha⟩ := run_apply m c hg hr i hi p s r n hps a b hab 14 (by decide) (by omega)
  have eo := last_out m c ⟨16 * i + 15, h⟩ h0 h1
  rw [show (outsAt0 m c (16 * i + 15) h).1 = _ from eo, pay2_apply, iblk0_apply m c _ r n p s (by rw [ht]; exact hps)]
  congr 1
  refine (step_apply m c ⟨16 * i + 15, h⟩ _ _ _ p s r n (gates (lrow m c p s) a b) (fun k => ihh k) (fun e => ihw e)).trans ?_
  refine (congrArg (· + _) iha).trans ?_
  unfold partSum
  rw [Fin.sum_univ_castSucc (n := 15)]
  simp only [h1]
  rfl

include hg hr in
/-- The sixteen halves are the eight experts. -/
theorem partSum_eq : partSum m c p s n a b 15 (by decide)
    = ∑ e : Fin 8, gates (lrow m c p s) a b e
        * expert (hrow m c p s) (fun k f => arg3 m c (ix3 e k f)) (fun k f => arg4 m c (ix3 e k f)) (fun f n => arg5 m c (ix3 e f n)) n := by
  have hE : ∀ e : Fin 8, expert (hrow m c p s) (fun k f => arg3 m c (ix3 e k f)) (fun k f => arg4 m c (ix3 e k f))
      (fun f n => arg5 m c (ix3 e f n)) n
      = half m c p s n (e.val * 2 + 0) (by have := e.isLt; omega) + half m c p s n (e.val * 2 + 1) (by have := e.isLt; omega) := by
    intro e
    have h1 := Fin.sum_mul_add_fin 2 512 (fun f : Fin 1024 => term m c p s n e f) rfl
    rw [Fin.sum_univ_two] at h1
    refine h1.symm.trans ?_
    unfold half
    have e0 : ∀ (u : Nat) (hu : u < 2) (f : Fin 512) (h1 h2 h3),
        term m c p s n e ⟨u * 512 + f.val, h1⟩ = term m c p s n ⟨(e.val * 2 + u) / 2, h2⟩ ⟨512 * ((e.val * 2 + u) % 2) + f.val, h3⟩ := by
      intro u hu f h1 h2 h3
      exact congrArg₂ (term m c p s n) (Fin.ext (by show e.val = (e.val * 2 + u) / 2; omega))
        (Fin.ext (by show u * 512 + f.val = 512 * ((e.val * 2 + u) % 2) + f.val; omega))
    exact congrArg₂ (· + ·) (Finset.sum_congr rfl fun f _ => e0 0 (by decide) f _ _ _) (Finset.sum_congr rfl fun f _ => e0 1 (by decide) f _ _ _)
  unfold partSum
  have h2 := Fin.sum_mul_add_fin 8 2 (fun x : Fin 16 =>
    gates (lrow m c p s) a b ⟨x.val / 2, by have := x.isLt; omega⟩ * half m c p s n x.val x.isLt) rfl
  refine h2.symm.trans (Finset.sum_congr rfl fun e _ => ?_)
  have hc := gates_real (lrow m c p s) (lrow_real m c hg hr p s) a b e
  rw [Fin.sum_univ_two, hE, EReal.left_distrib_of_nonneg_of_ne_top hc.1 hc.2]
  have e1 : ∀ (u : Nat) (hu : u < 2) (h1), gates (lrow m c p s) a b ⟨(e.val * 2 + u) / 2, h1⟩ = gates (lrow m c p s) a b e :=
    fun u hu h1 => congrArg _ (Fin.ext (by show (e.val * 2 + u) / 2 = e.val; omega))
  exact congrArg₂ (· + ·) (congrArg (· * _) (e1 0 (by decide) _)) (congrArg (· * _) (e1 1 (by decide) _))

end Cert.Routed

end
-- ==== Proof.Final.lean ====
/-
  The kernel's result and the reference's are the same array when the norm's gain and the router hold real numbers.
-/
module

public import proofs.«01_k».proof.Defs
public import proofs.«01_k».proof.Proof.Total
public import proofs.«01_k».proof.Proof.Gen.KernelIdeal.Value
public import Idealize.ShloMosaic.Lib.ReduceAll

@[expose] public section

set_option maxRecDepth 16384

noncomputable section

namespace Cert.Routed

open Cert.KernelIdeal Cert.KernelIdeal.Gen Cert.KernelIdeal.Value Idealize.ShloMosaic Idealize.ShloMosaic.TcCoe Idealize.SL.Sem
open Cert.Routed.Ref (nrow hid expert)
open Cert.ReferenceIdeal.Read (val_main_v149)

/-- The shape relations the precondition's function takes. -/
theorem pre_facts : Cert.Pre_finite_router.Facts :=
  ⟨by decide, by decide, by decide, by decide, by decide⟩

/-- A number whose absolute value compares below the infinity of the format is a real number. -/
theorem real_of_abs_lt (x : EReal)
    (h : FloatOps.cmpf (F := Ideal) (φ := .f32) .olt (FloatOps.absf (F := Ideal) (φ := .f32) x) (FloatOps.ofBits .f32 0x7F800000#32)
      = 1#1) : Real' x := by
  have ht : Ideal.ofBits .f32 0x7F800000#32 = ⊤ := by simp [Ideal.ofBits, Ideal.ieee]
  have h' : Ideal.cmp .olt (max x (-x)) (Ideal.ofBits .f32 0x7F800000#32) = 1#1 := h
  rw [ht] at h'
  have hlt : max x (-x) < ⊤ := by
    by_contra hn
    simp [Ideal.cmp, hn] at h'
  induction x with
  | bot => simp at hlt
  | top => simp at hlt
  | coe r => exact ⟨r, rfl⟩

variable (m : (ℓ : Loc nD τ sig) → Buf (Elt Ideal) ℓ)

/-- The precondition says that the gain and the router hold real numbers. -/
theorem real_of_pre [Cert.Pre_finite_router.Facts] (hpre : Cert.Pre_KernelIdeal_finite_router m) (c : Dev nD) :
    (∀ k, Real' (arg1 m c (ix1 k))) ∧ ∀ k e, Real' (arg2 m c (ix2 k e)) := by
  have h := congrFun (hpre c) ix0
  unfold Cert.Pre_finite_router.fn at h
  obtain ⟨h1, h2⟩ := IntOp.andi_eq_one.1 h
  haveI : Subsingleton (Cert.Pre_finite_router.S_).Idx := ⟨fun a b => funext fun x => x.elim0⟩
  exact ⟨fun k => real_of_abs_lt _ (Host.reduce_andi_all _ _ _ _ _ h1 (ix1 k)),
    fun k e => real_of_abs_lt _ (Host.reduce_andi_all _ _ _ _ _ h2 (ix2 k e))⟩

variable (c : Dev nD)

/-- The array the kernel leaves is the reference's. -/
theorem result_eq (hg : ∀ k, Real' (arg1 m c (ix1 k))) (hr : ∀ k e, Real' (arg2 m c (ix2 k e))) :
    G6 m c = val_main_v149 (F := Ideal) (arg0 m c) (arg1 m c) (arg2 m c) (arg3 m c) (arg4 m c) (arg5 m c) := by
  funext i
  obtain ⟨row, n, rfl⟩ : ∃ (row : Fin 16384) (n : Fin 1024), i = ix2 row n :=
    ⟨i 0, i 1, funext fun x => by match x with | 0 => rfl | 1 => rfl⟩
  have hrow := row.isLt
  let p : Fin 2 := ⟨row.val / 8192, by omega⟩
  let s : Fin 8192 := ⟨row.val % 8192, by omega⟩
  let r : Fin 1024 := ⟨row.val % 1024, by omega⟩
  have hps : row.val = 8192 * p.val + s.val := by show row.val = 8192 * (row.val / 8192) + row.val % 8192; omega
  have hpt : pt6Of (ix2 row n) = 16 * (row.val / 1024) + 15 := by
    have hn := n.isLt
    show 16 * (1 * (row.val / 1024 - 0) + 1 * (n.val / 1024 - 0)) + 15 = _
    omega
  have hN : 16 * (row.val / 1024) + 15 < cfg0.N := by
    rw [show cfg0.N = 256 from N_0]; omega
  obtain ⟨a, b, hab⟩ := exists_Best (lrow m c p s)
  rw [Ref.result_apply _ _ _ _ _ _ p s row hps n]
  have hw : ∀ e, Cert.ReferenceIdeal.Read.val_main_v26 (F := Ideal) (arg0 m c) (arg1 m c) (arg2 m c) (ix3 p s e)
      = gates (lrow m c p s) a b e :=
    Ref.weights_apply (arg0 m c) (arg1 m c) (arg2 m c) p s (lrow m c p s) (fun e => Ref.logits_apply _ _ _ p s e)
      (fun e => lrow_real m c hg hr p s e) a b hab
  simp only [hw]
  unfold G6
  rw [dif_pos (by rw [hpt]; exact hN), ← outsAt0_sweep m c _ (by rw [hpt]; exact hN)]
  have hloc : loc6Of (ix2 row n) = ix2 r n := by
    have hn := n.isLt
    funext x
    match x with
    | 0 => rfl
    | 1 => exact Fin.ext (Nat.mod_eq_of_lt hn)
  rw [hloc]
  have hout := out_apply m c hg hr (row.val / 1024) (by omega) p s r n
    (by show 8192 * (row.val / 8192) + row.val % 8192 = 1024 * (row.val / 1024) + row.val % 1024; omega) a b hab hN
  have hsum := partSum_eq m c hg hr p s n a b
  rw [hsum] at hout
  have hat : ∀ k (hk : k < cfg0.N), k = 16 * (row.val / 1024) + 15 → (outsAt0 m c k hk).1 = (outsAt0 m c _ hN).1 := by
    intro k hk e; subst e; rfl
  exact (congrFun (hat _ _ hpt) (ix2 r n)).trans hout

end Cert.Routed

end
-- ==== Proof.FfnResult.lean ====
/-
  The call `ffn` leaves the reference's array: the kernel adds the hidden columns 256 at a time, eleven times to a row tile.
-/
module

public import proofs.«01_k».proof.Proof.Ref
public import proofs.«01_k».proof.Proof.Gen.FfnIdeal.Value
public import proofs.«01_k».proof.Proof.Gen.FfnReferenceIdeal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.Dense

open Cert.FfnIdeal Cert.FfnIdeal.Gen Cert.FfnIdeal.Value Idealize.ShloMosaic Idealize.ShloMosaic.TcCoe Idealize.SL.Sem
open Cert.Routed.Ref (nrow hid expert)
open Cert.FfnReferenceIdeal.Read

/-! ## The payloads at an entry -/

/-- The rows the first column block of an input block stores are the normed rows. -/
theorem pay1_apply (x : Vec Ideal S1024x1024 .f32) (g : Vec Ideal S1x1024 .f32) (r k : Fin 1024) :
    k0_pay1 (F := Ideal) x g (ix2 r k) = nrow (fun j => x (ix2 r j)) (fun j => g (ix2 0 j)) k := by
  unfold nrow
  pointwise [k0_pay1]

/-- The sum starts at zero. -/
theorem pay2_apply (r n : Fin 1024) : k0_pay2 (F := Ideal) (ix2 r n) = 0 := by
  pointwise [k0_pay2]

/-- A column block adds its hidden columns times its rows of the last weights. -/
theorem pay3_apply (h : Vec Ideal S1024x1024 .bf16) (a b : Vec Ideal S1024x256 .bf16) (acc : Vec Ideal S1024x1024 .f32)
    (d : Vec Ideal S256x1024 .bf16) (r n : Fin 1024) :
    k0_pay3 (F := Ideal) h a b acc d (ix2 r n) = acc (ix2 r n) + ∑ f : Fin 256,
      hid (fun k => h (ix2 r k)) (fun k => a (ix2 k f)) (fun k => b (ix2 k f)) * d (ix2 f n) := by
  unfold hid
  pointwise [k0_pay3]

/-- The last column block leaves the input plus the sum. -/
theorem pay4_apply (x acc : Vec Ideal S1024x1024 .f32) (r n : Fin 1024) :
    k0_pay4 (F := Ideal) x acc (ix2 r n) = x (ix2 r n) + acc (ix2 r n) := by
  pointwise [k0_pay4]

/-! ## What a point leaves -/

variable (m : (ℓ : Loc nD τ sig) → Buf (Elt Ideal) ℓ) (c : Dev nD)

/-- The normed rows, stored whole, are read back. -/
theorem read_h (v : Vec Ideal S1024x1024 .bf16) :
    View.read (Elt Ideal) (View.whole cc0_scratch0) ((Memref.isWhole_whole cc0_scratch0).unread v) = v :=
  (Memref.isWhole_whole cc0_scratch0).read_unread v

/-- The sum, stored whole, is read back. -/
theorem read_acc (v : Vec Ideal S1024x1024 .f32) :
    View.read (Elt Ideal) (View.whole cc0_scratch1) ((Memref.isWhole_whole cc0_scratch1).unread v) = v :=
  (Memref.isWhole_whole cc0_scratch1).read_unread v

/-- The first point of a row tile stores the normed rows and its own 256 columns. -/
theorem first_point (t : Fin cfg0.N) (h0 : t.val % 11 = 0) (h1 : ¬t.val % 11 = 10) :
    (outsAt0 m c t.val t.isLt).2.1 = k0_pay1 (iblk m c 0 t) (iblk m c 1 t)
      ∧ (outsAt0 m c t.val t.isLt).2.2
        = k0_pay3 (k0_pay1 (iblk m c 0 t) (iblk m c 1 t)) (iblk m c 2 t) (iblk m c 3 t) (k0_pay2 (F := Ideal)) (iblk m c 4 t) := by
  rw [outsAt0_A m c t h0 h1]
  constructor <;> frame_out

/-- A middle point keeps the rows and adds its columns. -/
theorem mid_point (t : Fin cfg0.N) (h0 : ¬t.val % 11 = 0) (h1 : ¬t.val % 11 = 10) :
    (outsAt0 m c t.val t.isLt).2.1 = (outsAt0 m c (t.val - 1) (Nat.lt_of_le_of_lt (Nat.sub_le _ _) t.isLt)).2.1
      ∧ (outsAt0 m c t.val t.isLt).2.2
        = k0_pay3 (outsAt0 m c (t.val - 1) (Nat.lt_of_le_of_lt (Nat.sub_le _ _) t.isLt)).2.1 (iblk m c 2 t) (iblk m c 3 t)
            (outsAt0 m c (t.val - 1) (Nat.lt_of_le_of_lt (Nat.sub_le _ _) t.isLt)).2.2 (iblk m c 4 t) := by
  rw [outsAt0_B m c t h0 h1]
  constructor
  · rfl
  · frame_out
    rw [read_acc, read_h]

/-- The last point writes the rows plus the finished sum. -/
theorem last_point (t : Fin cfg0.N) (h0 : ¬t.val % 11 = 0) (h1 : t.val % 11 = 10) :
    (outsAt0 m c t.val t.isLt).1
      = k0_pay4 (iblk m c 0 t)
          (k0_pay3 (outsAt0 m c (t.val - 1) (Nat.lt_of_le_of_lt (Nat.sub_le _ _) t.isLt)).2.1 (iblk m c 2 t) (iblk m c 3 t)
            (outsAt0 m c (t.val - 1) (Nat.lt_of_le_of_lt (Nat.sub_le _ _) t.isLt)).2.2 (iblk m c 4 t)) := by
  rw [outsAt0_C m c t h0 h1]
  frame_out
  rw [read_acc, read_h]

/-! ## The blocks a point reads -/

abbrev arg0 : (⟨S2x8192x1024, .f32⟩ : BufTy).Contents (Elt Ideal) := m ((c : Thread nD τ).loc main_arg0)
abbrev arg1 : (⟨S1024, .f32⟩ : BufTy).Contents (Elt Ideal) := m ((c : Thread nD τ).loc main_arg1)
abbrev arg2 : (⟨S1024x2816, .f32⟩ : BufTy).Contents (Elt Ideal) := m ((c : Thread nD τ).loc main_arg2)
abbrev arg3 : (⟨S1024x2816, .f32⟩ : BufTy).Contents (Elt Ideal) := m ((c : Thread nD τ).loc main_arg3)
abbrev arg4 : (⟨S2816x1024, .f32⟩ : BufTy).Contents (Elt Ideal) := m ((c : Thread nD τ).loc main_arg4)

/-- What the host code leaves in an array the call reads. -/
theorem V_v0 : V m c main_v0 = shapeCast S16384x1024 (arg0 m c) shapeCasts_S2x8192x1024_S16384x1024 := by
  simp only [V, StableHlo.after_cons, StableHlo.after_nil, hostOps0]
  rfl

/-- What the host code leaves in an array the call reads. -/
theorem V_v4 : V m c main_v4 = shapeCast S1x1024 (arg1 m c) shapeCasts_S1024_S1x1024 := by
  simp only [V, StableHlo.after_cons, StableHlo.after_nil, hostOps0]
  rfl

/-- What the host code leaves in an array the call reads. -/
theorem V_v1 : V m c main_v1 = truncf (F := Ideal) .bf16 (arg2 m c) bitsLt_bf16_f32 := by
  simp only [V, StableHlo.after_cons, StableHlo.after_nil, hostOps0]
  rfl

/-- What the host code leaves in an array the call reads. -/
theorem V_v2 : V m c main_v2 = truncf (F := Ideal) .bf16 (arg3 m c) bitsLt_bf16_f32 := by
  simp only [V, StableHlo.after_cons, StableHlo.after_nil, hostOps0]
  rfl

/-- What the host code leaves in an array the call reads. -/
theorem V_v3 : V m c main_v3 = truncf (F := Ideal) .bf16 (arg4 m c) bitsLt_bf16_f32 := by
  simp only [V, StableHlo.after_cons, StableHlo.after_nil, hostOps0]
  rfl

/-- The place of window 0's block at a point. -/
theorem idx0 : ∀ t : Fin cfg0.N, win0_0.index t = ![t.val / 11, 0] := (by decide +kernel : ∀ t : Fin grid0.N, _)
/-- The place of window 1's block at a point. -/
theorem idx1 : ∀ t : Fin cfg0.N, win0_1.index t = ![0, 0] := (by decide +kernel : ∀ t : Fin grid0.N, _)
/-- The place of window 2's block at a point. -/
theorem idx2 : ∀ t : Fin cfg0.N, win0_2.index t = ![0, t.val % 11] := (by decide +kernel : ∀ t : Fin grid0.N, _)
/-- The place of window 3's block at a point. -/
theorem idx3 : ∀ t : Fin cfg0.N, win0_3.index t = ![0, t.val % 11] := (by decide +kernel : ∀ t : Fin grid0.N, _)
/-- The place of window 4's block at a point. -/
theorem idx4 : ∀ t : Fin cfg0.N, win0_4.index t = ![t.val % 11, 0] := (by decide +kernel : ∀ t : Fin grid0.N, _)

/-- An entry of the block window 0 reads at a point, in the whole array. -/
theorem iblk0_apply (t : Fin cfg0.N) (r k : Fin 1024) (row : Fin 16384) (h : row.val = 1024 * (t.val / 11) + r.val) :
    iblk m c 0 t (ix2 r k) = arg0 m c (ix3 ⟨row.val / 8192, by omega⟩ ⟨row.val % 8192, by omega⟩ k) := by
  have e : iblk m c 0 t (ix2 r k) = V m c main_v0 ((win0_0.blk t).view.emb (ix2 r k)) := by
    blk_simp [iblk]
  have e' : (win0_0.blk t).view.emb (ix2 r k) = (ix2 row k : S16384x1024.Idx) := by
    blk_ext [idx0 t]
  rw [e, e', V_v0]
  pointwise

/-- An entry of the block window 1 reads at a point, in the whole array. -/
theorem iblk1_apply (t : Fin cfg0.N) (k : Fin 1024) : iblk m c 1 t (ix2 0 k) = arg1 m c (ix1 k) := by
  have e : iblk m c 1 t (ix2 0 k) = V m c main_v4 ((win0_1.blk t).view.emb (ix2 0 k)) := by
    blk_simp [iblk]
  have e' : (win0_1.blk t).view.emb (ix2 0 k) = (ix2 0 k : S1x1024.Idx) := by
    blk_ext [idx1 t]
  rw [e, e', V_v4]
  pointwise

/-- An entry of the block window 2 reads at a point, in the whole array. -/
theorem iblk2_apply (t : Fin cfg0.N) (k : Fin 1024) (f : Fin 256) (g : Fin 2816) (hg : g.val = 256 * (t.val % 11) + f.val) :
    iblk m c 2 t (ix2 k f) = arg2 m c (ix2 k g) := by
  have e : iblk m c 2 t (ix2 k f) = V m c main_v1 ((win0_2.blk t).view.emb (ix2 k f)) := by
    blk_simp [iblk]
  have e' : (win0_2.blk t).view.emb (ix2 k f) = (ix2 k g : S1024x2816.Idx) := by
    blk_ext [idx2 t]
  rw [e, e', V_v1]
  pointwise

/-- An entry of the block window 3 reads at a point, in the whole array. -/
theorem iblk3_apply (t : Fin cfg0.N) (k : Fin 1024) (f : Fin 256) (g : Fin 2816) (hg : g.val = 256 * (t.val % 11) + f.val) :
    iblk m c 3 t (ix2 k f) = arg3 m c (ix2 k g) := by
  have e : iblk m c 3 t (ix2 k f) = V m c main_v2 ((win0_3.blk t).view.emb (ix2 k f)) := by
    blk_simp [iblk]
  have e' : (win0_3.blk t).view.emb (ix2 k f) = (ix2 k g : S1024x2816.Idx) := by
    blk_ext [idx3 t]
  rw [e, e', V_v2]
  pointwise

/-- An entry of the block window 4 reads at a point, in the whole array. -/
theorem iblk4_apply (t : Fin cfg0.N) (f : Fin 256) (n : Fin 1024) (g : Fin 2816) (hg : g.val = 256 * (t.val % 11) + f.val) :
    iblk m c 4 t (ix2 f n) = arg4 m c (ix2 g n) := by
  have e : iblk m c 4 t (ix2 f n) = V m c main_v3 ((win0_4.blk t).view.emb (ix2 f n)) := by
    blk_simp [iblk]
  have e' : (win0_4.blk t).view.emb (ix2 f n) = (ix2 g n : S2816x1024.Idx) := by
    blk_ext [idx4 t]
  rw [e, e', V_v3]
  pointwise

/-! ## The run of a row tile -/

/-- A row of the batch, normed. -/
def hrow (row : Fin 16384) : Fin 1024 → EReal :=
  nrow (fun j => arg0 m c (ix3 ⟨row.val / 8192, by omega⟩ ⟨row.val % 8192, by omega⟩ j)) (fun j => arg1 m c (ix1 j))

/-- Hidden column `f` on a row, times its output weight. -/
def term (row : Fin 16384) (n : Fin 1024) (f : Fin 2816) : EReal :=
  hid (hrow m c row) (fun k => arg2 m c (ix2 k f)) (fun k => arg3 m c (ix2 k f)) * arg4 m c (ix2 f n)

/-- The 256 columns that point `j` of a tile adds. -/
def chunk (row : Fin 16384) (n : Fin 1024) (j : Nat) (hj : j < 11) : EReal :=
  ∑ f : Fin 256, term m c row n ⟨j * 256 + f.val, by have := f.isLt; omega⟩

/-- What the first `j + 1` points of a tile add up to. -/
def partSum (row : Fin 16384) (n : Fin 1024) (j : Nat) (hj : j < 11) : EReal :=
  ∑ x : Fin (j + 1), chunk m c row n x.val (by have := x.isLt; omega)

/-- One step of the sum at an entry. -/
theorem step_apply (t : Fin cfg0.N) (h : Vec Ideal S1024x1024 .bf16) (acc : Vec Ideal S1024x1024 .f32) (row : Fin 16384)
    (r n : Fin 1024) (hh : ∀ k, h (ix2 r k) = hrow m c row k) :
    k0_pay3 (F := Ideal) h (iblk m c 2 t) (iblk m c 3 t) acc (iblk m c 4 t) (ix2 r n)
      = acc (ix2 r n) + chunk m c row n (t.val % 11) (Nat.mod_lt _ (by decide)) := by
  rw [pay3_apply]
  congr 1
  unfold chunk term
  refine Finset.sum_congr rfl fun f _ => ?_
  have hg : t.val % 11 * 256 + f.val = 256 * (t.val % 11) + f.val := by omega
  rw [iblk4_apply m c t f n ⟨t.val % 11 * 256 + f.val, by have := f.isLt; omega⟩ hg]
  congr 1
  congr 1
  · funext k; exact hh k
  · funext k; exact iblk2_apply m c t k f _ hg
  · funext k; exact iblk3_apply m c t k f _ hg

/-- The eleven chunks are all the hidden columns. -/
theorem partSum_eq (row : Fin 16384) (n : Fin 1024) : partSum m c row n 10 (by decide) = ∑ f : Fin 2816, term m c row n f :=
  Fin.sum_mul_add_fin 11 256 (fun f : Fin 2816 => term m c row n f) rfl

/-- The reference at an entry. -/
theorem ref_apply (row : Fin 16384) (n : Fin 1024) (x0 : (⟨S2x8192x1024, .f32⟩ : BufTy).Contents (Elt Ideal)) (x1 : (⟨S1024, .f32⟩ : BufTy).Contents (Elt Ideal))
    (x2 x3 : (⟨S1024x2816, .f32⟩ : BufTy).Contents (Elt Ideal)) (x4 : (⟨S2816x1024, .f32⟩ : BufTy).Contents (Elt Ideal)) :
    val_main_v19 (F := Ideal) x0 x1 x2 x3 x4 (ix2 row n)
      = x0 (ix3 ⟨row.val / 8192, by omega⟩ ⟨row.val % 8192, by omega⟩ n) + ∑ f : Fin 2816,
          hid (nrow (fun j => x0 (ix3 ⟨row.val / 8192, by omega⟩ ⟨row.val % 8192, by omega⟩ j)) (fun j => x1 (ix1 j)))
            (fun k => x2 (ix2 k f)) (fun k => x3 (ix2 k f)) * x4 (ix2 f n) := by
  unfold hid nrow Ideal.logistic
  pointwise [val_main_v19, val_main_v18, val_main_v17, val_main_v16, val_main_v15, val_main_v14, val_main_call0_v5,
    val_main_call0_v4, val_main_call0_cst_0, val_main_call0_v3, val_main_call0_v2, val_main_call0_cst,
    val_main_call0_v1, val_main_call0_v0, val_main_v13, val_main_v12, val_main_v11, val_main_v10, val_main_v9,
    val_main_v8, val_main_v7, val_main_v6, val_main_v5, val_main_cst_1, val_main_v4, val_main_v3, val_main_cst_0,
    val_main_v2, val_main_v1, val_main_cst, val_main_v0]

variable (i : Nat) (row : Fin 16384) (r n : Fin 1024) (hrow_eq : row.val = 1024 * i + r.val)

include hrow_eq in
/-- The rows of the blocks that share a row block. -/
theorem rows_apply (t : Fin cfg0.N) (ht : t.val / 11 = i) (k : Fin 1024) :
    k0_pay1 (F := Ideal) (iblk m c 0 t) (iblk m c 1 t) (ix2 r k) = hrow m c row k := by
  rw [pay1_apply]
  unfold hrow
  congr 1
  · funext j; exact iblk0_apply m c t r j row (by rw [ht]; exact hrow_eq)
  · funext j; exact iblk1_apply m c t j

include hrow_eq in
/-- After point `j` of the tile, before the last: the normed rows and the sum so far. -/
theorem run_apply : ∀ (j : Nat) (hj : j < 10) (h : 11 * i + j < cfg0.N),
    (∀ k, (outsAt0 m c (11 * i + j) h).2.1 (ix2 r k) = hrow m c row k)
      ∧ (outsAt0 m c (11 * i + j) h).2.2 (ix2 r n) = partSum m c row n j (by omega) := by
  intro j
  induction j with
  | zero =>
    intro hj h
    have h0 : (⟨11 * i + 0, h⟩ : Fin cfg0.N).val % 11 = 0 := by show (11 * i + 0) % 11 = 0; omega
    have h1 : ¬(⟨11 * i + 0, h⟩ : Fin cfg0.N).val % 11 = 10 := by rw [h0]; decide
    have ht : (⟨11 * i + 0, h⟩ : Fin cfg0.N).val / 11 = i := by show (11 * i + 0) / 11 = i; omega
    obtain ⟨eh, ea⟩ := first_point m c ⟨11 * i + 0, h⟩ h0 h1
    refine ⟨fun k => ?_, ?_⟩
    · rw [show (outsAt0 m c (11 * i + 0) h).2.1 = _ from eh]
      exact rows_apply m c i row r hrow_eq _ ht k
    · rw [show (outsAt0 m c (11 * i + 0) h).2.2 = _ from ea]
      rw [step_apply m c _ _ _ row r n (fun k => rows_apply m c i row r hrow_eq _ ht k), pay2_apply, zero_add]
      unfold partSum
      rw [Fin.sum_univ_one]
      simp only [h0]
      rfl
  | succ j ih =>
    intro hj h
    have h0 : ¬(⟨11 * i + (j + 1), h⟩ : Fin cfg0.N).val % 11 = 0 := by show ¬(11 * i + (j + 1)) % 11 = 0; omega
    have h1 : ¬(⟨11 * i + (j + 1), h⟩ : Fin cfg0.N).val % 11 = 10 := by show ¬(11 * i + (j + 1)) % 11 = 10; omega
    have hm : (⟨11 * i + (j + 1), h⟩ : Fin cfg0.N).val % 11 = j + 1 := by show (11 * i + (j + 1)) % 11 = j + 1; omega
    obtain ⟨ihh, iha⟩ := ih (by omega) (by omega)
    obtain ⟨eh, ea⟩ := mid_point m c ⟨11 * i + (j + 1), h⟩ h0 h1
    refine ⟨fun k => ?_, ?_⟩
    · rw [show (outsAt0 m c (11 * i + (j + 1)) h).2.1 = _ from eh]
      exact ihh k
    · rw [show (outsAt0 m c (11 * i + (j + 1)) h).2.2 = _ from ea]
      refine (step_apply m c ⟨11 * i + (j + 1), h⟩ _ _ row r n (fun k => ihh k)).trans ?_
      refine (congrArg (· + _) iha).trans ?_
      unfold partSum
      rw [Fin.sum_univ_castSucc (n := j + 1)]
      simp only [hm]
      rfl

include hrow_eq in
/-- The block the tile's last point writes out. -/
theorem out_apply (h : 11 * i + 10 < cfg0.N) :
    (outsAt0 m c (11 * i + 10) h).1 (ix2 r n)
      = arg0 m c (ix3 ⟨row.val / 8192, by omega⟩ ⟨row.val % 8192, by omega⟩ n) + partSum m c row n 10 (by decide) := by
  have h0 : ¬(⟨11 * i + 10, h⟩ : Fin cfg0.N).val % 11 = 0 := by show ¬(11 * i + 10) % 11 = 0; omega
  have h1 : (⟨11 * i + 10, h⟩ : Fin cfg0.N).val % 11 = 10 := by show (11 * i + 10) % 11 = 10; omega
  have ht : (⟨11 * i + 10, h⟩ : Fin cfg0.N).val / 11 = i := by show (11 * i + 10) / 11 = i; omega
  obtain ⟨ihh, iha⟩ := run_apply m c i row r n hrow_eq 9 (by decide) (by omega)
  have eo := last_point m c ⟨11 * i + 10, h⟩ h0 h1
  rw [show (outsAt0 m c (11 * i + 10) h).1 = _ from eo, pay4_apply, iblk0_apply m c _ r n row (by rw [ht]; exact hrow_eq)]
  congr 1
  refine (step_apply m c ⟨11 * i + 10, h⟩ _ _ row r n (fun k => ihh k)).trans ?_
  refine (congrArg (· + _) iha).trans ?_
  unfold partSum
  rw [Fin.sum_univ_castSucc (n := 10)]
  simp only [h1]
  rfl

/-- The array the kernel leaves is the reference's. -/
theorem result_eq :
    G5 m c = val_main_v19 (F := Ideal) (arg0 m c) (arg1 m c) (arg2 m c) (arg3 m c) (arg4 m c) := by
  funext x
  obtain ⟨row, n, rfl⟩ : ∃ (row : Fin 16384) (n : Fin 1024), x = ix2 row n :=
    ⟨x 0, x 1, funext fun y => by match y with | 0 => rfl | 1 => rfl⟩
  have hr := row.isLt
  have hpt : pt5Of (ix2 row n) = 11 * (row.val / 1024) + 10 := by
    have hn := n.isLt
    show 11 * (1 * (row.val / 1024 - 0) + 1 * (n.val / 1024 - 0)) + 10 = _
    omega
  have hN : 11 * (row.val / 1024) + 10 < cfg0.N := by
    rw [show cfg0.N = 176 from N_0]; omega
  unfold G5
  rw [dif_pos (by rw [hpt]; exact hN), ← outsAt0_sweep m c _ (by rw [hpt]; exact hN)]
  have hloc : loc5Of (ix2 row n) = ix2 (⟨row.val % 1024, by omega⟩ : Fin 1024) n := by
    have hn := n.isLt
    funext y
    match y with
    | 0 => rfl
    | 1 => exact Fin.ext (Nat.mod_eq_of_lt hn)
  rw [hloc]
  have hat : ∀ k (hk : k < cfg0.N), k = 11 * (row.val / 1024) + 10 → (outsAt0 m c k hk).1 = (outsAt0 m c _ hN).1 := by
    intro k hk e; subst e; rfl
  refine (congrFun (hat _ _ hpt) _).trans ?_
  rw [out_apply m c (row.val / 1024) row ⟨row.val % 1024, by omega⟩ n (by show row.val = 1024 * (row.val / 1024) + row.val % 1024; omega) hN,
    partSum_eq, ref_apply]
  rfl

end Cert.Dense

end
-- ==== Proof.MergeResult.lean ====
/-
  The call `merge` leaves the reference's array: every row takes its four branches, each gated, and the output projection.
-/
module

public import proofs.«01_k».proof.Proof.Gen.MergeIdeal.Value
public import proofs.«01_k».proof.Proof.Gen.MergeReferenceIdeal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.Gated

open Cert.MergeIdeal Cert.MergeIdeal.Gen Cert.MergeIdeal.Value Idealize.ShloMosaic Idealize.ShloMosaic.TcCoe Idealize.SL.Sem
open Cert.MergeReferenceIdeal.Read

/-- One branch at a column: its gate times its up projection. -/
def branch (h w : Fin 1024 → EReal) (b u : Fin 256 → EReal) : EReal :=
  Ideal.logistic (∑ k, h k * w k) * ∑ k, b k * u k

/-- Branch `b`'s gate column `d` in the input projection. -/
def gateCol (b : Fin 4) (d : Fin 1024) : Fin 7324 :=
  ⟨3228 + (b.val * 1024 + d.val), by have := b.isLt; have := d.isLt; omega⟩

/-! ## The payload at an entry -/

/-- What a point writes, from the blocks it reads. -/
theorem pay_apply (h : Vec Ideal S512x1024 .bf16) (b0 b1 b2 b3 : Vec Ideal S512x256 .f32) (x : Vec Ideal S512x1024 .f32)
    (w0 w1 w2 w3 : Vec Ideal S1x1024x1024 .bf16) (u0 u1 u2 u3 : Vec Ideal S1x256x1024 .bf16) (o : Vec Ideal S1024x1024 .bf16)
    (r : Fin 512) (n : Fin 1024) :
    k0_pay1 (F := Ideal) (k0_pay2 h) (k0_pay3 h w0 b0 u0 w1 b1 u1) (k0_pay4 h w2) (k0_pay5 b2) u2 w3 b3 u3 x o (ix2 r n)
      = x (ix2 r n) + ∑ d : Fin 1024,
        (branch (fun k => h (ix2 r k)) (fun k => w0 (ix3 0 k d)) (fun k => b0 (ix2 r k)) (fun k => u0 (ix3 0 k d))
          + branch (fun k => h (ix2 r k)) (fun k => w1 (ix3 0 k d)) (fun k => b1 (ix2 r k)) (fun k => u1 (ix3 0 k d))
          + branch (fun k => h (ix2 r k)) (fun k => w2 (ix3 0 k d)) (fun k => b2 (ix2 r k)) (fun k => u2 (ix3 0 k d))
          + branch (fun k => h (ix2 r k)) (fun k => w3 (ix3 0 k d)) (fun k => b3 (ix2 r k)) (fun k => u3 (ix3 0 k d)))
          * o (ix2 d n) := by
  unfold branch
  pointwise [k0_pay1, k0_pay2, k0_pay3, k0_pay4, k0_pay5]

/-! ## One branch's weights in the stacked blocks -/

/-- A part that starts at zero keeps the place. -/
theorem at_zero (n : Nat) : 0 + 1 * n = n := by omega

/-- Part 0 of the stacked weights in window 6. -/
theorem ld6_0 (x : Vec Ideal S4x1024x1024 .bf16) (k : Fin 1024) (d : Fin 1024) : View.ld x r0_1 (ix3 0 k d) = x (ix3 0 k d) :=
  congrArg x (funext fun a => Fin.ext (by match a with | 0 => rfl | 1 => exact at_zero _ | 2 => exact at_zero _))

/-- Part 0 of the stacked weights in window 7. -/
theorem ld7_0 (x : Vec Ideal S4x256x1024 .bf16) (k : Fin 256) (d : Fin 1024) : View.ld x r0_3 (ix3 0 k d) = x (ix3 0 k d) :=
  congrArg x (funext fun a => Fin.ext (by match a with | 0 => rfl | 1 => exact at_zero _ | 2 => exact at_zero _))

/-- Part 1 of the stacked weights in window 6. -/
theorem ld6_1 (x : Vec Ideal S4x1024x1024 .bf16) (k : Fin 1024) (d : Fin 1024) : View.ld x r0_4 (ix3 0 k d) = x (ix3 1 k d) :=
  congrArg x (funext fun a => Fin.ext (by match a with | 0 => rfl | 1 => exact at_zero _ | 2 => exact at_zero _))

/-- Part 1 of the stacked weights in window 7. -/
theorem ld7_1 (x : Vec Ideal S4x256x1024 .bf16) (k : Fin 256) (d : Fin 1024) : View.ld x r0_5 (ix3 0 k d) = x (ix3 1 k d) :=
  congrArg x (funext fun a => Fin.ext (by match a with | 0 => rfl | 1 => exact at_zero _ | 2 => exact at_zero _))

/-- Part 2 of the stacked weights in window 6. -/
theorem ld6_2 (x : Vec Ideal S4x1024x1024 .bf16) (k : Fin 1024) (d : Fin 1024) : View.ld x r0_6 (ix3 0 k d) = x (ix3 2 k d) :=
  congrArg x (funext fun a => Fin.ext (by match a with | 0 => rfl | 1 => exact at_zero _ | 2 => exact at_zero _))

/-- Part 2 of the stacked weights in window 7. -/
theorem ld7_2 (x : Vec Ideal S4x256x1024 .bf16) (k : Fin 256) (d : Fin 1024) : View.ld x r0_7 (ix3 0 k d) = x (ix3 2 k d) :=
  congrArg x (funext fun a => Fin.ext (by match a with | 0 => rfl | 1 => exact at_zero _ | 2 => exact at_zero _))

/-- Part 3 of the stacked weights in window 6. -/
theorem ld6_3 (x : Vec Ideal S4x1024x1024 .bf16) (k : Fin 1024) (d : Fin 1024) : View.ld x r0_8 (ix3 0 k d) = x (ix3 3 k d) :=
  congrArg x (funext fun a => Fin.ext (by match a with | 0 => rfl | 1 => exact at_zero _ | 2 => exact at_zero _))

/-- Part 3 of the stacked weights in window 7. -/
theorem ld7_3 (x : Vec Ideal S4x256x1024 .bf16) (k : Fin 256) (d : Fin 1024) : View.ld x r0_9 (ix3 0 k d) = x (ix3 3 k d) :=
  congrArg x (funext fun a => Fin.ext (by match a with | 0 => rfl | 1 => exact at_zero _ | 2 => exact at_zero _))

/-! ## The blocks a point reads -/

variable (m : (ℓ : Loc nD τ sig) → Buf (Elt Ideal) ℓ) (c : Dev nD)

abbrev arg0 : (⟨S2x8192x1024, .f32⟩ : BufTy).Contents (Elt Ideal) := m ((c : Thread nD τ).loc main_arg0)
abbrev arg1 : (⟨S2x8192x1024, .f32⟩ : BufTy).Contents (Elt Ideal) := m ((c : Thread nD τ).loc main_arg1)
abbrev arg2 : (⟨S2x8192x256, .f32⟩ : BufTy).Contents (Elt Ideal) := m ((c : Thread nD τ).loc main_arg2)
abbrev arg3 : (⟨S2x8192x256, .f32⟩ : BufTy).Contents (Elt Ideal) := m ((c : Thread nD τ).loc main_arg3)
abbrev arg4 : (⟨S2x8192x256, .f32⟩ : BufTy).Contents (Elt Ideal) := m ((c : Thread nD τ).loc main_arg4)
abbrev arg5 : (⟨S2x8192x256, .f32⟩ : BufTy).Contents (Elt Ideal) := m ((c : Thread nD τ).loc main_arg5)
abbrev arg6 : (⟨S1024x7324, .f32⟩ : BufTy).Contents (Elt Ideal) := m ((c : Thread nD τ).loc main_arg6)
abbrev arg7 : (⟨S4x256x1024, .f32⟩ : BufTy).Contents (Elt Ideal) := m ((c : Thread nD τ).loc main_arg7)
abbrev arg8 : (⟨S1024x1024, .f32⟩ : BufTy).Contents (Elt Ideal) := m ((c : Thread nD τ).loc main_arg8)

/-- The arrays the host lays out before the call. -/
theorem V_all :
    V m c main_v0 = shapeCast S16384x1024 (arg0 m c) shapeCasts_S2x8192x1024_S16384x1024
      ∧ V m c main_v2 = truncf (F := Ideal) .bf16 (shapeCast S16384x1024 (arg1 m c) shapeCasts_S2x8192x1024_S16384x1024 : FVec Ideal S16384x1024 .f32) bitsLt_bf16_f32
      ∧ V m c main_v6 = truncf (F := Ideal) .bf16 (transpose S4x1024x1024 [1, 0, 2] (shapeCast S1024x4x1024
          (extractStridedSlice S1024x4096 ![0, 3228] (arg6 m c) slices_S1024x7324_S1024x4096_0_3228) shapeCasts_S1024x4096_S1024x4x1024 : FVec Ideal S1024x4x1024 .f32)
          transposes_S1024x4x1024_S4x1024x1024_1_0_2 : FVec Ideal S4x1024x1024 .f32) bitsLt_bf16_f32
      ∧ V m c main_v7 = shapeCast S16384x256 (arg2 m c) shapeCasts_S2x8192x256_S16384x256
      ∧ V m c main_v8 = shapeCast S16384x256 (arg3 m c) shapeCasts_S2x8192x256_S16384x256
      ∧ V m c main_v9 = shapeCast S16384x256 (arg4 m c) shapeCasts_S2x8192x256_S16384x256
      ∧ V m c main_v10 = shapeCast S16384x256 (arg5 m c) shapeCasts_S2x8192x256_S16384x256
      ∧ V m c main_v11 = truncf (F := Ideal) .bf16 (arg7 m c : FVec Ideal S4x256x1024 .f32) bitsLt_bf16_f32
      ∧ V m c main_v12 = truncf (F := Ideal) .bf16 (arg8 m c : FVec Ideal S1024x1024 .f32) bitsLt_bf16_f32 := by
  refine ⟨?_, ?_, ?_, ?_, ?_, ?_, ?_, ?_, ?_⟩ <;>
  · simp only [V, StableHlo.after_cons, StableHlo.after_nil, hostOps0]
    rfl

/-- A row window's block index is the point's number. -/
theorem idxRow : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_9.index t = ![t.val, 0] :=
  (by decide +kernel : ∀ t : Fin grid0.N, _)

/-- A weight window's block is the whole array. -/
theorem idxAll : ∀ t : Fin cfg0.N, win0_6.index t = ![0, 0, 0] ∧ win0_7.index t = ![0, 0, 0] ∧ win0_8.index t = ![0, 0] :=
  (by decide +kernel : ∀ t : Fin grid0.N, _)

/-! ## The reference -/

/-- The reference at an entry. -/
theorem ref_apply (row : Fin 16384) (x0 x1 : (⟨S2x8192x1024, .f32⟩ : BufTy).Contents (Elt Ideal)) (x2 x3 x4 x5 : (⟨S2x8192x256, .f32⟩ : BufTy).Contents (Elt Ideal))
    (x6 : (⟨S1024x7324, .f32⟩ : BufTy).Contents (Elt Ideal)) (x7 : (⟨S4x256x1024, .f32⟩ : BufTy).Contents (Elt Ideal))
    (x8 : (⟨S1024x1024, .f32⟩ : BufTy).Contents (Elt Ideal)) (n : Fin 1024) :
    val_main_v31 (F := Ideal) x0 x1 x2 x3 x4 x5 x6 x7 x8 (ix2 row n)
      = x0 (ix3 ⟨row.val / 8192, by omega⟩ ⟨row.val % 8192, by omega⟩ n) + ∑ d : Fin 1024,
          (branch (fun k => x1 (ix3 ⟨row.val / 8192, by omega⟩ ⟨row.val % 8192, by omega⟩ k)) (fun k => x6 (ix2 k (gateCol 0 d)))
            (fun k => x2 (ix3 ⟨row.val / 8192, by omega⟩ ⟨row.val % 8192, by omega⟩ k)) (fun k => x7 (ix3 0 k d))
          + branch (fun k => x1 (ix3 ⟨row.val / 8192, by omega⟩ ⟨row.val % 8192, by omega⟩ k)) (fun k => x6 (ix2 k (gateCol 1 d)))
            (fun k => x3 (ix3 ⟨row.val / 8192, by omega⟩ ⟨row.val % 8192, by omega⟩ k)) (fun k => x7 (ix3 1 k d))
          + branch (fun k => x1 (ix3 ⟨row.val / 8192, by omega⟩ ⟨row.val % 8192, by omega⟩ k)) (fun k => x6 (ix2 k (gateCol 2 d)))
            (fun k => x4 (ix3 ⟨row.val / 8192, by omega⟩ ⟨row.val % 8192, by omega⟩ k)) (fun k => x7 (ix3 2 k d))
          + branch (fun k => x1 (ix3 ⟨row.val / 8192, by omega⟩ ⟨row.val % 8192, by omega⟩ k)) (fun k => x6 (ix2 k (gateCol 3 d)))
            (fun k => x5 (ix3 ⟨row.val / 8192, by omega⟩ ⟨row.val % 8192, by omega⟩ k)) (fun k => x7 (ix3 3 k d))) * x8 (ix2 d n) := by
  unfold branch Ideal.logistic
  pointwise [val_main_v31, val_main_v30, val_main_v29, val_main_v28, val_main_v27, val_main_v26, val_main_v25, val_main_cst_0,
    val_main_v24, val_main_v23, val_main_cst, val_main_v22, val_main_v21, val_main_v20, val_main_v19, val_main_v18, val_main_v17,
    val_main_v16, val_main_v15, val_main_v14, val_main_v13, val_main_v0]
  refine congrArg (_ + ·) (Finset.sum_congr rfl fun d _ => congrArg (· * _) ?_)
  rw [Fin.sum_univ_four]
  simp only [mul_comm (x7 _)]
  rfl

variable (t : Fin cfg0.N)

/-- An entry of the block window 0 reads at a point, in the whole array. -/
theorem iblk0_apply (r : Fin 512) (row : Fin 16384) (h : row.val = 512 * t.val + r.val) (k : Fin 1024) :
    iblk m c 0 t (ix2 r k) = arg1 m c (ix3 ⟨row.val / 8192, by omega⟩ ⟨row.val % 8192, by omega⟩ k) := by
  have e : iblk m c 0 t (ix2 r k) = V m c main_v2 ((win0_0.blk t).view.emb (ix2 r k)) := by
    blk_simp [iblk]
  have e' : (win0_0.blk t).view.emb (ix2 r k) = (ix2 row k : S16384x1024.Idx) := by
    blk_ext [(idxRow t).1]
  rw [e, e', (V_all m c).2.1]
  pointwise

/-- An entry of the block window 1 reads at a point, in the whole array. -/
theorem iblk1_apply (r : Fin 512) (row : Fin 16384) (h : row.val = 512 * t.val + r.val) (k : Fin 256) :
    iblk m c 1 t (ix2 r k) = arg2 m c (ix3 ⟨row.val / 8192, by omega⟩ ⟨row.val % 8192, by omega⟩ k) := by
  have e : iblk m c 1 t (ix2 r k) = V m c main_v7 ((win0_1.blk t).view.emb (ix2 r k)) := by
    blk_simp [iblk]
  have e' : (win0_1.blk t).view.emb (ix2 r k) = (ix2 row k : S16384x256.Idx) := by
    blk_ext [(idxRow t).2.1]
  rw [e, e', (V_all m c).2.2.2.1]
  pointwise

/-- An entry of the block window 2 reads at a point, in the whole array. -/
theorem iblk2_apply (r : Fin 512) (row : Fin 16384) (h : row.val = 512 * t.val + r.val) (k : Fin 256) :
    iblk m c 2 t (ix2 r k) = arg3 m c (ix3 ⟨row.val / 8192, by omega⟩ ⟨row.val % 8192, by omega⟩ k) := by
  have e : iblk m c 2 t (ix2 r k) = V m c main_v8 ((win0_2.blk t).view.emb (ix2 r k)) := by
    blk_simp [iblk]
  have e' : (win0_2.blk t).view.emb (ix2 r k) = (ix2 row k : S16384x256.Idx) := by
    blk_ext [(idxRow t).2.2.1]
  rw [e, e', (V_all m c).2.2.2.2.1]
  pointwise

/-- An entry of the block window 3 reads at a point, in the whole array. -/
theorem iblk3_apply (r : Fin 512) (row : Fin 16384) (h : row.val = 512 * t.val + r.val) (k : Fin 256) :
    iblk m c 3 t (ix2 r k) = arg4 m c (ix3 ⟨row.val / 8192, by omega⟩ ⟨row.val % 8192, by omega⟩ k) := by
  have e : iblk m c 3 t (ix2 r k) = V m c main_v9 ((win0_3.blk t).view.emb (ix2 r k)) := by
    blk_simp [iblk]
  have e' : (win0_3.blk t).view.emb (ix2 r k) = (ix2 row k : S16384x256.Idx) := by
    blk_ext [(idxRow t).2.2.2.1]
  rw [e, e', (V_all m c).2.2.2.2.2.1]
  pointwise

/-- An entry of the block window 4 reads at a point, in the whole array. -/
theorem iblk4_apply (r : Fin 512) (row : Fin 16384) (h : row.val = 512 * t.val + r.val) (k : Fin 256) :
    iblk m c 4 t (ix2 r k) = arg5 m c (ix3 ⟨row.val / 8192, by omega⟩ ⟨row.val % 8192, by omega⟩ k) := by
  have e : iblk m c 4 t (ix2 r k) = V m c main_v10 ((win0_4.blk t).view.emb (ix2 r k)) := by
    blk_simp [iblk]
  have e' : (win0_4.blk t).view.emb (ix2 r k) = (ix2 row k : S16384x256.Idx) := by
    blk_ext [(idxRow t).2.2.2.2.1]
  rw [e, e', (V_all m c).2.2.2.2.2.2.1]
  pointwise

/-- An entry of the block window 5 reads at a point, in the whole array. -/
theorem iblk5_apply (r : Fin 512) (row : Fin 16384) (h : row.val = 512 * t.val + r.val) (k : Fin 1024) :
    iblk m c 5 t (ix2 r k) = arg0 m c (ix3 ⟨row.val / 8192, by omega⟩ ⟨row.val % 8192, by omega⟩ k) := by
  have e : iblk m c 5 t (ix2 r k) = V m c main_v0 ((win0_5.blk t).view.emb (ix2 r k)) := by
    blk_simp [iblk]
  have e' : (win0_5.blk t).view.emb (ix2 r k) = (ix2 row k : S16384x1024.Idx) := by
    blk_ext [(idxRow t).2.2.2.2.2.1]
  rw [e, e', (V_all m c).1]
  pointwise

/-- Branch `b`'s gate weights. -/
theorem iblk6_apply (b : Fin 4) (k d : Fin 1024) :
    iblk m c 6 t (ix3 b k d) = arg6 m c (ix2 k (gateCol b d)) := by
  have e : iblk m c 6 t (ix3 b k d) = V m c main_v6 ((win0_6.blk t).view.emb (ix3 b k d)) := by
    blk_simp [iblk]
  have e' : (win0_6.blk t).view.emb (ix3 b k d) = (ix3 b k d : S4x1024x1024.Idx) := by
    blk_ext [(idxAll t).1]
  rw [e, e', (V_all m c).2.2.1]
  unfold gateCol
  pointwise

/-- An entry of the block window 7 reads at a point, in the whole array. -/
theorem iblk7_apply (b : Fin 4) (k : Fin 256) (d : Fin 1024) : iblk m c 7 t (ix3 b k d) = arg7 m c (ix3 b k d) := by
  have e : iblk m c 7 t (ix3 b k d) = V m c main_v11 ((win0_7.blk t).view.emb (ix3 b k d)) := by
    blk_simp [iblk]
  have e' : (win0_7.blk t).view.emb (ix3 b k d) = (ix3 b k d : S4x256x1024.Idx) := by
    blk_ext [(idxAll t).2.1]
  rw [e, e', (V_all m c).2.2.2.2.2.2.2.1]
  pointwise

/-- An entry of the block window 8 reads at a point, in the whole array. -/
theorem iblk8_apply (k n : Fin 1024) : iblk m c 8 t (ix2 k n) = arg8 m c (ix2 k n) := by
  have e : iblk m c 8 t (ix2 k n) = V m c main_v12 ((win0_8.blk t).view.emb (ix2 k n)) := by
    blk_simp [iblk]
  have e' : (win0_8.blk t).view.emb (ix2 k n) = (ix2 k n : S1024x1024.Idx) := by
    blk_ext [(idxAll t).2.2]
  rw [e, e', (V_all m c).2.2.2.2.2.2.2.2]
  pointwise

/-! ## The array -/

/-- The array after the run is the reference's. -/
theorem result_eq : (dats m 0 c).arrAt 9 cfg0.N
    = val_main_v31 (F := Ideal) (arg0 m c) (arg1 m c) (arg2 m c) (arg3 m c) (arg4 m c) (arg5 m c) (arg6 m c) (arg7 m c) (arg8 m c) := by
  refine (dats m 0 c).arrAt_eq_of_covers 9 _ (by decide +kernel) fun t hf y => ?_
  blk_simp
  rw [after0_9]
  frame_out
  obtain ⟨r, n, rfl⟩ : ∃ (r : Fin 512) (n : Fin 1024), y = ix2 r n :=
    ⟨y 0, y 1, funext fun x => by match x with | 0 => rfl | 1 => rfl⟩
  have hN := lt_of_lt_of_eq t.isLt (show cfg0.N = 32 from N_0)
  obtain ⟨row, hr⟩ : ∃ row : Fin 16384, row.val = 512 * t.val + r.val := ⟨⟨512 * t.val + r.val, by omega⟩, rfl⟩
  have e' : (win0_9.blk t).view.emb (ix2 r n) = (ix2 row n : S16384x1024.Idx) := by
    blk_ext [(idxRow t).2.2.2.2.2.2]
  rw [e', ref_apply, pay_apply]
  simp only [iblk8_apply,
    iblk0_apply m c t r row hr, iblk1_apply m c t r row hr, iblk2_apply m c t r row hr, iblk3_apply m c t r row hr,
    iblk4_apply m c t r row hr, iblk5_apply m c t r row hr]
  refine congrArg (_ + ·) (Finset.sum_congr rfl fun d _ => congrArg (· * _) ?_)
  refine congrArg₂ (· + ·) (congrArg₂ (· + ·) (congrArg₂ (· + ·) ?_ ?_) ?_) ?_
  · exact congrArg₂ (fun w u => branch _ w _ u) (funext fun k => (ld6_0 _ k d).trans (iblk6_apply m c t 0 k d))
      (funext fun k => (ld7_0 _ k d).trans (iblk7_apply m c t 0 k d))
  · exact congrArg₂ (fun w u => branch _ w _ u) (funext fun k => (ld6_1 _ k d).trans (iblk6_apply m c t 1 k d))
      (funext fun k => (ld7_1 _ k d).trans (iblk7_apply m c t 1 k d))
  · exact congrArg₂ (fun w u => branch _ w _ u) (funext fun k => (ld6_2 _ k d).trans (iblk6_apply m c t 2 k d))
      (funext fun k => (ld7_2 _ k d).trans (iblk7_apply m c t 2 k d))
  · exact congrArg₂ (fun w u => branch _ w _ u) (funext fun k => (ld6_3 _ k d).trans (iblk6_apply m c t 3 k d))
      (funext fun k => (ld7_3 _ k d).trans (iblk7_apply m c t 3 k d))

end Cert.Gated

end
-- ==== Proof.ProjectResult.lean ====
/-
  The call `in_proj` of the prompt batch leaves the reference's arrays: each of the twelve column groups of the
  input projection, and the rows the layer keeps of them.
-/
module

public import proofs.«01_k».proof.Proof.Gen.ProjectIdeal.Frame
public import proofs.«01_k».proof.Proof.Gen.ProjectReferenceIdeal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.Columns

open Cert.ProjectIdeal Cert.ProjectIdeal.Gen Idealize.ShloMosaic Idealize.ShloMosaic.TcCoe Idealize.SL.Sem
open Cert.ProjectReferenceIdeal.Read

variable (m : (ℓ : Loc nD τ sig) → Buf (Elt Ideal) ℓ) (c : Dev nD)

abbrev arg0 : (⟨S2x8192x1024, .f32⟩ : BufTy).Contents (Elt Ideal) := m ((c : Thread nD τ).loc main_arg0)
abbrev arg1 : (⟨S1024x7324, .f32⟩ : BufTy).Contents (Elt Ideal) := m ((c : Thread nD τ).loc main_arg1)

/-! ## The padded weights -/

abbrev zero : FVec Ideal S_ .f32 := sitofp .f32 (constantI S_ 32 0#32)

/-- Column group 0 of the weights, padded to 128 columns. -/
def group0 : FVec Ideal S1024x128 .f32 :=
  pad S1024x128 ![0, 0] ![0, 0] ![0, 0] (extractStridedSlice S1024x128 ![0, 0] (arg1 m c) slices_S1024x7324_S1024x128_0_0)
    zero pads_S1024x128_S1024x128_000_000 h_S_

/-- An entry of column group 0 of the padded weights. -/
theorem group0_apply (k : Fin 1024) (n : Fin 128) (h : n.val < 128) :
    group0 m c (ix2 k n) = arg1 m c (ix2 k ⟨n.val, by omega⟩) := by
  pointwise [group0]

/-- Column group 1 of the weights, padded to 128 columns. -/
def group1 : FVec Ideal S1024x128 .f32 :=
  pad S1024x128 ![0, 0] ![0, 0] ![0, 0] (extractStridedSlice S1024x128 ![0, 128] (arg1 m c) slices_S1024x7324_S1024x128_0_128)
    zero pads_S1024x128_S1024x128_000_000 h_S_

/-- An entry of column group 1 of the padded weights. -/
theorem group1_apply (k : Fin 1024) (n : Fin 128) (h : n.val < 128) :
    group1 m c (ix2 k n) = arg1 m c (ix2 k ⟨128 + n.val, by omega⟩) := by
  pointwise [group1]

/-- Column group 2 of the weights, padded to 256 columns. -/
def group2 : FVec Ideal S1024x256 .f32 :=
  pad S1024x256 ![0, 0] ![0, 0] ![0, 0] (extractStridedSlice S1024x256 ![0, 256] (arg1 m c) slices_S1024x7324_S1024x256_0_256)
    zero pads_S1024x256_S1024x256_000_000 h_S_

/-- An entry of column group 2 of the padded weights. -/
theorem group2_apply (k : Fin 1024) (n : Fin 256) (h : n.val < 256) :
    group2 m c (ix2 k n) = arg1 m c (ix2 k ⟨256 + n.val, by omega⟩) := by
  pointwise [group2]

/-- Column group 3 of the weights, padded to 128 columns. -/
def group3 : FVec Ideal S1024x128 .f32 :=
  pad S1024x128 ![0, 0] ![0, 112] ![0, 0] (extractStridedSlice S1024x16 ![0, 512] (arg1 m c) slices_S1024x7324_S1024x16_0_512)
    zero pads_S1024x16_S1024x128_000_01120 h_S_

/-- An entry of column group 3 of the padded weights. -/
theorem group3_apply (k : Fin 1024) (n : Fin 128) (h : n.val < 16) :
    group3 m c (ix2 k n) = arg1 m c (ix2 k ⟨512 + n.val, by omega⟩) := by
  pointwise [group3]
  rw [dif_pos h]

/-- Column group 4 of the weights, padded to 256 columns. -/
def group4 : FVec Ideal S1024x256 .f32 :=
  pad S1024x256 ![0, 0] ![0, 0] ![0, 0] (extractStridedSlice S1024x256 ![0, 528] (arg1 m c) slices_S1024x7324_S1024x256_0_528)
    zero pads_S1024x256_S1024x256_000_000 h_S_

/-- An entry of column group 4 of the padded weights. -/
theorem group4_apply (k : Fin 1024) (n : Fin 256) (h : n.val < 256) :
    group4 m c (ix2 k n) = arg1 m c (ix2 k ⟨528 + n.val, by omega⟩) := by
  pointwise [group4]

/-- Column group 5 of the weights, padded to 256 columns. -/
def group5 : FVec Ideal S1024x256 .f32 :=
  pad S1024x256 ![0, 0] ![0, 0] ![0, 0] (extractStridedSlice S1024x256 ![0, 784] (arg1 m c) slices_S1024x7324_S1024x256_0_784)
    zero pads_S1024x256_S1024x256_000_000 h_S_

/-- An entry of column group 5 of the padded weights. -/
theorem group5_apply (k : Fin 1024) (n : Fin 256) (h : n.val < 256) :
    group5 m c (ix2 k n) = arg1 m c (ix2 k ⟨784 + n.val, by omega⟩) := by
  pointwise [group5]

/-- Column group 6 of the weights, padded to 384 columns. -/
def group6 : FVec Ideal S1024x384 .f32 :=
  pad S1024x384 ![0, 0] ![0, 0] ![0, 0] (extractStridedSlice S1024x384 ![0, 1040] (arg1 m c) slices_S1024x7324_S1024x384_0_1040)
    zero pads_S1024x384_S1024x384_000_000 h_S_

/-- An entry of column group 6 of the padded weights. -/
theorem group6_apply (k : Fin 1024) (n : Fin 384) (h : n.val < 384) :
    group6 m c (ix2 k n) = arg1 m c (ix2 k ⟨1040 + n.val, by omega⟩) := by
  pointwise [group6]

/-- Column group 7 of the weights, padded to 128 columns. -/
def group7 : FVec Ideal S1024x128 .f32 :=
  pad S1024x128 ![0, 0] ![0, 116] ![0, 0] (extractStridedSlice S1024x12 ![0, 1424] (arg1 m c) slices_S1024x7324_S1024x12_0_1424)
    zero pads_S1024x12_S1024x128_000_01160 h_S_

/-- An entry of column group 7 of the padded weights. -/
theorem group7_apply (k : Fin 1024) (n : Fin 128) (h : n.val < 12) :
    group7 m c (ix2 k n) = arg1 m c (ix2 k ⟨1424 + n.val, by omega⟩) := by
  pointwise [group7]
  rw [dif_pos h]

/-- Column group 8 of the weights, padded to 256 columns. -/
def group8 : FVec Ideal S1024x256 .f32 :=
  pad S1024x256 ![0, 0] ![0, 0] ![0, 0] (extractStridedSlice S1024x256 ![0, 1436] (arg1 m c) slices_S1024x7324_S1024x256_0_1436)
    zero pads_S1024x256_S1024x256_000_000 h_S_

/-- An entry of column group 8 of the padded weights. -/
theorem group8_apply (k : Fin 1024) (n : Fin 256) (h : n.val < 256) :
    group8 m c (ix2 k n) = arg1 m c (ix2 k ⟨1436 + n.val, by omega⟩) := by
  pointwise [group8]

/-- Column group 9 of the weights, padded to 256 columns. -/
def group9 : FVec Ideal S1024x256 .f32 :=
  pad S1024x256 ![0, 0] ![0, 0] ![0, 0] (extractStridedSlice S1024x256 ![0, 1692] (arg1 m c) slices_S1024x7324_S1024x256_0_1692)
    zero pads_S1024x256_S1024x256_000_000 h_S_

/-- An entry of column group 9 of the padded weights. -/
theorem group9_apply (k : Fin 1024) (n : Fin 256) (h : n.val < 256) :
    group9 m c (ix2 k n) = arg1 m c (ix2 k ⟨1692 + n.val, by omega⟩) := by
  pointwise [group9]

/-- Column group 10 of the weights, padded to 256 columns. -/
def group10 : FVec Ideal S1024x256 .f32 :=
  pad S1024x256 ![0, 0] ![0, 0] ![0, 0] (extractStridedSlice S1024x256 ![0, 1948] (arg1 m c) slices_S1024x7324_S1024x256_0_1948)
    zero pads_S1024x256_S1024x256_000_000 h_S_

/-- An entry of column group 10 of the padded weights. -/
theorem group10_apply (k : Fin 1024) (n : Fin 256) (h : n.val < 256) :
    group10 m c (ix2 k n) = arg1 m c (ix2 k ⟨1948 + n.val, by omega⟩) := by
  pointwise [group10]

/-- Column group 11 of the weights, padded to 1024 columns. -/
def group11 : FVec Ideal S1024x1024 .f32 :=
  pad S1024x1024 ![0, 0] ![0, 0] ![0, 0] (extractStridedSlice S1024x1024 ![0, 2204] (arg1 m c) slices_S1024x7324_S1024x1024_0_2204)
    zero pads_S1024x1024_S1024x1024_000_000 h_S_

/-- An entry of column group 11 of the padded weights. -/
theorem group11_apply (k : Fin 1024) (n : Fin 1024) (h : n.val < 1024) :
    group11 m c (ix2 k n) = arg1 m c (ix2 k ⟨2204 + n.val, by omega⟩) := by
  pointwise [group11]

/-- The weights as the call takes them: the groups side by side. -/
theorem V_v25 : V m c main_v25 = truncf (F := Ideal) .bf16 (concatenate S1024x3456 1
    [⟨S1024x128, group0 m c⟩, ⟨S1024x128, group1 m c⟩, ⟨S1024x256, group2 m c⟩, ⟨S1024x128, group3 m c⟩, ⟨S1024x256, group4 m c⟩, ⟨S1024x256, group5 m c⟩, ⟨S1024x384, group6 m c⟩, ⟨S1024x128, group7 m c⟩, ⟨S1024x256, group8 m c⟩, ⟨S1024x256, group9 m c⟩, ⟨S1024x256, group10 m c⟩, ⟨S1024x1024, group11 m c⟩]
    concatenates_S1024x128_S1024x128_S1024x256_S1024x128_S1024x256_S1024x256_S1024x384_S1024x128_S1024x256_S1024x256_S1024x256_S1024x1024_S1024x3456_d1 : FVec Ideal S1024x3456 .f32) bitsLt_bf16_f32 := by
  simp only [V, V0, StableHlo.after_cons, StableHlo.after_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24,
    List.flatten_cons, List.flatten_nil, List.append_nil, List.cons_append, List.nil_append]
  rfl

/-- The weights' columns of group 0, read in the whole padded array. -/
theorem weights0_apply (k : Fin 1024) (n : Fin 128) :
    V m c main_v25 (ix2 k ⟨0 + n.val, by omega⟩) = group0 m c (ix2 k n) := by
  rw [V_v25]
  pointwise

/-- The weights' columns of group 1, read in the whole padded array. -/
theorem weights1_apply (k : Fin 1024) (n : Fin 128) :
    V m c main_v25 (ix2 k ⟨128 + n.val, by omega⟩) = group1 m c (ix2 k n) := by
  rw [V_v25]
  pointwise

/-- The weights' columns of group 2, read in the whole padded array. -/
theorem weights2_apply (k : Fin 1024) (n : Fin 256) :
    V m c main_v25 (ix2 k ⟨256 + n.val, by omega⟩) = group2 m c (ix2 k n) := by
  rw [V_v25]
  pointwise
  rw [dif_neg, dif_neg, dif_pos]
  · exact congrArg (group2 m c) (congrArg (ix2 k) (Fin.ext (by simp only []; omega)))
  all_goals omega

/-- The weights' columns of group 3, read in the whole padded array. -/
theorem weights3_apply (k : Fin 1024) (n : Fin 128) :
    V m c main_v25 (ix2 k ⟨512 + n.val, by omega⟩) = group3 m c (ix2 k n) := by
  rw [V_v25]
  pointwise
  rw [dif_neg, dif_neg, dif_neg, dif_pos]
  · exact congrArg (group3 m c) (congrArg (ix2 k) (Fin.ext (by simp only []; omega)))
  all_goals omega

/-- The weights' columns of group 4, read in the whole padded array. -/
theorem weights4_apply (k : Fin 1024) (n : Fin 256) :
    V m c main_v25 (ix2 k ⟨640 + n.val, by omega⟩) = group4 m c (ix2 k n) := by
  rw [V_v25]
  pointwise
  rw [dif_neg, dif_neg, dif_neg, dif_neg, dif_pos]
  · exact congrArg (group4 m c) (congrArg (ix2 k) (Fin.ext (by simp only []; omega)))
  all_goals omega

/-- The weights' columns of group 5, read in the whole padded array. -/
theorem weights5_apply (k : Fin 1024) (n : Fin 256) :
    V m c main_v25 (ix2 k ⟨896 + n.val, by omega⟩) = group5 m c (ix2 k n) := by
  rw [V_v25]
  pointwise
  rw [dif_neg, dif_neg, dif_neg, dif_neg, dif_neg, dif_pos]
  · exact congrArg (group5 m c) (congrArg (ix2 k) (Fin.ext (by simp only []; omega)))
  all_goals omega

/-- The weights' columns of group 6, read in the whole padded array. -/
theorem weights6_apply (k : Fin 1024) (n : Fin 384) :
    V m c main_v25 (ix2 k ⟨1152 + n.val, by omega⟩) = group6 m c (ix2 k n) := by
  rw [V_v25]
  pointwise
  rw [dif_neg, dif_neg, dif_neg, dif_neg, dif_neg, dif_neg, dif_pos]
  · exact congrArg (group6 m c) (congrArg (ix2 k) (Fin.ext (by simp only []; omega)))
  all_goals omega

/-- The weights' columns of group 7, read in the whole padded array. -/
theorem weights7_apply (k : Fin 1024) (n : Fin 128) :
    V m c main_v25 (ix2 k ⟨1536 + n.val, by omega⟩) = group7 m c (ix2 k n) := by
  rw [V_v25]
  pointwise
  rw [dif_neg, dif_neg, dif_neg, dif_neg, dif_neg, dif_neg, dif_neg, dif_pos]
  · exact congrArg (group7 m c) (congrArg (ix2 k) (Fin.ext (by simp only []; omega)))
  all_goals omega

/-- The weights' columns of group 8, read in the whole padded array. -/
theorem weights8_apply (k : Fin 1024) (n : Fin 256) :
    V m c main_v25 (ix2 k ⟨1664 + n.val, by omega⟩) = group8 m c (ix2 k n) := by
  rw [V_v25]
  pointwise
  rw [dif_neg, dif_neg, dif_neg, dif_neg, dif_neg, dif_neg, dif_neg, dif_neg, dif_pos]
  · exact congrArg (group8 m c) (congrArg (ix2 k) (Fin.ext (by simp only []; omega)))
  all_goals omega

/-- The weights' columns of group 9, read in the whole padded array. -/
theorem weights9_apply (k : Fin 1024) (n : Fin 256) :
    V m c main_v25 (ix2 k ⟨1920 + n.val, by omega⟩) = group9 m c (ix2 k n) := by
  rw [V_v25]
  pointwise
  rw [dif_neg, dif_neg, dif_neg, dif_neg, dif_neg, dif_neg, dif_neg, dif_neg, dif_neg, dif_pos]
  · exact congrArg (group9 m c) (congrArg (ix2 k) (Fin.ext (by simp only []; omega)))
  all_goals omega

/-- The weights' columns of group 10, read in the whole padded array. -/
theorem weights10_apply (k : Fin 1024) (n : Fin 256) :
    V m c main_v25 (ix2 k ⟨2176 + n.val, by omega⟩) = group10 m c (ix2 k n) := by
  rw [V_v25]
  pointwise
  rw [dif_neg, dif_neg, dif_neg, dif_neg, dif_neg, dif_neg, dif_neg, dif_neg, dif_neg, dif_neg, dif_pos]
  · exact congrArg (group10 m c) (congrArg (ix2 k) (Fin.ext (by simp only []; omega)))
  all_goals omega

/-- The weights' columns of group 11, read in the whole padded array. -/
theorem weights11_apply (k : Fin 1024) (n : Fin 1024) :
    V m c main_v25 (ix2 k ⟨2432 + n.val, by omega⟩) = group11 m c (ix2 k n) := by
  rw [V_v25]
  pointwise
  rw [dif_neg, dif_neg, dif_neg, dif_neg, dif_neg, dif_neg, dif_neg, dif_neg, dif_neg, dif_neg, dif_neg]
  · exact congrArg (group11 m c) (congrArg (ix2 k) (Fin.ext (by simp only []; omega)))
  all_goals omega

/-! ## The arrays of the call -/

/-- The rows as the call takes them. -/
theorem V_v27 : V m c main_v27 = truncf (F := Ideal) .bf16
    (shapeCast S16384x1024 (arg0 m c) shapeCasts_S2x8192x1024_S16384x1024 : FVec Ideal S16384x1024 .f32) bitsLt_bf16_f32 := by
  simp only [V, V0, StableHlo.after_cons, StableHlo.after_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24,
    List.flatten_cons, List.flatten_nil, List.append_nil, List.cons_append, List.nil_append]
  rfl

/-- A row of the batch laid out flat. -/
abbrev row (a : Fin 16384) (k : Fin 1024) : EReal :=
  arg0 m c (ix3 ⟨a.val / 8192, by omega⟩ ⟨a.val % 8192, by omega⟩ k)

/-- The place of window 0's block at a point. -/
theorem idx0 : ∀ t : Fin cfg0.N, win0_0.index t = ![t.val, 0] := (by decide +kernel : ∀ t : Fin grid0.N, _)
/-- The place of window 1's block at a point. -/
theorem idx1 : ∀ t : Fin cfg0.N, win0_1.index t = ![0, 0] := (by decide +kernel : ∀ t : Fin grid0.N, _)
/-- The place of window 2's block at a point. -/
theorem idx2 : ∀ t : Fin cfg0.N, win0_2.index t = ![t.val, 0] := (by decide +kernel : ∀ t : Fin grid0.N, _)
/-- The place of window 3's block at a point. -/
theorem idx3 : ∀ t : Fin cfg0.N, win0_3.index t = ![t.val, 0] := (by decide +kernel : ∀ t : Fin grid0.N, _)
/-- The place of window 4's block at a point. -/
theorem idx4 : ∀ t : Fin cfg0.N, win0_4.index t = ![t.val, 0] := (by decide +kernel : ∀ t : Fin grid0.N, _)
/-- The place of window 5's block at a point. -/
theorem idx5 : ∀ t : Fin cfg0.N, win0_5.index t = ![t.val, 0] := (by decide +kernel : ∀ t : Fin grid0.N, _)
/-- The place of window 6's block at a point. -/
theorem idx6 : ∀ t : Fin cfg0.N, win0_6.index t = ![t.val, 0] := (by decide +kernel : ∀ t : Fin grid0.N, _)
/-- The place of window 7's block at a point. -/
theorem idx7 : ∀ t : Fin cfg0.N, win0_7.index t = ![t.val, 0] := (by decide +kernel : ∀ t : Fin grid0.N, _)
/-- The place of window 8's block at a point. -/
theorem idx8 : ∀ t : Fin cfg0.N, win0_8.index t = ![t.val, 0] := (by decide +kernel : ∀ t : Fin grid0.N, _)
/-- The place of window 9's block at a point. -/
theorem idx9 : ∀ t : Fin cfg0.N, win0_9.index t = ![t.val, 0] := (by decide +kernel : ∀ t : Fin grid0.N, _)
/-- The place of window 10's block at a point. -/
theorem idx10 : ∀ t : Fin cfg0.N, win0_10.index t = ![t.val, 0] := (by decide +kernel : ∀ t : Fin grid0.N, _)
/-- The place of window 11's block at a point. -/
theorem idx11 : ∀ t : Fin cfg0.N, win0_11.index t = ![t.val, 0] := (by decide +kernel : ∀ t : Fin grid0.N, _)
/-- The place of window 12's block at a point. -/
theorem idx12 : ∀ t : Fin cfg0.N, win0_12.index t = ![t.val, 0] := (by decide +kernel : ∀ t : Fin grid0.N, _)
/-- The place of window 13's block at a point. -/
theorem idx13 : ∀ t : Fin cfg0.N, win0_13.index t = ![t.val, 0] := (by decide +kernel : ∀ t : Fin grid0.N, _)

/-- An entry of the block window 0 reads at a point, in the whole array. -/
theorem iblk0_apply (t : Fin cfg0.N) (r : Fin 512) (k : Fin 1024) (a : Fin 16384) (h : a.val = 512 * t.val + r.val) :
    iblk m c 0 t (ix2 r k) = row m c a k := by
  have e : iblk m c 0 t (ix2 r k) = V m c main_v27 ((win0_0.blk t).view.emb (ix2 r k)) := by
    blk_simp [iblk]
  have e' : (win0_0.blk t).view.emb (ix2 r k) = (ix2 a k : S16384x1024.Idx) := by
    blk_ext [idx0 t]
  rw [e, e', V_v27]
  pointwise

/-- An entry of the block window 1 reads at a point, in the whole array. -/
theorem iblk1_apply (t : Fin cfg0.N) (k : Fin 1024) (n : Fin 3456) :
    iblk m c 1 t (ix2 k n) = V m c main_v25 (ix2 k n) := by
  have e : iblk m c 1 t (ix2 k n) = V m c main_v25 ((win0_1.blk t).view.emb (ix2 k n)) := by
    blk_simp [iblk]
  have e' : (win0_1.blk t).view.emb (ix2 k n) = (ix2 k n : S1024x3456.Idx) := by
    blk_ext [idx1 t]
  rw [e, e']

/-- The columns a point reads for group 0. -/
theorem ld0 (x : Vec Ideal S1024x3456 .bf16) (k : Fin 1024) (n : Fin 128) :
    View.ld x r0_1 (ix2 k n) = x (ix2 k ⟨0 + n.val, by omega⟩) :=
  congrArg x (funext fun a => Fin.ext (by
    match a with
    | 0 => show 0 + 1 * k.val = k.val; omega
    | 1 => show 0 + 1 * n.val = 0 + n.val; omega))

/-- A point's rows times the columns of group 0. -/
theorem pay0_apply (x : Vec Ideal S512x1024 .bf16) (w : Vec Ideal S1024x128 .bf16) (r : Fin 512) (n : Fin 128) :
    k0_pay3 (F := Ideal) x w (ix2 r n) = ∑ k : Fin 1024, x (ix2 r k) * w (ix2 k n) := by
  pointwise [k0_pay3, k0_pay2]

/-- Every row times the columns of group 0. -/
def product0 : FVec Ideal S16384x128 .f32 := fun i =>
  ∑ k : Fin 1024, row m c (i 0) k * group0 m c (ix2 k (i 1))

/-- The array of group 0 after the run: the product of the two arguments. -/
theorem array0 : (dats m 0 c).arrAt 2 cfg0.N = product0 m c := by
  refine (dats m 0 c).arrAt_eq_of_covers 2 _ (by decide +kernel) fun t hf y => ?_
  blk_simp
  rw [after0_2]
  frame_out
  obtain ⟨r, n, rfl⟩ : ∃ (r : Fin 512) (n : Fin 128), y = ix2 r n :=
    ⟨y 0, y 1, funext fun x => by match x with | 0 => rfl | 1 => rfl⟩
  have hN := lt_of_lt_of_eq t.isLt (show cfg0.N = 32 from N_0)
  have e' : (win0_2.blk t).view.emb (ix2 r n) = (ix2 ⟨512 * t.val + r.val, by omega⟩ n : S16384x128.Idx) := by
    blk_ext [idx2 t]
  rw [e']
  have hx := fun k => iblk0_apply m c t r k ⟨512 * t.val + r.val, by omega⟩ rfl
  have hw := fun k => (ld0 (iblk m c 1 t) k n).trans ((iblk1_apply m c t k _).trans (weights0_apply m c k n))
  exact (pay0_apply _ _ r n).trans (Finset.sum_congr rfl fun k _ => congrArg₂ (· * ·) (hx k) (hw k))

/-- The columns a point reads for group 1. -/
theorem ld1 (x : Vec Ideal S1024x3456 .bf16) (k : Fin 1024) (n : Fin 128) :
    View.ld x r0_3 (ix2 k n) = x (ix2 k ⟨128 + n.val, by omega⟩) :=
  congrArg x (funext fun a => Fin.ext (by
    match a with
    | 0 => show 0 + 1 * k.val = k.val; omega
    | 1 => show 128 + 1 * n.val = 128 + n.val; omega))

/-- A point's rows times the columns of group 1. -/
theorem pay1_apply (x : Vec Ideal S512x1024 .bf16) (w : Vec Ideal S1024x128 .bf16) (r : Fin 512) (n : Fin 128) :
    k0_pay4 (F := Ideal) x w (ix2 r n) = ∑ k : Fin 1024, x (ix2 r k) * w (ix2 k n) := by
  pointwise [k0_pay4, k0_pay2]

/-- Every row times the columns of group 1. -/
def product1 : FVec Ideal S16384x128 .f32 := fun i =>
  ∑ k : Fin 1024, row m c (i 0) k * group1 m c (ix2 k (i 1))

/-- The array of group 1 after the run: the product of the two arguments. -/
theorem array1 : (dats m 0 c).arrAt 3 cfg0.N = product1 m c := by
  refine (dats m 0 c).arrAt_eq_of_covers 3 _ (by decide +kernel) fun t hf y => ?_
  blk_simp
  rw [after0_3]
  frame_out
  obtain ⟨r, n, rfl⟩ : ∃ (r : Fin 512) (n : Fin 128), y = ix2 r n :=
    ⟨y 0, y 1, funext fun x => by match x with | 0 => rfl | 1 => rfl⟩
  have hN := lt_of_lt_of_eq t.isLt (show cfg0.N = 32 from N_0)
  have e' : (win0_3.blk t).view.emb (ix2 r n) = (ix2 ⟨512 * t.val + r.val, by omega⟩ n : S16384x128.Idx) := by
    blk_ext [idx3 t]
  rw [e']
  have hx := fun k => iblk0_apply m c t r k ⟨512 * t.val + r.val, by omega⟩ rfl
  have hw := fun k => (ld1 (iblk m c 1 t) k n).trans ((iblk1_apply m c t k _).trans (weights1_apply m c k n))
  exact (pay1_apply _ _ r n).trans (Finset.sum_congr rfl fun k _ => congrArg₂ (· * ·) (hx k) (hw k))

/-- The columns a point reads for group 2. -/
theorem ld2 (x : Vec Ideal S1024x3456 .bf16) (k : Fin 1024) (n : Fin 256) :
    View.ld x r0_4 (ix2 k n) = x (ix2 k ⟨256 + n.val, by omega⟩) :=
  congrArg x (funext fun a => Fin.ext (by
    match a with
    | 0 => show 0 + 1 * k.val = k.val; omega
    | 1 => show 256 + 1 * n.val = 256 + n.val; omega))

/-- A point's rows times the columns of group 2. -/
theorem pay2_apply (x : Vec Ideal S512x1024 .bf16) (w : Vec Ideal S1024x256 .bf16) (r : Fin 512) (n : Fin 256) :
    k0_pay5 (F := Ideal) x w (ix2 r n) = ∑ k : Fin 1024, x (ix2 r k) * w (ix2 k n) := by
  pointwise [k0_pay5, k0_pay2]

/-- Every row times the columns of group 2. -/
def product2 : FVec Ideal S16384x256 .f32 := fun i =>
  ∑ k : Fin 1024, row m c (i 0) k * group2 m c (ix2 k (i 1))

/-- The array of group 2 after the run: the product of the two arguments. -/
theorem array2 : (dats m 0 c).arrAt 4 cfg0.N = product2 m c := by
  refine (dats m 0 c).arrAt_eq_of_covers 4 _ (by decide +kernel) fun t hf y => ?_
  blk_simp
  rw [after0_4]
  frame_out
  obtain ⟨r, n, rfl⟩ : ∃ (r : Fin 512) (n : Fin 256), y = ix2 r n :=
    ⟨y 0, y 1, funext fun x => by match x with | 0 => rfl | 1 => rfl⟩
  have hN := lt_of_lt_of_eq t.isLt (show cfg0.N = 32 from N_0)
  have e' : (win0_4.blk t).view.emb (ix2 r n) = (ix2 ⟨512 * t.val + r.val, by omega⟩ n : S16384x256.Idx) := by
    blk_ext [idx4 t]
  rw [e']
  have hx := fun k => iblk0_apply m c t r k ⟨512 * t.val + r.val, by omega⟩ rfl
  have hw := fun k => (ld2 (iblk m c 1 t) k n).trans ((iblk1_apply m c t k _).trans (weights2_apply m c k n))
  exact (pay2_apply _ _ r n).trans (Finset.sum_congr rfl fun k _ => congrArg₂ (· * ·) (hx k) (hw k))

/-- The columns a point reads for group 3. -/
theorem ld3 (x : Vec Ideal S1024x3456 .bf16) (k : Fin 1024) (n : Fin 128) :
    View.ld x r0_6 (ix2 k n) = x (ix2 k ⟨512 + n.val, by omega⟩) :=
  congrArg x (funext fun a => Fin.ext (by
    match a with
    | 0 => show 0 + 1 * k.val = k.val; omega
    | 1 => show 512 + 1 * n.val = 512 + n.val; omega))

/-- A point's rows times the columns of group 3. -/
theorem pay3_apply (x : Vec Ideal S512x1024 .bf16) (w : Vec Ideal S1024x128 .bf16) (r : Fin 512) (n : Fin 128) :
    k0_pay6 (F := Ideal) x w (ix2 r n) = ∑ k : Fin 1024, x (ix2 r k) * w (ix2 k n) := by
  pointwise [k0_pay6, k0_pay2]

/-- Every row times the columns of group 3. -/
def product3 : FVec Ideal S16384x128 .f32 := fun i =>
  ∑ k : Fin 1024, row m c (i 0) k * group3 m c (ix2 k (i 1))

/-- The array of group 3 after the run: the product of the two arguments. -/
theorem array3 : (dats m 0 c).arrAt 5 cfg0.N = product3 m c := by
  refine (dats m 0 c).arrAt_eq_of_covers 5 _ (by decide +kernel) fun t hf y => ?_
  blk_simp
  rw [after0_5]
  frame_out
  obtain ⟨r, n, rfl⟩ : ∃ (r : Fin 512) (n : Fin 128), y = ix2 r n :=
    ⟨y 0, y 1, funext fun x => by match x with | 0 => rfl | 1 => rfl⟩
  have hN := lt_of_lt_of_eq t.isLt (show cfg0.N = 32 from N_0)
  have e' : (win0_5.blk t).view.emb (ix2 r n) = (ix2 ⟨512 * t.val + r.val, by omega⟩ n : S16384x128.Idx) := by
    blk_ext [idx5 t]
  rw [e']
  have hx := fun k => iblk0_apply m c t r k ⟨512 * t.val + r.val, by omega⟩ rfl
  have hw := fun k => (ld3 (iblk m c 1 t) k n).trans ((iblk1_apply m c t k _).trans (weights3_apply m c k n))
  exact (pay3_apply _ _ r n).trans (Finset.sum_congr rfl fun k _ => congrArg₂ (· * ·) (hx k) (hw k))

/-- The columns a point reads for group 4. -/
theorem ld4 (x : Vec Ideal S1024x3456 .bf16) (k : Fin 1024) (n : Fin 256) :
    View.ld x r0_7 (ix2 k n) = x (ix2 k ⟨640 + n.val, by omega⟩) :=
  congrArg x (funext fun a => Fin.ext (by
    match a with
    | 0 => show 0 + 1 * k.val = k.val; omega
    | 1 => show 640 + 1 * n.val = 640 + n.val; omega))

/-- A point's rows times the columns of group 4. -/
theorem pay4_apply (x : Vec Ideal S512x1024 .bf16) (w : Vec Ideal S1024x256 .bf16) (r : Fin 512) (n : Fin 256) :
    k0_pay7 (F := Ideal) x w (ix2 r n) = ∑ k : Fin 1024, x (ix2 r k) * w (ix2 k n) := by
  pointwise [k0_pay7, k0_pay2]

/-- Every row times the columns of group 4. -/
def product4 : FVec Ideal S16384x256 .f32 := fun i =>
  ∑ k : Fin 1024, row m c (i 0) k * group4 m c (ix2 k (i 1))

/-- The array of group 4 after the run: the product of the two arguments. -/
theorem array4 : (dats m 0 c).arrAt 6 cfg0.N = product4 m c := by
  refine (dats m 0 c).arrAt_eq_of_covers 6 _ (by decide +kernel) fun t hf y => ?_
  blk_simp
  rw [after0_6]
  frame_out
  obtain ⟨r, n, rfl⟩ : ∃ (r : Fin 512) (n : Fin 256), y = ix2 r n :=
    ⟨y 0, y 1, funext fun x => by match x with | 0 => rfl | 1 => rfl⟩
  have hN := lt_of_lt_of_eq t.isLt (show cfg0.N = 32 from N_0)
  have e' : (win0_6.blk t).view.emb (ix2 r n) = (ix2 ⟨512 * t.val + r.val, by omega⟩ n : S16384x256.Idx) := by
    blk_ext [idx6 t]
  rw [e']
  have hx := fun k => iblk0_apply m c t r k ⟨512 * t.val + r.val, by omega⟩ rfl
  have hw := fun k => (ld4 (iblk m c 1 t) k n).trans ((iblk1_apply m c t k _).trans (weights4_apply m c k n))
  exact (pay4_apply _ _ r n).trans (Finset.sum_congr rfl fun k _ => congrArg₂ (· * ·) (hx k) (hw k))

/-- The columns a point reads for group 5. -/
theorem ld5 (x : Vec Ideal S1024x3456 .bf16) (k : Fin 1024) (n : Fin 256) :
    View.ld x r0_8 (ix2 k n) = x (ix2 k ⟨896 + n.val, by omega⟩) :=
  congrArg x (funext fun a => Fin.ext (by
    match a with
    | 0 => show 0 + 1 * k.val = k.val; omega
    | 1 => show 896 + 1 * n.val = 896 + n.val; omega))

/-- A point's rows times the columns of group 5. -/
theorem pay5_apply (x : Vec Ideal S512x1024 .bf16) (y : Vec Ideal S1024x3456 .bf16) (w : Vec Ideal S1024x256 .bf16) (r : Fin 512) (n : Fin 256) :
    k0_pay9 (F := Ideal) (k0_pay16 x y) (k0_pay8 w) (constant S512x256 .f32 0x00000000#32) (ix2 r n) = ∑ k : Fin 1024, x (ix2 r k) * w (ix2 k n) := by
  pointwise [k0_pay9, k0_pay16, k0_pay8, k0_pay2]

/-- Every row times the columns of group 5. -/
def product5 : FVec Ideal S16384x256 .f32 := fun i =>
  ∑ k : Fin 1024, row m c (i 0) k * group5 m c (ix2 k (i 1))

/-- The array of group 5 after the run: the product of the two arguments. -/
theorem array5 : (dats m 0 c).arrAt 7 cfg0.N = product5 m c := by
  refine (dats m 0 c).arrAt_eq_of_covers 7 _ (by decide +kernel) fun t hf y => ?_
  blk_simp
  rw [after0_7]
  frame_out
  obtain ⟨r, n, rfl⟩ : ∃ (r : Fin 512) (n : Fin 256), y = ix2 r n :=
    ⟨y 0, y 1, funext fun x => by match x with | 0 => rfl | 1 => rfl⟩
  have hN := lt_of_lt_of_eq t.isLt (show cfg0.N = 32 from N_0)
  have e' : (win0_7.blk t).view.emb (ix2 r n) = (ix2 ⟨512 * t.val + r.val, by omega⟩ n : S16384x256.Idx) := by
    blk_ext [idx7 t]
  rw [e']
  have hx := fun k => iblk0_apply m c t r k ⟨512 * t.val + r.val, by omega⟩ rfl
  have hw := fun k => (ld5 (iblk m c 1 t) k n).trans ((iblk1_apply m c t k _).trans (weights5_apply m c k n))
  exact (pay5_apply _ _ _ r n).trans (Finset.sum_congr rfl fun k _ => congrArg₂ (· * ·) (hx k) (hw k))

/-- The columns a point reads for group 6. -/
theorem ld6 (x : Vec Ideal S1024x3456 .bf16) (k : Fin 1024) (n : Fin 384) :
    View.ld x r0_9 (ix2 k n) = x (ix2 k ⟨1152 + n.val, by omega⟩) :=
  congrArg x (funext fun a => Fin.ext (by
    match a with
    | 0 => show 0 + 1 * k.val = k.val; omega
    | 1 => show 1152 + 1 * n.val = 1152 + n.val; omega))

/-- A point's rows times the columns of group 6. -/
theorem pay6_apply (x : Vec Ideal S512x1024 .bf16) (y : Vec Ideal S1024x3456 .bf16) (w : Vec Ideal S1024x384 .bf16) (r : Fin 512) (n : Fin 384) :
    k0_pay10 (F := Ideal) (k0_pay16 x y) w (ix2 r n) = ∑ k : Fin 1024, x (ix2 r k) * w (ix2 k n) := by
  pointwise [k0_pay10, k0_pay16, k0_pay2]

/-- Every row times the columns of group 6. -/
def product6 : FVec Ideal S16384x384 .f32 := fun i =>
  ∑ k : Fin 1024, row m c (i 0) k * group6 m c (ix2 k (i 1))

/-- The array of group 6 after the run: the product of the two arguments. -/
theorem array6 : (dats m 0 c).arrAt 8 cfg0.N = product6 m c := by
  refine (dats m 0 c).arrAt_eq_of_covers 8 _ (by decide +kernel) fun t hf y => ?_
  blk_simp
  rw [after0_8]
  frame_out
  obtain ⟨r, n, rfl⟩ : ∃ (r : Fin 512) (n : Fin 384), y = ix2 r n :=
    ⟨y 0, y 1, funext fun x => by match x with | 0 => rfl | 1 => rfl⟩
  have hN := lt_of_lt_of_eq t.isLt (show cfg0.N = 32 from N_0)
  have e' : (win0_8.blk t).view.emb (ix2 r n) = (ix2 ⟨512 * t.val + r.val, by omega⟩ n : S16384x384.Idx) := by
    blk_ext [idx8 t]
  rw [e']
  have hx := fun k => iblk0_apply m c t r k ⟨512 * t.val + r.val, by omega⟩ rfl
  have hw := fun k => (ld6 (iblk m c 1 t) k n).trans ((iblk1_apply m c t k _).trans (weights6_apply m c k n))
  exact (pay6_apply _ _ _ r n).trans (Finset.sum_congr rfl fun k _ => congrArg₂ (· * ·) (hx k) (hw k))

/-- The columns a point reads for group 7. -/
theorem ld7 (x : Vec Ideal S1024x3456 .bf16) (k : Fin 1024) (n : Fin 128) :
    View.ld x r0_11 (ix2 k n) = x (ix2 k ⟨1536 + n.val, by omega⟩) :=
  congrArg x (funext fun a => Fin.ext (by
    match a with
    | 0 => show 0 + 1 * k.val = k.val; omega
    | 1 => show 1536 + 1 * n.val = 1536 + n.val; omega))

/-- A point's rows times the columns of group 7. -/
theorem pay7_apply (x : Vec Ideal S512x1024 .bf16) (y : Vec Ideal S1024x3456 .bf16) (w : Vec Ideal S1024x128 .bf16) (r : Fin 512) (n : Fin 128) :
    k0_pay11 (F := Ideal) (k0_pay16 x y) w (ix2 r n) = ∑ k : Fin 1024, x (ix2 r k) * w (ix2 k n) := by
  pointwise [k0_pay11, k0_pay16, k0_pay2]

/-- Every row times the columns of group 7. -/
def product7 : FVec Ideal S16384x128 .f32 := fun i =>
  ∑ k : Fin 1024, row m c (i 0) k * group7 m c (ix2 k (i 1))

/-- The array of group 7 after the run: the product of the two arguments. -/
theorem array7 : (dats m 0 c).arrAt 9 cfg0.N = product7 m c := by
  refine (dats m 0 c).arrAt_eq_of_covers 9 _ (by decide +kernel) fun t hf y => ?_
  blk_simp
  rw [after0_9]
  frame_out
  obtain ⟨r, n, rfl⟩ : ∃ (r : Fin 512) (n : Fin 128), y = ix2 r n :=
    ⟨y 0, y 1, funext fun x => by match x with | 0 => rfl | 1 => rfl⟩
  have hN := lt_of_lt_of_eq t.isLt (show cfg0.N = 32 from N_0)
  have e' : (win0_9.blk t).view.emb (ix2 r n) = (ix2 ⟨512 * t.val + r.val, by omega⟩ n : S16384x128.Idx) := by
    blk_ext [idx9 t]
  rw [e']
  have hx := fun k => iblk0_apply m c t r k ⟨512 * t.val + r.val, by omega⟩ rfl
  have hw := fun k => (ld7 (iblk m c 1 t) k n).trans ((iblk1_apply m c t k _).trans (weights7_apply m c k n))
  exact (pay7_apply _ _ _ r n).trans (Finset.sum_congr rfl fun k _ => congrArg₂ (· * ·) (hx k) (hw k))

/-- The columns a point reads for group 8. -/
theorem ld8 (x : Vec Ideal S1024x3456 .bf16) (k : Fin 1024) (n : Fin 256) :
    View.ld x r0_12 (ix2 k n) = x (ix2 k ⟨1664 + n.val, by omega⟩) :=
  congrArg x (funext fun a => Fin.ext (by
    match a with
    | 0 => show 0 + 1 * k.val = k.val; omega
    | 1 => show 1664 + 1 * n.val = 1664 + n.val; omega))

/-- A point's rows times the columns of group 8. -/
theorem pay8_apply (x : Vec Ideal S512x1024 .bf16) (y : Vec Ideal S1024x3456 .bf16) (w : Vec Ideal S1024x256 .bf16) (r : Fin 512) (n : Fin 256) :
    k0_pay12 (F := Ideal) (k0_pay16 x y) w (ix2 r n) = ∑ k : Fin 1024, x (ix2 r k) * w (ix2 k n) := by
  pointwise [k0_pay12, k0_pay16, k0_pay2]

/-- Every row times the columns of group 8. -/
def product8 : FVec Ideal S16384x256 .f32 := fun i =>
  ∑ k : Fin 1024, row m c (i 0) k * group8 m c (ix2 k (i 1))

/-- The array of group 8 after the run: the product of the two arguments. -/
theorem array8 : (dats m 0 c).arrAt 10 cfg0.N = product8 m c := by
  refine (dats m 0 c).arrAt_eq_of_covers 10 _ (by decide +kernel) fun t hf y => ?_
  blk_simp
  rw [after0_10]
  frame_out
  obtain ⟨r, n, rfl⟩ : ∃ (r : Fin 512) (n : Fin 256), y = ix2 r n :=
    ⟨y 0, y 1, funext fun x => by match x with | 0 => rfl | 1 => rfl⟩
  have hN := lt_of_lt_of_eq t.isLt (show cfg0.N = 32 from N_0)
  have e' : (win0_10.blk t).view.emb (ix2 r n) = (ix2 ⟨512 * t.val + r.val, by omega⟩ n : S16384x256.Idx) := by
    blk_ext [idx10 t]
  rw [e']
  have hx := fun k => iblk0_apply m c t r k ⟨512 * t.val + r.val, by omega⟩ rfl
  have hw := fun k => (ld8 (iblk m c 1 t) k n).trans ((iblk1_apply m c t k _).trans (weights8_apply m c k n))
  exact (pay8_apply _ _ _ r n).trans (Finset.sum_congr rfl fun k _ => congrArg₂ (· * ·) (hx k) (hw k))

/-- The columns a point reads for group 9. -/
theorem ld9 (x : Vec Ideal S1024x3456 .bf16) (k : Fin 1024) (n : Fin 256) :
    View.ld x r0_13 (ix2 k n) = x (ix2 k ⟨1920 + n.val, by omega⟩) :=
  congrArg x (funext fun a => Fin.ext (by
    match a with
    | 0 => show 0 + 1 * k.val = k.val; omega
    | 1 => show 1920 + 1 * n.val = 1920 + n.val; omega))

/-- A point's rows times the columns of group 9. -/
theorem pay9_apply (x : Vec Ideal S512x1024 .bf16) (y : Vec Ideal S1024x3456 .bf16) (w : Vec Ideal S1024x256 .bf16) (r : Fin 512) (n : Fin 256) :
    k0_pay13 (F := Ideal) (k0_pay16 x y) w (ix2 r n) = ∑ k : Fin 1024, x (ix2 r k) * w (ix2 k n) := by
  pointwise [k0_pay13, k0_pay16, k0_pay2]

/-- Every row times the columns of group 9. -/
def product9 : FVec Ideal S16384x256 .f32 := fun i =>
  ∑ k : Fin 1024, row m c (i 0) k * group9 m c (ix2 k (i 1))

/-- The array of group 9 after the run: the product of the two arguments. -/
theorem array9 : (dats m 0 c).arrAt 11 cfg0.N = product9 m c := by
  refine (dats m 0 c).arrAt_eq_of_covers 11 _ (by decide +kernel) fun t hf y => ?_
  blk_simp
  rw [after0_11]
  frame_out
  obtain ⟨r, n, rfl⟩ : ∃ (r : Fin 512) (n : Fin 256), y = ix2 r n :=
    ⟨y 0, y 1, funext fun x => by match x with | 0 => rfl | 1 => rfl⟩
  have hN := lt_of_lt_of_eq t.isLt (show cfg0.N = 32 from N_0)
  have e' : (win0_11.blk t).view.emb (ix2 r n) = (ix2 ⟨512 * t.val + r.val, by omega⟩ n : S16384x256.Idx) := by
    blk_ext [idx11 t]
  rw [e']
  have hx := fun k => iblk0_apply m c t r k ⟨512 * t.val + r.val, by omega⟩ rfl
  have hw := fun k => (ld9 (iblk m c 1 t) k n).trans ((iblk1_apply m c t k _).trans (weights9_apply m c k n))
  exact (pay9_apply _ _ _ r n).trans (Finset.sum_congr rfl fun k _ => congrArg₂ (· * ·) (hx k) (hw k))

/-- The columns a point reads for group 10. -/
theorem ld10 (x : Vec Ideal S1024x3456 .bf16) (k : Fin 1024) (n : Fin 256) :
    View.ld x r0_14 (ix2 k n) = x (ix2 k ⟨2176 + n.val, by omega⟩) :=
  congrArg x (funext fun a => Fin.ext (by
    match a with
    | 0 => show 0 + 1 * k.val = k.val; omega
    | 1 => show 2176 + 1 * n.val = 2176 + n.val; omega))

/-- A point's rows times the columns of group 10. -/
theorem pay10_apply (x : Vec Ideal S512x1024 .bf16) (y : Vec Ideal S1024x3456 .bf16) (w : Vec Ideal S1024x256 .bf16) (r : Fin 512) (n : Fin 256) :
    k0_pay14 (F := Ideal) (k0_pay16 x y) w (ix2 r n) = ∑ k : Fin 1024, x (ix2 r k) * w (ix2 k n) := by
  pointwise [k0_pay14, k0_pay16, k0_pay2]

/-- Every row times the columns of group 10. -/
def product10 : FVec Ideal S16384x256 .f32 := fun i =>
  ∑ k : Fin 1024, row m c (i 0) k * group10 m c (ix2 k (i 1))

/-- The array of group 10 after the run: the product of the two arguments. -/
theorem array10 : (dats m 0 c).arrAt 12 cfg0.N = product10 m c := by
  refine (dats m 0 c).arrAt_eq_of_covers 12 _ (by decide +kernel) fun t hf y => ?_
  blk_simp
  rw [after0_12]
  frame_out
  obtain ⟨r, n, rfl⟩ : ∃ (r : Fin 512) (n : Fin 256), y = ix2 r n :=
    ⟨y 0, y 1, funext fun x => by match x with | 0 => rfl | 1 => rfl⟩
  have hN := lt_of_lt_of_eq t.isLt (show cfg0.N = 32 from N_0)
  have e' : (win0_12.blk t).view.emb (ix2 r n) = (ix2 ⟨512 * t.val + r.val, by omega⟩ n : S16384x256.Idx) := by
    blk_ext [idx12 t]
  rw [e']
  have hx := fun k => iblk0_apply m c t r k ⟨512 * t.val + r.val, by omega⟩ rfl
  have hw := fun k => (ld10 (iblk m c 1 t) k n).trans ((iblk1_apply m c t k _).trans (weights10_apply m c k n))
  exact (pay10_apply _ _ _ r n).trans (Finset.sum_congr rfl fun k _ => congrArg₂ (· * ·) (hx k) (hw k))

/-- The columns a point reads for group 11. -/
theorem ld11 (x : Vec Ideal S1024x3456 .bf16) (k : Fin 1024) (n : Fin 1024) :
    View.ld x r0_15 (ix2 k n) = x (ix2 k ⟨2432 + n.val, by omega⟩) :=
  congrArg x (funext fun a => Fin.ext (by
    match a with
    | 0 => show 0 + 1 * k.val = k.val; omega
    | 1 => show 2432 + 1 * n.val = 2432 + n.val; omega))

/-- A point's rows times the columns of group 11. -/
theorem pay11_apply (x : Vec Ideal S512x1024 .bf16) (y : Vec Ideal S1024x3456 .bf16) (w : Vec Ideal S1024x1024 .bf16) (r : Fin 512) (n : Fin 1024) :
    k0_pay1 (F := Ideal) (k0_pay16 x y) (k0_pay15 w) (constant S512x1024 .f32 0x00000000#32) (ix2 r n) = ∑ k : Fin 1024, x (ix2 r k) * w (ix2 k n) := by
  pointwise [k0_pay1, k0_pay16, k0_pay15, k0_pay2]

/-- Every row times the columns of group 11. -/
def product11 : FVec Ideal S16384x1024 .f32 := fun i =>
  ∑ k : Fin 1024, row m c (i 0) k * group11 m c (ix2 k (i 1))

/-- The array of group 11 after the run: the product of the two arguments. -/
theorem array11 : (dats m 0 c).arrAt 13 cfg0.N = product11 m c := by
  refine (dats m 0 c).arrAt_eq_of_covers 13 _ (by decide +kernel) fun t hf y => ?_
  blk_simp
  rw [after0_13]
  frame_out
  obtain ⟨r, n, rfl⟩ : ∃ (r : Fin 512) (n : Fin 1024), y = ix2 r n :=
    ⟨y 0, y 1, funext fun x => by match x with | 0 => rfl | 1 => rfl⟩
  have hN := lt_of_lt_of_eq t.isLt (show cfg0.N = 32 from N_0)
  have e' : (win0_13.blk t).view.emb (ix2 r n) = (ix2 ⟨512 * t.val + r.val, by omega⟩ n : S16384x1024.Idx) := by
    blk_ext [idx13 t]
  rw [e']
  have hx := fun k => iblk0_apply m c t r k ⟨512 * t.val + r.val, by omega⟩ rfl
  have hw := fun k => (ld11 (iblk m c 1 t) k n).trans ((iblk1_apply m c t k _).trans (weights11_apply m c k n))
  exact (pay11_apply _ _ _ r n).trans (Finset.sum_congr rfl fun k _ => congrArg₂ (· * ·) (hx k) (hw k))

/-! ## The rows the layer keeps, against the reference's columns -/

/-- Group 0 is the reference's columns 0 to 127. -/
theorem columns0 : shapeCast S2x8192x128 (product0 m c) shapeCasts_S16384x128_S2x8192x128
    = val_main_v1 (F := Ideal) (arg0 m c) (arg1 m c) := by
  funext i
  obtain ⟨b, t, n, rfl⟩ : ∃ (b : Fin 2) (t : Fin 8192) (n : Fin 128), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product0 m c (ix2 (⟨b.val * 8192 + t.val, by omega⟩ : Fin 16384) (⟨n.val, by omega⟩ : Fin 128))
      = ∑ k : Fin 1024, arg0 m c (ix3 b t k) * arg1 m c (ix2 k ⟨n.val, by omega⟩) :=
    Finset.sum_congr rfl fun k _ => congrArg₂ (· * ·) (congrFun ha k) (group0_apply m c k ⟨n.val, by omega⟩ n.isLt)
  pointwise [val_main_v1, val_main_v0]
  exact hp

/-- Group 1 is the reference's columns 128 to 255. -/
theorem columns1 : shapeCast S2x8192x128 (product1 m c) shapeCasts_S16384x128_S2x8192x128
    = val_main_v2 (F := Ideal) (arg0 m c) (arg1 m c) := by
  funext i
  obtain ⟨b, t, n, rfl⟩ : ∃ (b : Fin 2) (t : Fin 8192) (n : Fin 128), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product1 m c (ix2 (⟨b.val * 8192 + t.val, by omega⟩ : Fin 16384) (⟨n.val, by omega⟩ : Fin 128))
      = ∑ k : Fin 1024, arg0 m c (ix3 b t k) * arg1 m c (ix2 k ⟨128 + n.val, by omega⟩) :=
    Finset.sum_congr rfl fun k _ => congrArg₂ (· * ·) (congrFun ha k) (group1_apply m c k ⟨n.val, by omega⟩ n.isLt)
  pointwise [val_main_v2, val_main_v0]
  exact hp

/-- Group 2 is the reference's columns 256 to 511. -/
theorem columns2 : shapeCast S2x8192x256 (product2 m c) shapeCasts_S16384x256_S2x8192x256
    = val_main_v3 (F := Ideal) (arg0 m c) (arg1 m c) := by
  funext i
  obtain ⟨b, t, n, rfl⟩ : ∃ (b : Fin 2) (t : Fin 8192) (n : Fin 256), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product2 m c (ix2 (⟨b.val * 8192 + t.val, by omega⟩ : Fin 16384) (⟨n.val, by omega⟩ : Fin 256))
      = ∑ k : Fin 1024, arg0 m c (ix3 b t k) * arg1 m c (ix2 k ⟨256 + n.val, by omega⟩) :=
    Finset.sum_congr rfl fun k _ => congrArg₂ (· * ·) (congrFun ha k) (group2_apply m c k ⟨n.val, by omega⟩ n.isLt)
  pointwise [val_main_v3, val_main_v0]
  exact hp

/-- Group 3 is the reference's columns 512 to 527. -/
theorem columns3 : extractStridedSlice S2x8192x16 ![0, 0, 0] (shapeCast S2x8192x128 (product3 m c) shapeCasts_S16384x128_S2x8192x128) slices_S2x8192x128_S2x8192x16_0_0_0
    = val_main_v4 (F := Ideal) (arg0 m c) (arg1 m c) := by
  funext i
  obtain ⟨b, t, n, rfl⟩ : ∃ (b : Fin 2) (t : Fin 8192) (n : Fin 16), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product3 m c (ix2 (⟨b.val * 8192 + t.val, by omega⟩ : Fin 16384) (⟨n.val, by omega⟩ : Fin 128))
      = ∑ k : Fin 1024, arg0 m c (ix3 b t k) * arg1 m c (ix2 k ⟨512 + n.val, by omega⟩) :=
    Finset.sum_congr rfl fun k _ => congrArg₂ (· * ·) (congrFun ha k) (group3_apply m c k ⟨n.val, by omega⟩ n.isLt)
  pointwise [val_main_v4, val_main_v0]
  exact hp

/-- Group 4 is the reference's columns 528 to 783. -/
theorem columns4 : shapeCast S2x8192x256 (product4 m c) shapeCasts_S16384x256_S2x8192x256
    = val_main_v5 (F := Ideal) (arg0 m c) (arg1 m c) := by
  funext i
  obtain ⟨b, t, n, rfl⟩ : ∃ (b : Fin 2) (t : Fin 8192) (n : Fin 256), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product4 m c (ix2 (⟨b.val * 8192 + t.val, by omega⟩ : Fin 16384) (⟨n.val, by omega⟩ : Fin 256))
      = ∑ k : Fin 1024, arg0 m c (ix3 b t k) * arg1 m c (ix2 k ⟨528 + n.val, by omega⟩) :=
    Finset.sum_congr rfl fun k _ => congrArg₂ (· * ·) (congrFun ha k) (group4_apply m c k ⟨n.val, by omega⟩ n.isLt)
  pointwise [val_main_v5, val_main_v0]
  exact hp

/-- Group 5 is the reference's columns 784 to 1039. -/
theorem columns5 : shapeCast S2x8192x256 (product5 m c) shapeCasts_S16384x256_S2x8192x256
    = val_main_v6 (F := Ideal) (arg0 m c) (arg1 m c) := by
  funext i
  obtain ⟨b, t, n, rfl⟩ : ∃ (b : Fin 2) (t : Fin 8192) (n : Fin 256), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product5 m c (ix2 (⟨b.val * 8192 + t.val, by omega⟩ : Fin 16384) (⟨n.val, by omega⟩ : Fin 256))
      = ∑ k : Fin 1024, arg0 m c (ix3 b t k) * arg1 m c (ix2 k ⟨784 + n.val, by omega⟩) :=
    Finset.sum_congr rfl fun k _ => congrArg₂ (· * ·) (congrFun ha k) (group5_apply m c k ⟨n.val, by omega⟩ n.isLt)
  pointwise [val_main_v6, val_main_v0]
  exact hp

/-- Group 6 is the reference's columns 1040 to 1423. -/
theorem columns6 : shapeCast S2x8192x384 (product6 m c) shapeCasts_S16384x384_S2x8192x384
    = val_main_v7 (F := Ideal) (arg0 m c) (arg1 m c) := by
  funext i
  obtain ⟨b, t, n, rfl⟩ : ∃ (b : Fin 2) (t : Fin 8192) (n : Fin 384), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product6 m c (ix2 (⟨b.val * 8192 + t.val, by omega⟩ : Fin 16384) (⟨n.val, by omega⟩ : Fin 384))
      = ∑ k : Fin 1024, arg0 m c (ix3 b t k) * arg1 m c (ix2 k ⟨1040 + n.val, by omega⟩) :=
    Finset.sum_congr rfl fun k _ => congrArg₂ (· * ·) (congrFun ha k) (group6_apply m c k ⟨n.val, by omega⟩ n.isLt)
  pointwise [val_main_v7, val_main_v0]
  exact hp

/-- Group 7 is the reference's columns 1424 to 1435. -/
theorem columns7 : extractStridedSlice S2x8192x12 ![0, 0, 0] (shapeCast S2x8192x128 (product7 m c) shapeCasts_S16384x128_S2x8192x128) slices_S2x8192x128_S2x8192x12_0_0_0
    = val_main_v8 (F := Ideal) (arg0 m c) (arg1 m c) := by
  funext i
  obtain ⟨b, t, n, rfl⟩ : ∃ (b : Fin 2) (t : Fin 8192) (n : Fin 12), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product7 m c (ix2 (⟨b.val * 8192 + t.val, by omega⟩ : Fin 16384) (⟨n.val, by omega⟩ : Fin 128))
      = ∑ k : Fin 1024, arg0 m c (ix3 b t k) * arg1 m c (ix2 k ⟨1424 + n.val, by omega⟩) :=
    Finset.sum_congr rfl fun k _ => congrArg₂ (· * ·) (congrFun ha k) (group7_apply m c k ⟨n.val, by omega⟩ n.isLt)
  pointwise [val_main_v8, val_main_v0]
  exact hp

/-- Group 8 is the reference's columns 1436 to 1691. -/
theorem columns8 : shapeCast S2x8192x256 (product8 m c) shapeCasts_S16384x256_S2x8192x256
    = val_main_v9 (F := Ideal) (arg0 m c) (arg1 m c) := by
  funext i
  obtain ⟨b, t, n, rfl⟩ : ∃ (b : Fin 2) (t : Fin 8192) (n : Fin 256), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product8 m c (ix2 (⟨b.val * 8192 + t.val, by omega⟩ : Fin 16384) (⟨n.val, by omega⟩ : Fin 256))
      = ∑ k : Fin 1024, arg0 m c (ix3 b t k) * arg1 m c (ix2 k ⟨1436 + n.val, by omega⟩) :=
    Finset.sum_congr rfl fun k _ => congrArg₂ (· * ·) (congrFun ha k) (group8_apply m c k ⟨n.val, by omega⟩ n.isLt)
  pointwise [val_main_v9, val_main_v0]
  exact hp

/-- Group 9 is the reference's columns 1692 to 1947. -/
theorem columns9 : shapeCast S2x8192x256 (product9 m c) shapeCasts_S16384x256_S2x8192x256
    = val_main_v10 (F := Ideal) (arg0 m c) (arg1 m c) := by
  funext i
  obtain ⟨b, t, n, rfl⟩ : ∃ (b : Fin 2) (t : Fin 8192) (n : Fin 256), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product9 m c (ix2 (⟨b.val * 8192 + t.val, by omega⟩ : Fin 16384) (⟨n.val, by omega⟩ : Fin 256))
      = ∑ k : Fin 1024, arg0 m c (ix3 b t k) * arg1 m c (ix2 k ⟨1692 + n.val, by omega⟩) :=
    Finset.sum_congr rfl fun k _ => congrArg₂ (· * ·) (congrFun ha k) (group9_apply m c k ⟨n.val, by omega⟩ n.isLt)
  pointwise [val_main_v10, val_main_v0]
  exact hp

/-- Group 10 is the reference's columns 1948 to 2203. -/
theorem columns10 : shapeCast S2x8192x256 (product10 m c) shapeCasts_S16384x256_S2x8192x256
    = val_main_v11 (F := Ideal) (arg0 m c) (arg1 m c) := by
  funext i
  obtain ⟨b, t, n, rfl⟩ : ∃ (b : Fin 2) (t : Fin 8192) (n : Fin 256), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product10 m c (ix2 (⟨b.val * 8192 + t.val, by omega⟩ : Fin 16384) (⟨n.val, by omega⟩ : Fin 256))
      = ∑ k : Fin 1024, arg0 m c (ix3 b t k) * arg1 m c (ix2 k ⟨1948 + n.val, by omega⟩) :=
    Finset.sum_congr rfl fun k _ => congrArg₂ (· * ·) (congrFun ha k) (group10_apply m c k ⟨n.val, by omega⟩ n.isLt)
  pointwise [val_main_v11, val_main_v0]
  exact hp

/-- Group 11 is the reference's columns 2204 to 3227. -/
theorem columns11 : shapeCast S2x8192x1024 (product11 m c) shapeCasts_S16384x1024_S2x8192x1024
    = val_main_v12 (F := Ideal) (arg0 m c) (arg1 m c) := by
  funext i
  obtain ⟨b, t, n, rfl⟩ : ∃ (b : Fin 2) (t : Fin 8192) (n : Fin 1024), i = ix3 b t n :=
    ⟨i 0, i 1, i 2, funext fun x => by match x with | 0 => rfl | 1 => rfl | 2 => rfl⟩
  have ha : row m c (⟨b.val * 8192 + t.val, by omega⟩ : Fin 16384) = fun k => arg0 m c (ix3 b t k) :=
    funext fun k => congrArg (arg0 m c) (by
      funext x
      match x with
      | 0 => exact Fin.ext (by show (b.val * 8192 + t.val) / 8192 = b.val; omega)
      | 1 => exact Fin.ext (by show (b.val * 8192 + t.val) % 8192 = t.val; omega)
      | 2 => rfl)
  have hp : product11 m c (ix2 (⟨b.val * 8192 + t.val, by omega⟩ : Fin 16384) (⟨n.val, by omega⟩ : Fin 1024))
      = ∑ k : Fin 1024, arg0 m c (ix3 b t k) * arg1 m c (ix2 k ⟨2204 + n.val, by omega⟩) :=
    Finset.sum_congr rfl fun k _ => congrArg₂ (· * ·) (congrFun ha k) (group11_apply m c k ⟨n.val, by omega⟩ n.isLt)
  pointwise [val_main_v12, val_main_v0]
  exact hp

/-! ## The arrays as the lines after the call find them -/

/-- The array of result 0 after the run, at its own name. -/
theorem at0 : Pipeline.withArrays (cfgs 0).spec c (V0 m c) (fun w => (dats m 0 c).arrAt w (cfgs 0).N) (Proc.devRef .tc main_v28_0)
    = product0 m c :=
  (Pipeline.withArrays_arr spec0 launch0.win.arr_inj c _ _ 2).trans (array0 m c)

/-- The array of result 1 after the run, at its own name. -/
theorem at1 : Pipeline.withArrays (cfgs 0).spec c (V0 m c) (fun w => (dats m 0 c).arrAt w (cfgs 0).N) (Proc.devRef .tc main_v28_1)
    = product1 m c :=
  (Pipeline.withArrays_arr spec0 launch0.win.arr_inj c _ _ 3).trans (array1 m c)

/-- The array of result 2 after the run, at its own name. -/
theorem at2 : Pipeline.withArrays (cfgs 0).spec c (V0 m c) (fun w => (dats m 0 c).arrAt w (cfgs 0).N) (Proc.devRef .tc main_v28_2)
    = product2 m c :=
  (Pipeline.withArrays_arr spec0 launch0.win.arr_inj c _ _ 4).trans (array2 m c)

/-- The array of result 3 after the run, at its own name. -/
theorem at3 : Pipeline.withArrays (cfgs 0).spec c (V0 m c) (fun w => (dats m 0 c).arrAt w (cfgs 0).N) (Proc.devRef .tc main_v28_3)
    = product3 m c :=
  (Pipeline.withArrays_arr spec0 launch0.win.arr_inj c _ _ 5).trans (array3 m c)

/-- The array of result 4 after the run, at its own name. -/
theorem at4 : Pipeline.withArrays (cfgs 0).spec c (V0 m c) (fun w => (dats m 0 c).arrAt w (cfgs 0).N) (Proc.devRef .tc main_v28_4)
    = product4 m c :=
  (Pipeline.withArrays_arr spec0 launch0.win.arr_inj c _ _ 6).trans (array4 m c)

/-- The array of result 5 after the run, at its own name. -/
theorem at5 : Pipeline.withArrays (cfgs 0).spec c (V0 m c) (fun w => (dats m 0 c).arrAt w (cfgs 0).N) (Proc.devRef .tc main_v28_5)
    = product5 m c :=
  (Pipeline.withArrays_arr spec0 launch0.win.arr_inj c _ _ 7).trans (array5 m c)

/-- The array of result 6 after the run, at its own name. -/
theorem at6 : Pipeline.withArrays (cfgs 0).spec c (V0 m c) (fun w => (dats m 0 c).arrAt w (cfgs 0).N) (Proc.devRef .tc main_v28_6)
    = product6 m c :=
  (Pipeline.withArrays_arr spec0 launch0.win.arr_inj c _ _ 8).trans (array6 m c)

/-- The array of result 7 after the run, at its own name. -/
theorem at7 : Pipeline.withArrays (cfgs 0).spec c (V0 m c) (fun w => (dats m 0 c).arrAt w (cfgs 0).N) (Proc.devRef .tc main_v28_7)
    = product7 m c :=
  (Pipeline.withArrays_arr spec0 launch0.win.arr_inj c _ _ 9).trans (array7 m c)

/-- The array of result 8 after the run, at its own name. -/
theorem at8 : Pipeline.withArrays (cfgs 0).spec c (V0 m c) (fun w => (dats m 0 c).arrAt w (cfgs 0).N) (Proc.devRef .tc main_v28_8)
    = product8 m c :=
  (Pipeline.withArrays_arr spec0 launch0.win.arr_inj c _ _ 10).trans (array8 m c)

/-- The array of result 9 after the run, at its own name. -/
theorem at9 : Pipeline.withArrays (cfgs 0).spec c (V0 m c) (fun w => (dats m 0 c).arrAt w (cfgs 0).N) (Proc.devRef .tc main_v28_9)
    = product9 m c :=
  (Pipeline.withArrays_arr spec0 launch0.win.arr_inj c _ _ 11).trans (array9 m c)

/-- The array of result 10 after the run, at its own name. -/
theorem at10 : Pipeline.withArrays (cfgs 0).spec c (V0 m c) (fun w => (dats m 0 c).arrAt w (cfgs 0).N) (Proc.devRef .tc main_v28_10)
    = product10 m c :=
  (Pipeline.withArrays_arr spec0 launch0.win.arr_inj c _ _ 12).trans (array10 m c)

/-- The array of result 11 after the run, at its own name. -/
theorem at11 : Pipeline.withArrays (cfgs 0).spec c (V0 m c) (fun w => (dats m 0 c).arrAt w (cfgs 0).N) (Proc.devRef .tc main_v28_11)
    = product11 m c :=
  (Pipeline.withArrays_arr spec0 launch0.win.arr_inj c _ _ 13).trans (array11 m c)

/-- What the host code after the call makes of a result's array. -/
theorem tail_v29 (W : Valuation τ sig (Elt Ideal)) (A : FVec Ideal S16384x128 .f32) (hA : W (Proc.devRef .tc main_v28_0) = A) :
    StableHlo.after (List.flatten [hostOps1]) W (Proc.devRef .tc main_v29)
      = shapeCast S2x8192x128 (A) shapeCasts_S16384x128_S2x8192x128 := by
  subst hA
  simp only [hostOps1, List.flatten_cons, List.flatten_nil, List.append_nil, StableHlo.after_cons, StableHlo.after_nil]
  rfl

/-- The result `v29` is the reference's `v1`. -/
theorem out_v29 : Pipeline.afterTail₀ cfgs (dats m) 0 (V0 m) [hostOps1] c main_v29
    = val_main_v1 (F := Ideal) (arg0 m c) (arg1 m c) := by
  refine (tail_v29 _ _ (at0 m c)).trans ?_
  rw [columns0]

/-- What the host code after the call makes of a result's array. -/
theorem tail_v30 (W : Valuation τ sig (Elt Ideal)) (A : FVec Ideal S16384x128 .f32) (hA : W (Proc.devRef .tc main_v28_1) = A) :
    StableHlo.after (List.flatten [hostOps1]) W (Proc.devRef .tc main_v30)
      = shapeCast S2x8192x128 (A) shapeCasts_S16384x128_S2x8192x128 := by
  subst hA
  simp only [hostOps1, List.flatten_cons, List.flatten_nil, List.append_nil, StableHlo.after_cons, StableHlo.after_nil]
  rfl

/-- The result `v30` is the reference's `v2`. -/
theorem out_v30 : Pipeline.afterTail₀ cfgs (dats m) 0 (V0 m) [hostOps1] c main_v30
    = val_main_v2 (F := Ideal) (arg0 m c) (arg1 m c) := by
  refine (tail_v30 _ _ (at1 m c)).trans ?_
  rw [columns1]

/-- What the host code after the call makes of a result's array. -/
theorem tail_v31 (W : Valuation τ sig (Elt Ideal)) (A : FVec Ideal S16384x256 .f32) (hA : W (Proc.devRef .tc main_v28_2) = A) :
    StableHlo.after (List.flatten [hostOps1]) W (Proc.devRef .tc main_v31)
      = shapeCast S2x8192x256 (A) shapeCasts_S16384x256_S2x8192x256 := by
  subst hA
  simp only [hostOps1, List.flatten_cons, List.flatten_nil, List.append_nil, StableHlo.after_cons, StableHlo.after_nil]
  rfl

/-- The result `v31` is the reference's `v3`. -/
theorem out_v31 : Pipeline.afterTail₀ cfgs (dats m) 0 (V0 m) [hostOps1] c main_v31
    = val_main_v3 (F := Ideal) (arg0 m c) (arg1 m c) := by
  refine (tail_v31 _ _ (at2 m c)).trans ?_
  rw [columns2]

/-- What the host code after the call makes of a result's array. -/
theorem tail_v48 (W : Valuation τ sig (Elt Ideal)) (A : FVec Ideal S16384x128 .f32) (hA : W (Proc.devRef .tc main_v28_3) = A) :
    StableHlo.after (List.flatten [hostOps1]) W (Proc.devRef .tc main_v48)
      = extractStridedSlice S2x8192x16 ![0, 0, 0] (shapeCast S2x8192x128 (A) shapeCasts_S16384x128_S2x8192x128) slices_S2x8192x128_S2x8192x16_0_0_0 := by
  subst hA
  simp only [hostOps1, List.flatten_cons, List.flatten_nil, List.append_nil, StableHlo.after_cons, StableHlo.after_nil]
  rfl

/-- The result `v48` is the reference's `v4`. -/
theorem out_v48 : Pipeline.afterTail₀ cfgs (dats m) 0 (V0 m) [hostOps1] c main_v48
    = val_main_v4 (F := Ideal) (arg0 m c) (arg1 m c) := by
  refine (tail_v48 _ _ (at3 m c)).trans ?_
  rw [columns3]

/-- What the host code after the call makes of a result's array. -/
theorem tail_v33 (W : Valuation τ sig (Elt Ideal)) (A : FVec Ideal S16384x256 .f32) (hA : W (Proc.devRef .tc main_v28_4) = A) :
    StableHlo.after (List.flatten [hostOps1]) W (Proc.devRef .tc main_v33)
      = shapeCast S2x8192x256 (A) shapeCasts_S16384x256_S2x8192x256 := by
  subst hA
  simp only [hostOps1, List.flatten_cons, List.flatten_nil, List.append_nil, StableHlo.after_cons, StableHlo.after_nil]
  rfl

/-- The result `v33` is the reference's `v5`. -/
theorem out_v33 : Pipeline.afterTail₀ cfgs (dats m) 0 (V0 m) [hostOps1] c main_v33
    = val_main_v5 (F := Ideal) (arg0 m c) (arg1 m c) := by
  refine (tail_v33 _ _ (at4 m c)).trans ?_
  rw [columns4]

/-- What the host code after the call makes of a result's array. -/
theorem tail_v34 (W : Valuation τ sig (Elt Ideal)) (A : FVec Ideal S16384x256 .f32) (hA : W (Proc.devRef .tc main_v28_5) = A) :
    StableHlo.after (List.flatten [hostOps1]) W (Proc.devRef .tc main_v34)
      = shapeCast S2x8192x256 (A) shapeCasts_S16384x256_S2x8192x256 := by
  subst hA
  simp only [hostOps1, List.flatten_cons, List.flatten_nil, List.append_nil, StableHlo.after_cons, StableHlo.after_nil]
  rfl

/-- The result `v34` is the reference's `v6`. -/
theorem out_v34 : Pipeline.afterTail₀ cfgs (dats m) 0 (V0 m) [hostOps1] c main_v34
    = val_main_v6 (F := Ideal) (arg0 m c) (arg1 m c) := by
  refine (tail_v34 _ _ (at5 m c)).trans ?_
  rw [columns5]

/-- What the host code after the call makes of a result's array. -/
theorem tail_v49 (W : Valuation τ sig (Elt Ideal)) (A : FVec Ideal S16384x128 .f32) (hA : W (Proc.devRef .tc main_v28_7) = A) :
    StableHlo.after (List.flatten [hostOps1]) W (Proc.devRef .tc main_v49)
      = extractStridedSlice S2x8192x12 ![0, 0, 0] (shapeCast S2x8192x128 (A) shapeCasts_S16384x128_S2x8192x128) slices_S2x8192x128_S2x8192x12_0_0_0 := by
  subst hA
  simp only [hostOps1, List.flatten_cons, List.flatten_nil, List.append_nil, StableHlo.after_cons, StableHlo.after_nil]
  rfl

/-- The result `v49` is the reference's `v8`. -/
theorem out_v49 : Pipeline.afterTail₀ cfgs (dats m) 0 (V0 m) [hostOps1] c main_v49
    = val_main_v8 (F := Ideal) (arg0 m c) (arg1 m c) := by
  refine (tail_v49 _ _ (at7 m c)).trans ?_
  rw [columns7]

/-- What the host code after the call makes of a result's array. -/
theorem tail_v37 (W : Valuation τ sig (Elt Ideal)) (A : FVec Ideal S16384x256 .f32) (hA : W (Proc.devRef .tc main_v28_8) = A) :
    StableHlo.after (List.flatten [hostOps1]) W (Proc.devRef .tc main_v37)
      = shapeCast S2x8192x256 (A) shapeCasts_S16384x256_S2x8192x256 := by
  subst hA
  simp only [hostOps1, List.flatten_cons, List.flatten_nil, List.append_nil, StableHlo.after_cons, StableHlo.after_nil]
  rfl

/-- The result `v37` is the reference's `v9`. -/
theorem out_v37 : Pipeline.afterTail₀ cfgs (dats m) 0 (V0 m) [hostOps1] c main_v37
    = val_main_v9 (F := Ideal) (arg0 m c) (arg1 m c) := by
  refine (tail_v37 _ _ (at8 m c)).trans ?_
  rw [columns8]

/-- What the host code after the call makes of a result's array. -/
theorem tail_v40 (W : Valuation τ sig (Elt Ideal)) (A : FVec Ideal S16384x1024 .f32) (hA : W (Proc.devRef .tc main_v28_11) = A) :
    StableHlo.after (List.flatten [hostOps1]) W (Proc.devRef .tc main_v40)
      = shapeCast S2x8192x1024 (A) shapeCasts_S16384x1024_S2x8192x1024 := by
  subst hA
  simp only [hostOps1, List.flatten_cons, List.flatten_nil, List.append_nil, StableHlo.after_cons, StableHlo.after_nil]
  rfl

/-- The result `v40` is the reference's `v12`. -/
theorem out_v40 : Pipeline.afterTail₀ cfgs (dats m) 0 (V0 m) [hostOps1] c main_v40
    = val_main_v12 (F := Ideal) (arg0 m c) (arg1 m c) := by
  refine (tail_v40 _ _ (at11 m c)).trans ?_
  rw [columns11]

/-- What the host code after the call makes of a result's array. -/
theorem tail_v50 (W : Valuation τ sig (Elt Ideal)) (A : FVec Ideal S16384x384 .f32) (hA : W (Proc.devRef .tc main_v28_6) = A) :
    StableHlo.after (List.flatten [hostOps1]) W (Proc.devRef .tc main_v50)
      = extractStridedSlice S2x8192x2x64 ![0, 0, 0, 0] (shapeCast S2x8192x6x64 (shapeCast S2x8192x384 (A) shapeCasts_S16384x384_S2x8192x384) shapeCasts_S2x8192x384_S2x8192x6x64) slices_S2x8192x6x64_S2x8192x2x64_0_0_0_0 := by
  subst hA
  simp only [hostOps1, List.flatten_cons, List.flatten_nil, List.append_nil, StableHlo.after_cons, StableHlo.after_nil]
  rfl

/-- The result `v50` is the reference's `v21`. -/
theorem out_v50 : Pipeline.afterTail₀ cfgs (dats m) 0 (V0 m) [hostOps1] c main_v50
    = val_main_v21 (F := Ideal) (arg0 m c) (arg1 m c) := by
  refine (tail_v50 _ _ (at6 m c)).trans ?_
  rw [columns6]
  rfl

/-- What the host code after the call makes of a result's array. -/
theorem tail_v51 (W : Valuation τ sig (Elt Ideal)) (A : FVec Ideal S16384x384 .f32) (hA : W (Proc.devRef .tc main_v28_6) = A) :
    StableHlo.after (List.flatten [hostOps1]) W (Proc.devRef .tc main_v51)
      = extractStridedSlice S2x8192x2x64 ![0, 0, 2, 0] (shapeCast S2x8192x6x64 (shapeCast S2x8192x384 (A) shapeCasts_S16384x384_S2x8192x384) shapeCasts_S2x8192x384_S2x8192x6x64) slices_S2x8192x6x64_S2x8192x2x64_0_0_2_0 := by
  subst hA
  simp only [hostOps1, List.flatten_cons, List.flatten_nil, List.append_nil, StableHlo.after_cons, StableHlo.after_nil]
  rfl

/-- The result `v51` is the reference's `v22`. -/
theorem out_v51 : Pipeline.afterTail₀ cfgs (dats m) 0 (V0 m) [hostOps1] c main_v51
    = val_main_v22 (F := Ideal) (arg0 m c) (arg1 m c) := by
  refine (tail_v51 _ _ (at6 m c)).trans ?_
  rw [columns6]
  rfl

/-- What the host code after the call makes of a result's array. -/
theorem tail_v52 (W : Valuation τ sig (Elt Ideal)) (A : FVec Ideal S16384x384 .f32) (hA : W (Proc.devRef .tc main_v28_6) = A) :
    StableHlo.after (List.flatten [hostOps1]) W (Proc.devRef .tc main_v52)
      = extractStridedSlice S2x8192x2x64 ![0, 0, 4, 0] (shapeCast S2x8192x6x64 (shapeCast S2x8192x384 (A) shapeCasts_S16384x384_S2x8192x384) shapeCasts_S2x8192x384_S2x8192x6x64) slices_S2x8192x6x64_S2x8192x2x64_0_0_4_0 := by
  subst hA
  simp only [hostOps1, List.flatten_cons, List.flatten_nil, List.append_nil, StableHlo.after_cons, StableHlo.after_nil]
  rfl

/-- The result `v52` is the reference's `v23`. -/
theorem out_v52 : Pipeline.afterTail₀ cfgs (dats m) 0 (V0 m) [hostOps1] c main_v52
    = val_main_v23 (F := Ideal) (arg0 m c) (arg1 m c) := by
  refine (tail_v52 _ _ (at6 m c)).trans ?_
  rw [columns6]
  rfl

/-- What the host code after the call makes of a result's array. -/
theorem tail_v46 (W : Valuation τ sig (Elt Ideal)) (A : FVec Ideal S16384x256 .f32) (hA : W (Proc.devRef .tc main_v28_9) = A) (B : FVec Ideal S16384x256 .f32) (hB : W (Proc.devRef .tc main_v28_10) = B) :
    StableHlo.after (List.flatten [hostOps1]) W (Proc.devRef .tc main_v46)
      = (concatenate S2x8192x2x4x64 2 [⟨S2x8192x1x4x64, broadcastInDim S2x8192x1x4x64 ![0, 1, 3, 4] bcast_S2x8192x4x64_S2x8192x1x4x64_0_1_3_4 (shapeCast S2x8192x4x64 (shapeCast S2x8192x256 (A) shapeCasts_S16384x256_S2x8192x256) shapeCasts_S2x8192x256_S2x8192x4x64)⟩, ⟨S2x8192x1x4x64, broadcastInDim S2x8192x1x4x64 ![0, 1, 3, 4] bcast_S2x8192x4x64_S2x8192x1x4x64_0_1_3_4 (shapeCast S2x8192x4x64 (shapeCast S2x8192x256 (B) shapeCasts_S16384x256_S2x8192x256) shapeCasts_S2x8192x256_S2x8192x4x64)⟩] concatenates_S2x8192x1x4x64_S2x8192x1x4x64_S2x8192x2x4x64_d2 : FVec Ideal S2x8192x2x4x64 .f32) := by
  subst hA; subst hB
  simp only [hostOps1, List.flatten_cons, List.flatten_nil, List.append_nil, StableHlo.after_cons, StableHlo.after_nil]
  rfl

/-- The result `v46` is the reference's `v19`. -/
theorem out_v46 : Pipeline.afterTail₀ cfgs (dats m) 0 (V0 m) [hostOps1] c main_v46
    = val_main_v19 (F := Ideal) (arg0 m c) (arg1 m c) := by
  refine (tail_v46 _ _ (at9 m c) _ (at10 m c)).trans ?_
  rw [columns9, columns10]
  rfl

/-- What the host code after the call makes of a result's array. -/
theorem tail_v47 (W : Valuation τ sig (Elt Ideal)) (A : FVec Ideal S16384x384 .f32) (hA : W (Proc.devRef .tc main_v28_6) = A) :
    StableHlo.after (List.flatten [hostOps1]) W (Proc.devRef .tc main_v47)
      = extractStridedSlice S2x512x2x64 ![0, 7680, 4, 0] (shapeCast S2x8192x6x64 (shapeCast S2x8192x384 (A) shapeCasts_S16384x384_S2x8192x384) shapeCasts_S2x8192x384_S2x8192x6x64) slices_S2x8192x6x64_S2x512x2x64_0_7680_4_0 := by
  subst hA
  simp only [hostOps1, List.flatten_cons, List.flatten_nil, List.append_nil, StableHlo.after_cons, StableHlo.after_nil]
  rfl

/-- The result `v47` is the reference's `v20`. -/
theorem out_v47 : Pipeline.afterTail₀ cfgs (dats m) 0 (V0 m) [hostOps1] c main_v47
    = val_main_v20 (F := Ideal) (arg0 m c) (arg1 m c) := by
  refine (tail_v47 _ _ (at6 m c)).trans ?_
  rw [columns6]
  rfl

/-- What the host code after the call makes of a result's array. -/
theorem tail_v54 (W : Valuation τ sig (Elt Ideal)) (A : FVec Ideal S16384x1024 .f32) (hA : W (Proc.devRef .tc main_v28_11) = A) :
    StableHlo.after (List.flatten [hostOps1]) W (Proc.devRef .tc main_v54)
      = shapeCast S2x1024 (extractStridedSlice S2x1x1024 ![0, 8191, 0] (shapeCast S2x8192x1024 (A) shapeCasts_S16384x1024_S2x8192x1024) slices_S2x8192x1024_S2x1x1024_0_8191_0) shapeCasts_S2x1x1024_S2x1024 := by
  subst hA
  simp only [hostOps1, List.flatten_cons, List.flatten_nil, List.append_nil, StableHlo.after_cons, StableHlo.after_nil]
  rfl

/-- The result `v54` is the reference's `v25`. -/
theorem out_v54 : Pipeline.afterTail₀ cfgs (dats m) 0 (V0 m) [hostOps1] c main_v54
    = val_main_v25 (F := Ideal) (arg0 m c) (arg1 m c) := by
  refine (tail_v54 _ _ (at11 m c)).trans ?_
  rw [columns11]
  rfl

end Cert.Columns

end
-- ==== Proof.NormResult.lean ====
/-
  The call `rmsnorm` of the prompt rows leaves the reference's array.
-/
module

public import proofs.«01_k».proof.Proof.Gen.NormIdeal.Value
public import proofs.«01_k».proof.Proof.Gen.NormReferenceIdeal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.NormRows

open Cert.NormIdeal Cert.NormIdeal.Gen Idealize.ShloMosaic Idealize.ShloMosaic.TcCoe Idealize.SL.Sem
open Cert.NormReferenceIdeal.Read

variable (m : (ℓ : Loc nD τ sig) → Buf (Elt Ideal) ℓ) (c : Dev nD)

abbrev arg0 : (⟨S2x8192x1024, .f32⟩ : BufTy).Contents (Elt Ideal) := m ((c : Thread nD τ).loc main_arg0)
abbrev arg1 : (⟨S1024, .f32⟩ : BufTy).Contents (Elt Ideal) := m ((c : Thread nD τ).loc main_arg1)

/-- What the host code leaves in an array the call reads. -/
theorem V_v0 : V m c main_v0 = shapeCast S16384x1024 (arg0 m c) shapeCasts_S2x8192x1024_S16384x1024 := by
  simp only [V, StableHlo.after_cons, StableHlo.after_nil, hostOps0]
  rfl

/-- What the host code leaves in an array the call reads. -/
theorem V_v1 : V m c main_v1 = shapeCast S1x1024 (arg1 m c) shapeCasts_S1024_S1x1024 := by
  simp only [V, StableHlo.after_cons, StableHlo.after_nil, hostOps0]
  rfl

/-- The place of window 0's block at a point. -/
theorem idx0 : ∀ t : Fin cfg0.N, win0_0.index t = ![t.val, 0] := (by decide +kernel : ∀ t : Fin grid0.N, _)
/-- The place of window 1's block at a point. -/
theorem idx1 : ∀ t : Fin cfg0.N, win0_1.index t = ![0, 0] := (by decide +kernel : ∀ t : Fin grid0.N, _)
/-- The place of window 2's block at a point. -/
theorem idx2 : ∀ t : Fin cfg0.N, win0_2.index t = ![t.val, 0] := (by decide +kernel : ∀ t : Fin grid0.N, _)

/-- The block a point reads, at an entry. -/
theorem iblk0_apply (t : Fin cfg0.N) (r : Fin 512) (k : Fin 1024) (row : Fin 16384) (h : row.val = 512 * t.val + r.val) :
    iblk m c 0 t (ix2 r k) = arg0 m c (ix3 ⟨row.val / 8192, by omega⟩ ⟨row.val % 8192, by omega⟩ k) := by
  have e : iblk m c 0 t (ix2 r k) = V m c main_v0 ((win0_0.blk t).view.emb (ix2 r k)) := by
    blk_simp [iblk]
  have e' : (win0_0.blk t).view.emb (ix2 r k) = (ix2 row k : S16384x1024.Idx) := by
    blk_ext [idx0 t]
  rw [e, e', V_v0]
  pointwise

/-- An entry of the block window 1 reads at a point, in the whole array. -/
theorem iblk1_apply (t : Fin cfg0.N) (k : Fin 1024) : iblk m c 1 t (ix2 0 k) = arg1 m c (ix1 k) := by
  have e : iblk m c 1 t (ix2 0 k) = V m c main_v1 ((win0_1.blk t).view.emb (ix2 0 k)) := by
    blk_simp [iblk]
  have e' : (win0_1.blk t).view.emb (ix2 0 k) = (ix2 0 k : S1x1024.Idx) := by
    blk_ext [idx1 t]
  rw [e, e', V_v1]
  pointwise

/-- The array after the run is the reference's. -/
theorem result_eq : (dats m 0 c).arrAt 2 cfg0.N = val_main_v13 (F := Ideal) (arg0 m c) (arg1 m c) := by
  refine (dats m 0 c).arrAt_eq_of_covers 2 _ (by decide +kernel) fun t hf y => ?_
  blk_simp
  rw [after0_2]
  frame_out
  obtain ⟨r, n, rfl⟩ : ∃ (r : Fin 512) (n : Fin 1024), y = ix2 r n :=
    ⟨y 0, y 1, funext fun x => by match x with | 0 => rfl | 1 => rfl⟩
  have hN := lt_of_lt_of_eq t.isLt (show cfg0.N = 32 from N_0)
  have e' : (win0_2.blk t).view.emb (ix2 r n) = (ix2 ⟨512 * t.val + r.val, by omega⟩ n : S16384x1024.Idx) := by
    blk_ext [idx2 t]
  rw [e']
  have hx := fun k => iblk0_apply m c t r k ⟨512 * t.val + r.val, by omega⟩ rfl
  have hg := fun k => iblk1_apply m c t k
  pointwise [k0_pay1, val_main_v13, val_main_v12, val_main_v11, val_main_v10, val_main_v9, val_main_v8, val_main_v7,
    val_main_v6, val_main_v5, val_main_cst_1, val_main_v4, val_main_v3, val_main_cst_0, val_main_v2, val_main_v1,
    val_main_cst, val_main_v0]
  simp only [hx, hg]

end Cert.NormRows

end
-- ==== Proof.ProjectSampleResult.lean ====
/-
  The call `in_proj` of the sample batch leaves the reference's arrays: each of the twelve column groups of the
  input projection, and the rows the layer keeps of them.
-/
module

public import proofs.«01_k».proof.Proof.Gen.ProjectSampleIdeal.Frame
public import proofs.«01_k».proof.Proof.Gen.ProjectSampleReferenceIdeal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.SampleColumns

open Cert.ProjectSampleIdeal Cert.ProjectSampleIdeal.Gen Idealize.ShloMosaic Idealize.ShloMosaic.TcCoe Idealize.SL.Sem
open Cert.ProjectSampleReferenceIdeal.Read

variable (m : (ℓ : Loc nD τ sig) → Buf (Elt Ideal) ℓ) (c : Dev nD)

abbrev arg0 : (⟨S32x8x1024, .f32⟩ : BufTy).Contents (Elt Ideal) := m ((c : Thread nD τ).loc main_arg0)
abbrev arg1 : (⟨S1024x7324, .f32⟩ : BufTy).Contents (Elt Ideal) := m ((c : Thread nD τ).loc main_arg1)

/-! ## The padded weights -/

abbrev zero : FVec Ideal S_ .f32 := sitofp .f32 (constantI S_ 32 0#32)

/-- Column group 0 of the weights, padded to 128 columns. -/
def group0 : FVec Ideal S1024x128 .f32 :=
  pad S1024x128 ![0, 0] ![0, 0] ![0, 0] (extractStridedSlice S1024x128 ![0, 0] (arg1 m c) slices_S1024x7324_S1024x128_0_0)
    zero pads_S1024x128_S1024x128_000_000 h_S_

/-- An entry of column group 0 of the padded weights. -/
theorem group0_apply (k : Fin 1024) (n : Fin 128) (h : n.val < 128) :
    group0 m c (ix2 k n) = arg1 m c (ix2 k ⟨n.val, by omega⟩) := by
  pointwise [group0]

/-- Column group 1 of the weights, padded to 128 columns. -/
def group1 : FVec Ideal S1024x128 .f32 :=
  pad S1024x128 ![0, 0] ![0, 0] ![0, 0] (extractStridedSlice S1024x128 ![0, 128] (arg1 m c) slices_S1024x7324_S1024x128_0_128)
    zero pads_S1024x128_S1024x128_000_000 h_S_

/-- An entry of column group 1 of the padded weights. -/
theorem group1_apply (k : Fin 1024) (n : Fin 128) (h : n.val < 128) :
    group1 m c (ix2 k n) = arg1 m c (ix2 k ⟨128 + n.val, by omega⟩) := by
  pointwise [group1]

/-- Column group 2 of the weights, padded to 256 columns. -/
def group2 : FVec Ideal S1024x256 .f32 :=
  pad S1024x256 ![0, 0] ![0, 0] ![0, 0] (extractStridedSlice S1024x256 ![0, 256] (arg1 m c) slices_S1024x7324_S1024x256_0_256)
    zero pads_S1024x256_S1024x256_000_000 h_S_

/-- An entry of column group 2 of the padded weights. -/
theorem group2_apply (k : Fin 1024) (n : Fin 256) (h : n.val < 256) :
    group2 m c (ix2 k n) = arg1 m c (ix2 k ⟨256 + n.val, by omega⟩) := by
  pointwise [group2]

/-- Column group 3 of the weights, padded to 128 columns. -/
def group3 : FVec Ideal S1024x128 .f32 :=
  pad S1024x128 ![0, 0] ![0, 112] ![0, 0] (extractStridedSlice S1024x16 ![0, 512] (arg1 m c) slices_S1024x7324_S1024x16_0_512)
    zero pads_S1024x16_S1024x128_000_01120 h_S_

/-- An entry of column group 3 of the padded weights. -/
theorem group3_apply (k : Fin 1024) (n : Fin 128) (h : n.val < 16) :
    group3 m c (ix2 k n) = arg1 m c (ix2 k ⟨512 + n.val, by omega⟩) := by
  pointwise [group3]
  rw [dif_pos h]

/-- Column group 4 of the weights, padded to 256 columns. -/
def group4 : FVec Ideal S1024x256 .f32 :=
  pad S1024x256 ![0, 0] ![0, 0] ![0, 0] (extractStridedSlice S1024x256 ![0, 528] (arg1 m c) slices_S1024x7324_S1024x256_0_528)
    zero pads_S1024x256_S1024x256_000_000 h_S_

/-- An entry of column group 4 of the padded weights. -/
theorem group4_apply (k : Fin 1024) (n : Fin 256) (h : n.val < 256) :
    group4 m c (ix2 k n) = arg1 m c (ix2 k ⟨528 + n.val, by omega⟩) := by
  pointwise [group4]

/-- Column group 5 of the weights, padded to 256 columns. -/
def group5 : FVec Ideal S1024x256 .f32 :=
  pad S1024x256 ![0, 0] ![0, 0] ![0, 0] (extractStridedSlice S1024x256 ![0, 784] (arg1 m c) slices_S1024x7324_S1024x256_0_784)
    zero pads_S1024x256_S1024x256_000_000 h_S_

/-- An entry of column group 5 of the padded weights. -/
theorem group5_apply (k : Fin 1024) (n : Fin 256) (h : n.val < 256) :
    group5 m c (ix2 k n) = arg1 m c (ix2 k ⟨784 + n.val, by omega⟩) := by
  pointwise [group5]

/-- Column group 6 of the weights, padded to 384 columns. -/
def group6 : FVec Ideal S1024x384 .f32 :=
  pad S1024x384 ![0, 0] ![0, 0] ![0, 0] (extractStridedSlice S1024x384 ![0, 1040] (arg1 m c) slices_S1024x7324_S1024x384_0_1040)
    zero pads_S1024x384_S1024x384_000_000 h_S_

/-- An entry of column group 6 of the padded weights. -/
theorem group6_apply (k : Fin 1024) (n : Fin 384) (h : n.val < 384) :
    group6 m c (ix2 k n) = arg1 m c (ix2 k ⟨1040 + n.val, by omega⟩) := by
  pointwise [group6]

/-- Column group 7 of the weights, padded to 128 columns. -/
def group7 : FVec Ideal S1024x128 .f32 :=
  pad S1024x128 ![0, 0] ![0, 116] ![0, 0] (extractStridedSlice S1024x12 ![0, 1424] (arg1 m c) slices_S1024x7324_S1024x12_0_1424)
    zero pads_S1024x12_S1024x128_000_01160 h_S_

/-- An entry of column group 7 of the padded weights. -/
theorem group7_apply (k : Fin 1024) (n : Fin 128) (h : n.val < 12) :
    group7 m c (ix2 k n) = arg1 m c (ix2 k ⟨1424 + n.val, by omega⟩) := by
  pointwise [group7]
  rw [dif_pos h]

/-- Column group 8 of the weights, padded to 256 columns. -/
def group8 : FVec Ideal S1024x256 .f32 :=
  pad S1024x256 ![0, 0] ![0, 0] ![0, 0] (extractStridedSlice S1024x256 ![0, 1436] (arg1 m c) slices_S1024x7324_S1024x256_0_1436)
    zero pads_S1024x256_S1024x256_000_000 h_S_

/-- An entry of column group 8 of the padded weights. -/
theorem group8_apply (k : Fin 1024) (n : Fin 256) (h : n.val < 256) :
    group8 m c (ix2 k n) = arg1 m c (ix2 k ⟨1436 + n.val, by omega⟩) := by
  pointwise [group8]

/-- Column group 9 of the weights, padded to 256 columns. -/
def group9 : FVec Ideal S1024x256 .f32 :=
  pad S1024x256 ![0, 0] ![0, 0] ![0, 0] (extractStridedSlice S1024x256 ![0, 1692] (arg1 m c) slices_S1024x7324_S1024x256_0_1692)
    zero pads_S1024x256_S1024x256_000_000 h_S_

/-- An entry of column group 9 of the padded weights. -/
theorem group9_apply (k : Fin 1024) (n : Fin 256) (h : n.val < 256) :
    group9 m c (ix2 k n) = arg1 m c (ix2 k ⟨1692 + n.val, by omega⟩) := by
  pointwise [group9]

/-- Column group 10 of the weights, padded to 256 columns. -/
def group10 : FVec Ideal S1024x256 .f32 :=
  pad S1024x256 ![0, 0] ![0, 0] ![0, 0] (extractStridedSlice S1024x256 ![0, 1948] (arg1 m c) slices_S1024x7324_S1024x256_0_1948)
    zero pads_S1024x256_S1024x256_000_000 h_S_

/-- An entry of column group 10 of the padded weights. -/
theorem group10_apply (k : Fin 1024) (n : Fin 256) (h : n.val < 256) :
    group10 m c (ix2 k n) = arg1 m c (ix2 k ⟨1948 + n.val, by omega⟩) := by
  pointwise [group10]

/-- Column group 11 of the weights, padded to 1024 columns. -/
def group11 : FVec Ideal S1024x1024 .f32 :=
  pad S1024x1024 ![0, 0] ![0, 0] ![0, 0] (extractStridedSlice S1024x1024 ![0, 2204] (arg1 m c) slices_S1024x7324_S1024x1024_0_2204)
    zero pads_S1024x1024_S1024x1024_000_000 h_S_

/-- An entry of column group 11 of the padded weights. -/
theorem group11_apply (k : Fin 1024) (n : Fin 1024) (h : n.val < 1024) :
    group11 m c (ix2 k n) = arg1 m c (ix2 k ⟨2204 + n.val, by omega⟩) := by
  pointwise [group11]

/-- The weights as the call takes them: the groups side by side. -/
theorem V_v25 : V m c main_v25 = truncf (F := Ideal) .bf16 (concatenate S1024x3456 1
    [⟨S1024x128, group0 m c⟩, ⟨S1024x128, group1 m c⟩, ⟨S1024x256, group2 m c⟩, ⟨S1024x128, group3 m c⟩, ⟨S1024x256, group4 m c⟩, ⟨S1024x256, group5 m c⟩, ⟨S1024x384, group6 m c⟩, ⟨S1024x128, group7 m c⟩, ⟨S1024x256, group8 m c⟩, ⟨S1024x256, group9 m c⟩, ⟨S1024x256, group10 m c⟩, ⟨S1024x1024, group11 m c⟩]
    concatenates_S1024x128_S1024x128_S1024x256_S1024x128_S1024x256_S1024x256_S1024x384_S1024x128_S1024x256_S1024x256_S1024x256_S1024x1024_S1024x3456_d1 : FVec Ideal S1024x3456 .f32) bitsLt_bf16_f32 := by
  simp only [V, V0, StableHlo.after_cons, StableHlo.after_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24,
    List.flatten_cons, List.flatten_nil, List.append_nil, List.cons_append, List.nil_append]
  rfl

/-- The weights' columns of group 0, read in the whole padded array. -/
theorem weights0_apply (k : Fin 1024) (n : Fin 128) :
    V m c main_v25 (ix2 k ⟨0 + n.val, by omega⟩) = group0 m c (ix2 k n) := by
  rw [V_v25]
  pointwise

/-- The weights' columns of group 1, read in the whole padded array. -/
theorem weights1_apply (k : Fin 1024) (n : Fin 128) :
    V m c main_v25 (ix2 k ⟨128 + n.val, by omega⟩) = group1 m c (ix2 k n) := by
  rw [V_v25]
  pointwise

/-- The weights' columns of group 2, read in the whole padded array. -/
theorem weights2_apply (k : Fin 1024) (n : Fin 256) :
    V m c main_v25 (ix2 k ⟨256 + n.val, by omega⟩) = group2 m c (ix2 k n) := by
  rw [V_v25]
  pointwise
  rw [dif_neg, dif_neg, dif_pos]
  · exact congrArg (group2 m c) (congrArg (ix2 k) (Fin.ext (by simp only []; omega)))
  all_goals omega

/-- The weights' columns of group 3, read in the whole padded array. -/
theorem weights3_apply (k : Fin 1024) (n : Fin 128) :
    V m c main_v25 (ix2 k ⟨512 + n.val, by omega⟩) = group3 m c (ix2 k n) := by
  rw [V_v25]
  pointwise
  rw [dif_neg, dif_neg, dif_neg, dif_pos]
  · exact congrArg (group3 m c) (congrArg (ix2 k) (Fin.ext (by simp only []; omega)))
  all_goals omega

/-- The weights' columns of group 4, read in the whole padded array. -/
theorem weights4_apply (k : Fin 1024) (n : Fin 256) :
    V m c main_v25 (ix2 k ⟨640 + n.val, by omega⟩) = group4 m c (ix2 k n) := by
  rw [V_v25]
  pointwise
  rw [dif_neg, dif_neg, dif_neg, dif_neg, dif_pos]
  · exact congrArg (group4 m c) (congrArg (ix2 k) (Fin.ext (by simp only []; omega)))
  all_goals omega

/-- The weights' columns of group 5, read in the whole padded array. -/
theorem weights5_apply (k : Fin 1024) (n : Fin 256) :
    V m c main_v25 (ix2 k ⟨896 + n.val, by omega⟩) = group5 m c (ix2 k n) := by
  rw [V_v25]
  pointwise
  rw [dif_neg, dif_neg, dif_neg, dif_neg, dif_neg, dif_pos]
  · exact congrArg (group5 m c) (congrArg (ix2 k) (Fin.ext (by simp only []; omega)))
  all_goals omega

/-- The weights' columns of group 6, read in the whole padded array. -/
theorem weights6_apply (k : Fin 1024) (n : Fin 384) :
    V m c main_v25 (ix2 k ⟨1152 + n.val, by omega⟩) = group6 m c (ix2 k n) := by
  rw [V_v25]
  pointwise
  rw [dif_neg, dif_neg, dif_neg, dif_neg, dif_neg, dif_neg, dif_pos]
  · exact congrArg (group6 m c) (congrArg (ix2 k) (Fin.ext (by simp only []; omega)))
  all_goals omega

/-- The weights' columns of group 7, read in the whole padded array. -/
theorem weights7_apply (k : Fin 1024) (n : Fin 128) :
    V m c main_v25 (ix2 k ⟨1536 + n.val, by omega⟩) = group7 m c (ix2 k n) := by
  rw [V_v25]
  pointwise
  rw [dif_neg, dif_neg, dif_neg, dif_neg, dif_neg, dif_neg, dif_neg, dif_pos]
  · exact congrArg (group7 m c) (congrArg (ix2 k) (Fin.ext (by simp only []; omega)))
  all_goals omega

/-- The weights' columns of group 8, read in the whole padded array. -/
theorem weights8_apply (k : Fin 1024) (n : Fin 256) :
    V m c main_v25 (ix2 k ⟨1664 + n.val, by omega⟩) = group8 m c (ix2 k n) := by
  rw [V_v25]
  pointwise
  rw [dif_neg, dif_neg, dif_neg, dif_neg, dif_neg, dif_neg, dif_neg, dif_neg, dif_pos]
  · exact congrArg (group8 m c) (congrArg (ix2 k) (Fin.ext (by simp only []; omega)))
  all_goals omega

/-- The weights' columns of group 9, read in the whole padded array. -/
theorem weights9_apply (k : Fin 1024) (n : Fin 256) :
    V m c main_v25 (ix2 k ⟨1920 + n.val, by omega⟩) = group9 m c (ix2 k n) := by
  rw [V_v25]
  pointwise
  rw [dif_neg, dif_neg, dif_neg, dif_neg, dif_neg, dif_neg, dif_neg, dif_neg, dif_neg, dif_pos]
  · exact congrArg (group9 m c) (congrArg (ix2 k) (Fin.ext (by simp only []; omega)))
  all_goals omega

/-- The weights' columns of group 10, read in the whole padded array. -/
theorem weights10_apply (k : Fin 1024) (n : Fin 256) :
    V m c main_v25 (ix2 k ⟨2176 + n.val, by omega⟩) = group10 m c (ix2 k n) := by
  rw [V_v25]
  pointwise
  rw [dif_neg, dif_neg, dif_neg, dif_neg, dif_neg, dif_neg, dif_neg, dif_neg, dif_neg, dif_neg, dif_pos]
  · exact congrArg (group10 m c) (congrArg (ix2 k) (Fin.ext (by simp only []; omega)))
  all_goals omega

/-- The weights' columns of group 11, read in the whole padded array. -/
theorem weights11_apply (k : Fin 1024) (n : Fin 1024) :
    V m c main_v25 (ix2 k ⟨2432 + n.val, by omega⟩) = group11 m c (ix2 k n) := by
  rw [V_v25]
  pointwise
  rw [dif_neg, dif_neg, dif_neg, dif_neg, dif_neg, dif_neg, dif_neg, dif_neg, dif_neg, dif_neg, dif_neg]
  · exact congrArg (group11 m c) (congrArg (ix2 k) (Fin.ext (by simp only []; omega)))
  all_goals omega

/-! ## The arrays of the call -/

/-- The rows as the call takes them. -/
theorem V_v27 : V m c main_v27 = truncf (F := Ideal) .bf16
    (shapeCast S256x1024 (arg0 m c) shapeCasts_S32x8x1024_S256x1024 : FVec Ideal S256x1024 .f32) bitsLt_bf16_f32 := by
  simp only [V, V0, StableHlo.after_cons, StableHlo.after_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24,
    List.flatten_cons, List.flatten_nil, List.append_nil, List.cons_append, List.nil_append]
  rfl

/-- A row of the batch laid out flat. -/
abbrev row (a : Fin 256) (k : Fin 1024) : EReal :=
  arg0 m c (ix3 ⟨a.val / 8, by omega⟩ ⟨a.val % 8, by omega⟩ k)

/-- The place of window 0's block at a point. -/
theorem idx0 : ∀ t : Fin cfg0.N, win0_0.index t = ![t.val, 0] := (by decide +kernel : ∀ t : Fin grid0.N, _)
/-- The place of window 1's block at a point. -/
theorem idx1 : ∀ t : Fin cfg0.N, win0_1.index t = ![0, 0] := (by decide +kernel : ∀ t : Fin grid0.N, _)
/-- The place of window 2's block at a point. -/
theorem idx2 : ∀ t : Fin cfg0.N, win0_2.index t = ![t.val, 0] := (by decide +kernel : ∀ t : Fin grid0.N, _)
/-- The place of window 3's block at a point. -/
theorem idx3 : ∀ t : Fin cfg0.N, win0_3.index t = ![t.val, 0] := (by decide +kernel : ∀ t : Fin grid0.N, _)
/-- The place of window 4's block at a point. -/
theorem idx4 : ∀ t : Fin cfg0.N, win0_4.index t = ![t.val, 0] := (by decide +kernel : ∀ t : Fin grid0.N, _)
/-- The place of window 5's block at a point. -/
theorem idx5 : ∀ t : Fin cfg0.N, win0_5.index t = ![t.val, 0] := (by decide +kernel : ∀ t : Fin grid0.N, _)
/-- The place of window 6's block at a point. -/
theorem idx6 : ∀ t : Fin cfg0.N, win0_6.index t = ![t.val, 0] := (by decide +kernel : ∀ t : Fin grid0.N, _)
/-- The place of window 7's block at a point. -/
theorem idx7 : ∀ t : Fin cfg0.N, win0_7.index t = ![t.val, 0] := (by decide +kernel : ∀ t : Fin grid0.N, _)
/-- The place of window 8's block at a point. -/
theorem idx8 : ∀ t : Fin cfg0.N, win0_8.index t = ![t.val, 0] := (by decide +kernel : ∀ t : Fin grid0.N, _)
/-- The place of window 9's block at a point. -/
theorem idx9 : ∀ t : Fin cfg0.N, win0_9.index t = ![t.val, 0] := (by decide +kernel : ∀ t : Fin grid0.N, _)
/-- The place of window 10's block at a point. -/
theorem idx10 : ∀ t : Fin cfg0.N, win0_10.index t = ![t.val, 0] := (by decide +kernel : ∀ t : Fin grid0.N, _)
/-- The place of window 11's block at a point. -/
theorem idx11 : ∀ t : Fin cfg0.N, win0_11.index t = ![t.val, 0] := (by decide +kernel : ∀ t : Fin grid0.N, _)
/-- The place of window 12's block at a point. -/
theorem idx12 : ∀ t : Fin cfg0.N, win0_12.index t = ![t.val, 0] := (by decide +kernel : ∀ t : Fin grid0.N, _)
/-- The place of window 13's block at a point. -/
theorem idx13 : ∀ t : Fin cfg0.N, win0_13.index t = ![t.val, 0] := (by decide +kernel : ∀ t : Fin grid0.N, _)

/-- An entry of the block window 0 reads at a point, in the whole array. -/
theorem iblk0_apply (t : Fin cfg0.N) (r : Fin 256) (k : Fin 1024) (a : Fin 256) (h : a.val = 256 * t.val + r.val) :
    iblk m c 0 t (ix2 r k) = row m c a k := by
  have e : iblk m c 0 t (ix2 r k) = V m c main_v27 ((win0_0.blk t).view.emb (ix2 r k)) := by
    blk_simp [iblk]
  have e' : (win0_0.blk t).view.emb (ix2 r k) = (ix2 a k : S256x1024.Idx) := by
    blk_ext [idx0 t]
  rw [e, e', V_v27]
  pointwise

/-- An entry of the block window 1 reads at a point, in the whole array. -/
theorem iblk1_apply (t : Fin cfg0.N) (k : Fin 1024) (n : Fin 3456) :
    iblk m c 1 t (ix2 k n) = V m c main_v25 (ix2 k n) := by
  have e : iblk m c 1 t (ix2 k n) = V m c main_v25 ((win0_1.blk t).view.emb (ix2 k n)) := by
    blk_simp [iblk]
  have e' : (win0_1.blk t).view.emb (ix2 k n) = (ix2 k n : S1024x3456.Idx) := by
    blk_ext [idx1 t]
  rw [e, e']

/-- The columns a point reads for group 0. -/
theorem ld0 (x : Vec Ideal S1024x3456 .bf16) (k : Fin 1024) (n : Fin 128) :
    View.ld x r0_1 (ix2 k n) = x (ix2 k ⟨0 + n.val, by omega⟩) :=
  congrArg x (funext fun a => Fin.ext (by
    match a with
    | 0 => show 0 + 1 * k.val = k.val; omega
    | 1 => show 0 + 1 * n.val = 0 + n.val; omega))

/-- A point's rows times the columns of group 0. -/
theorem pay0_apply (x : Vec Ideal S256x1024 .bf16) (w : Vec Ideal S1024x128 .bf16) (r : Fin 256) (n : Fin 128) :
    k0_pay3 (F := Ideal) x w (ix2 r n) = ∑ k : Fin 1024, x (ix2 r k) * w (ix2 k n) := by
  pointwise [k0_pay3, k0_pay2]

/-- Every row times the columns of group 0. -/
def product0 : FVec Ideal S256x128 .f32 := fun i =>
  ∑ k : Fin 1024, row m c (i 0) k * group0 m c (ix2 k (i 1))

/-- The array of group 0 after the run: the product of the two arguments. -/
theorem array0 : (dats m 0 c).arrAt 2 cfg0.N = product0 m c := by
  refine (dats m 0 c).arrAt_eq_of_covers 2 _ (by decide +kernel) fun t hf y => ?_
  blk_simp
  rw [after0_2]
  frame_out
  obtain ⟨r, n, rfl⟩ : ∃ (r : Fin 256) (n : Fin 128), y = ix2 r n :=
    ⟨y 0, y 1, funext fun x => by match x with | 0 => rfl | 1 => rfl⟩
  have hN := lt_of_lt_of_eq t.isLt (show cfg0.N = 1 from N_0)
  have e' : (win0_2.blk t).view.emb (ix2 r n) = (ix2 ⟨256 * t.val + r.val, by omega⟩ n : S256x128.Idx) := by
    blk_ext [idx2 t]
  rw [e']
  have hx := fun k => iblk0_apply m c t r k ⟨256 * t.val + r.val, by omega⟩ rfl
  have hw := fun k => (ld0 (iblk m c 1 t) k n).trans ((iblk1_apply m c t k _).trans (weights0_apply m c k n))
  exact (pay0_apply _ _ r n).trans (Finset.sum_congr rfl fun k _ => congrArg₂ (· * ·) (hx k) (hw k))

/-- The columns a point reads for group 1. -/
theorem ld1 (x : Vec Ideal S1024x3456 .bf16) (k : Fin 1024) (n : Fin 128) :
    View.ld x r0_3 (ix2 k n) = x (ix2 k ⟨128 + n.val, by omega⟩) :=
  congrArg x (funext fun a => Fin.ext (by
    match a with
    | 0 => show 0 + 1 * k.val = k.val; omega
    | 1 => show 128 + 1 * n.val = 128 + n.val; omega))

/-- A point's rows times the columns of group 1. -/
theorem pay1_apply (x : Vec Ideal S256x1024 .bf16) (w : Vec Ideal S1024x128 .bf16) (r : Fin 256) (n : Fin 128) :
    k0_pay4 (F := Ideal) x w (ix2 r n) = ∑ k : Fin 1024, x (ix2 r k) * w (ix2 k n) := by
  pointwise [k0_pay4, k0_pay2]

/-- Every row times the columns of group 1. -/
def product1 : FVec Ideal S256x128 .f32 := fun i =>
  ∑ k : Fin 1024, row m c (i 0) k * group1 m c (ix2 k (i 1))

/-- The array of group 1 after the run: the product of the two arguments. -/
theorem array1 : (dats m 0 c).arrAt 3 cfg0.N = product1 m c := by
  refine (dats m 0 c).arrAt_eq_of_covers 3 _ (by decide +kernel) fun t hf y => ?_
  blk_simp
  rw [after0_3]
  frame_out
  obtain ⟨r, n, rfl⟩ : ∃ (r : Fin 256) (n : Fin 128), y = ix2 r n :=
    ⟨y 0, y 1, funext fun x => by match x with | 0 => rfl | 1 => rfl⟩
  have hN := lt_of_lt_of_eq t.isLt (show cfg0.N = 1 from N_0)
  have e' : (win0_3.blk t).view.emb (ix2 r n) = (ix2 ⟨256 * t.val + r.val, by omega⟩ n : S256x128.Idx) := by
    blk_ext [idx3 t]
  rw [e']
  have hx := fun k => iblk0_apply m c t r k ⟨256 * t.val + r.val, by omega⟩ rfl
  have hw := fun k => (ld1 (iblk m c 1 t) k n).trans ((iblk1_apply m c t k _).trans (weights1_apply m c k n))
  exact (pay1_apply _ _ r n).trans (Finset.sum_congr rfl fun k _ => congrArg₂ (· * ·) (hx k) (hw k))

/-- The columns a point reads for group 2. -/
theorem ld2 (x : Vec Ideal S1024x3456 .bf16) (k : Fin 1024) (n : Fin 256) :
    View.ld x r0_4 (ix2 k n) = x (ix2 k ⟨256 + n.val, by omega⟩) :=
  congrArg x (funext fun a => Fin.ext (by
    match a with
    | 0 => show 0 + 1 * k.val = k.val; omega
    | 1 => show 256 + 1 * n.val = 256 + n.val; omega))

/-- A point's rows times the columns of group 2. -/
theorem pay2_apply (x : Vec Ideal S256x1024 .bf16) (w : Vec Ideal S1024x256 .bf16) (r : Fin 256) (n : Fin 256) :
    k0_pay5 (F := Ideal) x w (ix2 r n) = ∑ k : Fin 1024, x (ix2 r k) * w (ix2 k n) := by
  pointwise [k0_pay5, k0_pay2]

/-- Every row times the columns of group 2. -/
def product2 : FVec Ideal S256x256 .f32 := fun i =>
  ∑ k : Fin 1024, row m c (i 0) k * group2 m c (ix2 k (i 1))

/-- The array of group 2 after the run: the product of the two arguments. -/
theorem array2 : (dats m 0 c).arrAt 4 cfg0.N = product2 m c := by
  refine (dats m 0 c).arrAt_eq_of_covers 4 _ (by decide +kernel) fun t hf y => ?_
  blk_simp
  rw [after0_4]
  frame_out
  obtain ⟨r, n, rfl⟩ : ∃ (r : Fin 256) (n : Fin 256), y = ix2 r n :=
    ⟨y 0, y 1, funext fun x => by match x with | 0 => rfl | 1 => rfl⟩
  have hN := lt_of_lt_of_eq t.isLt (show cfg0.N = 1 from N_0)
  have e' : (win0_4.blk t).view.emb (ix2 r n) = (ix2 ⟨256 * t.val + r.val, by omega⟩ n : S256x256.Idx) := by
    blk_ext [idx4 t]
  rw [e']
  have hx := fun k => iblk0_apply m c t r k ⟨256 * t.val + r.val, by omega⟩ rfl
  have hw := fun k => (ld2 (iblk m c 1 t) k n).trans ((iblk1_apply m c t k _).trans (weights2_apply m c k n))
  exact (pay2_apply _ _ r n).trans (Finset.sum_congr rfl fun k _ => congrArg₂ (· * ·) (hx k) (hw k))

/-- The columns a point reads for group 3. -/
theorem ld3 (x : Vec Ideal S1024x3456 .bf16) (k : Fin 1024) (n : Fin 128) :
    View.ld x r0_6 (ix2 k n) = x (ix2 k ⟨512 + n.val, by omega⟩) :=
  congrArg x (funext fun a => Fin.ext (by
    match a with
    | 0 => show 0 + 1 * k.val = k.val; omega
    | 1 => show 512 + 1 * n.val = 512 + n.val; omega))

/-- A point's rows times the columns of group 3. -/
theorem pay3_apply (x : Vec Ideal S256x1024 .bf16) (w : Vec Ideal S1024x128 .bf16) (r : Fin 256) (n : Fin 128) :
    k0_pay6 (F := Ideal) x w (ix2 r n) = ∑ k : Fin 1024, x (ix2 r k) * w (ix2 k n) := by
  pointwise [k0_pay6, k0_pay2]

/-- Every row times the columns of group 3. -/
def product3 : FVec Ideal S256x128 .f32 := fun i =>
  ∑ k : Fin 1024, row m c (i 0) k * group3 m c (ix2 k (i 1))

/-- The array of group 3 after the run: the product of the two arguments. -/
theorem array3 : (dats m 0 c).arrAt 5 cfg0.N = product3 m c := by
  refine (dats m 0 c).arrAt_eq_of_covers 5 _ (by decide +kernel) fun t hf y => ?_
  blk_simp
  rw [after0_5]
  frame_out
  obtain ⟨r, n, rfl⟩ : ∃ (r : Fin 256) (n : Fin 128), y = ix2 r n :=
    ⟨y 0, y 1, funext fun x => by match x with | 0 => rfl | 1 => rfl⟩
  have hN := lt_of_lt_of_eq t.isLt (show cfg0.N = 1 from N_0)
  have e' : (win0_5.blk t).view.emb (ix2 r n) = (ix2 ⟨256 * t.val + r.val, by omega⟩ n : S256x128.Idx) := by
    blk_ext [idx5 t]
  rw [e']
  have hx := fun k => iblk0_apply m c t r k ⟨256 * t.val + r.val, by omega⟩ rfl
  have hw := fun k => (ld3 (iblk m c 1 t) k n).trans ((iblk1_apply m c t k _).trans (weights3_apply m c k n))
  exact (pay3_apply _ _ r n).trans (Finset.sum_congr rfl fun k _ => congrArg₂ (· * ·) (hx k) (hw k))

/-- The columns a point reads for group 4. -/
theorem ld4 (x : Vec Ideal S1024x3456 .bf16) (k : Fin 1024) (n : Fin 256) :
    View.ld x r0_7 (ix2 k n) = x (ix2 k ⟨640 + n.val, by omega⟩) :=
  congrArg x (funext fun a => Fin.ext (by
    match a with
    | 0 => show 0 + 1 * k.val = k.val; omega
    | 1 => show 640 + 1 * n.val = 640 + n.val; omega))

/-- A point's rows times the columns of group 4. -/
theorem pay4_apply (x : Vec Ideal S256x1024 .bf16) (w : Vec Ideal S1024x256 .bf16) (r : Fin 256) (n : Fin 256) :
    k0_pay7 (F := Ideal) x w (ix2 r n) = ∑ k : Fin 1024, x (ix2 r k) * w (ix2 k n) := by
  pointwise [k0_pay7, k0_pay2]

/-- Every row times the columns of group 4. -/
def product4 : FVec Ideal S256x256 .f32 := fun i =>
  ∑ k : Fin 1024, row m c (i 0) k * group4 m c (ix2 k (i 1))

/-- The array of group 4 after the run: the product of the two arguments. -/
theorem array4 : (dats m 0 c).arrAt 6 cfg0.N = product4 m c := by
  refine (dats m 0 c).arrAt_eq_of_covers 6 _ (by decide +kernel) fun t hf y => ?_
  blk_simp
  rw [after0_6]
  frame_out
  obtain ⟨r, n, rfl⟩ : ∃ (r : Fin 256) (n : Fin 256), y = ix2 r n :=
    ⟨y 0, y 1, funext fun x => by match x with | 0 => rfl | 1 => rfl⟩
  have hN := lt_of_lt_of_eq t.isLt (show cfg0.N = 1 from N_0)
  have e' : (win0_6.blk t).view.emb (ix2 r n) = (ix2 ⟨256 * t.val + r.val, by omega⟩ n : S256x256.Idx) := by
    blk_ext [idx6 t]
  rw [e']
  have hx := fun k => iblk0_apply m c t r k ⟨256 * t.val + r.val, by omega⟩ rfl
  have hw := fun k => (ld4 (iblk m c 1 t) k n).trans ((iblk1_apply m c t k _).trans (weights4_apply m c k n))
  exact (pay4_apply _ _ r n).trans (Finset.sum_congr rfl fun k _ => congrArg₂ (· * ·) (hx k) (hw k))

/-- The columns a point reads for group 5. -/
theorem ld5 (x : Vec Ideal S1024x3456 .bf16) (k : Fin 1024) (n : Fin 256) :
    View.ld x r0_8 (ix2 k n) = x (ix2 k ⟨896 + n.val, by omega⟩) :=
  congrArg x (funext fun a => Fin.ext (by
    match a with
    | 0 => show 0 + 1 * k.val = k.val; omega
    | 1 => show 896 + 1 * n.val = 896 + n.val; omega))

/-- A point's rows times the columns of group 5. -/
theorem pay5_apply (x : Vec Ideal S256x1024 .bf16) (y : Vec Ideal S1024x3456 .bf16) (w : Vec Ideal S1024x256 .bf16) (r : Fin 256) (n : Fin 256) :
    k0_pay9 (F := Ideal) (k0_pay16 x y) (k0_pay8 w) (constant S256x256 .f32 0x00000000#32) (ix2 r n) = ∑ k : Fin 1024, x (ix2 r k) * w (ix2 k n) := by
  pointwise [k0_pay9, k0_pay16, k0_pay8, k0_pay2]

/-- Every row times the columns of group 5. -/
def product5 : FVec Ideal S256x256 .f32 := fun i =>
  ∑ k : Fin 1024, row m c (i 0) k * group5 m c (ix2 k (i 1))

/-- The array of group 5 after the run: the product of the two arguments. -/
theorem array5 : (dats m 0 c).arrAt 7 cfg0.N = product5 m c := by
  refine (dats m 0 c).arrAt_eq_of_covers 7 _ (by decide +kernel) fun t hf y => ?_
  blk_simp
  rw [after0_7]
  frame_out
  obtain ⟨r, n, rfl⟩ : ∃ (r : Fin 256) (n : Fin 256), y = ix2 r n :=
    ⟨y 0, y 1, funext fun x => by match x with | 0 => rfl | 1 => rfl⟩
  have hN := lt_of_lt_of_eq t.isLt (show cfg0.N = 1 from N_0)
  have e' : (win0_7.blk t).view.emb (ix2 r n) = (ix2 ⟨256 * t.val + r.val, by omega⟩ n : S256x256.Idx) := by
    blk_ext [idx7 t]
  rw [e']
  have hx := fun k => iblk0_apply m c t r k ⟨256 * t.val + r.val, by omega⟩ rfl
  have hw := fun k => (ld5 (iblk m c 1 t) k n).trans ((iblk1_apply m c t k _).trans (weights5_apply m c k n))
  exact (pay5_apply _ _ _ r n).trans (Finset.sum_congr rfl fun k _ => congrArg₂ (· * ·) (hx k) (hw k))

/-- The columns a point reads for group 6. -/
theorem ld6 (x : Vec Ideal S1024x3456 .bf16) (k : Fin 1024) (n : Fin 384) :
    View.ld x r0_9 (ix2 k n) = x (ix2 k ⟨1152 + n.val, by omega⟩) :=
  congrArg x (funext fun a => Fin.ext (by
    match a with
    | 0 => show 0 + 1 * k.val = k.val; omega
    | 1 => show 1152 + 1 * n.val = 1152 + n.val; omega))

/-- A point's rows times the columns of group 6. -/
theorem pay6_apply (x : Vec Ideal S256x1024 .bf16) (y : Vec Ideal S1024x3456 .bf16) (w : Vec Ideal S1024x384 .bf16) (r : Fin 256) (n : Fin 384) :
    k0_pay10 (F := Ideal) (k0_pay16 x y) w (ix2 r n) = ∑ k : Fin 1024, x (ix2 r k) * w (ix2 k n) := by
  pointwise [k0_pay10, k0_pay16, k0_pay2]

/-- Every row times the columns of group 6. -/
def product6 : FVec Ideal S256x384 .f32 := fun i =>
  ∑ k : Fin 1024, row m c (i 0) k * group6 m c (ix2 k (i 1))

/-- The array of group 6 after the run: the product of the two arguments. -/
theorem array6 : (dats m 0 c).arrAt 8 cfg0.N = product6 m c := by
  refine (dats m 0 c).arrAt_eq_of_covers 8 _ (by decide +kernel) fun t hf y => ?_
  blk_simp
  rw [after0_8]
  frame_out
  obtain ⟨r, n, rfl⟩ : ∃ (r : Fin 256) (n : Fin 384), y = ix2 r n :=
    ⟨y 0, y 1, funext fun x => by match x with | 0 => rfl | 1 => rfl⟩
  have hN := lt_of_lt_of_eq t.isLt (show cfg0.N = 1 from N_0)
  have e' : (win0_8.blk t).view.emb (ix2 r n) = (ix2 ⟨256 * t.val + r.val, by omega⟩ n : S256x384.Idx) := by
    blk_ext [idx8 t]
  rw [e']
  have hx := fun k => iblk0_apply m c t r k ⟨256 * t.val + r.val, by omega⟩ rfl
  have hw := fun k => (ld6 (iblk m c 1 t) k n).trans ((iblk1_apply m c t k _).trans (weights6_apply m c k n))
  exact (pay6_apply _ _ _ r n).trans (Finset.sum_congr rfl fun k _ => congrArg₂ (· * ·) (hx k) (hw k))

/-- The columns a point reads for group 7. -/
theorem ld7 (x : Vec Ideal S1024x3456 .bf16) (k : Fin 1024) (n : Fin 128) :
    View.ld x r0_11 (ix2 k n) = x (ix2 k ⟨1536 + n.val, by omega⟩) :=
  congrArg x (funext fun a => Fin.ext (by
    match a with
    | 0 => show 0 + 1 * k.val = k.val; omega
    | 1 => show 1536 + 1 * n.val = 1536 + n.val; omega))

/-- A point's rows times the columns of group 7. -/
theorem pay7_apply (x : Vec Ideal S256x1024 .bf16) (y : Vec Ideal S1024x3456 .bf16) (w : Vec Ideal S1024x128 .bf16) (r : Fin 256) (n : Fin 128) :
    k0_pay11 (F := Ideal) (k0_pay16 x y) w (ix2 r n) = ∑ k : Fin 1024, x (ix2 r k) * w (ix2 k n) := by
  pointwise [k0_pay11, k0_pay16, k0_pay2]

/-- Every row times the columns of group 7. -/
def product7 : FVec Ideal S256x128 .f32 := fun i =>
  ∑ k : Fin 1024, row m c (i 0) k * group7 m c (ix2 k (i 1))

/-- The array of group 7 after the run: the product of the two arguments. -/
theorem array7 : (dats m 0 c).arrAt 9 cfg0.N = product7 m c := by
  refine (dats m 0 c).arrAt_eq_of_covers 9 _ (by decide +kernel) fun t hf y => ?_
  blk_simp
  rw [after0_9]
  frame_out
  obtain ⟨r, n, rfl⟩ : ∃ (r : Fin 256) (n : Fin 128), y = ix2 r n :=
    ⟨y 0, y 1, funext fun x => by match x with | 0 => rfl | 1 => rfl⟩
  have hN := lt_of_lt_of_eq t.isLt (show cfg0.N = 1 from N_0)
  have e' : (win0_9.blk t).view.emb (ix2 r n) = (ix2 ⟨256 * t.val + r.val, by omega⟩ n : S256x128.Idx) := by
    blk_ext [idx9 t]
  rw [e']
  have hx := fun k => iblk0_apply m c t r k ⟨256 * t.val + r.val, by omega⟩ rfl
  have hw := fun k => (ld7 (iblk m c 1 t) k n).trans ((iblk1_apply m c t k _).trans (weights7_apply m c k n))
  exact (pay7_apply _ _ _ r n).trans (Finset.sum_congr rfl fun k _ => congrArg₂ (· * ·) (hx k) (hw k))

/-- The columns a point reads for group 8. -/
theorem ld8 (x : Vec Ideal S1024x3456 .bf16) (k : Fin 1024) (n : Fin 256) :
    View.ld x r0_12 (ix2 k n) = x (ix2 k ⟨1664 + n.val, by omega⟩) :=
  congrArg x (funext fun a => Fin.ext (by
    match a with
    | 0 => show 0 + 1 * k.val = k.val; omega
    | 1 => show 1664 + 1 * n.val = 1664 + n.val; omega))

/-- A point's rows times the columns of group 8. -/
theorem pay8_apply (x : Vec Ideal S256x1024 .bf16) (y : Vec Ideal S1024x3456 .bf16) (w : Vec Ideal S1024x256 .bf16) (r : Fin 256) (n : Fin 256) :
    k0_pay12 (F := Ideal) (k0_pay16 x y) w (ix2 r n) = ∑ k : Fin 1024, x (ix2 r k) * w (ix2 k n) := by
  pointwise [k0_pay12, k0_pay16, k0_pay2]

/-- Every row times the columns of group 8. -/
def product8 : FVec Ideal S256x256 .f32 := fun i =>
  ∑ k : Fin 1024, row m c (i 0) k * group8 m c (ix2 k (i 1))

/-- The array of group 8 after the run: the product of the two arguments. -/
theorem array8 : (dats m 0 c).arrAt 10 cfg0.N = product8 m c := by
  refine (dats m 0 c).arrAt_eq_of_covers 10 _ (by decide +kernel) fun t hf y => ?_
  blk_simp
  rw [after0_10]
  frame_out
  obtain ⟨r, n, rfl⟩ : ∃ (r : Fin 256) (n : Fin 256), y = ix2 r n :=
    ⟨y 0, y 1, funext fun x => by match x with | 0 => rfl | 1 => rfl⟩
  have hN := lt_of_lt_of_eq t.isLt (show cfg0.N = 1 from N_0)
  have e' : (win0_10.blk t).view.emb (ix2 r n) = (ix2 ⟨256 * t.val + r.val, by omega⟩ n : S256x256.Idx) := by
    blk_ext [idx10 t]
  rw [e']
  have hx := fun k => iblk0_apply m c t r k ⟨256 * t.val + r.val, by omega⟩ rfl
  have hw := fun k => (ld8 (iblk m c 1 t) k n).trans ((iblk1_apply m c t k _).trans (weights8_apply m c k n))
  exact (pay8_apply _ _ _ r n).trans (Finset.sum_congr rfl fun k _ => congrArg₂ (· * ·) (hx k) (hw k))

/-- The columns a point reads for group 9. -/
theorem ld9 (x : Vec Ideal S1024x3456 .bf16) (k : Fin 1024) (n : Fin 256) :
    View.ld x r0_13 (ix2 k n) = x (ix2 k ⟨1920 + n.val, by omega⟩) :=
  congrArg x (funext fun a => Fin.ext (by
    match a with
    | 0 => show 0 + 1 * k.val = k.val; omega
    | 1 => show 1920 + 1 * n.val = 1920 + n.val; omega))

/-- A point's rows times the columns of group 9. -/
theorem pay9_apply (x : Vec Ideal S256x1024 .bf16) (y : Vec Ideal S1024x3456 .bf16) (w : Vec Ideal S1024x256 .bf16) (r : Fin 256) (n : Fin 256) :
    k0_pay13 (F := Ideal) (k0_pay16 x y) w (ix2 r n) = ∑ k : Fin 1024, x (ix2 r k) * w (ix2 k n) := by
  pointwise [k0_pay13, k0_pay16, k0_pay2]

/-- Every row times the columns of group 9. -/
def product9 : FVec Ideal S256x256 .f32 := fun i =>
  ∑ k : Fin 1024, row m c (i 0) k * group9 m c (ix2 k (i 1))

/-- The array of group 9 after the run: the product of the two arguments. -/
theorem array9 : (dats m 0 c).arrAt 11 cfg0.N = product9 m c := by
  refine (dats m 0 c).arrAt_eq_of_covers 11 _ (by decide +kernel) fun t hf y => ?_
  blk_simp
  rw [after0_11]
  frame_out
  obtain ⟨r, n, rfl⟩ : ∃ (r : Fin 256) (n : Fin 256), y = ix2 r n :=
    ⟨y 0, y 1, funext fun x => by match x with | 0 => rfl | 1 => rfl⟩
  have hN := lt_of_lt_of_eq t.isLt (show cfg0.N = 1 from N_0)
  have e' : (win0_11.blk t).view.emb (ix2 r n) = (ix2 ⟨256 * t.val + r.val, by omega⟩ n : S256x256.Idx) := by
    blk_ext [idx11 t]
  rw [e']
  have hx := fun k => iblk0_apply m c t r k ⟨256 * t.val + r.val, by omega⟩ rfl
  have hw := fun k => (ld9 (iblk m c 1 t) k n).trans ((iblk1_apply m c t k _).trans (weights9_apply m c k n))
  exact (pay9_apply _ _ _ r n).trans (Finset.sum_congr rfl fun k _ => congrArg₂ (· * ·) (hx k) (hw k))

/-- The columns a point reads for group 10. -/
theorem ld10 (x : Vec Ideal S1024x3456 .bf16) (k : Fin 1024) (n : Fin 256) :
    View.ld x r0_14 (ix2 k n) = x (ix2 k ⟨2176 + n.val, by omega⟩) :=
  congrArg x (funext fun a => Fin.ext (by
    match a with
    | 0 => show 0 + 1 * k.val = k.val; omega
    | 1 => show 2176 + 1 * n.val = 2176 + n.val; omega))

/-- A point's rows times the columns of group 10. -/
theorem pay10_apply (x : Vec Ideal S256x1024 .bf16) (y : Vec Ideal S1024x3456 .bf16) (w : Vec Ideal S1024x256 .bf16) (r : Fin 256) (n : Fin 256) :
    k0_pay14 (F := Ideal) (k0_pay16 x y) w (ix2 r n) = ∑ k : Fin 1024, x (ix2 r k) * w (ix2 k n) := by
  pointwise [k0_pay14, k0_pay16, k0_pay2]

/-- Every row times the columns of group 10. -/
def product10 : FVec Ideal S256x256 .f32 := fun i =>
  ∑ k : Fin 1024, row m c (i 0) k * group10 m c (ix2 k (i 1))

/-- The array of group 10 after the run: the product of the two arguments. -/
theorem array10 : (dats m 0 c).arrAt 12 cfg0.N = product10 m c := by
  refine (dats m 0 c).arrAt_eq_of_covers 12 _ (by decide +kernel) fun t hf y => ?_
  blk_simp
  rw [after0_12]
  frame_out
  obtain ⟨r, n, rfl⟩ : ∃ (r : Fin 256) (n : Fin 256), y = ix2 r n :=
    ⟨y 0, y 1, funext fun x => by match x with | 0 => rfl | 1 => rfl⟩
  have hN := lt_of_lt_of_eq t.isLt (show cfg0.N = 1 from N_0)
  have e' : (win0_12.blk t).view.emb (ix2 r n) = (ix2 ⟨256 * t.val + r.val, by omega⟩ n : S256x256.Idx) := by
    blk_ext [idx12 t]
  rw [e']
  have hx := fun k => iblk0_apply m c t r k ⟨256 * t.val + r.val, by omega⟩ rfl
  have hw := fun k => (ld10 (iblk m c 1 t) k n).trans ((iblk1_apply m c t k _).trans (weights10_apply m c k n))
  exact (pay10_apply _ _ _ r n).trans (Finset.sum_congr rfl fun k _ => congrArg₂ (· * ·) (hx k) (hw k))

/-- The columns a point reads for group 11. -/
theorem ld11 (x : Vec Ideal S1024x3456 .bf16) (k : Fin 1024) (n : Fin 1024) :
    View.ld x r0_15 (ix2 k n) = x (ix2 k ⟨2432 + n.val, by omega⟩) :=
  congrArg x (funext fun a => Fin.ext (by
    match a with
    | 0 => show 0 + 1 * k.val = k.val; omega
    | 1 => show 2432 + 1 * n.val = 2432 + n.val; omega))

/-- A point's rows times the columns of group 11. -/
theorem pay11_apply (x : Vec Ideal S256x1024 .bf16) (y : Vec Ideal S1024x3456 .bf16) (w : Vec Ideal S1024x1024 .bf16) (r : Fin 256) (n : Fin 1024) :
    k0_pay1 (F := Ideal) (k0_pay16 x y) (k0_pay15 w) (constant S256x1024 .f32 0x00000000#32) (ix2 r n) = ∑ k : Fin 1024, x (ix2 r k) * w (ix2 k n) := by
  pointwise [k0_pay1, k0_pay16, k0_pay15, k0_pay2]

/-- Every row times the columns of group 11. -/
def product11 : FVec Ideal S256x1024 .f32 := fun i =>
  ∑ k : Fin 1024, row m c (i 0) k * group11 m c (ix2 k (i 1))

/-- The array of group 11 after the run: the product of the two arguments. -/
theorem array11 : (dats m 0 c).arrAt 13 cfg0.N = product11 m c := by
  refine (dats m 0 c).arrAt_eq_of_covers 13 _ (by decide +kernel) fun t hf y => ?_
  blk_simp
  rw [after0_13]
  frame_out
  obtain ⟨r, n, rfl⟩ : ∃ (r : Fin 256) (n : Fin 1024), y = ix2 r n :=
    ⟨y 0, y 1, funext fun x => by match x with | 0 => rfl | 1 => rfl⟩
  have hN := lt_of_lt_of_eq t.isLt (show cfg0.N = 1 from N_0)
  have e' : (win0_13.blk t).view.emb (ix2 r n) = (ix2 ⟨256 * t.val + r.val, by omega⟩ n : S256x1024.Idx) := by
    blk_ext [idx13 t]
  rw [e']
  have hx := fun k => iblk0_apply m c t r k ⟨256 * t.val + r.val, by omega⟩ rfl
  have hw := fun k => (ld11 (iblk m c 1 t) k n).trans ((iblk1_apply m c t k _).trans (weights11_apply m c k n))
  exact (pay11_apply _ _ _ r n).trans (Finset.sum_congr rfl fun k _ => congrArg₂ (· * ·) (hx k) (hw k))

/-! ## The rows the layer keeps, against the reference's columns -/

/-- Group 0 is the reference's columns 0 to 127. -/
theorem columns0 : shapeCast S32x8x128 (product0 m c) shapeCasts_S256x128_S32x8x128
    = val_main_v1 (F := Ideal) (arg0 m c) (arg1 m c) := by
  funext i
  obtain ⟨b, t, n, rfl⟩ : ∃ (b : Fin 32) (t : Fin 8) (n : Fin 128), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product0 m c (ix2 (⟨b.val * 8 + t.val, by omega⟩ : Fin 256) (⟨n.val, by omega⟩ : Fin 128))
      = ∑ k : Fin 1024, arg0 m c (ix3 b t k) * arg1 m c (ix2 k ⟨n.val, by omega⟩) :=
    Finset.sum_congr rfl fun k _ => congrArg₂ (· * ·) (congrFun ha k) (group0_apply m c k ⟨n.val, by omega⟩ n.isLt)
  pointwise [val_main_v1, val_main_v0]
  exact hp

/-- Group 1 is the reference's columns 128 to 255. -/
theorem columns1 : shapeCast S32x8x128 (product1 m c) shapeCasts_S256x128_S32x8x128
    = val_main_v2 (F := Ideal) (arg0 m c) (arg1 m c) := by
  funext i
  obtain ⟨b, t, n, rfl⟩ : ∃ (b : Fin 32) (t : Fin 8) (n : Fin 128), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product1 m c (ix2 (⟨b.val * 8 + t.val, by omega⟩ : Fin 256) (⟨n.val, by omega⟩ : Fin 128))
      = ∑ k : Fin 1024, arg0 m c (ix3 b t k) * arg1 m c (ix2 k ⟨128 + n.val, by omega⟩) :=
    Finset.sum_congr rfl fun k _ => congrArg₂ (· * ·) (congrFun ha k) (group1_apply m c k ⟨n.val, by omega⟩ n.isLt)
  pointwise [val_main_v2, val_main_v0]
  exact hp

/-- Group 2 is the reference's columns 256 to 511. -/
theorem columns2 : shapeCast S32x8x256 (product2 m c) shapeCasts_S256x256_S32x8x256
    = val_main_v3 (F := Ideal) (arg0 m c) (arg1 m c) := by
  funext i
  obtain ⟨b, t, n, rfl⟩ : ∃ (b : Fin 32) (t : Fin 8) (n : Fin 256), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product2 m c (ix2 (⟨b.val * 8 + t.val, by omega⟩ : Fin 256) (⟨n.val, by omega⟩ : Fin 256))
      = ∑ k : Fin 1024, arg0 m c (ix3 b t k) * arg1 m c (ix2 k ⟨256 + n.val, by omega⟩) :=
    Finset.sum_congr rfl fun k _ => congrArg₂ (· * ·) (congrFun ha k) (group2_apply m c k ⟨n.val, by omega⟩ n.isLt)
  pointwise [val_main_v3, val_main_v0]
  exact hp

/-- Group 3 is the reference's columns 512 to 527. -/
theorem columns3 : extractStridedSlice S32x8x16 ![0, 0, 0] (shapeCast S32x8x128 (product3 m c) shapeCasts_S256x128_S32x8x128) slices_S32x8x128_S32x8x16_0_0_0
    = val_main_v4 (F := Ideal) (arg0 m c) (arg1 m c) := by
  funext i
  obtain ⟨b, t, n, rfl⟩ : ∃ (b : Fin 32) (t : Fin 8) (n : Fin 16), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product3 m c (ix2 (⟨b.val * 8 + t.val, by omega⟩ : Fin 256) (⟨n.val, by omega⟩ : Fin 128))
      = ∑ k : Fin 1024, arg0 m c (ix3 b t k) * arg1 m c (ix2 k ⟨512 + n.val, by omega⟩) :=
    Finset.sum_congr rfl fun k _ => congrArg₂ (· * ·) (congrFun ha k) (group3_apply m c k ⟨n.val, by omega⟩ n.isLt)
  pointwise [val_main_v4, val_main_v0]
  exact hp

/-- Group 4 is the reference's columns 528 to 783. -/
theorem columns4 : shapeCast S32x8x256 (product4 m c) shapeCasts_S256x256_S32x8x256
    = val_main_v5 (F := Ideal) (arg0 m c) (arg1 m c) := by
  funext i
  obtain ⟨b, t, n, rfl⟩ : ∃ (b : Fin 32) (t : Fin 8) (n : Fin 256), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product4 m c (ix2 (⟨b.val * 8 + t.val, by omega⟩ : Fin 256) (⟨n.val, by omega⟩ : Fin 256))
      = ∑ k : Fin 1024, arg0 m c (ix3 b t k) * arg1 m c (ix2 k ⟨528 + n.val, by omega⟩) :=
    Finset.sum_congr rfl fun k _ => congrArg₂ (· * ·) (congrFun ha k) (group4_apply m c k ⟨n.val, by omega⟩ n.isLt)
  pointwise [val_main_v5, val_main_v0]
  exact hp

/-- Group 5 is the reference's columns 784 to 1039. -/
theorem columns5 : shapeCast S32x8x256 (product5 m c) shapeCasts_S256x256_S32x8x256
    = val_main_v6 (F := Ideal) (arg0 m c) (arg1 m c) := by
  funext i
  obtain ⟨b, t, n, rfl⟩ : ∃ (b : Fin 32) (t : Fin 8) (n : Fin 256), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product5 m c (ix2 (⟨b.val * 8 + t.val, by omega⟩ : Fin 256) (⟨n.val, by omega⟩ : Fin 256))
      = ∑ k : Fin 1024, arg0 m c (ix3 b t k) * arg1 m c (ix2 k ⟨784 + n.val, by omega⟩) :=
    Finset.sum_congr rfl fun k _ => congrArg₂ (· * ·) (congrFun ha k) (group5_apply m c k ⟨n.val, by omega⟩ n.isLt)
  pointwise [val_main_v6, val_main_v0]
  exact hp

/-- Group 6 is the reference's columns 1040 to 1423. -/
theorem columns6 : shapeCast S32x8x384 (product6 m c) shapeCasts_S256x384_S32x8x384
    = val_main_v7 (F := Ideal) (arg0 m c) (arg1 m c) := by
  funext i
  obtain ⟨b, t, n, rfl⟩ : ∃ (b : Fin 32) (t : Fin 8) (n : Fin 384), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product6 m c (ix2 (⟨b.val * 8 + t.val, by omega⟩ : Fin 256) (⟨n.val, by omega⟩ : Fin 384))
      = ∑ k : Fin 1024, arg0 m c (ix3 b t k) * arg1 m c (ix2 k ⟨1040 + n.val, by omega⟩) :=
    Finset.sum_congr rfl fun k _ => congrArg₂ (· * ·) (congrFun ha k) (group6_apply m c k ⟨n.val, by omega⟩ n.isLt)
  pointwise [val_main_v7, val_main_v0]
  exact hp

/-- Group 7 is the reference's columns 1424 to 1435. -/
theorem columns7 : extractStridedSlice S32x8x12 ![0, 0, 0] (shapeCast S32x8x128 (product7 m c) shapeCasts_S256x128_S32x8x128) slices_S32x8x128_S32x8x12_0_0_0
    = val_main_v8 (F := Ideal) (arg0 m c) (arg1 m c) := by
  funext i
  obtain ⟨b, t, n, rfl⟩ : ∃ (b : Fin 32) (t : Fin 8) (n : Fin 12), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product7 m c (ix2 (⟨b.val * 8 + t.val, by omega⟩ : Fin 256) (⟨n.val, by omega⟩ : Fin 128))
      = ∑ k : Fin 1024, arg0 m c (ix3 b t k) * arg1 m c (ix2 k ⟨1424 + n.val, by omega⟩) :=
    Finset.sum_congr rfl fun k _ => congrArg₂ (· * ·) (congrFun ha k) (group7_apply m c k ⟨n.val, by omega⟩ n.isLt)
  pointwise [val_main_v8, val_main_v0]
  exact hp

/-- Group 8 is the reference's columns 1436 to 1691. -/
theorem columns8 : shapeCast S32x8x256 (product8 m c) shapeCasts_S256x256_S32x8x256
    = val_main_v9 (F := Ideal) (arg0 m c) (arg1 m c) := by
  funext i
  obtain ⟨b, t, n, rfl⟩ : ∃ (b : Fin 32) (t : Fin 8) (n : Fin 256), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product8 m c (ix2 (⟨b.val * 8 + t.val, by omega⟩ : Fin 256) (⟨n.val, by omega⟩ : Fin 256))
      = ∑ k : Fin 1024, arg0 m c (ix3 b t k) * arg1 m c (ix2 k ⟨1436 + n.val, by omega⟩) :=
    Finset.sum_congr rfl fun k _ => congrArg₂ (· * ·) (congrFun ha k) (group8_apply m c k ⟨n.val, by omega⟩ n.isLt)
  pointwise [val_main_v9, val_main_v0]
  exact hp

/-- Group 9 is the reference's columns 1692 to 1947. -/
theorem columns9 : shapeCast S32x8x256 (product9 m c) shapeCasts_S256x256_S32x8x256
    = val_main_v10 (F := Ideal) (arg0 m c) (arg1 m c) := by
  funext i
  obtain ⟨b, t, n, rfl⟩ : ∃ (b : Fin 32) (t : Fin 8) (n : Fin 256), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product9 m c (ix2 (⟨b.val * 8 + t.val, by omega⟩ : Fin 256) (⟨n.val, by omega⟩ : Fin 256))
      = ∑ k : Fin 1024, arg0 m c (ix3 b t k) * arg1 m c (ix2 k ⟨1692 + n.val, by omega⟩) :=
    Finset.sum_congr rfl fun k _ => congrArg₂ (· * ·) (congrFun ha k) (group9_apply m c k ⟨n.val, by omega⟩ n.isLt)
  pointwise [val_main_v10, val_main_v0]
  exact hp

/-- Group 10 is the reference's columns 1948 to 2203. -/
theorem columns10 : shapeCast S32x8x256 (product10 m c) shapeCasts_S256x256_S32x8x256
    = val_main_v11 (F := Ideal) (arg0 m c) (arg1 m c) := by
  funext i
  obtain ⟨b, t, n, rfl⟩ : ∃ (b : Fin 32) (t : Fin 8) (n : Fin 256), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product10 m c (ix2 (⟨b.val * 8 + t.val, by omega⟩ : Fin 256) (⟨n.val, by omega⟩ : Fin 256))
      = ∑ k : Fin 1024, arg0 m c (ix3 b t k) * arg1 m c (ix2 k ⟨1948 + n.val, by omega⟩) :=
    Finset.sum_congr rfl fun k _ => congrArg₂ (· * ·) (congrFun ha k) (group10_apply m c k ⟨n.val, by omega⟩ n.isLt)
  pointwise [val_main_v11, val_main_v0]
  exact hp

/-- Group 11 is the reference's columns 2204 to 3227. -/
theorem columns11 : shapeCast S32x8x1024 (product11 m c) shapeCasts_S256x1024_S32x8x1024
    = val_main_v12 (F := Ideal) (arg0 m c) (arg1 m c) := by
  funext i
  obtain ⟨b, t, n, rfl⟩ : ∃ (b : Fin 32) (t : Fin 8) (n : Fin 1024), i = ix3 b t n :=
    ⟨i 0, i 1, i 2, funext fun x => by match x with | 0 => rfl | 1 => rfl | 2 => rfl⟩
  have ha : row m c (⟨b.val * 8 + t.val, by omega⟩ : Fin 256) = fun k => arg0 m c (ix3 b t k) :=
    funext fun k => congrArg (arg0 m c) (by
      funext x
      match x with
      | 0 => exact Fin.ext (by show (b.val * 8 + t.val) / 8 = b.val; omega)
      | 1 => exact Fin.ext (by show (b.val * 8 + t.val) % 8 = t.val; omega)
      | 2 => rfl)
  have hp : product11 m c (ix2 (⟨b.val * 8 + t.val, by omega⟩ : Fin 256) (⟨n.val, by omega⟩ : Fin 1024))
      = ∑ k : Fin 1024, arg0 m c (ix3 b t k) * arg1 m c (ix2 k ⟨2204 + n.val, by omega⟩) :=
    Finset.sum_congr rfl fun k _ => congrArg₂ (· * ·) (congrFun ha k) (group11_apply m c k ⟨n.val, by omega⟩ n.isLt)
  pointwise [val_main_v12, val_main_v0]
  exact hp

/-! ## The arrays as the lines after the call find them -/

/-- The array of result 0 after the run, at its own name. -/
theorem at0 : Pipeline.withArrays (cfgs 0).spec c (V0 m c) (fun w => (dats m 0 c).arrAt w (cfgs 0).N) (Proc.devRef .tc main_v28_0)
    = product0 m c :=
  (Pipeline.withArrays_arr spec0 launch0.win.arr_inj c _ _ 2).trans (array0 m c)

/-- The array of result 1 after the run, at its own name. -/
theorem at1 : Pipeline.withArrays (cfgs 0).spec c (V0 m c) (fun w => (dats m 0 c).arrAt w (cfgs 0).N) (Proc.devRef .tc main_v28_1)
    = product1 m c :=
  (Pipeline.withArrays_arr spec0 launch0.win.arr_inj c _ _ 3).trans (array1 m c)

/-- The array of result 2 after the run, at its own name. -/
theorem at2 : Pipeline.withArrays (cfgs 0).spec c (V0 m c) (fun w => (dats m 0 c).arrAt w (cfgs 0).N) (Proc.devRef .tc main_v28_2)
    = product2 m c :=
  (Pipeline.withArrays_arr spec0 launch0.win.arr_inj c _ _ 4).trans (array2 m c)

/-- The array of result 3 after the run, at its own name. -/
theorem at3 : Pipeline.withArrays (cfgs 0).spec c (V0 m c) (fun w => (dats m 0 c).arrAt w (cfgs 0).N) (Proc.devRef .tc main_v28_3)
    = product3 m c :=
  (Pipeline.withArrays_arr spec0 launch0.win.arr_inj c _ _ 5).trans (array3 m c)

/-- The array of result 4 after the run, at its own name. -/
theorem at4 : Pipeline.withArrays (cfgs 0).spec c (V0 m c) (fun w => (dats m 0 c).arrAt w (cfgs 0).N) (Proc.devRef .tc main_v28_4)
    = product4 m c :=
  (Pipeline.withArrays_arr spec0 launch0.win.arr_inj c _ _ 6).trans (array4 m c)

/-- The array of result 5 after the run, at its own name. -/
theorem at5 : Pipeline.withArrays (cfgs 0).spec c (V0 m c) (fun w => (dats m 0 c).arrAt w (cfgs 0).N) (Proc.devRef .tc main_v28_5)
    = product5 m c :=
  (Pipeline.withArrays_arr spec0 launch0.win.arr_inj c _ _ 7).trans (array5 m c)

/-- The array of result 6 after the run, at its own name. -/
theorem at6 : Pipeline.withArrays (cfgs 0).spec c (V0 m c) (fun w => (dats m 0 c).arrAt w (cfgs 0).N) (Proc.devRef .tc main_v28_6)
    = product6 m c :=
  (Pipeline.withArrays_arr spec0 launch0.win.arr_inj c _ _ 8).trans (array6 m c)

/-- The array of result 7 after the run, at its own name. -/
theorem at7 : Pipeline.withArrays (cfgs 0).spec c (V0 m c) (fun w => (dats m 0 c).arrAt w (cfgs 0).N) (Proc.devRef .tc main_v28_7)
    = product7 m c :=
  (Pipeline.withArrays_arr spec0 launch0.win.arr_inj c _ _ 9).trans (array7 m c)

/-- The array of result 8 after the run, at its own name. -/
theorem at8 : Pipeline.withArrays (cfgs 0).spec c (V0 m c) (fun w => (dats m 0 c).arrAt w (cfgs 0).N) (Proc.devRef .tc main_v28_8)
    = product8 m c :=
  (Pipeline.withArrays_arr spec0 launch0.win.arr_inj c _ _ 10).trans (array8 m c)

/-- The array of result 9 after the run, at its own name. -/
theorem at9 : Pipeline.withArrays (cfgs 0).spec c (V0 m c) (fun w => (dats m 0 c).arrAt w (cfgs 0).N) (Proc.devRef .tc main_v28_9)
    = product9 m c :=
  (Pipeline.withArrays_arr spec0 launch0.win.arr_inj c _ _ 11).trans (array9 m c)

/-- The array of result 10 after the run, at its own name. -/
theorem at10 : Pipeline.withArrays (cfgs 0).spec c (V0 m c) (fun w => (dats m 0 c).arrAt w (cfgs 0).N) (Proc.devRef .tc main_v28_10)
    = product10 m c :=
  (Pipeline.withArrays_arr spec0 launch0.win.arr_inj c _ _ 12).trans (array10 m c)

/-- The array of result 11 after the run, at its own name. -/
theorem at11 : Pipeline.withArrays (cfgs 0).spec c (V0 m c) (fun w => (dats m 0 c).arrAt w (cfgs 0).N) (Proc.devRef .tc main_v28_11)
    = product11 m c :=
  (Pipeline.withArrays_arr spec0 launch0.win.arr_inj c _ _ 13).trans (array11 m c)

abbrev arg2 : (⟨S32x512x2x64, .f32⟩ : BufTy).Contents (Elt Ideal) := m ((c : Thread nD τ).loc main_arg2)

/-- The window buffer is the argument still after the call. -/
theorem atWin : Pipeline.withArrays (cfgs 0).spec c (V0 m c) (fun w => (dats m 0 c).arrAt w (cfgs 0).N) (Proc.devRef .tc main_arg2)
    = arg2 m c :=
  (Pipeline.withArrays_of_ne spec0 c (V0 m c) _ main_arg2 (by exact (by decide : ∀ w, Pipeline.arrRef spec0 w ≠ main_arg2))).trans
    (V_main_arg2 m c)

/-- What the host code after the call makes of a result's array. -/
theorem tail_v29 (W : Valuation τ sig (Elt Ideal)) (A : FVec Ideal S256x128 .f32) (hA : W (Proc.devRef .tc main_v28_0) = A) :
    StableHlo.after (List.flatten [hostOps1]) W (Proc.devRef .tc main_v29)
      = shapeCast S32x8x128 (A) shapeCasts_S256x128_S32x8x128 := by
  subst hA
  simp only [hostOps1, List.flatten_cons, List.flatten_nil, List.append_nil, StableHlo.after_cons, StableHlo.after_nil]
  rfl

/-- The result `v29` is the reference's `v1`. -/
theorem out_v29 : Pipeline.afterTail₀ cfgs (dats m) 0 (V0 m) [hostOps1] c main_v29
    = val_main_v1 (F := Ideal) (arg0 m c) (arg1 m c) := by
  refine (tail_v29 _ _ (at0 m c)).trans ?_
  rw [columns0]

/-- What the host code after the call makes of a result's array. -/
theorem tail_v30 (W : Valuation τ sig (Elt Ideal)) (A : FVec Ideal S256x128 .f32) (hA : W (Proc.devRef .tc main_v28_1) = A) :
    StableHlo.after (List.flatten [hostOps1]) W (Proc.devRef .tc main_v30)
      = shapeCast S32x8x128 (A) shapeCasts_S256x128_S32x8x128 := by
  subst hA
  simp only [hostOps1, List.flatten_cons, List.flatten_nil, List.append_nil, StableHlo.after_cons, StableHlo.after_nil]
  rfl

/-- The result `v30` is the reference's `v2`. -/
theorem out_v30 : Pipeline.afterTail₀ cfgs (dats m) 0 (V0 m) [hostOps1] c main_v30
    = val_main_v2 (F := Ideal) (arg0 m c) (arg1 m c) := by
  refine (tail_v30 _ _ (at1 m c)).trans ?_
  rw [columns1]

/-- What the host code after the call makes of a result's array. -/
theorem tail_v31 (W : Valuation τ sig (Elt Ideal)) (A : FVec Ideal S256x256 .f32) (hA : W (Proc.devRef .tc main_v28_2) = A) :
    StableHlo.after (List.flatten [hostOps1]) W (Proc.devRef .tc main_v31)
      = shapeCast S32x8x256 (A) shapeCasts_S256x256_S32x8x256 := by
  subst hA
  simp only [hostOps1, List.flatten_cons, List.flatten_nil, List.append_nil, StableHlo.after_cons, StableHlo.after_nil]
  rfl

/-- The result `v31` is the reference's `v3`. -/
theorem out_v31 : Pipeline.afterTail₀ cfgs (dats m) 0 (V0 m) [hostOps1] c main_v31
    = val_main_v3 (F := Ideal) (arg0 m c) (arg1 m c) := by
  refine (tail_v31 _ _ (at2 m c)).trans ?_
  rw [columns2]

/-- What the host code after the call makes of a result's array. -/
theorem tail_v50 (W : Valuation τ sig (Elt Ideal)) (A : FVec Ideal S256x128 .f32) (hA : W (Proc.devRef .tc main_v28_3) = A) :
    StableHlo.after (List.flatten [hostOps1]) W (Proc.devRef .tc main_v50)
      = extractStridedSlice S32x8x16 ![0, 0, 0] (shapeCast S32x8x128 (A) shapeCasts_S256x128_S32x8x128) slices_S32x8x128_S32x8x16_0_0_0 := by
  subst hA
  simp only [hostOps1, List.flatten_cons, List.flatten_nil, List.append_nil, StableHlo.after_cons, StableHlo.after_nil]
  rfl

/-- The result `v50` is the reference's `v4`. -/
theorem out_v50 : Pipeline.afterTail₀ cfgs (dats m) 0 (V0 m) [hostOps1] c main_v50
    = val_main_v4 (F := Ideal) (arg0 m c) (arg1 m c) := by
  refine (tail_v50 _ _ (at3 m c)).trans ?_
  rw [columns3]

/-- What the host code after the call makes of a result's array. -/
theorem tail_v33 (W : Valuation τ sig (Elt Ideal)) (A : FVec Ideal S256x256 .f32) (hA : W (Proc.devRef .tc main_v28_4) = A) :
    StableHlo.after (List.flatten [hostOps1]) W (Proc.devRef .tc main_v33)
      = shapeCast S32x8x256 (A) shapeCasts_S256x256_S32x8x256 := by
  subst hA
  simp only [hostOps1, List.flatten_cons, List.flatten_nil, List.append_nil, StableHlo.after_cons, StableHlo.after_nil]
  rfl

/-- The result `v33` is the reference's `v5`. -/
theorem out_v33 : Pipeline.afterTail₀ cfgs (dats m) 0 (V0 m) [hostOps1] c main_v33
    = val_main_v5 (F := Ideal) (arg0 m c) (arg1 m c) := by
  refine (tail_v33 _ _ (at4 m c)).trans ?_
  rw [columns4]

/-- What the host code after the call makes of a result's array. -/
theorem tail_v34 (W : Valuation τ sig (Elt Ideal)) (A : FVec Ideal S256x256 .f32) (hA : W (Proc.devRef .tc main_v28_5) = A) :
    StableHlo.after (List.flatten [hostOps1]) W (Proc.devRef .tc main_v34)
      = shapeCast S32x8x256 (A) shapeCasts_S256x256_S32x8x256 := by
  subst hA
  simp only [hostOps1, List.flatten_cons, List.flatten_nil, List.append_nil, StableHlo.after_cons, StableHlo.after_nil]
  rfl

/-- The result `v34` is the reference's `v6`. -/
theorem out_v34 : Pipeline.afterTail₀ cfgs (dats m) 0 (V0 m) [hostOps1] c main_v34
    = val_main_v6 (F := Ideal) (arg0 m c) (arg1 m c) := by
  refine (tail_v34 _ _ (at5 m c)).trans ?_
  rw [columns5]

/-- What the host code after the call makes of a result's array. -/
theorem tail_v51 (W : Valuation τ sig (Elt Ideal)) (A : FVec Ideal S256x128 .f32) (hA : W (Proc.devRef .tc main_v28_7) = A) :
    StableHlo.after (List.flatten [hostOps1]) W (Proc.devRef .tc main_v51)
      = extractStridedSlice S32x8x12 ![0, 0, 0] (shapeCast S32x8x128 (A) shapeCasts_S256x128_S32x8x128) slices_S32x8x128_S32x8x12_0_0_0 := by
  subst hA
  simp only [hostOps1, List.flatten_cons, List.flatten_nil, List.append_nil, StableHlo.after_cons, StableHlo.after_nil]
  rfl

/-- The result `v51` is the reference's `v8`. -/
theorem out_v51 : Pipeline.afterTail₀ cfgs (dats m) 0 (V0 m) [hostOps1] c main_v51
    = val_main_v8 (F := Ideal) (arg0 m c) (arg1 m c) := by
  refine (tail_v51 _ _ (at7 m c)).trans ?_
  rw [columns7]

/-- What the host code after the call makes of a result's array. -/
theorem tail_v37 (W : Valuation τ sig (Elt Ideal)) (A : FVec Ideal S256x256 .f32) (hA : W (Proc.devRef .tc main_v28_8) = A) :
    StableHlo.after (List.flatten [hostOps1]) W (Proc.devRef .tc main_v37)
      = shapeCast S32x8x256 (A) shapeCasts_S256x256_S32x8x256 := by
  subst hA
  simp only [hostOps1, List.flatten_cons, List.flatten_nil, List.append_nil, StableHlo.after_cons, StableHlo.after_nil]
  rfl

/-- The result `v37` is the reference's `v9`. -/
theorem out_v37 : Pipeline.afterTail₀ cfgs (dats m) 0 (V0 m) [hostOps1] c main_v37
    = val_main_v9 (F := Ideal) (arg0 m c) (arg1 m c) := by
  refine (tail_v37 _ _ (at8 m c)).trans ?_
  rw [columns8]

/-- What the host code after the call makes of a result's array. -/
theorem tail_v40 (W : Valuation τ sig (Elt Ideal)) (A : FVec Ideal S256x1024 .f32) (hA : W (Proc.devRef .tc main_v28_11) = A) :
    StableHlo.after (List.flatten [hostOps1]) W (Proc.devRef .tc main_v40)
      = shapeCast S32x8x1024 (A) shapeCasts_S256x1024_S32x8x1024 := by
  subst hA
  simp only [hostOps1, List.flatten_cons, List.flatten_nil, List.append_nil, StableHlo.after_cons, StableHlo.after_nil]
  rfl

/-- The result `v40` is the reference's `v12`. -/
theorem out_v40 : Pipeline.afterTail₀ cfgs (dats m) 0 (V0 m) [hostOps1] c main_v40
    = val_main_v12 (F := Ideal) (arg0 m c) (arg1 m c) := by
  refine (tail_v40 _ _ (at11 m c)).trans ?_
  rw [columns11]

/-- What the host code after the call makes of a result's array. -/
theorem tail_v52 (W : Valuation τ sig (Elt Ideal)) (A : FVec Ideal S256x384 .f32) (hA : W (Proc.devRef .tc main_v28_6) = A) :
    StableHlo.after (List.flatten [hostOps1]) W (Proc.devRef .tc main_v52)
      = extractStridedSlice S32x8x2x64 ![0, 0, 0, 0] (shapeCast S32x8x6x64 (shapeCast S32x8x384 (A) shapeCasts_S256x384_S32x8x384) shapeCasts_S32x8x384_S32x8x6x64) slices_S32x8x6x64_S32x8x2x64_0_0_0_0 := by
  subst hA
  simp only [hostOps1, List.flatten_cons, List.flatten_nil, List.append_nil, StableHlo.after_cons, StableHlo.after_nil]
  rfl

/-- The result `v52` is the reference's `v23`. -/
theorem out_v52 : Pipeline.afterTail₀ cfgs (dats m) 0 (V0 m) [hostOps1] c main_v52
    = val_main_v23 (F := Ideal) (arg0 m c) (arg1 m c) := by
  refine (tail_v52 _ _ (at6 m c)).trans ?_
  rw [columns6]
  rfl

/-- What the host code after the call makes of a result's array. -/
theorem tail_v53 (W : Valuation τ sig (Elt Ideal)) (A : FVec Ideal S256x384 .f32) (hA : W (Proc.devRef .tc main_v28_6) = A) :
    StableHlo.after (List.flatten [hostOps1]) W (Proc.devRef .tc main_v53)
      = extractStridedSlice S32x8x2x64 ![0, 0, 2, 0] (shapeCast S32x8x6x64 (shapeCast S32x8x384 (A) shapeCasts_S256x384_S32x8x384) shapeCasts_S32x8x384_S32x8x6x64) slices_S32x8x6x64_S32x8x2x64_0_0_2_0 := by
  subst hA
  simp only [hostOps1, List.flatten_cons, List.flatten_nil, List.append_nil, StableHlo.after_cons, StableHlo.after_nil]
  rfl

/-- The result `v53` is the reference's `v24`. -/
theorem out_v53 : Pipeline.afterTail₀ cfgs (dats m) 0 (V0 m) [hostOps1] c main_v53
    = val_main_v24 (F := Ideal) (arg0 m c) (arg1 m c) := by
  refine (tail_v53 _ _ (at6 m c)).trans ?_
  rw [columns6]
  rfl

/-- What the host code after the call makes of a result's array. -/
theorem tail_v54 (W : Valuation τ sig (Elt Ideal)) (A : FVec Ideal S256x384 .f32) (hA : W (Proc.devRef .tc main_v28_6) = A) :
    StableHlo.after (List.flatten [hostOps1]) W (Proc.devRef .tc main_v54)
      = extractStridedSlice S32x8x2x64 ![0, 0, 4, 0] (shapeCast S32x8x6x64 (shapeCast S32x8x384 (A) shapeCasts_S256x384_S32x8x384) shapeCasts_S32x8x384_S32x8x6x64) slices_S32x8x6x64_S32x8x2x64_0_0_4_0 := by
  subst hA
  simp only [hostOps1, List.flatten_cons, List.flatten_nil, List.append_nil, StableHlo.after_cons, StableHlo.after_nil]
  rfl

/-- The result `v54` is the reference's `v25`. -/
theorem out_v54 : Pipeline.afterTail₀ cfgs (dats m) 0 (V0 m) [hostOps1] c main_v54
    = val_main_v25 (F := Ideal) (arg0 m c) (arg1 m c) := by
  refine (tail_v54 _ _ (at6 m c)).trans ?_
  rw [columns6]
  rfl

/-- What the host code after the call makes of a result's array. -/
theorem tail_v46 (W : Valuation τ sig (Elt Ideal)) (A : FVec Ideal S256x256 .f32) (hA : W (Proc.devRef .tc main_v28_9) = A) (B : FVec Ideal S256x256 .f32) (hB : W (Proc.devRef .tc main_v28_10) = B) :
    StableHlo.after (List.flatten [hostOps1]) W (Proc.devRef .tc main_v46)
      = (concatenate S32x8x2x4x64 2 [⟨S32x8x1x4x64, broadcastInDim S32x8x1x4x64 ![0, 1, 3, 4] bcast_S32x8x4x64_S32x8x1x4x64_0_1_3_4 (shapeCast S32x8x4x64 (shapeCast S32x8x256 (A) shapeCasts_S256x256_S32x8x256) shapeCasts_S32x8x256_S32x8x4x64)⟩, ⟨S32x8x1x4x64, broadcastInDim S32x8x1x4x64 ![0, 1, 3, 4] bcast_S32x8x4x64_S32x8x1x4x64_0_1_3_4 (shapeCast S32x8x4x64 (shapeCast S32x8x256 (B) shapeCasts_S256x256_S32x8x256) shapeCasts_S32x8x256_S32x8x4x64)⟩] concatenates_S32x8x1x4x64_S32x8x1x4x64_S32x8x2x4x64_d2 : FVec Ideal S32x8x2x4x64 .f32) := by
  subst hA; subst hB
  simp only [hostOps1, List.flatten_cons, List.flatten_nil, List.append_nil, StableHlo.after_cons, StableHlo.after_nil]
  rfl

/-- The result `v46` is the reference's `v19`. -/
theorem out_v46 : Pipeline.afterTail₀ cfgs (dats m) 0 (V0 m) [hostOps1] c main_v46
    = val_main_v19 (F := Ideal) (arg0 m c) (arg1 m c) := by
  refine (tail_v46 _ _ (at9 m c) _ (at10 m c)).trans ?_
  rw [columns9, columns10]
  rfl

/-- What the host code after the call makes of a result's array. -/
theorem tail_v49 (W : Valuation τ sig (Elt Ideal)) (A : FVec Ideal S256x384 .f32) (hA : W (Proc.devRef .tc main_v28_6) = A) (C : FVec Ideal S32x512x2x64 .f32) (hC : W (Proc.devRef .tc main_arg2) = C) :
    StableHlo.after (List.flatten [hostOps1]) W (Proc.devRef .tc main_v49)
      = extractStridedSlice S32x512x2x64 ![0, 8, 0, 0] (concatenate S32x520x2x64 1 [⟨S32x512x2x64, C⟩, ⟨S32x8x2x64, extractStridedSlice S32x8x2x64 ![0, 0, 4, 0] (shapeCast S32x8x6x64 (shapeCast S32x8x384 (A) shapeCasts_S256x384_S32x8x384) shapeCasts_S32x8x384_S32x8x6x64) slices_S32x8x6x64_S32x8x2x64_0_0_4_0⟩] concatenates_S32x512x2x64_S32x8x2x64_S32x520x2x64_d1 : FVec Ideal S32x520x2x64 .f32) slices_S32x520x2x64_S32x512x2x64_0_8_0_0 := by
  subst hA; subst hC
  simp only [hostOps1, List.flatten_cons, List.flatten_nil, List.append_nil, StableHlo.after_cons, StableHlo.after_nil]
  rfl

/-- The result `v49` is the reference's `v22`. -/
theorem out_v49 : Pipeline.afterTail₀ cfgs (dats m) 0 (V0 m) [hostOps1] c main_v49
    = val_main_v22 (F := Ideal) (arg0 m c) (arg1 m c) (arg2 m c) := by
  refine (tail_v49 _ _ (at6 m c) _ (atWin m c)).trans ?_
  rw [columns6]
  rfl

/-- What the host code after the call makes of a result's array. -/
theorem tail_v56 (W : Valuation τ sig (Elt Ideal)) (A : FVec Ideal S256x1024 .f32) (hA : W (Proc.devRef .tc main_v28_11) = A) :
    StableHlo.after (List.flatten [hostOps1]) W (Proc.devRef .tc main_v56)
      = shapeCast S32x1024 (extractStridedSlice S32x1x1024 ![0, 7, 0] (shapeCast S32x8x1024 (A) shapeCasts_S256x1024_S32x8x1024) slices_S32x8x1024_S32x1x1024_0_7_0) shapeCasts_S32x1x1024_S32x1024 := by
  subst hA
  simp only [hostOps1, List.flatten_cons, List.flatten_nil, List.append_nil, StableHlo.after_cons, StableHlo.after_nil]
  rfl

/-- The result `v56` is the reference's `v27`. -/
theorem out_v56 : Pipeline.afterTail₀ cfgs (dats m) 0 (V0 m) [hostOps1] c main_v56
    = val_main_v27 (F := Ideal) (arg0 m c) (arg1 m c) := by
  refine (tail_v56 _ _ (at11 m c)).trans ?_
  rw [columns11]
  rfl

end Cert.SampleColumns

end
-- ==== Proof.NormSampleResult.lean ====
/-
  The call `rmsnorm` of the prompt rows leaves the reference's array.
-/
module

public import proofs.«01_k».proof.Proof.Gen.NormSampleIdeal.Value
public import proofs.«01_k».proof.Proof.Gen.NormSampleReferenceIdeal.Read
public import Idealize.ShloMosaic.Lib.Pointwise
public import Idealize.ShloMosaic.Lib.Pipeline.ValueKit.Acc
public import Idealize.ShloMosaic.Lib.Pipeline.ValueKit.Geometry

@[expose] public section

set_option maxRecDepth 256

noncomputable section

namespace Cert.NormSampleRows

open Cert.NormSampleIdeal Cert.NormSampleIdeal.Gen Idealize.ShloMosaic Idealize.ShloMosaic.TcCoe Idealize.SL.Sem
open Cert.NormSampleReferenceIdeal.Read

variable (m : (ℓ : Loc nD τ sig) → Buf (Elt Ideal) ℓ) (c : Dev nD)

abbrev arg0 : (⟨S32x8x1024, .f32⟩ : BufTy).Contents (Elt Ideal) := m ((c : Thread nD τ).loc main_arg0)
abbrev arg1 : (⟨S1024, .f32⟩ : BufTy).Contents (Elt Ideal) := m ((c : Thread nD τ).loc main_arg1)

/-- What the host code leaves in an array the call reads. -/
theorem V_v0 : V m c main_v0 = shapeCast S256x1024 (arg0 m c) shapeCasts_S32x8x1024_S256x1024 := by
  simp only [V, StableHlo.after_cons, StableHlo.after_nil, hostOps0]
  rfl

/-- What the host code leaves in an array the call reads. -/
theorem V_v1 : V m c main_v1 = shapeCast S1x1024 (arg1 m c) shapeCasts_S1024_S1x1024 := by
  simp only [V, StableHlo.after_cons, StableHlo.after_nil, hostOps0]
  rfl

/-- The place of window 0's block at a point. -/
theorem idx0 : ∀ t : Fin cfg0.N, win0_0.index t = ![t.val, 0] := (by decide +kernel : ∀ t : Fin grid0.N, _)
/-- The place of window 1's block at a point. -/
theorem idx1 : ∀ t : Fin cfg0.N, win0_1.index t = ![0, 0] := (by decide +kernel : ∀ t : Fin grid0.N, _)
/-- The place of window 2's block at a point. -/
theorem idx2 : ∀ t : Fin cfg0.N, win0_2.index t = ![t.val, 0] := (by decide +kernel : ∀ t : Fin grid0.N, _)

/-- The block a point reads, at an entry. -/
theorem iblk0_apply (t : Fin cfg0.N) (r : Fin 256) (k : Fin 1024) (row : Fin 256) (h : row.val = 256 * t.val + r.val) :
    iblk m c 0 t (ix2 r k) = arg0 m c (ix3 ⟨row.val / 8, by omega⟩ ⟨row.val % 8, by omega⟩ k) := by
  have e : iblk m c 0 t (ix2 r k) = V m c main_v0 ((win0_0.blk t).view.emb (ix2 r k)) := by
    blk_simp [iblk]
  have e' : (win0_0.blk t).view.emb (ix2 r k) = (ix2 row k : S256x1024.Idx) := by
    blk_ext [idx0 t]
  rw [e, e', V_v0]
  pointwise

/-- An entry of the block window 1 reads at a point, in the whole array. -/
theorem iblk1_apply (t : Fin cfg0.N) (k : Fin 1024) : iblk m c 1 t (ix2 0 k) = arg1 m c (ix1 k) := by
  have e : iblk m c 1 t (ix2 0 k) = V m c main_v1 ((win0_1.blk t).view.emb (ix2 0 k)) := by
    blk_simp [iblk]
  have e' : (win0_1.blk t).view.emb (ix2 0 k) = (ix2 0 k : S1x1024.Idx) := by
    blk_ext [idx1 t]
  rw [e, e', V_v1]
  pointwise

/-- The array after the run is the reference's. -/
theorem result_eq : (dats m 0 c).arrAt 2 cfg0.N = val_main_v13 (F := Ideal) (arg0 m c) (arg1 m c) := by
  refine (dats m 0 c).arrAt_eq_of_covers 2 _ (by decide +kernel) fun t hf y => ?_
  blk_simp
  rw [after0_2]
  frame_out
  obtain ⟨r, n, rfl⟩ : ∃ (r : Fin 256) (n : Fin 1024), y = ix2 r n :=
    ⟨y 0, y 1, funext fun x => by match x with | 0 => rfl | 1 => rfl⟩
  have hN := lt_of_lt_of_eq t.isLt (show cfg0.N = 1 from N_0)
  have e' : (win0_2.blk t).view.emb (ix2 r n) = (ix2 r n : S256x1024.Idx) := by
    blk_ext [idx2 t]
  rw [e']
  have hx := fun k => iblk0_apply m c t r k r (by omega)
  have hg := fun k => iblk1_apply m c t k
  pointwise [k0_pay1, val_main_v13, val_main_v12, val_main_v11, val_main_v10, val_main_v9, val_main_v8, val_main_v7,
    val_main_v6, val_main_v5, val_main_cst_1, val_main_v4, val_main_v3, val_main_cst_0, val_main_v2, val_main_v1,
    val_main_cst, val_main_v0]
  simp only [hx, hg]

end Cert.NormSampleRows

end
-- ==== Proof.Decay.lean ====
/-
  The gates of the gated linear attention over the extended reals: a gate's logarithm is never positive, the running
  sums in three parts are the running sums, and the decay from one row to a later one is a real number.
-/
module

public import proofs.«01_k».proof.Proof.Finite

@[expose] public section

noncomputable section

namespace Cert.Decay

open Idealize.ShloMosaic
open Cert.Routed (Real')

/-- The logarithm of a gate, the sixteenth part of `log (sigmoid x)`. -/
def gate (x : EReal) : EReal :=
  Ideal.div (0 - (max (0 - x) 0 + Ideal.log1p (Ideal.exp (0 - max x (-x))))) (Ideal.ofBits .f32 0x41800000#32)

/-- The word `16.0`. -/
theorem ofBits_16 : Ideal.ofBits .f32 0x41800000#32 = ((16 : ℝ) : EReal) := by
  simp [Ideal.ofBits, Ideal.ieee, -EReal.coe_mul]; norm_num

/-- Dividing by sixteen is multiplying with its inverse. -/
theorem div_16 (y : EReal) : Ideal.div y ((16 : ℝ) : EReal) = y * (((16 : ℝ)⁻¹ : ℝ) : EReal) := by
  unfold Ideal.div
  rw [if_neg (by norm_cast), ← EReal.coe_inv]

/-- The exponential is never negative. -/
theorem exp_nonneg (y : EReal) : 0 ≤ Ideal.exp y := by
  induction y with
  | bot => exact le_refl _
  | top => exact le_top
  | coe r => exact EReal.coe_nonneg.mpr (Real.exp_pos r).le

/-- The logarithm of one plus a number that is not negative is not negative. -/
theorem log1p_nonneg {y : EReal} (hy : 0 ≤ y) : 0 ≤ Ideal.log1p y := by
  unfold Ideal.log1p
  induction y with
  | bot => exact absurd hy (by simp)
  | top => rw [show (1 : EReal) + ⊤ = ⊤ from rfl]; exact le_top
  | coe r =>
    have hr : 0 ≤ r := EReal.coe_nonneg.mp hy
    rw [show (1 : EReal) + (r : EReal) = ((1 + r : ℝ) : EReal) from rfl]
    show 0 ≤ (if 1 + r ≤ 0 then (⊥ : EReal) else (Real.log (1 + r) : EReal))
    rw [if_neg (by linarith)]
    exact EReal.coe_nonneg.mpr (Real.log_nonneg (by linarith))

/-- A gate's logarithm is never positive. -/
theorem gate_nonpos (x : EReal) : gate x ≤ 0 := by
  unfold gate
  rw [ofBits_16, div_16]
  have h : 0 ≤ max (0 - x) 0 + Ideal.log1p (Ideal.exp (0 - max x (-x))) :=
    add_nonneg (le_max_right _ _) (log1p_nonneg (exp_nonneg _))
  have h16 : (0 : EReal) ≤ (((16 : ℝ)⁻¹ : ℝ) : EReal) := EReal.coe_nonneg.mpr (by norm_num)
  rw [zero_sub, EReal.neg_mul]
  exact EReal.neg_le_zero.mpr (mul_nonneg h h16)

/-- The logarithm of the gate of a real number is real. -/
theorem gate_real {x : EReal} (hx : Real' x) : Real' (gate x) := by
  obtain ⟨r, rfl⟩ := hx
  unfold gate
  have hm : ∀ a b : ℝ, max (a : EReal) (b : EReal) = ((max a b : ℝ) : EReal) := fun a b =>
    (EReal.coe_strictMono.monotone.map_max).symm
  rw [ofBits_16, div_16, zero_sub, zero_sub, zero_sub, ← EReal.coe_neg, hm, ← EReal.coe_neg, ← EReal.coe_zero, hm]
  refine Real'.mul ?_ ⟨_, rfl⟩
  have hl : Ideal.log1p (Ideal.exp ((-(max r (-r)) : ℝ) : EReal))
      = ((Real.log (1 + Real.exp (-(max r (-r)))) : ℝ) : EReal) := by
    unfold Ideal.log1p
    rw [show Ideal.exp ((-(max r (-r)) : ℝ) : EReal) = ((Real.exp (-(max r (-r))) : ℝ) : EReal) from rfl,
      show (1 : EReal) + ((Real.exp (-(max r (-r))) : ℝ) : EReal) = ((1 + Real.exp (-(max r (-r))) : ℝ) : EReal) from rfl]
    show (if 1 + Real.exp (-(max r (-r))) ≤ 0 then (⊥ : EReal) else _) = _
    rw [if_neg (by have := Real.exp_pos (-(max r (-r))); linarith)]
  rw [hl, ← EReal.coe_add, ← EReal.coe_neg]
  exact ⟨_, rfl⟩

/-- The running sum of `g` up to row `t`. -/
def run {n : ℕ} (g : Fin n → EReal) (t : Fin n) : EReal := ∑ s : Fin n, if s ≤ t then g s else 0

/-- A running sum of numbers that are never positive is never positive. -/
theorem run_nonpos {n : ℕ} (g : Fin n → EReal) (hg : ∀ s, g s ≤ 0) (t : Fin n) : run g t ≤ 0 :=
  Finset.sum_nonpos fun s _ => by split; exacts [hg s, le_refl _]

/-- A later running sum is the smaller. -/
theorem run_anti {n : ℕ} (g : Fin n → EReal) (hg : ∀ s, g s ≤ 0) {t u : Fin n} (h : t ≤ u) : run g u ≤ run g t :=
  Finset.sum_le_sum fun s _ => by
    by_cases h1 : s ≤ t
    · rw [if_pos h1, if_pos (h1.trans h)]
    · rw [if_neg h1]; split; exacts [hg s, le_refl _]

/-- The last running sum is the sum of all. -/
theorem run_last {n : ℕ} (g : Fin n → EReal) (t : Fin n) (ht : ∀ s : Fin n, s ≤ t) : run g t = ∑ s, g s :=
  Finset.sum_congr rfl fun s _ => if_pos (ht s)

/-- A sum with a term that is minus infinity is minus infinity. -/
theorem sum_eq_bot {ι : Type} (s : Finset ι) (f : ι → EReal) (i : ι) (hi : i ∈ s) (h : f i = ⊥) : ∑ j ∈ s, f j = ⊥ := by
  classical
  rw [← Finset.add_sum_erase s f hi, h, EReal.bot_add]

/-- The running sum of the rows split in three parts is the running sum: a part after the first is zero for a real row,
and a row that is minus infinity makes every part's sum with the first minus infinity. -/
theorem run_split {n : ℕ} (g : Fin n → EReal) (hg : ∀ s, g s ≤ 0) (t : Fin n) :
    (∑ s : Fin n, (if s ≤ t then (1 : EReal) else 0) * g s + ∑ s : Fin n, (if s ≤ t then (1 : EReal) else 0) * (g s - g s))
      + ∑ s : Fin n, (if s ≤ t then (1 : EReal) else 0) * (g s - g s - (g s - g s)) = run g t := by
  have e : ∑ s : Fin n, (if s ≤ t then (1 : EReal) else 0) * g s = run g t :=
    Finset.sum_congr rfl fun s _ => by split <;> simp
  rw [e]
  by_cases hb : ∃ s, s ≤ t ∧ g s = ⊥
  · obtain ⟨s, hs, hsb⟩ := hb
    have : run g t = ⊥ := sum_eq_bot _ _ s (Finset.mem_univ s) (by rw [if_pos hs, hsb])
    rw [this, EReal.bot_add, EReal.bot_add]
  · have hz : ∀ s, s ≤ t → g s - g s = 0 := fun s hs => by
      have h1 : g s ≠ ⊥ := fun h => hb ⟨s, hs, h⟩
      have h2 : g s ≠ ⊤ := ne_top_of_le_ne_top EReal.zero_ne_top (hg s)
      exact EReal.sub_self h2 h1
    have h1 : ∑ s : Fin n, (if s ≤ t then (1 : EReal) else 0) * (g s - g s) = 0 := Finset.sum_eq_zero fun s _ => by
      split
      · next h => rw [hz s h, mul_zero]
      · exact zero_mul _
    have h2 : ∑ s : Fin n, (if s ≤ t then (1 : EReal) else 0) * (g s - g s - (g s - g s)) = 0 :=
      Finset.sum_eq_zero fun s _ => by
        split
        · next h => rw [hz s h, sub_zero, mul_zero]
        · exact zero_mul _
    rw [h1, h2, add_zero, add_zero]

/-- The decay from a row to a later one is real. -/
theorem decay_real {x y : EReal} (hxy : x ≤ y) (hy : y ≤ 0) : Real' (Ideal.exp (x - y)) := by
  induction y with
  | bot =>
    rw [le_bot_iff.mp hxy]
    exact ⟨0, rfl⟩
  | top => exact absurd hy (by simp)
  | coe r =>
    induction x with
    | bot => exact ⟨0, rfl⟩
    | top => exact absurd hxy (by simp)
    | coe q => rw [← EReal.coe_sub]; exact ⟨Real.exp (q - r), rfl⟩

/-- The product of the decayed keys and the values in its three parts is the product, on real keys and values. -/
theorem outer_split {n : ℕ} (k d v : Fin n → EReal) (hk : ∀ s, Real' (k s)) (hd : ∀ s, Real' (d s)) (hv : ∀ s, Real' (v s)) :
    (∑ s, k s * d s * v s + ∑ s, (k s * d s - k s * d s) * v s) + ∑ s, k s * d s * (v s - v s) = ∑ s, k s * d s * v s := by
  have h1 : ∑ s, (k s * d s - k s * d s) * v s = 0 := Finset.sum_eq_zero fun s _ => by
    rw [((hk s).mul (hd s)).sub_self, zero_mul]
  have h2 : ∑ s, k s * d s * (v s - v s) = 0 := Finset.sum_eq_zero fun s _ => by rw [(hv s).sub_self, mul_zero]
  rw [h1, h2, add_zero, add_zero]

end Cert.Decay

end
-- ==== Proof.GlaSampleStep.lean ====
/-
  One chunk of the gated linear attention of the sample batch: what the kernel body adds to one sequence's state.
-/
module

public import proofs.«01_k».proof.Proof.Gen.GlaSampleIdeal.Frame
public import proofs.«01_k».proof.Proof.Decay
public import Idealize.ShloMosaic.Lib.Pointwise
public import Idealize.ShloMosaic.Lib.Pipeline.ReadBack
public import Idealize.ShloMosaic.Lib.Pipeline.ValueKit.Acc
public import Idealize.ShloMosaic.Lib.Pipeline.ValueKit.Geometry

@[expose] public section

set_option maxRecDepth 16384

noncomputable section

namespace Cert.SampleState

open Cert.Decay
open Cert.Routed (Real')
open Cert.GlaSampleIdeal Cert.GlaSampleIdeal.Gen Idealize.ShloMosaic Idealize.ShloMosaic.TcCoe Idealize.SL.Sem

variable (m : (ℓ : Loc nD τ sig) → Buf (Elt Ideal) ℓ) (c : Dev nD)

section Payload

variable (wa : FVec Ideal S128x128 .f32) (wt : FVec Ideal S128x128 .f32) (ba : FVec Ideal S1x128 .f32)
  (bc : FVec Ideal S128x1 .f32) (a k : FVec Ideal S1x8x128 .f32) (v : FVec Ideal S1x8x256 .f32)
  (s : FVec Ideal S1x128x256 .f32)

/-- The mask of the blocks on the diagonal. -/
def mask : IVec S128x256 1 :=
  k0_pay7 k0_pay4 (iota .tc S128x256 32 [1] iota_S128x256_d1_w32) 64#32 k0_pay5 k0_pay6 0#32

/-- The running sums of the gates' logarithms. -/
def sums : FVec Ideal S8x128 .f32 :=
  k0_pay19 k0_pay3 (k0_pay16 wa a ba) (k0_pay17 wa a ba) k0_pay18

/-- One sequence's state after the chunk. -/
def upd : FVec Ideal S1x128x256 .f32 :=
  k0_pay31 mask (k0_pay20 (F := Ideal) (k0_pay14 wt) (k0_pay15 a) bc) (k0_pay24 s) (k0_pay29 (sums wa ba a) k v)
    (k0_pay30 (sums wa ba a) k v)

/-- The row's head, as the kernel computes it. -/
theorem row_head : ∀ r : Fin 128, Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 r.val) 32#32) 0#32))
        (IntOp.subi (IntOp.divsi ArithUnit.vector (BitVec.ofNat 32 r.val) 32#32) 1#32)
        (IntOp.divsi ArithUnit.vector (BitVec.ofNat 32 r.val) 32#32) = BitVec.ofNat 32 (r.val / 32) := by
  decide +kernel

/-- The column's head, as the kernel computes it. -/
theorem col_head : ∀ q : Fin 256, Scalar.select
        (IntOp.andi
          (IntOp.cmpi CmpIPredicate.ne
            (IntOp.subi (BitVec.setWidth 32 (IntOp.cmpi CmpIPredicate.sgt (BitVec.ofNat 32 q.val) 0#32))
              (BitVec.setWidth 32 (IntOp.cmpi CmpIPredicate.slt (BitVec.ofNat 32 q.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 q.val) 64#32) 0#32))
        (IntOp.subi (IntOp.divsi ArithUnit.vector (BitVec.ofNat 32 q.val) 64#32) 1#32)
        (IntOp.divsi ArithUnit.vector (BitVec.ofNat 32 q.val) 64#32) = BitVec.ofNat 32 (q.val / 64) := by
  decide +kernel

/-- A head equals itself, as the kernel compares. -/
theorem head_eq : ∀ h : Fin 4, IntOp.cmpi CmpIPredicate.eq (BitVec.ofNat 32 h.val) (BitVec.ofNat 32 h.val) = 1#1 := by
  decide +kernel

/-- The mask is set on the blocks of a head's rows and the same head's columns. -/
theorem mask_apply (r : Fin 128) (q : Fin 256) (h : r.val / 32 = q.val / 64) : mask (ix2 r q) = 1#1 := by
  pointwise [mask, k0_pay7, k0_pay4, k0_pay5, k0_pay6]
  rw [row_head r, col_head q, h]
  exact head_eq ⟨q.val / 64, by omega⟩

/-- The comparison of row and column as a word. -/
theorem lower : ∀ t s : Fin 8, BitVec.setWidth 32 (IntOp.cmpi CmpIPredicate.sge (BitVec.ofNat 32 t.val) (BitVec.ofNat 32 s.val))
    = if s ≤ t then 1#32 else 0#32 := by
  decide +kernel

/-- The lower triangle holds one up to the row, zero after it. -/
theorem lower_apply (t s : Fin 8) :
    (FloatOps.sitofp FTy.f32 (BitVec.setWidth 32 (IntOp.cmpi CmpIPredicate.sge (BitVec.ofNat 32 t.val) (BitVec.ofNat 32 s.val)))
      : Ideal .f32) = if s ≤ t then (1 : EReal) else 0 := by
  rw [lower]
  split
  · show (((1#32 : BitVec 32).toInt : ℝ) : EReal) = 1
    norm_num
  · show (((0#32 : BitVec 32).toInt : ℝ) : EReal) = 0
    norm_num

/-- The gate's argument in the rows' layout. -/
def pre (s : Fin 8) (r : Fin 128) : EReal := ∑ j : Fin 128, a (ix3 0 s j) * wa (ix2 j r) + ba (ix2 0 r)

/-- The running sums the kernel makes in three parts are the running sums. -/
theorem sums_apply (t : Fin 8) (r : Fin 128) : sums wa ba a (ix2 t r) = run (fun s => gate (pre wa ba a s r)) t := by
  refine Eq.trans ?_ (run_split (fun s => gate (pre wa ba a s r)) (fun s => gate_nonpos _) t)
  pointwise [sums, k0_pay19, k0_pay3, k0_pay16, k0_pay17, k0_pay18, k0_pay15, k0_pay13]
  simp only [lower_apply]
  rfl

/-- The gate's argument in the columns' layout. -/
def preT (s : Fin 8) (r : Fin 128) : EReal := ∑ j : Fin 128, wt (ix2 r j) * a (ix3 0 s j) + bc (ix2 r 0)

/-- The chunk's whole decay in the columns' layout, as a logarithm. -/
theorem total_apply (r : Fin 128) :
    k0_pay20 (F := Ideal) (k0_pay14 wt) (k0_pay15 a) bc (ix2 r 0) = ∑ s : Fin 8, gate (preT wt bc a s r) := by
  pointwise [k0_pay20, k0_pay15, k0_pay14]
  rfl

/-- On real keys and values, where the two layouts of the gates agree, the state's entry of a head's row and the same
head's column is the old one, decayed over the chunk, plus the decayed products of keys and values. -/
theorem upd_apply (r : Fin 128) (q : Fin 256) (h : r.val / 32 = q.val / 64)
    (hg : ∀ s, preT wt bc a s r = pre wa ba a s r)
    (hk : ∀ s, Real' (k (ix3 0 s r))) (hv : ∀ s, Real' (v (ix3 0 s q))) :
    upd wa wt ba bc a k v s (ix3 0 r q)
      = s (ix3 0 r q) * Ideal.exp (run (fun s => gate (pre wa ba a s r)) 7)
        + ∑ x : Fin 8, k (ix3 0 x r)
            * Ideal.exp (run (fun s => gate (pre wa ba a s r)) 7 - run (fun s => gate (pre wa ba a s r)) x) * v (ix3 0 x q) := by
  have hn : ∀ s, gate (pre wa ba a s r) ≤ 0 := fun s => gate_nonpos _
  have hT : k0_pay20 (F := Ideal) (k0_pay14 wt) (k0_pay15 a) bc (ix2 r 0) = run (fun s => gate (pre wa ba a s r)) 7 := by
    rw [total_apply, run_last _ 7 (by decide)]
    exact Finset.sum_congr rfl fun s _ => congrArg gate (hg s)
  have hS := fun t => sums_apply wa ba a t r
  have hm := mask_apply r q h
  rw [← outer_split (fun x => k (ix3 0 x r)) _ (fun x => v (ix3 0 x q)) hk
    (fun x => decay_real (run_anti _ hn (show x ≤ 7 from by omega)) (run_nonpos _ hn x)) hv]
  unfold upd
  generalize hb : sums wa ba a = b at hS ⊢
  generalize ht : k0_pay20 (F := Ideal) (k0_pay14 wt) (k0_pay15 a) bc = tt at hT ⊢
  generalize hm : mask = mm at hm ⊢
  pointwise [k0_pay31, k0_pay24, k0_pay29, k0_pay30, k0_pay27, k0_pay26, k0_pay28, k0_pay23, k0_pay22]
  rw [hT, hm]
  simp only [hS]
  rfl

end Payload

/-- The state block after a point: each sequence's state after its chunk. -/
def block (t : Fin cfg0.N) : FVec Ideal S8x128x256 .f32 := fun i =>
  upd (iblk m c 5 t) (iblk m c 6 t) (iblk m c 7 t) (iblk m c 8 t)
    (fun x => iblk m c 3 t (ix3 (i 0) (x 1) (x 2))) (fun x => iblk m c 1 t (ix3 (i 0) (x 1) (x 2)))
    (fun x => iblk m c 2 t (ix3 (i 0) (x 1) (x 2))) (fun x => iblk m c 10 t (ix3 (i 0) (x 1) (x 2)))
    (ix3 0 (i 1) (i 2))

/-- The part of a block of keys that a sequence loads. -/
theorem ld_keys (X : FVec Ideal S8x8x128 .f32) (n : ℕ) (hn : n < 8) (inb : ∀ a, (![n, 0, 0] : Fin 3 → ℕ) a + (![1, 8, 128] : Fin 3 → ℕ) a ≤ S8x8x128.size a) :
    (View.ld (Val := Elt Ideal) (e' := .f32) X (Rect.unit (s := S8x8x128) ![n, 0, 0] ![1, 8, 128] inb) : S1x8x128.Idx → EReal)
      = fun x => X (ix3 ⟨n, hn⟩ (x 1) (x 2)) :=
  funext fun x => congrArg X (funext fun a => Fin.ext (by
    match a with
    | 0 => show n + 1 * (x 0).val = n; have : (x 0).val < 1 := (x 0).isLt; omega
    | 1 => show 0 + 1 * (x 1).val = (x 1).val; omega
    | 2 => show 0 + 1 * (x 2).val = (x 2).val; omega))

/-- The part of a block of values that a sequence loads. -/
theorem ld_values (X : FVec Ideal S8x8x256 .f32) (n : ℕ) (hn : n < 8) (inb : ∀ a, (![n, 0, 0] : Fin 3 → ℕ) a + (![1, 8, 256] : Fin 3 → ℕ) a ≤ S8x8x256.size a) :
    (View.ld (Val := Elt Ideal) (e' := .f32) X (Rect.unit (s := S8x8x256) ![n, 0, 0] ![1, 8, 256] inb) : S1x8x256.Idx → EReal)
      = fun x => X (ix3 ⟨n, hn⟩ (x 1) (x 2)) :=
  funext fun x => congrArg X (funext fun a => Fin.ext (by
    match a with
    | 0 => show n + 1 * (x 0).val = n; have : (x 0).val < 1 := (x 0).isLt; omega
    | 1 => show 0 + 1 * (x 1).val = (x 1).val; omega
    | 2 => show 0 + 1 * (x 2).val = (x 2).val; omega))

/-- The part of a block of states that a sequence loads. -/
theorem ld_state (X : FVec Ideal S8x128x256 .f32) (n : ℕ) (hn : n < 8) (inb : ∀ a, (![n, 0, 0] : Fin 3 → ℕ) a + (![1, 128, 256] : Fin 3 → ℕ) a ≤ S8x128x256.size a) :
    (View.ld (Val := Elt Ideal) (e' := .f32) (k0_pay2 (F := Ideal) X) (Rect.unit (s := S8x128x256) ![n, 0, 0] ![1, 128, 256] inb) : S1x128x256.Idx → EReal)
      = fun x => X (ix3 ⟨n, hn⟩ (x 1) (x 2)) := by
  have e : k0_pay2 (F := Ideal) X = X := by
    funext i
    obtain ⟨x, y, z, rfl⟩ : ∃ (x : Fin 8) (y : Fin 128) (z : Fin 256), i = ix3 x y z :=
      ⟨i 0, i 1, i 2, funext fun a => by match a with | 0 => rfl | 1 => rfl | 2 => rfl⟩
    pointwise [k0_pay2]
  rw [e]
  exact funext fun x => congrArg X (funext fun a => Fin.ext (by
    match a with
    | 0 => show n + 1 * (x 0).val = n; have : (x 0).val < 1 := (x 0).isLt; omega
    | 1 => show 0 + 1 * (x 1).val = (x 1).val; omega
    | 2 => show 0 + 1 * (x 2).val = (x 2).val; omega))

/-- What a sequence's store leaves is its part of the block. -/
theorem piece (t : Fin cfg0.N) (n : ℕ) (hn : n < 8) (inb inb1 inb2 inb3 inb4) (x : S1x128x256.Idx) :
    upd (iblk m c 5 t) (iblk m c 6 t) (iblk m c 7 t) (iblk m c 8 t)
      (View.ld (e' := .f32) (iblk m c 3 t) (Rect.unit (s := S8x8x128) ![n, 0, 0] ![1, 8, 128] inb1))
      (View.ld (e' := .f32) (iblk m c 1 t) (Rect.unit (s := S8x8x128) ![n, 0, 0] ![1, 8, 128] inb2))
      (View.ld (e' := .f32) (iblk m c 2 t) (Rect.unit (s := S8x8x256) ![n, 0, 0] ![1, 8, 256] inb3))
      (View.ld (Val := Elt Ideal) (e' := .f32) (k0_pay2 (F := Ideal) (iblk m c 10 t)) (Rect.unit (s := S8x128x256) ![n, 0, 0] ![1, 128, 256] inb4)) x
    = block m c t ((Rect.unit (s := S8x128x256) ![n, 0, 0] ![1, 128, 256] inb).emb x) := by
  have e : (Rect.unit (s := S8x128x256) ![n, 0, 0] ![1, 128, 256] inb).emb x = (ix3 ⟨n, hn⟩ (x 1) (x 2) : S8x128x256.Idx) :=
    funext fun a => Fin.ext (by
      match a with
      | 0 => show n + 1 * (x 0).val = n; have : (x 0).val < 1 := (x 0).isLt; omega
      | 1 => show 0 + 1 * (x 1).val = (x 1).val; omega
      | 2 => show 0 + 1 * (x 2).val = (x 2).val; omega)
  have ex : x = ix3 0 (x 1) (x 2) := funext fun a => by
    match a with
    | 0 => exact Subsingleton.elim (α := Fin 1) _ _
    | 1 => rfl
    | 2 => rfl
  rw [e]
  unfold block
  rw [ld_keys _ n hn, ld_keys _ n hn, ld_values _ n hn, ld_state _ n hn]
  exact congrArg _ ex

/-- An entry of a sequence lies in the part the sequence stores. -/
theorem mem_piece (n : ℕ) (inb) (y : S8x128x256.Idx) (h : (y 0).val = n) :
    y ∈ (Rect.unit (s := S8x128x256) ![n, 0, 0] ![1, 128, 256] inb).set := by
  have e : (Rect.unit (s := S8x128x256) ![n, 0, 0] ![1, 128, 256] inb).emb (ix3 0 (y 1) (y 2) : S1x128x256.Idx) = y :=
    funext fun a => Fin.ext (by
      match a with
      | 0 => show n + 1 * 0 = (y 0).val; omega
      | 1 => show 0 + 1 * (y 1).val = (y 1).val; omega
      | 2 => show 0 + 1 * (y 2).val = (y 2).val; omega)
  exact e ▸ (Rect.unit (s := S8x128x256) ![n, 0, 0] ![1, 128, 256] inb).toLoadRect.idx_mem _

/-- What a point leaves in the block of the state. -/
theorem state_block (t : Fin cfg0.N) : (outsAt0 m c t).2 = block m c t := by
  unfold outsAt0
  frame_out
  simp (disch := decide) only [↓View.readCov_fill, ↓View.readCov_skip]
  refine (View.readCov_eq_canon' _ _ _).trans ?_
  funext y
  refine (View.canon_append_of_piecesOf (Val := Elt Ideal) (e := .f32) (block m c t) [_] [_, _, _, _, _, _, _, _] ?_ _ ?_).trans ?_
  · refine ⟨?_, ?_, ?_, ?_, ?_, ?_, ?_, ?_, trivial⟩
    · exact piece m c t 7 (by decide) inb_S8x128x256_S1x128x256_7_0_0 inb_S8x8x128_S1x8x128_7_0_0 inb_S8x8x128_S1x8x128_7_0_0 inb_S8x8x256_S1x8x256_7_0_0 inb_S8x128x256_S1x128x256_7_0_0
    · exact piece m c t 6 (by decide) inb_S8x128x256_S1x128x256_6_0_0 inb_S8x8x128_S1x8x128_6_0_0 inb_S8x8x128_S1x8x128_6_0_0 inb_S8x8x256_S1x8x256_6_0_0 inb_S8x128x256_S1x128x256_6_0_0
    · exact piece m c t 5 (by decide) inb_S8x128x256_S1x128x256_5_0_0 inb_S8x8x128_S1x8x128_5_0_0 inb_S8x8x128_S1x8x128_5_0_0 inb_S8x8x256_S1x8x256_5_0_0 inb_S8x128x256_S1x128x256_5_0_0
    · exact piece m c t 4 (by decide) inb_S8x128x256_S1x128x256_4_0_0 inb_S8x8x128_S1x8x128_4_0_0 inb_S8x8x128_S1x8x128_4_0_0 inb_S8x8x256_S1x8x256_4_0_0 inb_S8x128x256_S1x128x256_4_0_0
    · exact piece m c t 3 (by decide) inb_S8x128x256_S1x128x256_3_0_0 inb_S8x8x128_S1x8x128_3_0_0 inb_S8x8x128_S1x8x128_3_0_0 inb_S8x8x256_S1x8x256_3_0_0 inb_S8x128x256_S1x128x256_3_0_0
    · exact piece m c t 2 (by decide) inb_S8x128x256_S1x128x256_2_0_0 inb_S8x8x128_S1x8x128_2_0_0 inb_S8x8x128_S1x8x128_2_0_0 inb_S8x8x256_S1x8x256_2_0_0 inb_S8x128x256_S1x128x256_2_0_0
    · exact piece m c t 1 (by decide) inb_S8x128x256_S1x128x256_1_0_0 inb_S8x8x128_S1x8x128_1_0_0 inb_S8x8x128_S1x8x128_1_0_0 inb_S8x8x256_S1x8x256_1_0_0 inb_S8x128x256_S1x128x256_1_0_0
    · exact piece m c t 0 (by decide) inb_S8x128x256_S1x128x256_0_0_0 inb_S8x8x128_S1x8x128_0_0_0 inb_S8x8x128_S1x8x128_0_0_0 inb_S8x8x256_S1x8x256_0_0_0 inb_S8x128x256_S1x128x256_0_0_0
  · have hy : ((Rect.unit (s := S8x128x256) ![0, 0, 0] ![8, 128, 256] inb_S8x128x256_S8x128x256_0_0_0).idx y 0).val < 8 := Fin.isLt _
    generalize (Rect.unit (s := S8x128x256) ![0, 0, 0] ![8, 128, 256] inb_S8x128x256_S8x128x256_0_0_0).idx y = z at hy ⊢
    by_cases h7 : (z 0).val = 7
    · exact ⟨_, List.mem_cons_self, mem_piece 7 inb_S8x128x256_S1x128x256_7_0_0 z h7⟩
    by_cases h6 : (z 0).val = 6
    · exact ⟨_, List.mem_cons_of_mem _ List.mem_cons_self, mem_piece 6 inb_S8x128x256_S1x128x256_6_0_0 z h6⟩
    by_cases h5 : (z 0).val = 5
    · exact ⟨_, List.mem_cons_of_mem _ (List.mem_cons_of_mem _ List.mem_cons_self), mem_piece 5 inb_S8x128x256_S1x128x256_5_0_0 z h5⟩
    by_cases h4 : (z 0).val = 4
    · exact ⟨_, List.mem_cons_of_mem _ (List.mem_cons_of_mem _ (List.mem_cons_of_mem _ List.mem_cons_self)), mem_piece 4 inb_S8x128x256_S1x128x256_4_0_0 z h4⟩
    by_cases h3 : (z 0).val = 3
    · exact ⟨_, List.mem_cons_of_mem _ (List.mem_cons_of_mem _ (List.mem_cons_of_mem _ (List.mem_cons_of_mem _ List.mem_cons_self))), mem_piece 3 inb_S8x128x256_S1x128x256_3_0_0 z h3⟩
    by_cases h2 : (z 0).val = 2
    · exact ⟨_, List.mem_cons_of_mem _ (List.mem_cons_of_mem _ (List.mem_cons_of_mem _ (List.mem_cons_of_mem _ (List.mem_cons_of_mem _ List.mem_cons_self)))), mem_piece 2 inb_S8x128x256_S1x128x256_2_0_0 z h2⟩
    by_cases h1 : (z 0).val = 1
    · exact ⟨_, List.mem_cons_of_mem _ (List.mem_cons_of_mem _ (List.mem_cons_of_mem _ (List.mem_cons_of_mem _ (List.mem_cons_of_mem _ (List.mem_cons_of_mem _ List.mem_cons_self))))), mem_piece 1 inb_S8x128x256_S1x128x256_1_0_0 z h1⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_piece 0 inb_S8x128x256_S1x128x256_0_0_0 z (by omega)⟩
  · refine congrArg (block m c t) (funext fun a => Fin.ext ?_)
    match a with
    | 0 => show 0 + 1 * (y 0).val = (y 0).val; omega
    | 1 => show 0 + 1 * (y 1).val = (y 1).val; omega
    | 2 => show 0 + 1 * (y 2).val = (y 2).val; omega

end Cert.SampleState
-- ==== Proof.GlaSampleRef.lean ====
/-
  The reference of the gated linear attention of the sample batch, read at an entry: a head's state after the chunk is
  the old one, decayed over the chunk, plus the decayed products of keys and values.
-/
module

public import proofs.«01_k».proof.Proof.Gen.GlaSampleReferenceIdeal.Read
public import proofs.«01_k».proof.Proof.Decay
public import Idealize.ShloMosaic.Lib.Pointwise

@[expose] public section

set_option maxRecDepth 16384

noncomputable section

namespace Cert.SampleState

open Cert.Decay
open Cert.GlaSampleReferenceIdeal Cert.GlaSampleReferenceIdeal.Gen Cert.GlaSampleReferenceIdeal.Read Idealize.ShloMosaic

/-- The windows' sum that ends at a row is the running sum up to the row. -/
theorem sum_window {n : ℕ} (g : Fin (n + 1) → EReal) (t : Fin (n + 1)) :
    (∑ k : Fin (n + 1), if h : n ≤ t.val + k.val then g ⟨t.val + k.val - n, by omega⟩ else 0) = run g t := by
  let e : Fin (n + 1) → Fin (n + 1) := fun k =>
    if h : n ≤ t.val + k.val then ⟨t.val + k.val - n, by omega⟩ else ⟨t.val + k.val + 1, by omega⟩
  have he : Function.Bijective e := Finite.injective_iff_bijective.mp fun x y hxy => by
    have hx := x.isLt
    have hy := y.isLt
    apply Fin.ext
    by_cases h1 : n ≤ t.val + x.val <;> by_cases h2 : n ≤ t.val + y.val <;>
      simp only [e, dif_pos, dif_neg, h1, h2, not_false_eq_true, Fin.mk.injEq] at hxy <;> omega
  refine Fintype.sum_bijective e he _ _ fun k => ?_
  have hk := k.isLt
  by_cases h1 : n ≤ t.val + k.val
  · rw [dif_pos h1]
    have hs : e k = ⟨t.val + k.val - n, by omega⟩ := dif_pos h1
    rw [hs, if_pos (show (⟨t.val + k.val - n, by omega⟩ : Fin (n + 1)) ≤ t from by
      show t.val + k.val - n ≤ t.val; omega)]
  · rw [dif_neg h1]
    have hs : e k = ⟨t.val + k.val + 1, by omega⟩ := dif_neg h1
    rw [hs, if_neg (show ¬ (⟨t.val + k.val + 1, by omega⟩ : Fin (n + 1)) ≤ t from by
      show ¬ t.val + k.val + 1 ≤ t.val; omega)]

/-- A fold that adds is the first value plus the sum. -/
theorem fold_add {n : ℕ} (f : Fin n → EReal) : (List.finRange n).foldl (fun r k => r + f k) 0 = ∑ k, f k := by
  rw [Fin.sum_univ_def, List.sum_eq_foldl, List.foldl_map]

abbrev Win : Shape := ⟨4, ![1, 8, 1, 1]⟩

/-- A window of one row of heads is its place along the rows. -/
def place : Win.Idx ≃ Fin 8 where
  toFun k := k 1
  invFun k := ix4 0 k 0 0
  left_inv k := funext fun a => by
    match a with
    | 0 => exact Subsingleton.elim (α := Fin 1) _ _
    | 1 => rfl
    | 2 => exact Subsingleton.elim (α := Fin 1) _ _
    | 3 => exact Subsingleton.elim (α := Fin 1) _ _
  right_inv k := rfl

/-- The reference's sum over windows is the running sum over the rows of the chunk. -/
theorem cumsum_apply (x3 : (⟨S32x8x16, .f32⟩ : BufTy).Contents (Elt Ideal)) (x5 : (⟨S16x128, .f32⟩ : BufTy).Contents (Elt Ideal))
    (x6 : (⟨S128, .f32⟩ : BufTy).Contents (Elt Ideal)) (b : Fin 32) (t : Fin 8) (h : Fin 4) (d : Fin 32) :
    val_main_v10 (F := Ideal) x3 x5 x6 (ix4 b t h d) = run (fun s => val_main_v9 (F := Ideal) x3 x5 x6 (ix4 b s h d)) t := by
  rw [← sum_window]
  unfold val_main_v10
  generalize val_main_v9 (F := Ideal) x3 x5 x6 = y
  have hz : val_main_call1_call0_v0 (F := Ideal) = fun _ => 0 := by
    funext i
    pointwise [val_main_call1_call0_v0, val_main_call1_call0_cst]
  rw [hz]
  show Host.reduceWindow (· + ·) ![1, 8, 1, 1] ![1, 1, 1, 1] ![0, 7, 0, 0] ![0, 0, 0, 0] y (fun _ : S_.Idx => (0 : EReal))
    reduceWindows_S32x8x4x32_S32x8x4x32_w1s1p0_0_w8s1p7_0_w1s1p0_0_w1s1p0_0 h_S_ (ix4 b t h d) = _
  unfold Host.reduceWindow
  refine (fold_add _).trans ?_
  refine Fintype.sum_equiv ((Shape.rowMajor Win).symm.trans place) _ _ fun n => ?_
  let k : Win.Idx := (Shape.rowMajor Win).symm n
  have hk0 : (k 0).val < 1 := (k 0).isLt
  have hk1 : (k 1).val < 8 := (k 1).isLt
  have hk2 : (k 2).val < 1 := (k 2).isLt
  have hk3 : (k 3).val < 1 := (k 3).isLt
  have hb := b.isLt
  have ht := t.isLt
  have hh := h.isLt
  have hd := d.isLt
  by_cases h7 : 7 ≤ t.val + (k 1).val
  · refine (dif_pos ?_).trans (Eq.trans ?_ (dif_pos (show 7 ≤ t.val + (place k).val from h7)).symm)
    · intro a
      match a with
      | 0 => show 0 ≤ b.val * 1 + (k 0).val ∧ b.val * 1 + (k 0).val - 0 < 32; omega
      | 1 => show 7 ≤ t.val * 1 + (k 1).val ∧ t.val * 1 + (k 1).val - 7 < 8; omega
      | 2 => show 0 ≤ h.val * 1 + (k 2).val ∧ h.val * 1 + (k 2).val - 0 < 4; omega
      | 3 => show 0 ≤ d.val * 1 + (k 3).val ∧ d.val * 1 + (k 3).val - 0 < 32; omega
    · refine congrArg y (funext fun a => Fin.ext ?_)
      match a with
      | 0 => show b.val * 1 + (k 0).val - 0 = b.val; omega
      | 1 => show t.val * 1 + (k 1).val - 7 = t.val + (k 1).val - 7; omega
      | 2 => show h.val * 1 + (k 2).val - 0 = h.val; omega
      | 3 => show d.val * 1 + (k 3).val - 0 = d.val; omega
  · refine (dif_neg fun hin => h7 ?_).trans (Eq.trans ?_ (dif_neg (show ¬ 7 ≤ t.val + (place k).val from h7)).symm)
    swap
    · rfl
    have h1 : 7 ≤ t.val * 1 + (k 1).val := (hin 1).1
    omega

/-- The reference's gate: the argument is the row of the low rank times the weights, plus the bias. -/
theorem gate_apply (x3 : (⟨S32x8x16, .f32⟩ : BufTy).Contents (Elt Ideal)) (x5 : (⟨S16x128, .f32⟩ : BufTy).Contents (Elt Ideal))
    (x6 : (⟨S128, .f32⟩ : BufTy).Contents (Elt Ideal)) (b : Fin 32) (t : Fin 8) (h : Fin 4) (d : Fin 32) (r : Fin 128)
    (hr : r.val = 32 * h.val + d.val) :
    val_main_v9 (F := Ideal) x3 x5 x6 (ix4 b t h d)
      = gate (∑ j : Fin 16, x3 (ix3 b t j) * x5 (ix2 j r) + x6 (ix1 r)) := by
  have e : val_main_v9 (F := Ideal) x3 x5 x6 (ix4 b t h d) = val_main_v8 (F := Ideal) x3 x5 x6 (ix3 b t r) := by
    rw [val_main_v9_apply]
    refine congrArg _ (funext fun a => Fin.ext ?_)
    have hh := h.isLt
    have hd := d.isLt
    have ht := t.isLt
    match a with
    | 0 => show (((b.val * 8 + t.val) * 4 + h.val) * 32 + d.val) / 1024 = b.val; omega
    | 1 => show (((b.val * 8 + t.val) * 4 + h.val) * 32 + d.val) / 128 % 8 = t.val; omega
    | 2 => show (((b.val * 8 + t.val) * 4 + h.val) * 32 + d.val) % 128 = r.val; omega
  have e5 : val_main_v5 (F := Ideal) x3 x5 x6 (ix3 b t r) = ∑ j : Fin 16, x3 (ix3 b t j) * x5 (ix2 j r) + x6 (ix1 r) := by
    pointwise [val_main_v5, val_main_v4, val_main_v3, val_main_v2]
  rw [e, ← e5]
  pointwise [val_main_v8, val_main_v7, val_main_cst, val_main_v6, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  generalize val_main_v5 (F := Ideal) x3 x5 x6 (ix3 b t r) = x
  rw [if_neg (not_not.mpr rfl)]
  show Ideal.div (-(max (-x) 0 + Ideal.log1p (Ideal.exp (-(max (-x) (- -x)))))) (Ideal.ofBits .f32 0x41800000#32) = gate x
  unfold gate
  rw [zero_sub, zero_sub, zero_sub, neg_neg, max_comm (-x) x]

/-- A head's state after the chunk. -/
theorem state_ref (x1 : (⟨S32x8x128, .f32⟩ : BufTy).Contents (Elt Ideal)) (x2 : (⟨S32x8x256, .f32⟩ : BufTy).Contents (Elt Ideal))
    (x3 : (⟨S32x8x16, .f32⟩ : BufTy).Contents (Elt Ideal)) (x5 : (⟨S16x128, .f32⟩ : BufTy).Contents (Elt Ideal))
    (x6 : (⟨S128, .f32⟩ : BufTy).Contents (Elt Ideal)) (x8 : (⟨S32x4x32x64, .f32⟩ : BufTy).Contents (Elt Ideal))
    (b : Fin 32) (h : Fin 4) (d : Fin 32) (n : Fin 64) (r : Fin 128) (q : Fin 256)
    (hr : r.val = 32 * h.val + d.val) (hq : q.val = 64 * h.val + n.val) (g : Fin 8 → EReal)
    (hg : ∀ s, g s = gate (∑ j : Fin 16, x3 (ix3 b s j) * x5 (ix2 j r) + x6 (ix1 r))) :
    val_main_v22 (F := Ideal) x1 x2 x3 x5 x6 x8 (ix4 b h d n)
      = x8 (ix4 b h d n) * Ideal.exp (run g 7)
        + ∑ x : Fin 8, x1 (ix3 b x r) * Ideal.exp (run g 7 - run g x) * x2 (ix3 b x q) := by
  have hh := h.isLt
  have hd := d.isLt
  have hn := n.isLt
  have e10 : ∀ t, val_main_v10 (F := Ideal) x3 x5 x6 (ix4 b t h d) = run g t := fun t => by
    rw [cumsum_apply]
    exact congrArg (fun g => run g t) (funext fun s => (gate_apply x3 x5 x6 b s h d r hr).trans (hg s).symm)
  have e0 : ∀ t, val_main_v0 (F := Ideal) x1 (ix4 b t h d) = x1 (ix3 b t r) := fun t => by
    have ht := t.isLt
    rw [val_main_v0_apply]
    refine congrArg _ (funext fun a => Fin.ext ?_)
    match a with
    | 0 => show (((b.val * 8 + t.val) * 4 + h.val) * 32 + d.val) / 1024 = b.val; omega
    | 1 => show (((b.val * 8 + t.val) * 4 + h.val) * 32 + d.val) / 128 % 8 = t.val; omega
    | 2 => show (((b.val * 8 + t.val) * 4 + h.val) * 32 + d.val) % 128 = r.val; omega
  have e1 : ∀ t, val_main_v1 (F := Ideal) x2 (ix4 b t h n) = x2 (ix3 b t q) := fun t => by
    have ht := t.isLt
    rw [val_main_v1_apply]
    refine congrArg _ (funext fun a => Fin.ext ?_)
    match a with
    | 0 => show (((b.val * 8 + t.val) * 4 + h.val) * 64 + n.val) / 2048 = b.val; omega
    | 1 => show (((b.val * 8 + t.val) * 4 + h.val) * 64 + n.val) / 256 % 8 = t.val; omega
    | 2 => show (((b.val * 8 + t.val) * 4 + h.val) * 64 + n.val) % 256 = q.val; omega
  pointwise [val_main_v22, val_main_v21, val_main_v20, val_main_v19, val_main_v18, val_main_v17, val_main_v16, val_main_v15, val_main_v14, val_main_v13, val_main_v12, val_main_v11]
  simp only [e10, e0, e1]

end Cert.SampleState

end
-- ==== Proof.GlaSampleResult.lean ====
/-
  The gated linear attention of the sample batch leaves the reference's state: the arrays the call is given, the array
  it leaves, and the diagonal blocks taken of it.
-/
module

public import proofs.«01_k».proof.Proof.GlaSampleStep
public import proofs.«01_k».proof.Proof.GlaSampleRef

@[expose] public section

set_option maxRecDepth 16384

noncomputable section

namespace Cert.SampleState

open Cert.Decay
open Cert.Routed (Real')
open Cert.GlaSampleIdeal Cert.GlaSampleIdeal.Gen Idealize.ShloMosaic Idealize.ShloMosaic.TcCoe Idealize.SL.Sem
open Cert.GlaSampleReferenceIdeal.Read (val_main_v22)

variable (m : (ℓ : Loc nD τ sig) → Buf (Elt Ideal) ℓ) (c : Dev nD)

abbrev arg1 : (⟨S32x8x128, .f32⟩ : BufTy).Contents (Elt Ideal) := m ((c : Thread nD τ).loc main_arg1)
abbrev arg2 : (⟨S32x8x256, .f32⟩ : BufTy).Contents (Elt Ideal) := m ((c : Thread nD τ).loc main_arg2)
abbrev arg3 : (⟨S32x8x16, .f32⟩ : BufTy).Contents (Elt Ideal) := m ((c : Thread nD τ).loc main_arg3)
abbrev arg5 : (⟨S16x128, .f32⟩ : BufTy).Contents (Elt Ideal) := m ((c : Thread nD τ).loc main_arg5)
abbrev arg6 : (⟨S128, .f32⟩ : BufTy).Contents (Elt Ideal) := m ((c : Thread nD τ).loc main_arg6)
abbrev arg8 : (⟨S32x4x32x64, .f32⟩ : BufTy).Contents (Elt Ideal) := m ((c : Thread nD τ).loc main_arg8)

/-! ## The arrays the call is given -/

abbrev zero : FVec Ideal S_ .f32 := sitofp .f32 (constantI S_ 32 0#32)

/-- The padding value is zero. -/
theorem zero_apply : zero ix0 = (0 : EReal) := by
  show (((0#32 : BitVec 32).toInt : ℝ) : EReal) = 0
  norm_num

/-- The low rank's rows, padded with zeros to 128 columns. -/
def low : FVec Ideal S32x8x128 .f32 :=
  pad S32x8x128 ![0, 0, 0] ![0, 0, 112] ![0, 0, 0] (arg3 m c) zero pads_S32x8x16_S32x8x128_000_000_01120 h_S_

/-- The gate's weights, padded with zeros to 128 rows. -/
def weights : FVec Ideal S128x128 .f32 :=
  pad S128x128 ![0, 0] ![112, 0] ![0, 0] (arg5 m c) zero pads_S16x128_S128x128_01120_000 h_S_

/-- The identity of the heads. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- The old state with each head's block on the diagonal. -/
def old : FVec Ideal S32x128x256 .f32 :=
  shapeCast S32x128x256
    (mulf (broadcastInDim S32x4x32x4x64 ![0, 1, 2, 3, 4] bcast_S32x4x32x1x64_S32x4x32x4x64_0_1_2_3_4
        (broadcastInDim S32x4x32x1x64 ![0, 1, 2, 4] bcast_S32x4x32x64_S32x4x32x1x64_0_1_2_4 (arg8 m c)))
      (broadcastInDim S32x4x32x4x64 ![0, 1, 2, 3, 4] bcast_S1x4x1x4x1_S32x4x32x4x64_0_1_2_3_4
        (broadcastInDim S1x4x1x4x1 ![1, 3] bcast_S4x4_S1x4x1x4x1_1_3 eye)) : FVec Ideal S32x4x32x4x64 .f32)
    shapeCasts_S32x4x32x4x64_S32x128x256

/-- The call is given the padded low rank. -/
theorem V_v0 : V m c main_v0 = low m c := by
  simp only [V, V0, StableHlo.after_cons, StableHlo.after_nil, hostOps0, hostOps0_1, hostOps0_2, hostOps0_3, hostOps0_4,
    List.flatten_cons, List.flatten_nil, List.append_nil, List.cons_append, List.nil_append]
  rfl

/-- The call is given the old state in its layout. -/
theorem V_v12 : V m c main_v12 = old m c := by
  simp only [V, V0, StableHlo.after_cons, StableHlo.after_nil, hostOps0, hostOps0_1, hostOps0_2, hostOps0_3, hostOps0_4,
    List.flatten_cons, List.flatten_nil, List.append_nil, List.cons_append, List.nil_append]
  rfl

/-- The call is given the padded weights. -/
theorem V_v13 : V m c main_v13 = weights m c := by
  simp only [V, V0, StableHlo.after_cons, StableHlo.after_nil, hostOps0, hostOps0_1, hostOps0_2, hostOps0_3, hostOps0_4,
    List.flatten_cons, List.flatten_nil, List.append_nil, List.cons_append, List.nil_append]
  rfl

/-- The call is given the padded weights, transposed. -/
theorem V_v14 : V m c main_v14 = transpose S128x128 [1, 0] (weights m c) transposes_S128x128_S128x128_1_0 := by
  simp only [V, V0, StableHlo.after_cons, StableHlo.after_nil, hostOps0, hostOps0_1, hostOps0_2, hostOps0_3, hostOps0_4,
    List.flatten_cons, List.flatten_nil, List.append_nil, List.cons_append, List.nil_append]
  rfl

/-- The call is given the bias as a row. -/
theorem V_v15 : V m c main_v15 = shapeCast S1x128 (arg6 m c) shapeCasts_S128_S1x128 := by
  simp only [V, V0, StableHlo.after_cons, StableHlo.after_nil, hostOps0, hostOps0_1, hostOps0_2, hostOps0_3, hostOps0_4,
    List.flatten_cons, List.flatten_nil, List.append_nil, List.cons_append, List.nil_append]
  rfl

/-- The call is given the bias as a column. -/
theorem V_v16 : V m c main_v16 = shapeCast S128x1 (arg6 m c) shapeCasts_S128_S128x1 := by
  simp only [V, V0, StableHlo.after_cons, StableHlo.after_nil, hostOps0, hostOps0_1, hostOps0_2, hostOps0_3, hostOps0_4,
    List.flatten_cons, List.flatten_nil, List.append_nil, List.cons_append, List.nil_append]
  rfl

/-! ## The blocks a point reads -/

/-- The place of the block of the keys. -/
theorem idx1 : ∀ t : Fin cfg0.N, win0_1.index t = ![t.val, 0, 0] := (by decide +kernel : ∀ t : Fin grid0.N, _)
/-- The place of the block of the values. -/
theorem idx2 : ∀ t : Fin cfg0.N, win0_2.index t = ![t.val, 0, 0] := (by decide +kernel : ∀ t : Fin grid0.N, _)
/-- The place of the block of the low rank. -/
theorem idx3 : ∀ t : Fin cfg0.N, win0_3.index t = ![t.val, 0, 0] := (by decide +kernel : ∀ t : Fin grid0.N, _)
/-- The place of the block of the weights. -/
theorem idx5 : ∀ t : Fin cfg0.N, win0_5.index t = ![0, 0] := (by decide +kernel : ∀ t : Fin grid0.N, _)
/-- The place of the block of the transposed weights. -/
theorem idx6 : ∀ t : Fin cfg0.N, win0_6.index t = ![0, 0] := (by decide +kernel : ∀ t : Fin grid0.N, _)
/-- The place of the block of the bias's row. -/
theorem idx7 : ∀ t : Fin cfg0.N, win0_7.index t = ![0, 0] := (by decide +kernel : ∀ t : Fin grid0.N, _)
/-- The place of the block of the bias's column. -/
theorem idx8 : ∀ t : Fin cfg0.N, win0_8.index t = ![0, 0] := (by decide +kernel : ∀ t : Fin grid0.N, _)
/-- The place of the block of the old state. -/
theorem idx10 : ∀ t : Fin cfg0.N, win0_10.index t = ![t.val, 0, 0] := (by decide +kernel : ∀ t : Fin grid0.N, _)
/-- The place of the block of the new state. -/
theorem idx12 : ∀ t : Fin cfg0.N, win0_12.index t = ![t.val, 0, 0] := (by decide +kernel : ∀ t : Fin grid0.N, _)

/-- An entry of the block of the keys. -/
theorem iblk1_apply (t : Fin cfg0.N) (n : Fin 8) (b : Fin 32) (h : b.val = 8 * t.val + n.val) (s : Fin 8) (r : Fin 128) :
    iblk m c 1 t (ix3 n s r) = arg1 m c (ix3 b s r) := by
  have e : iblk m c 1 t (ix3 n s r) = V m c main_arg1 ((win0_1.blk t).view.emb (ix3 n s r)) := by
    blk_simp [iblk]
  have e' : (win0_1.blk t).view.emb (ix3 n s r) = (ix3 b s r : S32x8x128.Idx) := by
    blk_ext [idx1 t]
  rw [e, e', V_main_arg1]

/-- An entry of the block of the values. -/
theorem iblk2_apply (t : Fin cfg0.N) (n : Fin 8) (b : Fin 32) (h : b.val = 8 * t.val + n.val) (s : Fin 8) (q : Fin 256) :
    iblk m c 2 t (ix3 n s q) = arg2 m c (ix3 b s q) := by
  have e : iblk m c 2 t (ix3 n s q) = V m c main_arg2 ((win0_2.blk t).view.emb (ix3 n s q)) := by
    blk_simp [iblk]
  have e' : (win0_2.blk t).view.emb (ix3 n s q) = (ix3 b s q : S32x8x256.Idx) := by
    blk_ext [idx2 t]
  rw [e, e', V_main_arg2]

/-- An entry of the block of the low rank. -/
theorem iblk3_apply (t : Fin cfg0.N) (n : Fin 8) (b : Fin 32) (h : b.val = 8 * t.val + n.val) (s : Fin 8) (j : Fin 128) :
    iblk m c 3 t (ix3 n s j) = low m c (ix3 b s j) := by
  have e : iblk m c 3 t (ix3 n s j) = V m c main_v0 ((win0_3.blk t).view.emb (ix3 n s j)) := by
    blk_simp [iblk]
  have e' : (win0_3.blk t).view.emb (ix3 n s j) = (ix3 b s j : S32x8x128.Idx) := by
    blk_ext [idx3 t]
  rw [e, e', V_v0]

/-- An entry of the block of the old state. -/
theorem iblk10_apply (t : Fin cfg0.N) (n : Fin 8) (b : Fin 32) (h : b.val = 8 * t.val + n.val) (r : Fin 128) (q : Fin 256) :
    iblk m c 10 t (ix3 n r q) = old m c (ix3 b r q) := by
  have e : iblk m c 10 t (ix3 n r q) = V m c main_v12 ((win0_10.blk t).view.emb (ix3 n r q)) := by
    blk_simp [iblk]
  have e' : (win0_10.blk t).view.emb (ix3 n r q) = (ix3 b r q : S32x128x256.Idx) := by
    blk_ext [idx10 t]
  rw [e, e', V_v12]

/-- An entry of the block of the weights. -/
theorem iblk5_apply (t : Fin cfg0.N) (j r : Fin 128) : iblk m c 5 t (ix2 j r) = weights m c (ix2 j r) := by
  have e : iblk m c 5 t (ix2 j r) = V m c main_v13 ((win0_5.blk t).view.emb (ix2 j r)) := by
    blk_simp [iblk]
  have e' : (win0_5.blk t).view.emb (ix2 j r) = (ix2 j r : S128x128.Idx) := by
    blk_ext [idx5 t]
  rw [e, e', V_v13]

/-- An entry of the block of the transposed weights. -/
theorem iblk6_apply (t : Fin cfg0.N) (r j : Fin 128) : iblk m c 6 t (ix2 r j) = weights m c (ix2 j r) := by
  have e : iblk m c 6 t (ix2 r j) = V m c main_v14 ((win0_6.blk t).view.emb (ix2 r j)) := by
    blk_simp [iblk]
  have e' : (win0_6.blk t).view.emb (ix2 r j) = (ix2 r j : S128x128.Idx) := by
    blk_ext [idx6 t]
  rw [e, e', V_v14]
  generalize weights m c = w
  pointwise

/-- An entry of the block of the bias's row. -/
theorem iblk7_apply (t : Fin cfg0.N) (r : Fin 128) : iblk m c 7 t (ix2 0 r) = arg6 m c (ix1 r) := by
  have e : iblk m c 7 t (ix2 0 r) = V m c main_v15 ((win0_7.blk t).view.emb (ix2 0 r)) := by
    blk_simp [iblk]
  have e' : (win0_7.blk t).view.emb (ix2 0 r) = (ix2 0 r : S1x128.Idx) := by
    blk_ext [idx7 t]
  rw [e, e', V_v15]
  pointwise

/-- An entry of the block of the bias's column. -/
theorem iblk8_apply (t : Fin cfg0.N) (r : Fin 128) : iblk m c 8 t (ix2 r 0) = arg6 m c (ix1 r) := by
  have e : iblk m c 8 t (ix2 r 0) = V m c main_v16 ((win0_8.blk t).view.emb (ix2 r 0)) := by
    blk_simp [iblk]
  have e' : (win0_8.blk t).view.emb (ix2 r 0) = (ix2 r 0 : S128x1.Idx) := by
    blk_ext [idx8 t]
  rw [e, e', V_v16]
  pointwise

/-! ## The padding and the identity -/

/-- The first sixteen columns of the padded low rank are the low rank. -/
theorem low_apply (b : Fin 32) (s : Fin 8) (j : Fin 16) : low m c (ix3 b s ⟨j.val, by omega⟩) = arg3 m c (ix3 b s j) := by
  pointwise [low]

/-- The columns that pad the low rank are zero. -/
theorem low_pad (b : Fin 32) (s : Fin 8) (j : Fin 128) (h : 16 ≤ j.val) : low m c (ix3 b s j) = (0 : EReal) := by
  refine Eq.trans ?_ zero_apply
  pointwise [low]
  rw [dif_neg (by omega)]

/-- The first sixteen rows of the padded weights are the weights. -/
theorem weights_apply (j : Fin 16) (r : Fin 128) : weights m c (ix2 ⟨j.val, by omega⟩ r) = arg5 m c (ix2 j r) := by
  pointwise [weights]

/-- The comparison that makes the identity, on the diagonal. -/
theorem eye_diag : ∀ h : Fin 4, IntOp.cmpi CmpIPredicate.eq (IntOp.addi (BitVec.ofNat 32 h.val) 0#32) (BitVec.ofNat 32 h.val) = 1#1 := by
  decide +kernel

/-- The identity is one on the diagonal. -/
theorem eye_apply (h : Fin 4) : eye (ix2 h h) = (1 : EReal) := by
  pointwise [eye]
  rw [eye_diag]
  show (((1#1 : BitVec 1).toNat : ℝ) : EReal) = 1
  norm_num

/-- The old state's entry of a head's row and the same head's column. -/
theorem old_apply (b : Fin 32) (h : Fin 4) (d : Fin 32) (n : Fin 64) (r : Fin 128) (q : Fin 256)
    (hr : r.val = 32 * h.val + d.val) (hq : q.val = 64 * h.val + n.val) :
    old m c (ix3 b r q) = arg8 m c (ix4 b h d n) := by
  have hd := d.isLt
  have hn := n.isLt
  have e1 : (⟨r.val / 32, by omega⟩ : Fin 4) = h := Fin.ext (by show r.val / 32 = h.val; omega)
  have e2 : (⟨r.val % 32, by omega⟩ : Fin 32) = d := Fin.ext (by show r.val % 32 = d.val; omega)
  have e3 : (⟨q.val % 64, by omega⟩ : Fin 64) = n := Fin.ext (by show q.val % 64 = n.val; omega)
  have e4 : (⟨q.val / 64, by omega⟩ : Fin 4) = h := Fin.ext (by show q.val / 64 = h.val; omega)
  pointwise [old]
  rw [e1, e2, e3, e4, eye_apply, mul_one]

/-- The padded product of a row of the low rank with the weights is the product. -/
theorem low_sum (b : Fin 32) (s : Fin 8) (r : Fin 128) :
    ∑ j : Fin 128, low m c (ix3 b s j) * weights m c (ix2 j r) = ∑ j : Fin 16, arg3 m c (ix3 b s j) * arg5 m c (ix2 j r) := by
  rw [show (∑ j : Fin 128, low m c (ix3 b s j) * weights m c (ix2 j r))
      = ∑ j : Fin (16 + 112), low m c (ix3 b s j) * weights m c (ix2 j r) from rfl, Fin.sum_univ_add]
  have h2 : ∑ j : Fin 112, low m c (ix3 b s (Fin.natAdd 16 j)) * weights m c (ix2 (Fin.natAdd 16 j) r) = 0 :=
    Finset.sum_eq_zero fun j _ => by
      rw [low_pad m c b s _ (show 16 ≤ 16 + j.val by omega), zero_mul]
  rw [h2, add_zero]
  exact Finset.sum_congr rfl fun j _ => congrArg₂ (· * ·) (low_apply m c b s j) (weights_apply m c j r)

/-! ## The array of the state -/

/-- The state's array: each sequence's state after its chunk. -/
def state : FVec Ideal S32x128x256 .f32 := fun i =>
  upd (weights m c) (transpose S128x128 [1, 0] (weights m c) transposes_S128x128_S128x128_1_0)
    (shapeCast S1x128 (arg6 m c) shapeCasts_S128_S1x128) (shapeCast S128x1 (arg6 m c) shapeCasts_S128_S128x1)
    (fun x => low m c (ix3 (i 0) (x 1) (x 2))) (fun x => arg1 m c (ix3 (i 0) (x 1) (x 2)))
    (fun x => arg2 m c (ix3 (i 0) (x 1) (x 2))) (fun x => old m c (ix3 (i 0) (x 1) (x 2)))
    (ix3 0 (i 1) (i 2))

/-- The block of the weights is the whole array. -/
theorem iblk5_eq (t : Fin cfg0.N) : iblk m c 5 t = weights m c := by
  funext i
  obtain ⟨x, y, rfl⟩ : ∃ (x y : Fin 128), i = ix2 x y := ⟨i 0, i 1, funext fun a => by match a with | 0 => rfl | 1 => rfl⟩
  exact iblk5_apply m c t x y

/-- The block of the transposed weights is the whole array. -/
theorem iblk6_eq (t : Fin cfg0.N) :
    iblk m c 6 t = transpose S128x128 [1, 0] (weights m c) transposes_S128x128_S128x128_1_0 := by
  funext i
  obtain ⟨x, y, rfl⟩ : ∃ (x y : Fin 128), i = ix2 x y := ⟨i 0, i 1, funext fun a => by match a with | 0 => rfl | 1 => rfl⟩
  refine (iblk6_apply m c t x y).trans ?_
  generalize weights m c = w
  pointwise

/-- The block of the bias's row is the whole array. -/
theorem iblk7_eq (t : Fin cfg0.N) : iblk m c 7 t = shapeCast S1x128 (arg6 m c) shapeCasts_S128_S1x128 := by
  funext i
  obtain ⟨y, rfl⟩ : ∃ (y : Fin 128), i = ix2 0 y :=
    ⟨i 1, funext fun a => by match a with | 0 => exact Subsingleton.elim (α := Fin 1) _ _ | 1 => rfl⟩
  refine (iblk7_apply m c t y).trans ?_
  pointwise

/-- The block of the bias's column is the whole array. -/
theorem iblk8_eq (t : Fin cfg0.N) : iblk m c 8 t = shapeCast S128x1 (arg6 m c) shapeCasts_S128_S128x1 := by
  funext i
  obtain ⟨y, rfl⟩ : ∃ (y : Fin 128), i = ix2 y 0 :=
    ⟨i 0, funext fun a => by match a with | 0 => rfl | 1 => exact Subsingleton.elim (α := Fin 1) _ _⟩
  refine (iblk8_apply m c t y).trans ?_
  pointwise

/-- The array of the state after the run. -/
theorem array12 : (dats m 0 c).arrAt 12 cfg0.N = state m c := by
  refine (dats m 0 c).arrAt_eq_of_covers 12 _ (by decide +kernel) fun t hf y => ?_
  blk_simp
  rw [after0_12]
  obtain ⟨n, r, q, rfl⟩ : ∃ (n : Fin 8) (r : Fin 128) (q : Fin 256), y = ix3 n r q :=
    ⟨y 0, y 1, y 2, funext fun x => by match x with | 0 => rfl | 1 => rfl | 2 => rfl⟩
  have hN := lt_of_lt_of_eq t.isLt (show cfg0.N = 4 from N_0)
  have e' : (win0_12.blk t).view.emb (ix3 n r q) = (ix3 ⟨8 * t.val + n.val, by omega⟩ r q : S32x128x256.Idx) := by
    blk_ext [idx12 t]
  rw [e', state_block]
  have h3 := fun s j => iblk3_apply m c t n ⟨8 * t.val + n.val, by omega⟩ rfl s j
  have h1 := fun s j => iblk1_apply m c t n ⟨8 * t.val + n.val, by omega⟩ rfl s j
  have h2 := fun s j => iblk2_apply m c t n ⟨8 * t.val + n.val, by omega⟩ rfl s j
  have h10 := fun s j => iblk10_apply m c t n ⟨8 * t.val + n.val, by omega⟩ rfl s j
  have f3 : (fun x : S1x8x128.Idx => iblk m c 3 t (ix3 n (x 1) (x 2))) = fun x => low m c (ix3 ⟨8 * t.val + n.val, by omega⟩ (x 1) (x 2)) :=
    funext fun x => h3 (x 1) (x 2)
  have f1 : (fun x : S1x8x128.Idx => iblk m c 1 t (ix3 n (x 1) (x 2))) = fun x => arg1 m c (ix3 ⟨8 * t.val + n.val, by omega⟩ (x 1) (x 2)) :=
    funext fun x => h1 (x 1) (x 2)
  have f2 : (fun x : S1x8x256.Idx => iblk m c 2 t (ix3 n (x 1) (x 2))) = fun x => arg2 m c (ix3 ⟨8 * t.val + n.val, by omega⟩ (x 1) (x 2)) :=
    funext fun x => h2 (x 1) (x 2)
  have f10 : (fun x : S1x128x256.Idx => iblk m c 10 t (ix3 n (x 1) (x 2))) = fun x => old m c (ix3 ⟨8 * t.val + n.val, by omega⟩ (x 1) (x 2)) :=
    funext fun x => h10 (x 1) (x 2)
  show upd (iblk m c 5 t) (iblk m c 6 t) (iblk m c 7 t) (iblk m c 8 t) (fun x : S1x8x128.Idx => iblk m c 3 t (ix3 n (x 1) (x 2)))
      (fun x : S1x8x128.Idx => iblk m c 1 t (ix3 n (x 1) (x 2))) (fun x : S1x8x256.Idx => iblk m c 2 t (ix3 n (x 1) (x 2)))
      (fun x : S1x128x256.Idx => iblk m c 10 t (ix3 n (x 1) (x 2))) (ix3 0 r q) = _
  rw [f1, f2, f3, f10, iblk5_eq, iblk6_eq, iblk7_eq, iblk8_eq]
  rfl

/-- On finite keys and values the array's diagonal blocks are the reference's state. -/
theorem state_apply (hk : ∀ b s r, Real' (arg1 m c (ix3 b s r))) (hv : ∀ b s q, Real' (arg2 m c (ix3 b s q)))
    (b : Fin 32) (h : Fin 4) (d : Fin 32) (n : Fin 64) (r : Fin 128) (q : Fin 256)
    (hr : r.val = 32 * h.val + d.val) (hq : q.val = 64 * h.val + n.val) :
    state m c (ix3 b r q)
      = val_main_v22 (F := Ideal) (arg1 m c) (arg2 m c) (arg3 m c) (arg5 m c) (arg6 m c) (arg8 m c) (ix4 b h d n) := by
  have hd := d.isLt
  have hn := n.isLt
  have hb : (shapeCast S1x128 (arg6 m c) shapeCasts_S128_S1x128 : FVec Ideal S1x128 .f32) (ix2 0 r) = arg6 m c (ix1 r) := by pointwise
  have hc : (shapeCast S128x1 (arg6 m c) shapeCasts_S128_S128x1 : FVec Ideal S128x1 .f32) (ix2 r 0) = arg6 m c (ix1 r) := by pointwise
  have ht : ∀ j, (transpose S128x128 [1, 0] (weights m c) transposes_S128x128_S128x128_1_0 : FVec Ideal S128x128 .f32) (ix2 r j)
      = weights m c (ix2 j r) := fun j => by
    generalize weights m c = w
    pointwise
  have hp : ∀ s, pre (weights m c) (shapeCast S1x128 (arg6 m c) shapeCasts_S128_S1x128)
      (fun x => low m c (ix3 b (x 1) (x 2))) s r
        = ∑ j : Fin 16, arg3 m c (ix3 b s j) * arg5 m c (ix2 j r) + arg6 m c (ix1 r) := fun s =>
    congrArg₂ (· + ·) (low_sum m c b s r) hb
  have hq' : ∀ s, preT (transpose S128x128 [1, 0] (weights m c) transposes_S128x128_S128x128_1_0)
      (shapeCast S128x1 (arg6 m c) shapeCasts_S128_S128x1) (fun x => low m c (ix3 b (x 1) (x 2))) s r
        = pre (weights m c) (shapeCast S1x128 (arg6 m c) shapeCasts_S128_S1x128) (fun x => low m c (ix3 b (x 1) (x 2))) s r := fun s =>
    congrArg₂ (· + ·) (Finset.sum_congr rfl fun j _ => (congrArg (· * _) (ht j)).trans (mul_comm _ _)) (hc.trans hb.symm)
  refine (upd_apply _ _ _ _ _ _ _ _ r q (by omega) hq' (fun s => hk b s r) (fun s => hv b s q)).trans ?_
  rw [state_ref _ _ _ _ _ _ b h d n r q hr hq _ fun s => congrArg gate (hp s)]
  exact congrArg₂ (· + ·) (congrArg (· * _) (old_apply m c b h d n r q hr hq)) rfl

/-! ## The result -/

/-- The diagonal blocks of an array, one head after another. -/
def diagonal (A : FVec Ideal S32x128x256 .f32) : FVec Ideal S32x4x32x64 .f32 :=
  concatenate S32x4x32x64 1
    [⟨S32x1x32x64, broadcastInDim S32x1x32x64 ![0, 2, 3] bcast_S32x32x64_S32x1x32x64_0_2_3 (shapeCast S32x32x64
      (extractStridedSlice S32x1x32x1x64 ![0, 0, 0, 0, 0] (shapeCast S32x4x32x4x64 A shapeCasts_S32x128x256_S32x4x32x4x64) slices_S32x4x32x4x64_S32x1x32x1x64_0_0_0_0_0) shapeCasts_S32x1x32x1x64_S32x32x64)⟩,
     ⟨S32x1x32x64, broadcastInDim S32x1x32x64 ![0, 2, 3] bcast_S32x32x64_S32x1x32x64_0_2_3 (shapeCast S32x32x64
      (extractStridedSlice S32x1x32x1x64 ![0, 1, 0, 1, 0] (shapeCast S32x4x32x4x64 A shapeCasts_S32x128x256_S32x4x32x4x64) slices_S32x4x32x4x64_S32x1x32x1x64_0_1_0_1_0) shapeCasts_S32x1x32x1x64_S32x32x64)⟩,
     ⟨S32x1x32x64, broadcastInDim S32x1x32x64 ![0, 2, 3] bcast_S32x32x64_S32x1x32x64_0_2_3 (shapeCast S32x32x64
      (extractStridedSlice S32x1x32x1x64 ![0, 2, 0, 2, 0] (shapeCast S32x4x32x4x64 A shapeCasts_S32x128x256_S32x4x32x4x64) slices_S32x4x32x4x64_S32x1x32x1x64_0_2_0_2_0) shapeCasts_S32x1x32x1x64_S32x32x64)⟩,
     ⟨S32x1x32x64, broadcastInDim S32x1x32x64 ![0, 2, 3] bcast_S32x32x64_S32x1x32x64_0_2_3 (shapeCast S32x32x64
      (extractStridedSlice S32x1x32x1x64 ![0, 3, 0, 3, 0] (shapeCast S32x4x32x4x64 A shapeCasts_S32x128x256_S32x4x32x4x64) slices_S32x4x32x4x64_S32x1x32x1x64_0_3_0_3_0) shapeCasts_S32x1x32x1x64_S32x32x64)⟩]
    concatenates_S32x1x32x64_S32x1x32x64_S32x1x32x64_S32x1x32x64_S32x4x32x64_d1

/-- An entry of the diagonal blocks. -/
theorem diagonal_apply (A : FVec Ideal S32x128x256 .f32) (b : Fin 32) (h : Fin 4) (d : Fin 32) (n : Fin 64) :
    diagonal A (ix4 b h d n) = A (ix3 b ⟨32 * h.val + d.val, by omega⟩ ⟨64 * h.val + n.val, by omega⟩) := by
  have hd := d.isLt
  have hn := n.isLt
  match h with
  | 0 => pointwise [diagonal]
  | 1 => pointwise [diagonal]
  | 2 => pointwise [diagonal]
  | 3 => pointwise [diagonal]

/-- The host code after the call takes the diagonal blocks. -/
theorem tail_v35 (W : Valuation τ sig (Elt Ideal)) (A : FVec Ideal S32x128x256 .f32) (hA : W (Proc.devRef .tc main_v21_1) = A) :
    StableHlo.after (List.flatten [hostOps1]) W (Proc.devRef .tc main_v35) = diagonal A := by
  subst hA
  simp only [hostOps1, List.flatten_cons, List.flatten_nil, List.append_nil, StableHlo.after_cons, StableHlo.after_nil]
  rfl

/-- The array of the state after the run, at the call's own name. -/
theorem at12 : Pipeline.withArrays (cfgs 0).spec c (V0 m c) (fun w => (dats m 0 c).arrAt w (cfgs 0).N) (Proc.devRef .tc main_v21_1)
    = state m c :=
  (Pipeline.withArrays_arr spec0 launch0.win.arr_inj c _ _ 12).trans (array12 m c)

/-- On finite keys and values the call's result is the reference's. -/
theorem out_v35 (hk : ∀ b s r, Real' (arg1 m c (ix3 b s r))) (hv : ∀ b s q, Real' (arg2 m c (ix3 b s q))) :
    Pipeline.afterTail₀ cfgs (dats m) 0 (V0 m) [hostOps1] c main_v35
      = val_main_v22 (F := Ideal) (arg1 m c) (arg2 m c) (arg3 m c) (arg5 m c) (arg6 m c) (arg8 m c) := by
  refine (tail_v35 _ _ (at12 m c)).trans ?_
  funext i
  obtain ⟨b, h, d, n, rfl⟩ : ∃ (b : Fin 32) (h : Fin 4) (d : Fin 32) (n : Fin 64), i = ix4 b h d n :=
    ⟨i 0, i 1, i 2, i 3, funext fun x => by match x with | 0 => rfl | 1 => rfl | 2 => rfl | 3 => rfl⟩
  exact (diagonal_apply _ b h d n).trans (state_apply m c hk hv b h d n _ _ rfl rfl)

end Cert.SampleState

end
-- ==== Proof.GlaSampleFinite.lean ====
/-
  The precondition of the gated linear attention of the sample batch: keys and values are real numbers.
-/
module

public import proofs.«01_k».proof.Defs
public import proofs.«01_k».proof.Proof.Final
public import proofs.«01_k».proof.Proof.GlaSampleResult

@[expose] public section

noncomputable section

namespace Cert.SampleState

open Cert.Routed (Real' real_of_abs_lt)
open Cert.GlaSampleIdeal Idealize.ShloMosaic Idealize.ShloMosaic.TcCoe Idealize.SL.Sem

/-- The shape relations the precondition's function takes. -/
theorem pre_facts : Cert.Pre_finite_kv.Facts :=
  ⟨by decide, by decide, by decide, by decide, by decide⟩

variable (m : (ℓ : Loc nD τ sig) → Buf (Elt Ideal) ℓ)

/-- The precondition says that the keys and the values are real numbers. -/
theorem real_of_pre [Cert.Pre_finite_kv.Facts] (hpre : Cert.Pre_GlaSampleIdeal_finite_kv m) (c : Dev nD) :
    (∀ b s r, Real' (arg1 m c (ix3 b s r))) ∧ ∀ b s q, Real' (arg2 m c (ix3 b s q)) := by
  have h := congrFun (hpre c) ix0
  unfold Cert.Pre_finite_kv.fn at h
  obtain ⟨h1, h2⟩ := IntOp.andi_eq_one.1 h
  haveI : Subsingleton (Cert.Pre_finite_kv.S_).Idx := ⟨fun a b => funext fun x => x.elim0⟩
  exact ⟨fun b s r => real_of_abs_lt _ (Host.reduce_andi_all _ _ _ _ _ h1 (ix3 b s r)),
    fun b s q => real_of_abs_lt _ (Host.reduce_andi_all _ _ _ _ _ h2 (ix3 b s q))⟩

end Cert.SampleState

end
-- ==== Proof.Chunks.lean ====
/-
  The state carried over the chunks of a long sequence is the sum over the whole sequence, each row decayed to its end.
-/
module

public import proofs.«01_k».proof.Proof.Decay

@[expose] public section

noncomputable section

namespace Cert.Decay

open Idealize.ShloMosaic

/-- The sum of the first `n` numbers. -/
def total (g : ℕ → ℝ) (n : ℕ) : ℝ := ∑ i ∈ Finset.range n, g i

/-- A sum of real numbers, read over the extended reals. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- A running sum inside a part of the sequence is a difference of sums from the start. -/
theorem run_total {N : ℕ} (g : ℕ → ℝ) (a : ℕ) (t : Fin N) :
    run (fun s : Fin N => ((g (a + s.val) : ℝ) : EReal)) t = ((total g (a + (t.val + 1)) - total g a : ℝ) : EReal) := by
  have h1 : run (fun s : Fin N => ((g (a + s.val) : ℝ) : EReal)) t
      = ((∑ s : Fin N, (if s.val ≤ t.val then g (a + s.val) else 0) : ℝ) : EReal) := by
    rw [← sum_coe]
    refine Finset.sum_congr rfl fun s _ => ?_
    by_cases h : s ≤ t
    · rw [if_pos h, if_pos (show s.val ≤ t.val from h)]
    · rw [if_neg h, if_neg (show ¬ s.val ≤ t.val from h), EReal.coe_zero]
  rw [h1]
  congr 1
  have h2 : ∑ s : Fin N, (if s.val ≤ t.val then g (a + s.val) else 0) = ∑ i ∈ Finset.range (t.val + 1), g (a + i) := by
    rw [Fin.sum_univ_eq_sum_range (fun i => if i ≤ t.val then g (a + i) else 0) N, ← Finset.sum_filter]
    refine Finset.sum_congr (Finset.ext fun i => ?_) fun _ _ => rfl
    have := t.isLt
    simp only [Finset.mem_filter, Finset.mem_range]
    omega
  rw [h2, total, total, Finset.sum_range_add g a (t.val + 1), add_sub_cancel_left]

/-- The state after `n` rows: the products of keys and values, each decayed to the last row. -/
def closed (k v g : ℕ → ℝ) (n : ℕ) : ℝ :=
  ∑ s ∈ Finset.range n, k s * Real.exp (total g n - total g (s + 1)) * v s

/-- One chunk takes the state of the rows before it to the state of the rows to its end. -/
theorem closed_step {N : ℕ} (k v g : ℕ → ℝ) (a : ℕ) (l : Fin N) (hl : l.val + 1 = N) :
    ((closed k v g a : ℝ) : EReal) * Ideal.exp (run (fun s : Fin N => ((g (a + s.val) : ℝ) : EReal)) l)
      + ∑ x : Fin N, ((k (a + x.val) : ℝ) : EReal)
          * Ideal.exp (run (fun s : Fin N => ((g (a + s.val) : ℝ) : EReal)) l - run (fun s : Fin N => ((g (a + s.val) : ℝ) : EReal)) x)
          * ((v (a + x.val) : ℝ) : EReal)
      = ((closed k v g (a + N) : ℝ) : EReal) := by
  have e : ∀ x : Fin N, ((k (a + x.val) : ℝ) : EReal)
      * Ideal.exp (run (fun s : Fin N => ((g (a + s.val) : ℝ) : EReal)) l - run (fun s : Fin N => ((g (a + s.val) : ℝ) : EReal)) x)
      * ((v (a + x.val) : ℝ) : EReal)
      = ((k (a + x.val) * Real.exp (total g (a + N) - total g (a + x.val + 1)) * v (a + x.val) : ℝ) : EReal) := fun x => by
    rw [run_total, run_total, ← EReal.coe_sub, hl,
      show total g (a + N) - total g a - (total g (a + (x.val + 1)) - total g a) = total g (a + N) - total g (a + x.val + 1) from by
        rw [← add_assoc]; ring]
    rfl
  rw [Finset.sum_congr rfl fun x _ => e x, sum_coe, run_total, hl,
    show Ideal.exp ((total g (a + N) - total g a : ℝ) : EReal) = ((Real.exp (total g (a + N) - total g a) : ℝ) : EReal) from rfl,
    ← EReal.coe_mul, ← EReal.coe_add]
  congr 1
  unfold closed
  rw [Finset.sum_range_add, Finset.sum_mul,
    Fin.sum_univ_eq_sum_range (fun x => k (a + x) * Real.exp (total g (a + N) - total g (a + x + 1)) * v (a + x)) N]
  refine congrArg (· + _) (Finset.sum_congr rfl fun s _ => ?_)
  rw [show total g (a + N) - total g (s + 1) = (total g a - total g (s + 1)) + (total g (a + N) - total g a) from by ring, Real.exp_add]
  ring

/-- Before the first row the state is zero. -/
theorem closed_zero (k v g : ℕ → ℝ) : closed k v g 0 = 0 := Finset.sum_empty

/-- The sum over the whole sequence. -/
theorem closed_all {N : ℕ} (k v g : ℕ → ℝ) (l : Fin N) (hl : l.val + 1 = N) :
    ∑ x : Fin N, ((k x.val : ℝ) : EReal)
        * Ideal.exp (run (fun s : Fin N => ((g s.val : ℝ) : EReal)) l - run (fun s : Fin N => ((g s.val : ℝ) : EReal)) x)
        * ((v x.val : ℝ) : EReal)
      = ((closed k v g N : ℝ) : EReal) := by
  have h := closed_step k v g 0 l hl
  simp only [Nat.zero_add] at h
  rw [closed_zero, EReal.coe_zero, zero_mul, zero_add] at h
  exact h

/-- A sequence of rows, continued by zeros. -/
def extend {N : ℕ} (f : Fin N → ℝ) (i : ℕ) : ℝ := if h : i < N then f ⟨i, h⟩ else 0

/-- The continued sequence at one of the rows. -/
theorem extend_apply {N : ℕ} (f : Fin N → ℝ) (i : Fin N) : extend f i.val = f i := dif_pos i.isLt

/-- The sum over the whole sequence of real keys, values and gates. -/
theorem sum_closed {N : ℕ} (l : Fin N) (hl : l.val + 1 = N) (K V G : Fin N → EReal) (k v g : ℕ → ℝ)
    (hk : ∀ i, K i = ((k i.val : ℝ) : EReal)) (hv : ∀ i, V i = ((v i.val : ℝ) : EReal)) (hg : ∀ i, G i = ((g i.val : ℝ) : EReal)) :
    ∑ x : Fin N, K x * Ideal.exp (run G l - run G x) * V x = ((closed k v g N : ℝ) : EReal) := by
  obtain rfl : K = fun i => ((k i.val : ℝ) : EReal) := funext hk
  obtain rfl : V = fun i => ((v i.val : ℝ) : EReal) := funext hv
  obtain rfl : G = fun i => ((g i.val : ℝ) : EReal) := funext hg
  exact closed_all k v g l hl

end Cert.Decay

end
-- ==== Proof.GlaStep.lean ====
/-
  One chunk of the gated linear attention of the prompt batch: what the kernel body adds to one sequence's state.
-/
module

public import proofs.«01_k».proof.Proof.Gen.GlaIdeal.Frame
public import proofs.«01_k».proof.Proof.Chunks
public import proofs.«01_k».proof.Proof.GlaSampleStep
public import Idealize.ShloMosaic.Lib.Pointwise
public import Idealize.ShloMosaic.Lib.Pipeline.ReadBack
public import Idealize.ShloMosaic.Lib.Pipeline.ValueKit.Acc
public import Idealize.ShloMosaic.Lib.Pipeline.ValueKit.Geometry

@[expose] public section

set_option maxRecDepth 16384

noncomputable section

namespace Cert.PromptState

open Cert.Decay
open Cert.Routed (Real')
open Cert.SampleState (row_head col_head head_eq)
open Cert.GlaIdeal Cert.GlaIdeal.Gen Idealize.ShloMosaic Idealize.ShloMosaic.TcCoe Idealize.SL.Sem

variable (m : (ℓ : Loc nD τ sig) → Buf (Elt Ideal) ℓ) (c : Dev nD)

section Payload

variable (wa : FVec Ideal S128x128 .f32) (wt : FVec Ideal S128x128 .f32) (ba : FVec Ideal S1x128 .f32)
  (bc : FVec Ideal S128x1 .f32) (a k : FVec Ideal S1x64x128 .f32) (v : FVec Ideal S1x64x256 .f32)
  (s : FVec Ideal S1x128x256 .f32)

/-- The mask of the blocks on the diagonal. -/
def mask : IVec S128x256 1 :=
  k0_pay7 k0_pay4 (iota .tc S128x256 32 [1] iota_S128x256_d1_w32) 64#32 k0_pay5 k0_pay6 0#32

/-- The running sums of the gates' logarithms. -/
def sums : FVec Ideal S64x128 .f32 :=
  k0_pay19 k0_pay3 (k0_pay16 wa a ba) (k0_pay17 wa a ba) k0_pay18

/-- One sequence's state after the chunk. -/
def upd : FVec Ideal S1x128x256 .f32 :=
  k0_pay31 mask (k0_pay20 (F := Ideal) (k0_pay14 wt) (k0_pay15 a) bc) (k0_pay24 s) (k0_pay29 (sums wa ba a) k v)
    (k0_pay30 (sums wa ba a) k v)

/-- The mask is set on the blocks of a head's rows and the same head's columns. -/
theorem mask_apply (r : Fin 128) (q : Fin 256) (h : r.val / 32 = q.val / 64) : mask (ix2 r q) = 1#1 := by
  pointwise [mask, k0_pay7, k0_pay4, k0_pay5, k0_pay6]
  rw [row_head r, col_head q, h]
  exact head_eq ⟨q.val / 64, by omega⟩

/-- The comparison of row and column as a word. -/
theorem lower : ∀ t s : Fin 64, BitVec.setWidth 32 (IntOp.cmpi CmpIPredicate.sge (BitVec.ofNat 32 t.val) (BitVec.ofNat 32 s.val))
    = if s ≤ t then 1#32 else 0#32 := by
  decide +kernel

/-- The lower triangle holds one up to the row, zero after it. -/
theorem lower_apply (t s : Fin 64) :
    (FloatOps.sitofp FTy.f32 (BitVec.setWidth 32 (IntOp.cmpi CmpIPredicate.sge (BitVec.ofNat 32 t.val) (BitVec.ofNat 32 s.val)))
      : Ideal .f32) = if s ≤ t then (1 : EReal) else 0 := by
  rw [lower]
  split
  · show (((1#32 : BitVec 32).toInt : ℝ) : EReal) = 1
    norm_num
  · show (((0#32 : BitVec 32).toInt : ℝ) : EReal) = 0
    norm_num

/-- The gate's argument in the rows' layout. -/
def pre (s : Fin 64) (r : Fin 128) : EReal := ∑ j : Fin 128, a (ix3 0 s j) * wa (ix2 j r) + ba (ix2 0 r)

/-- The running sums the kernel makes in three parts are the running sums. -/
theorem sums_apply (t : Fin 64) (r : Fin 128) : sums wa ba a (ix2 t r) = run (fun s => gate (pre wa ba a s r)) t := by
  refine Eq.trans ?_ (run_split (fun s => gate (pre wa ba a s r)) (fun s => gate_nonpos _) t)
  pointwise [sums, k0_pay19, k0_pay3, k0_pay16, k0_pay17, k0_pay18, k0_pay15, k0_pay13]
  simp only [lower_apply]
  rfl

/-- The gate's argument in the columns' layout. -/
def preT (s : Fin 64) (r : Fin 128) : EReal := ∑ j : Fin 128, wt (ix2 r j) * a (ix3 0 s j) + bc (ix2 r 0)

/-- The chunk's whole decay in the columns' layout, as a logarithm. -/
theorem total_apply (r : Fin 128) :
    k0_pay20 (F := Ideal) (k0_pay14 wt) (k0_pay15 a) bc (ix2 r 0) = ∑ s : Fin 64, gate (preT wt bc a s r) := by
  pointwise [k0_pay20, k0_pay15, k0_pay14]
  rfl

/-- On real keys and values, where the two layouts of the gates agree, the state's entry of a head's row and the same
head's column is the old one, decayed over the chunk, plus the decayed products of keys and values. -/
theorem upd_apply (r : Fin 128) (q : Fin 256) (h : r.val / 32 = q.val / 64)
    (hg : ∀ s, preT wt bc a s r = pre wa ba a s r)
    (hk : ∀ s, Real' (k (ix3 0 s r))) (hv : ∀ s, Real' (v (ix3 0 s q))) :
    upd wa wt ba bc a k v s (ix3 0 r q)
      = s (ix3 0 r q) * Ideal.exp (run (fun s => gate (pre wa ba a s r)) 63)
        + ∑ x : Fin 64, k (ix3 0 x r)
            * Ideal.exp (run (fun s => gate (pre wa ba a s r)) 63 - run (fun s => gate (pre wa ba a s r)) x) * v (ix3 0 x q) := by
  have hn : ∀ s, gate (pre wa ba a s r) ≤ 0 := fun s => gate_nonpos _
  have hT : k0_pay20 (F := Ideal) (k0_pay14 wt) (k0_pay15 a) bc (ix2 r 0) = run (fun s => gate (pre wa ba a s r)) 63 := by
    rw [total_apply, run_last _ 63 (by decide)]
    exact Finset.sum_congr rfl fun s _ => congrArg gate (hg s)
  have hS := fun t => sums_apply wa ba a t r
  have hm := mask_apply r q h
  rw [← outer_split (fun x => k (ix3 0 x r)) _ (fun x => v (ix3 0 x q)) hk
    (fun x => decay_real (run_anti _ hn (show x ≤ 63 from by omega)) (run_nonpos _ hn x)) hv]
  unfold upd
  generalize hb : sums wa ba a = b at hS ⊢
  generalize ht : k0_pay20 (F := Ideal) (k0_pay14 wt) (k0_pay15 a) bc = tt at hT ⊢
  generalize hm : mask = mm at hm ⊢
  pointwise [k0_pay31, k0_pay24, k0_pay29, k0_pay30, k0_pay27, k0_pay26, k0_pay28, k0_pay23, k0_pay22]
  rw [hT, hm]
  simp only [hS]
  rfl

end Payload

/-- The state block after a point, from the block before it: each sequence's state after its chunk. -/
def block (t : Fin cfg0.N) (p : FVec Ideal S2x128x256 .f32) : FVec Ideal S2x128x256 .f32 := fun i =>
  upd (iblk m c 5 t) (iblk m c 6 t) (iblk m c 7 t) (iblk m c 8 t)
    (fun x => iblk m c 3 t (ix3 (i 0) (x 1) (x 2))) (fun x => iblk m c 1 t (ix3 (i 0) (x 1) (x 2)))
    (fun x => iblk m c 2 t (ix3 (i 0) (x 1) (x 2))) (fun x => p (ix3 (i 0) (x 1) (x 2)))
    (ix3 0 (i 1) (i 2))

/-- The part of a block of keys that a sequence loads. -/
theorem ld_keys (X : FVec Ideal S2x64x128 .f32) (n : ℕ) (hn : n < 2) (inb : ∀ a, (![n, 0, 0] : Fin 3 → ℕ) a + (![1, 64, 128] : Fin 3 → ℕ) a ≤ S2x64x128.size a) :
    (View.ld (Val := Elt Ideal) (e' := .f32) X (Rect.unit (s := S2x64x128) ![n, 0, 0] ![1, 64, 128] inb) : S1x64x128.Idx → EReal)
      = fun x => X (ix3 ⟨n, hn⟩ (x 1) (x 2)) :=
  funext fun x => congrArg X (funext fun a => Fin.ext (by
    match a with
    | 0 => show n + 1 * (x 0).val = n; have : (x 0).val < 1 := (x 0).isLt; omega
    | 1 => show 0 + 1 * (x 1).val = (x 1).val; omega
    | 2 => show 0 + 1 * (x 2).val = (x 2).val; omega))

/-- The part of a block of values that a sequence loads. -/
theorem ld_values (X : FVec Ideal S2x64x256 .f32) (n : ℕ) (hn : n < 2) (inb : ∀ a, (![n, 0, 0] : Fin 3 → ℕ) a + (![1, 64, 256] : Fin 3 → ℕ) a ≤ S2x64x256.size a) :
    (View.ld (Val := Elt Ideal) (e' := .f32) X (Rect.unit (s := S2x64x256) ![n, 0, 0] ![1, 64, 256] inb) : S1x64x256.Idx → EReal)
      = fun x => X (ix3 ⟨n, hn⟩ (x 1) (x 2)) :=
  funext fun x => congrArg X (funext fun a => Fin.ext (by
    match a with
    | 0 => show n + 1 * (x 0).val = n; have : (x 0).val < 1 := (x 0).isLt; omega
    | 1 => show 0 + 1 * (x 1).val = (x 1).val; omega
    | 2 => show 0 + 1 * (x 2).val = (x 2).val; omega))

/-- The part of a block of states that a sequence loads. -/
theorem ld_state (X : FVec Ideal S2x128x256 .f32) (n : ℕ) (hn : n < 2) (inb : ∀ a, (![n, 0, 0] : Fin 3 → ℕ) a + (![1, 128, 256] : Fin 3 → ℕ) a ≤ S2x128x256.size a) :
    (View.ld (Val := Elt Ideal) (e' := .f32) X (Rect.unit (s := S2x128x256) ![n, 0, 0] ![1, 128, 256] inb) : S1x128x256.Idx → EReal)
      = fun x => X (ix3 ⟨n, hn⟩ (x 1) (x 2)) :=
  funext fun x => congrArg X (funext fun a => Fin.ext (by
    match a with
    | 0 => show n + 1 * (x 0).val = n; have : (x 0).val < 1 := (x 0).isLt; omega
    | 1 => show 0 + 1 * (x 1).val = (x 1).val; omega
    | 2 => show 0 + 1 * (x 2).val = (x 2).val; omega))

/-- Copying the initial block keeps it. -/
theorem copy_eq (X : FVec Ideal S2x128x256 .f32) : k0_pay2 (F := Ideal) X = X := by
  funext i
  obtain ⟨x, y, z, rfl⟩ : ∃ (x : Fin 2) (y : Fin 128) (z : Fin 256), i = ix3 x y z :=
    ⟨i 0, i 1, i 2, funext fun a => by match a with | 0 => rfl | 1 => rfl | 2 => rfl⟩
  pointwise [k0_pay2]

/-- What a sequence's store leaves is its part of the block. -/
theorem piece (t : Fin cfg0.N) (p : FVec Ideal S2x128x256 .f32) (n : ℕ) (hn : n < 2) (inb inb1 inb2 inb3 inb4) (x : S1x128x256.Idx) :
    upd (iblk m c 5 t) (iblk m c 6 t) (iblk m c 7 t) (iblk m c 8 t)
      (View.ld (e' := .f32) (iblk m c 3 t) (Rect.unit (s := S2x64x128) ![n, 0, 0] ![1, 64, 128] inb1))
      (View.ld (e' := .f32) (iblk m c 1 t) (Rect.unit (s := S2x64x128) ![n, 0, 0] ![1, 64, 128] inb2))
      (View.ld (e' := .f32) (iblk m c 2 t) (Rect.unit (s := S2x64x256) ![n, 0, 0] ![1, 64, 256] inb3))
      (View.ld (Val := Elt Ideal) (e' := .f32) p (Rect.unit (s := S2x128x256) ![n, 0, 0] ![1, 128, 256] inb4)) x
    = block m c t p ((Rect.unit (s := S2x128x256) ![n, 0, 0] ![1, 128, 256] inb).emb x) := by
  have e : (Rect.unit (s := S2x128x256) ![n, 0, 0] ![1, 128, 256] inb).emb x = (ix3 ⟨n, hn⟩ (x 1) (x 2) : S2x128x256.Idx) :=
    funext fun a => Fin.ext (by
      match a with
      | 0 => show n + 1 * (x 0).val = n; have : (x 0).val < 1 := (x 0).isLt; omega
      | 1 => show 0 + 1 * (x 1).val = (x 1).val; omega
      | 2 => show 0 + 1 * (x 2).val = (x 2).val; omega)
  have ex : x = ix3 0 (x 1) (x 2) := funext fun a => by
    match a with
    | 0 => exact Subsingleton.elim (α := Fin 1) _ _
    | 1 => rfl
    | 2 => rfl
  rw [e]
  unfold block
  rw [ld_keys _ n hn, ld_keys _ n hn, ld_values _ n hn, ld_state _ n hn]
  exact congrArg _ ex

/-- An entry of a sequence lies in the part the sequence stores. -/
theorem mem_piece (n : ℕ) (inb) (y : S2x128x256.Idx) (h : (y 0).val = n) :
    y ∈ (Rect.unit (s := S2x128x256) ![n, 0, 0] ![1, 128, 256] inb).set := by
  have e : (Rect.unit (s := S2x128x256) ![n, 0, 0] ![1, 128, 256] inb).emb (ix3 0 (y 1) (y 2) : S1x128x256.Idx) = y :=
    funext fun a => Fin.ext (by
      match a with
      | 0 => show n + 1 * 0 = (y 0).val; omega
      | 1 => show 0 + 1 * (y 1).val = (y 1).val; omega
      | 2 => show 0 + 1 * (y 2).val = (y 2).val; omega)
  exact e ▸ (Rect.unit (s := S2x128x256) ![n, 0, 0] ![1, 128, 256] inb).toLoadRect.idx_mem _

/-- Every entry of the states lies in the part one of the two sequences stores. -/
theorem cover (w1 w0 : S1x128x256.Idx → EReal) (z : S2x128x256.Idx) :
    ∃ P ∈ ([⟨Rect.unit (s := S2x128x256) ![1, 0, 0] ![1, 128, 256] inb_S2x128x256_S1x128x256_1_0_0, w1⟩,
      ⟨Rect.unit (s := S2x128x256) ![0, 0, 0] ![1, 128, 256] inb_S2x128x256_S1x128x256_0_0_0, w0⟩] : List (View.Piece (Elt Ideal) S2x128x256 .f32)), z ∈ P.1.set := by
  have hy : (z 0).val < 2 := (z 0).isLt
  by_cases h2 : (z 0).val = 1
  · exact ⟨_, List.mem_cons_self, mem_piece 1 inb_S2x128x256_S1x128x256_1_0_0 z h2⟩
  · exact ⟨_, List.mem_cons_of_mem _ List.mem_cons_self, mem_piece 0 inb_S2x128x256_S1x128x256_0_0_0 z (by omega)⟩

/-- The block of states the point before left. -/
abbrev before (t : Fin cfg0.N) : FVec Ideal S2x128x256 .f32 :=
  (outsAt0 m c (t.val - 1) (Nat.lt_of_le_of_lt (Nat.sub_le _ _) t.isLt)).2.2

/-- The first point leaves the states after the first chunk, from the block it is given. -/
theorem first_block (t : Fin cfg0.N) (h0 : t.val % 128 = 0) (h1 : ¬t.val % 128 = 127) :
    (outsAt0 m c t.val t.isLt).2.2 = block m c t (iblk m c 10 t) := by
  rw [outsAt0_A m c t h0 h1]
  frame_out
  simp (disch := decide) only [↓View.readCov_fill, ↓View.readCov_skip]
  simp only [copy_eq]
  funext y
  refine (View.canon_append_of_piecesOf (Val := Elt Ideal) (e := .f32) (block m c t (iblk m c 10 t)) [_] [_, _] ?_ y ?_)
  · refine ⟨?_, ?_, trivial⟩
    · exact piece m c t (iblk m c 10 t) 1 (by decide) inb_S2x128x256_S1x128x256_1_0_0 inb_S2x64x128_S1x64x128_1_0_0 inb_S2x64x128_S1x64x128_1_0_0 inb_S2x64x256_S1x64x256_1_0_0 inb_S2x128x256_S1x128x256_1_0_0
    · exact piece m c t (iblk m c 10 t) 0 (by decide) inb_S2x128x256_S1x128x256_0_0_0 inb_S2x64x128_S1x64x128_0_0_0 inb_S2x64x128_S1x64x128_0_0_0 inb_S2x64x256_S1x64x256_0_0_0 inb_S2x128x256_S1x128x256_0_0_0
  · exact cover _ _ y

/-- A later point leaves the states after its chunk, from what the point before left. -/
theorem later_block (t : Fin cfg0.N) (h0 : ¬t.val % 128 = 0) (h1 : ¬t.val % 128 = 127) :
    (outsAt0 m c t.val t.isLt).2.2 = block m c t (before m c t) := by
  rw [outsAt0_B m c t h0 h1]
  frame_out
  simp only [read_unread_whole]
  funext y
  refine (View.canon_append_of_piecesOf (Val := Elt Ideal) (e := .f32) (block m c t (before m c t)) [] [_, _] ?_ y ?_)
  · refine ⟨?_, ?_, trivial⟩
    · exact piece m c t (before m c t) 1 (by decide) inb_S2x128x256_S1x128x256_1_0_0 inb_S2x64x128_S1x64x128_1_0_0 inb_S2x64x128_S1x64x128_1_0_0 inb_S2x64x256_S1x64x256_1_0_0 inb_S2x128x256_S1x128x256_1_0_0
    · exact piece m c t (before m c t) 0 (by decide) inb_S2x128x256_S1x128x256_0_0_0 inb_S2x64x128_S1x64x128_0_0_0 inb_S2x64x128_S1x64x128_0_0_0 inb_S2x64x256_S1x64x256_0_0_0 inb_S2x128x256_S1x128x256_0_0_0
  · exact cover _ _ y

/-- The last point leaves the states after the last chunk, from what the point before left. -/
theorem last_block (t : Fin cfg0.N) (h0 : ¬t.val % 128 = 0) (h1 : t.val % 128 = 127) :
    (outsAt0 m c t.val t.isLt).2.1 = block m c t (before m c t) := by
  rw [outsAt0_C m c t h0 h1]
  frame_out
  simp only [read_unread_whole]
  refine (View.readCov_eq_canon' _ _ _).trans ?_
  funext y
  refine (View.canon_append_of_piecesOf (Val := Elt Ideal) (e := .f32) (block m c t (before m c t)) [] [_, _] ?_ _ ?_).trans ?_
  · refine ⟨?_, ?_, trivial⟩
    · exact piece m c t (before m c t) 1 (by decide) inb_S2x128x256_S1x128x256_1_0_0 inb_S2x64x128_S1x64x128_1_0_0 inb_S2x64x128_S1x64x128_1_0_0 inb_S2x64x256_S1x64x256_1_0_0 inb_S2x128x256_S1x128x256_1_0_0
    · exact piece m c t (before m c t) 0 (by decide) inb_S2x128x256_S1x128x256_0_0_0 inb_S2x64x128_S1x64x128_0_0_0 inb_S2x64x128_S1x64x128_0_0_0 inb_S2x64x256_S1x64x256_0_0_0 inb_S2x128x256_S1x128x256_0_0_0
  · exact cover _ _ _
  · refine congrArg (block m c t (before m c t)) (funext fun a => Fin.ext ?_)
    match a with
    | 0 => show 0 + 1 * (y 0).val = (y 0).val; omega
    | 1 => show 0 + 1 * (y 1).val = (y 1).val; omega
    | 2 => show 0 + 1 * (y 2).val = (y 2).val; omega

end Cert.PromptState
-- ==== Proof.GlaRef.lean ====
/-
  The reference of the gated linear attention of the prompt batch, read at an entry: a head's state is the sum over the
  rows of the products of keys and values, each decayed to the last row.
-/
module

public import proofs.«01_k».proof.Proof.Gen.GlaReferenceIdeal.Read
public import proofs.«01_k».proof.Proof.GlaSampleRef
public import Idealize.ShloMosaic.Lib.Pointwise

@[expose] public section

set_option maxRecDepth 16384

noncomputable section

namespace Cert.PromptState

open Cert.Decay
open Cert.SampleState (sum_window fold_add)
open Cert.GlaReferenceIdeal Cert.GlaReferenceIdeal.Gen Cert.GlaReferenceIdeal.Read Idealize.ShloMosaic

/-- The window that ends at a row: all rows up to it, of one head's entry. -/
abbrev Win (N : ℕ) : Shape := ⟨4, ![1, N + 1, 1, 1]⟩

/-- The arrays of the gates' logarithms. -/
abbrev Gates (N : ℕ) : Shape := ⟨4, ![2, N + 1, 4, 32]⟩

/-- A window of one row of heads is its place along the rows. -/
def place (N : ℕ) : (Win N).Idx ≃ Fin (N + 1) where
  toFun k := k 1
  invFun k := ix4 0 k 0 0
  left_inv k := funext fun a => by
    match a with
    | 0 => exact Subsingleton.elim (α := Fin 1) _ _
    | 1 => rfl
    | 2 => exact Subsingleton.elim (α := Fin 1) _ _
    | 3 => exact Subsingleton.elim (α := Fin 1) _ _
  right_inv k := rfl

/-- A sum over windows that end at each row is the running sum over the rows, for any number of rows. -/
theorem windows (N : ℕ) (y : (Gates N).Idx → EReal)
    (hw : (Gates N).ReduceWindows ![1, N + 1, 1, 1] ![1, 1, 1, 1] ![0, N, 0, 0] ![0, 0, 0, 0] (Gates N))
    (hu : 0 < S_.numel) (b : Fin 2) (t : Fin (N + 1)) (h : Fin 4) (d : Fin 32) :
    Host.reduceWindow (s := Gates N) (t := Gates N) (u := S_) (· + ·) ![1, N + 1, 1, 1] ![1, 1, 1, 1] ![0, N, 0, 0] ![0, 0, 0, 0] y
      (fun _ => (0 : EReal)) hw hu (ix4 b t h d) = run (fun s => y (ix4 b s h d)) t := by
  rw [← sum_window]
  unfold Host.reduceWindow
  refine (fold_add _).trans ?_
  refine Fintype.sum_equiv ((Shape.rowMajor (Win N)).symm.trans (place N)) _ _ fun n => ?_
  let k : (Win N).Idx := (Shape.rowMajor (Win N)).symm n
  have hk0 : (k 0).val < 1 := (k 0).isLt
  have hk1 : (k 1).val < N + 1 := (k 1).isLt
  have hk2 : (k 2).val < 1 := (k 2).isLt
  have hk3 : (k 3).val < 1 := (k 3).isLt
  have hb := b.isLt
  have ht := t.isLt
  have hh := h.isLt
  have hd := d.isLt
  by_cases h7 : N ≤ t.val + (k 1).val
  · refine (dif_pos ?_).trans (Eq.trans ?_ (dif_pos (show N ≤ t.val + (place N k).val from h7)).symm)
    · intro a
      match a with
      | 0 => show 0 ≤ b.val * 1 + (k 0).val ∧ b.val * 1 + (k 0).val - 0 < 2; omega
      | 1 => show N ≤ t.val * 1 + (k 1).val ∧ t.val * 1 + (k 1).val - N < N + 1; omega
      | 2 => show 0 ≤ h.val * 1 + (k 2).val ∧ h.val * 1 + (k 2).val - 0 < 4; omega
      | 3 => show 0 ≤ d.val * 1 + (k 3).val ∧ d.val * 1 + (k 3).val - 0 < 32; omega
    · refine congrArg y (funext fun a => Fin.ext ?_)
      match a with
      | 0 => show b.val * 1 + (k 0).val - 0 = b.val; omega
      | 1 => show t.val * 1 + (k 1).val - N = t.val + (k 1).val - N; omega
      | 2 => show h.val * 1 + (k 2).val - 0 = h.val; omega
      | 3 => show d.val * 1 + (k 3).val - 0 = d.val; omega
  · refine (dif_neg fun hin => h7 ?_).trans (Eq.trans ?_ (dif_neg (show ¬ N ≤ t.val + (place N k).val from h7)).symm)
    swap
    · rfl
    have h1 : N ≤ t.val * 1 + (k 1).val := (hin 1).1
    omega

/-- The same with the number of rows written otherwise. -/
theorem windows_of (M N : ℕ) (hM : N + 1 = M) (y : (⟨4, ![2, M, 4, 32]⟩ : Shape).Idx → EReal)
    (hw : (⟨4, ![2, M, 4, 32]⟩ : Shape).ReduceWindows ![1, M, 1, 1] ![1, 1, 1, 1] ![0, N, 0, 0] ![0, 0, 0, 0] ⟨4, ![2, M, 4, 32]⟩)
    (hu : 0 < S_.numel) (b : Fin 2) (t : Fin M) (h : Fin 4) (d : Fin 32) :
    Host.reduceWindowAdd (F := Ideal) (φ := .f32) (u := S_) ![1, M, 1, 1] ![1, 1, 1, 1] ![0, N, 0, 0] ![0, 0, 0, 0] y
      (fun _ => (0 : EReal)) hw hu (ix4 b t h d) = run (fun s => y (ix4 b s h d)) t := by
  subst hM
  exact windows N y hw hu b t h d

/-- The reference's sum over windows is the running sum over the rows. -/
theorem cumsum_apply (x3 : (⟨S2x8192x16, .f32⟩ : BufTy).Contents (Elt Ideal)) (x5 : (⟨S16x128, .f32⟩ : BufTy).Contents (Elt Ideal))
    (x6 : (⟨S128, .f32⟩ : BufTy).Contents (Elt Ideal)) (b : Fin 2) (t : Fin 8192) (h : Fin 4) (d : Fin 32) :
    val_main_v10 (F := Ideal) x3 x5 x6 (ix4 b t h d) = run (fun s => val_main_v9 (F := Ideal) x3 x5 x6 (ix4 b s h d)) t := by
  unfold val_main_v10
  generalize val_main_v9 (F := Ideal) x3 x5 x6 = y
  have hz : val_main_call1_call0_v0 (F := Ideal) = fun _ => 0 := by
    funext i
    pointwise [val_main_call1_call0_v0, val_main_call1_call0_cst]
  rw [hz]
  exact windows_of 8192 8191 rfl y reduceWindows_S2x8192x4x32_S2x8192x4x32_w1s1p0_0_w8192s1p8191_0_w1s1p0_0_w1s1p0_0 h_S_ b t h d

/-- The reference's gate: the argument is the row of the low rank times the weights, plus the bias. -/
theorem gate_apply (x3 : (⟨S2x8192x16, .f32⟩ : BufTy).Contents (Elt Ideal)) (x5 : (⟨S16x128, .f32⟩ : BufTy).Contents (Elt Ideal))
    (x6 : (⟨S128, .f32⟩ : BufTy).Contents (Elt Ideal)) (b : Fin 2) (t : Fin 8192) (h : Fin 4) (d : Fin 32) (r : Fin 128)
    (hr : r.val = 32 * h.val + d.val) :
    val_main_v9 (F := Ideal) x3 x5 x6 (ix4 b t h d)
      = gate (∑ j : Fin 16, x3 (ix3 b t j) * x5 (ix2 j r) + x6 (ix1 r)) := by
  have e : val_main_v9 (F := Ideal) x3 x5 x6 (ix4 b t h d) = val_main_v8 (F := Ideal) x3 x5 x6 (ix3 b t r) := by
    rw [val_main_v9_apply]
    refine congrArg _ (funext fun a => Fin.ext ?_)
    have hh := h.isLt
    have hd := d.isLt
    have ht := t.isLt
    match a with
    | 0 => show (((b.val * 8192 + t.val) * 4 + h.val) * 32 + d.val) / 1048576 = b.val; omega
    | 1 => show (((b.val * 8192 + t.val) * 4 + h.val) * 32 + d.val) / 128 % 8192 = t.val; omega
    | 2 => show (((b.val * 8192 + t.val) * 4 + h.val) * 32 + d.val) % 128 = r.val; omega
  have e5 : val_main_v5 (F := Ideal) x3 x5 x6 (ix3 b t r) = ∑ j : Fin 16, x3 (ix3 b t j) * x5 (ix2 j r) + x6 (ix1 r) := by
    pointwise [val_main_v5, val_main_v4, val_main_v3, val_main_v2]
  rw [e, ← e5]
  pointwise [val_main_v8, val_main_v7, val_main_cst, val_main_v6, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  generalize val_main_v5 (F := Ideal) x3 x5 x6 (ix3 b t r) = x
  rw [if_neg (not_not.mpr rfl)]
  show Ideal.div (-(max (-x) 0 + Ideal.log1p (Ideal.exp (-(max (-x) (- -x)))))) (Ideal.ofBits .f32 0x41800000#32) = gate x
  unfold gate
  rw [zero_sub, zero_sub, zero_sub, neg_neg, max_comm (-x) x]

/-- A head's state after all rows. -/
theorem state_ref (x1 : (⟨S2x8192x128, .f32⟩ : BufTy).Contents (Elt Ideal)) (x2 : (⟨S2x8192x256, .f32⟩ : BufTy).Contents (Elt Ideal))
    (x3 : (⟨S2x8192x16, .f32⟩ : BufTy).Contents (Elt Ideal)) (x5 : (⟨S16x128, .f32⟩ : BufTy).Contents (Elt Ideal))
    (x6 : (⟨S128, .f32⟩ : BufTy).Contents (Elt Ideal))
    (b : Fin 2) (h : Fin 4) (d : Fin 32) (n : Fin 64) (r : Fin 128) (q : Fin 256)
    (hr : r.val = 32 * h.val + d.val) (hq : q.val = 64 * h.val + n.val) (g : Fin 8192 → EReal)
    (hg : ∀ s, g s = gate (∑ j : Fin 16, x3 (ix3 b s j) * x5 (ix2 j r) + x6 (ix1 r))) :
    val_main_v16 (F := Ideal) x1 x2 x3 x5 x6 (ix4 b h d n)
      = ∑ x : Fin 8192, x1 (ix3 b x r) * Ideal.exp (run g 8191 - run g x) * x2 (ix3 b x q) := by
  have hh := h.isLt
  have hd := d.isLt
  have hn := n.isLt
  have e10 : ∀ t, val_main_v10 (F := Ideal) x3 x5 x6 (ix4 b t h d) = run g t := fun t => by
    rw [cumsum_apply]
    exact congrArg (fun g => run g t) (funext fun s => (gate_apply x3 x5 x6 b s h d r hr).trans (hg s).symm)
  have e0 : ∀ t, val_main_v0 (F := Ideal) x1 (ix4 b t h d) = x1 (ix3 b t r) := fun t => by
    have ht := t.isLt
    rw [val_main_v0_apply]
    refine congrArg _ (funext fun a => Fin.ext ?_)
    match a with
    | 0 => show (((b.val * 8192 + t.val) * 4 + h.val) * 32 + d.val) / 1048576 = b.val; omega
    | 1 => show (((b.val * 8192 + t.val) * 4 + h.val) * 32 + d.val) / 128 % 8192 = t.val; omega
    | 2 => show (((b.val * 8192 + t.val) * 4 + h.val) * 32 + d.val) % 128 = r.val; omega
  have e1 : ∀ t, val_main_v1 (F := Ideal) x2 (ix4 b t h n) = x2 (ix3 b t q) := fun t => by
    have ht := t.isLt
    rw [val_main_v1_apply]
    refine congrArg _ (funext fun a => Fin.ext ?_)
    match a with
    | 0 => show (((b.val * 8192 + t.val) * 4 + h.val) * 64 + n.val) / 2097152 = b.val; omega
    | 1 => show (((b.val * 8192 + t.val) * 4 + h.val) * 64 + n.val) / 256 % 8192 = t.val; omega
    | 2 => show (((b.val * 8192 + t.val) * 4 + h.val) * 64 + n.val) % 256 = q.val; omega
  pointwise [val_main_v16, val_main_v15, val_main_v14, val_main_v13, val_main_v12, val_main_v11]
  simp only [e10, e0, e1]

end Cert.PromptState

end
-- ==== Proof.GlaResult.lean ====
/-
  The gated linear attention of the prompt batch leaves the reference's state: the arrays the call is given, the state
  carried from chunk to chunk, and the diagonal blocks taken of the last one.
-/
module

public import proofs.«01_k».proof.Proof.GlaStep
public import proofs.«01_k».proof.Proof.GlaRef

@[expose] public section

set_option maxRecDepth 16384

noncomputable section

namespace Cert.PromptState

open Cert.Decay
open Cert.Routed (Real')
open Cert.GlaIdeal Cert.GlaIdeal.Gen Idealize.ShloMosaic Idealize.ShloMosaic.TcCoe Idealize.SL.Sem
open Cert.GlaReferenceIdeal.Read (val_main_v16)

variable (m : (ℓ : Loc nD τ sig) → Buf (Elt Ideal) ℓ) (c : Dev nD)

abbrev arg1 : (⟨S2x8192x128, .f32⟩ : BufTy).Contents (Elt Ideal) := m ((c : Thread nD τ).loc main_arg1)
abbrev arg2 : (⟨S2x8192x256, .f32⟩ : BufTy).Contents (Elt Ideal) := m ((c : Thread nD τ).loc main_arg2)
abbrev arg3 : (⟨S2x8192x16, .f32⟩ : BufTy).Contents (Elt Ideal) := m ((c : Thread nD τ).loc main_arg3)
abbrev arg5 : (⟨S16x128, .f32⟩ : BufTy).Contents (Elt Ideal) := m ((c : Thread nD τ).loc main_arg5)
abbrev arg6 : (⟨S128, .f32⟩ : BufTy).Contents (Elt Ideal) := m ((c : Thread nD τ).loc main_arg6)

/-! ## The arrays the call is given -/

abbrev zero : FVec Ideal S_ .f32 := sitofp .f32 (constantI S_ 32 0#32)

/-- The padding value is zero. -/
theorem zero_apply : zero ix0 = (0 : EReal) := by
  show (((0#32 : BitVec 32).toInt : ℝ) : EReal) = 0
  norm_num

/-- The low rank's rows, padded with zeros to 128 columns. -/
def low : FVec Ideal S2x8192x128 .f32 :=
  pad S2x8192x128 ![0, 0, 0] ![0, 0, 112] ![0, 0, 0] (arg3 m c) zero pads_S2x8192x16_S2x8192x128_000_000_01120 h_S_

/-- The gate's weights, padded with zeros to 128 rows. -/
def weights : FVec Ideal S128x128 .f32 :=
  pad S128x128 ![0, 0] ![112, 0] ![0, 0] (arg5 m c) zero pads_S16x128_S128x128_01120_000 h_S_

/-- The states before the first row: all zero. -/
def start : FVec Ideal S2x128x256 .f32 := broadcastInDim S2x128x256 ![] bcast_S_S2x128x256 (constant (F := Ideal) S_ .f32 0x00000000#32)

/-- The call is given the padded low rank. -/
theorem V_v0 : V m c main_v0 = low m c := by
  simp only [V, V0, StableHlo.after_cons, StableHlo.after_nil, hostOps0, hostOps0_1, hostOps0_2, hostOps0_3, hostOps0_4,
    List.flatten_cons, List.flatten_nil, List.append_nil, List.cons_append, List.nil_append]
  rfl

/-- The call is given a state of zeros. -/
theorem V_v1 : V m c main_v1 = start := by
  simp only [V, V0, StableHlo.after_cons, StableHlo.after_nil, hostOps0, hostOps0_1, hostOps0_2, hostOps0_3, hostOps0_4,
    List.flatten_cons, List.flatten_nil, List.append_nil, List.cons_append, List.nil_append]
  rfl

/-- The call is given the padded weights. -/
theorem V_v2 : V m c main_v2 = weights m c := by
  simp only [V, V0, StableHlo.after_cons, StableHlo.after_nil, hostOps0, hostOps0_1, hostOps0_2, hostOps0_3, hostOps0_4,
    List.flatten_cons, List.flatten_nil, List.append_nil, List.cons_append, List.nil_append]
  rfl

/-- The call is given the padded weights, transposed. -/
theorem V_v3 : V m c main_v3 = transpose S128x128 [1, 0] (weights m c) transposes_S128x128_S128x128_1_0 := by
  simp only [V, V0, StableHlo.after_cons, StableHlo.after_nil, hostOps0, hostOps0_1, hostOps0_2, hostOps0_3, hostOps0_4,
    List.flatten_cons, List.flatten_nil, List.append_nil, List.cons_append, List.nil_append]
  rfl

/-- The call is given the bias as a row. -/
theorem V_v4 : V m c main_v4 = shapeCast S1x128 (arg6 m c) shapeCasts_S128_S1x128 := by
  simp only [V, V0, StableHlo.after_cons, StableHlo.after_nil, hostOps0, hostOps0_1, hostOps0_2, hostOps0_3, hostOps0_4,
    List.flatten_cons, List.flatten_nil, List.append_nil, List.cons_append, List.nil_append]
  rfl

/-- The call is given the bias as a column. -/
theorem V_v5 : V m c main_v5 = shapeCast S128x1 (arg6 m c) shapeCasts_S128_S128x1 := by
  simp only [V, V0, StableHlo.after_cons, StableHlo.after_nil, hostOps0, hostOps0_1, hostOps0_2, hostOps0_3, hostOps0_4,
    List.flatten_cons, List.flatten_nil, List.append_nil, List.cons_append, List.nil_append]
  rfl

/-! ## The blocks a point reads -/

/-- The place of the block of the keys. -/
theorem idx1 : ∀ t : Fin cfg0.N, win0_1.index t = ![0, t.val, 0] := (by decide +kernel : ∀ t : Fin grid0.N, _)
/-- The place of the block of the values. -/
theorem idx2 : ∀ t : Fin cfg0.N, win0_2.index t = ![0, t.val, 0] := (by decide +kernel : ∀ t : Fin grid0.N, _)
/-- The place of the block of the low rank. -/
theorem idx3 : ∀ t : Fin cfg0.N, win0_3.index t = ![0, t.val, 0] := (by decide +kernel : ∀ t : Fin grid0.N, _)
/-- The place of the block of the weights. -/
theorem idx5 : ∀ t : Fin cfg0.N, win0_5.index t = ![0, 0] := (by decide +kernel : ∀ t : Fin grid0.N, _)
/-- The place of the block of the transposed weights. -/
theorem idx6 : ∀ t : Fin cfg0.N, win0_6.index t = ![0, 0] := (by decide +kernel : ∀ t : Fin grid0.N, _)
/-- The place of the block of the bias's row. -/
theorem idx7 : ∀ t : Fin cfg0.N, win0_7.index t = ![0, 0] := (by decide +kernel : ∀ t : Fin grid0.N, _)
/-- The place of the block of the bias's column. -/
theorem idx8 : ∀ t : Fin cfg0.N, win0_8.index t = ![0, 0] := (by decide +kernel : ∀ t : Fin grid0.N, _)
/-- The place of the block of the first states. -/
theorem idx10 : ∀ t : Fin cfg0.N, win0_10.index t = ![0, 0, 0] := (by decide +kernel : ∀ t : Fin grid0.N, _)
/-- The place of the block of the last states. -/
theorem idx12 : ∀ t : Fin cfg0.N, win0_12.index t = ![0, 0, 0] := (by decide +kernel : ∀ t : Fin grid0.N, _)

/-- An entry of the block of the keys. -/
theorem iblk1_apply (t : Fin cfg0.N) (b : Fin 2) (s : Fin 64) (i : Fin 8192) (h : i.val = 64 * t.val + s.val) (r : Fin 128) :
    iblk m c 1 t (ix3 b s r) = arg1 m c (ix3 b i r) := by
  have e : iblk m c 1 t (ix3 b s r) = V m c main_arg1 ((win0_1.blk t).view.emb (ix3 b s r)) := by
    blk_simp [iblk]
  have e' : (win0_1.blk t).view.emb (ix3 b s r) = (ix3 b i r : S2x8192x128.Idx) := by
    blk_ext [idx1 t]
  rw [e, e', V_main_arg1]

/-- An entry of the block of the values. -/
theorem iblk2_apply (t : Fin cfg0.N) (b : Fin 2) (s : Fin 64) (i : Fin 8192) (h : i.val = 64 * t.val + s.val) (r : Fin 256) :
    iblk m c 2 t (ix3 b s r) = arg2 m c (ix3 b i r) := by
  have e : iblk m c 2 t (ix3 b s r) = V m c main_arg2 ((win0_2.blk t).view.emb (ix3 b s r)) := by
    blk_simp [iblk]
  have e' : (win0_2.blk t).view.emb (ix3 b s r) = (ix3 b i r : S2x8192x256.Idx) := by
    blk_ext [idx2 t]
  rw [e, e', V_main_arg2]

/-- An entry of the block of the low rank. -/
theorem iblk3_apply (t : Fin cfg0.N) (b : Fin 2) (s : Fin 64) (i : Fin 8192) (h : i.val = 64 * t.val + s.val) (r : Fin 128) :
    iblk m c 3 t (ix3 b s r) = low m c (ix3 b i r) := by
  have e : iblk m c 3 t (ix3 b s r) = V m c main_v0 ((win0_3.blk t).view.emb (ix3 b s r)) := by
    blk_simp [iblk]
  have e' : (win0_3.blk t).view.emb (ix3 b s r) = (ix3 b i r : S2x8192x128.Idx) := by
    blk_ext [idx3 t]
  rw [e, e', V_v0]

/-- An entry of the block of the first states is zero. -/
theorem iblk10_apply (t : Fin cfg0.N) (b : Fin 2) (r : Fin 128) (q : Fin 256) : iblk m c 10 t (ix3 b r q) = (0 : EReal) := by
  have e : iblk m c 10 t (ix3 b r q) = V m c main_v1 ((win0_10.blk t).view.emb (ix3 b r q)) := by
    blk_simp [iblk]
  have e' : (win0_10.blk t).view.emb (ix3 b r q) = (ix3 b r q : S2x128x256.Idx) := by
    blk_ext [idx10 t]
  rw [e, e', V_v1]
  pointwise [start]

/-- An entry of the block of the weights. -/
theorem iblk5_apply (t : Fin cfg0.N) (j r : Fin 128) : iblk m c 5 t (ix2 j r) = weights m c (ix2 j r) := by
  have e : iblk m c 5 t (ix2 j r) = V m c main_v2 ((win0_5.blk t).view.emb (ix2 j r)) := by
    blk_simp [iblk]
  have e' : (win0_5.blk t).view.emb (ix2 j r) = (ix2 j r : S128x128.Idx) := by
    blk_ext [idx5 t]
  rw [e, e', V_v2]

/-- An entry of the block of the transposed weights. -/
theorem iblk6_apply (t : Fin cfg0.N) (r j : Fin 128) : iblk m c 6 t (ix2 r j) = weights m c (ix2 j r) := by
  have e : iblk m c 6 t (ix2 r j) = V m c main_v3 ((win0_6.blk t).view.emb (ix2 r j)) := by
    blk_simp [iblk]
  have e' : (win0_6.blk t).view.emb (ix2 r j) = (ix2 r j : S128x128.Idx) := by
    blk_ext [idx6 t]
  rw [e, e', V_v3]
  generalize weights m c = w
  pointwise

/-- An entry of the block of the bias's row. -/
theorem iblk7_apply (t : Fin cfg0.N) (r : Fin 128) : iblk m c 7 t (ix2 0 r) = arg6 m c (ix1 r) := by
  have e : iblk m c 7 t (ix2 0 r) = V m c main_v4 ((win0_7.blk t).view.emb (ix2 0 r)) := by
    blk_simp [iblk]
  have e' : (win0_7.blk t).view.emb (ix2 0 r) = (ix2 0 r : S1x128.Idx) := by
    blk_ext [idx7 t]
  rw [e, e', V_v4]
  pointwise

/-- An entry of the block of the bias's column. -/
theorem iblk8_apply (t : Fin cfg0.N) (r : Fin 128) : iblk m c 8 t (ix2 r 0) = arg6 m c (ix1 r) := by
  have e : iblk m c 8 t (ix2 r 0) = V m c main_v5 ((win0_8.blk t).view.emb (ix2 r 0)) := by
    blk_simp [iblk]
  have e' : (win0_8.blk t).view.emb (ix2 r 0) = (ix2 r 0 : S128x1.Idx) := by
    blk_ext [idx8 t]
  rw [e, e', V_v5]
  pointwise

/-! ## The padding -/

/-- The first sixteen columns of the padded low rank are the low rank. -/
theorem low_apply (b : Fin 2) (s : Fin 8192) (j : Fin 16) : low m c (ix3 b s ⟨j.val, by omega⟩) = arg3 m c (ix3 b s j) := by
  pointwise [low]

/-- The columns that pad the low rank are zero. -/
theorem low_pad (b : Fin 2) (s : Fin 8192) (j : Fin 128) (h : 16 ≤ j.val) : low m c (ix3 b s j) = (0 : EReal) := by
  refine Eq.trans ?_ zero_apply
  pointwise [low]
  rw [dif_neg (by omega)]

/-- The first sixteen rows of the padded weights are the weights. -/
theorem weights_apply (j : Fin 16) (r : Fin 128) : weights m c (ix2 ⟨j.val, by omega⟩ r) = arg5 m c (ix2 j r) := by
  pointwise [weights]

/-- The padded product of a row of the low rank with the weights is the product. -/
theorem low_sum (b : Fin 2) (s : Fin 8192) (r : Fin 128) :
    ∑ j : Fin 128, low m c (ix3 b s j) * weights m c (ix2 j r) = ∑ j : Fin 16, arg3 m c (ix3 b s j) * arg5 m c (ix2 j r) := by
  rw [show (∑ j : Fin 128, low m c (ix3 b s j) * weights m c (ix2 j r))
      = ∑ j : Fin (16 + 112), low m c (ix3 b s j) * weights m c (ix2 j r) from rfl, Fin.sum_univ_add]
  have h2 : ∑ j : Fin 112, low m c (ix3 b s (Fin.natAdd 16 j)) * weights m c (ix2 (Fin.natAdd 16 j) r) = 0 :=
    Finset.sum_eq_zero fun j _ => by
      rw [low_pad m c b s _ (show 16 ≤ 16 + j.val by omega), zero_mul]
  rw [h2, add_zero]
  exact Finset.sum_congr rfl fun j _ => congrArg₂ (· * ·) (low_apply m c b s j) (weights_apply m c j r)

/-! ## The state from chunk to chunk -/

/-- A sequence of real numbers over the extended reals comes from one over the reals. -/
theorem real_rows {N : ℕ} {X : Fin N → EReal} (h : ∀ i, Real' (X i)) : ∃ f : ℕ → ℝ, ∀ i, X i = ((f i.val : ℝ) : EReal) := by
  choose f hf using h
  exact ⟨extend f, fun i => by rw [extend_apply]; exact hf i⟩

/-- The logarithm of the gate of a row, for a row of the states. -/
def logGate (b : Fin 2) (r : Fin 128) (i : Fin 8192) : EReal :=
  gate (∑ j : Fin 16, arg3 m c (ix3 b i j) * arg5 m c (ix2 j r) + arg6 m c (ix1 r))

/-- One chunk takes the state of the rows before it to the state of the rows to its end. -/
theorem block_apply (t : Fin cfg0.N) (p : FVec Ideal S2x128x256 .f32) (b : Fin 2) (r : Fin 128) (q : Fin 256)
    (h : r.val / 32 = q.val / 64) (k v g : ℕ → ℝ)
    (hk : ∀ i : Fin 8192, arg1 m c (ix3 b i r) = ((k i.val : ℝ) : EReal))
    (hv : ∀ i : Fin 8192, arg2 m c (ix3 b i q) = ((v i.val : ℝ) : EReal))
    (hg : ∀ i : Fin 8192, logGate m c b r i = ((g i.val : ℝ) : EReal))
    (hp : p (ix3 b r q) = ((closed k v g (64 * t.val) : ℝ) : EReal)) :
    block m c t p (ix3 b r q) = ((closed k v g (64 * t.val + 64) : ℝ) : EReal) := by
  have hN := lt_of_lt_of_eq t.isLt (show cfg0.N = 128 from N_0)
  have row : ∀ s : Fin 64, 64 * t.val + s.val < 8192 := fun s => by have := s.isLt; omega
  have e1 : ∀ s : Fin 64, iblk m c 1 t (ix3 b s r) = ((k (64 * t.val + s.val) : ℝ) : EReal) := fun s =>
    (iblk1_apply m c t b s ⟨_, row s⟩ rfl r).trans (hk ⟨_, row s⟩)
  have e2 : ∀ s : Fin 64, iblk m c 2 t (ix3 b s q) = ((v (64 * t.val + s.val) : ℝ) : EReal) := fun s =>
    (iblk2_apply m c t b s ⟨_, row s⟩ rfl q).trans (hv ⟨_, row s⟩)
  have e3 : ∀ (s : Fin 64) (j : Fin 128), iblk m c 3 t (ix3 b s j) = low m c (ix3 b ⟨_, row s⟩ j) := fun s j =>
    iblk3_apply m c t b s ⟨_, row s⟩ rfl j
  have eg : ∀ s : Fin 64, pre (iblk m c 5 t) (iblk m c 7 t) (fun x => iblk m c 3 t (ix3 b (x 1) (x 2))) s r
      = ∑ j : Fin 16, arg3 m c (ix3 b ⟨_, row s⟩ j) * arg5 m c (ix2 j r) + arg6 m c (ix1 r) := fun s =>
    congrArg₂ (· + ·) ((Finset.sum_congr rfl fun j _ => congrArg₂ (fun x y : EReal => x * y) (e3 s j) (iblk5_apply m c t j r)).trans
      (low_sum m c b ⟨_, row s⟩ r)) (iblk7_apply m c t r)
  have et : ∀ s : Fin 64, preT (iblk m c 6 t) (iblk m c 8 t) (fun x => iblk m c 3 t (ix3 b (x 1) (x 2))) s r
      = pre (iblk m c 5 t) (iblk m c 7 t) (fun x => iblk m c 3 t (ix3 b (x 1) (x 2))) s r := fun s =>
    congrArg₂ (· + ·) (Finset.sum_congr rfl fun j _ =>
        (congrArg (fun x : EReal => x * _) ((iblk6_apply m c t r j).trans (iblk5_apply m c t j r).symm)).trans (mul_comm _ _))
      ((iblk8_apply m c t r).trans (iblk7_apply m c t r).symm)
  have ef : (fun s : Fin 64 => gate (pre (iblk m c 5 t) (iblk m c 7 t) (fun x => iblk m c 3 t (ix3 b (x 1) (x 2))) s r))
      = fun s : Fin 64 => ((g (64 * t.val + s.val) : ℝ) : EReal) := funext fun s =>
    (congrArg gate (eg s)).trans (hg ⟨_, row s⟩)
  unfold block
  refine (upd_apply (iblk m c 5 t) (iblk m c 6 t) (iblk m c 7 t) (iblk m c 8 t) (fun x => iblk m c 3 t (ix3 b (x 1) (x 2)))
    (fun x => iblk m c 1 t (ix3 b (x 1) (x 2))) (fun x => iblk m c 2 t (ix3 b (x 1) (x 2))) (fun x => p (ix3 b (x 1) (x 2)))
    r q h et (fun s => ⟨_, e1 s⟩) (fun s => ⟨_, e2 s⟩)).trans ?_
  rw [ef]
  refine Eq.trans ?_ (closed_step (N := 64) k v g (64 * t.val) 63 rfl)
  refine congrArg₂ (· + ·) (congrArg (· * _) hp) (Finset.sum_congr rfl fun x _ => ?_)
  exact congrArg₂ (· * ·) (congrArg (· * _) (e1 x)) (e2 x)

/-- After each point but the last the carried states are the states of the rows to the end of its chunk. -/
theorem carried (b : Fin 2) (r : Fin 128) (q : Fin 256) (h : r.val / 32 = q.val / 64) (k v g : ℕ → ℝ)
    (hk : ∀ i : Fin 8192, arg1 m c (ix3 b i r) = ((k i.val : ℝ) : EReal))
    (hv : ∀ i : Fin 8192, arg2 m c (ix3 b i q) = ((v i.val : ℝ) : EReal))
    (hg : ∀ i : Fin 8192, logGate m c b r i = ((g i.val : ℝ) : EReal)) :
    ∀ (n : ℕ) (hn : n < cfg0.N), n < 127 →
      (outsAt0 m c n hn).2.2 (ix3 b r q) = ((closed k v g (64 * n + 64) : ℝ) : EReal) := by
  intro n
  induction n with
  | zero =>
    intro hn _
    refine (congrFun (first_block m c ⟨0, hn⟩ (by show 0 % 128 = 0; omega) (by show ¬ 0 % 128 = 127; omega)) _).trans ?_
    refine block_apply m c ⟨0, hn⟩ _ b r q h k v g hk hv hg ((iblk10_apply m c _ b r q).trans ?_)
    show (0 : EReal) = ((closed k v g 0 : ℝ) : EReal)
    rw [closed_zero, EReal.coe_zero]
  | succ n ih =>
    intro hn h7
    refine (congrFun (later_block m c ⟨n + 1, hn⟩ (by show ¬ (n + 1) % 128 = 0; omega) (by show ¬ (n + 1) % 128 = 127; omega)) _).trans ?_
    exact block_apply m c ⟨n + 1, hn⟩ _ b r q h k v g hk hv hg (ih (Nat.lt_of_succ_lt hn) (by omega))

/-- The last point's place. -/
def final : Fin cfg0.N := ⟨127, lt_of_lt_of_eq (by omega) (show cfg0.N = 128 from N_0).symm⟩

/-- The states the last point leaves are the states of all rows. -/
theorem last_apply (b : Fin 2) (r : Fin 128) (q : Fin 256) (h : r.val / 32 = q.val / 64) (k v g : ℕ → ℝ)
    (hk : ∀ i : Fin 8192, arg1 m c (ix3 b i r) = ((k i.val : ℝ) : EReal))
    (hv : ∀ i : Fin 8192, arg2 m c (ix3 b i q) = ((v i.val : ℝ) : EReal))
    (hg : ∀ i : Fin 8192, logGate m c b r i = ((g i.val : ℝ) : EReal)) :
    (outsAt0 m c final.val final.isLt).2.1 (ix3 b r q) = ((closed k v g 8192 : ℝ) : EReal) := by
  refine (congrFun (last_block m c final (by show ¬ 127 % 128 = 0; omega) (by show 127 % 128 = 127; omega)) _).trans ?_
  exact block_apply m c final _ b r q h k v g hk hv hg (carried m c b r q h k v g hk hv hg 126 _ (by omega))

/-! ## The array of the states -/

/-- The states' block is written back after the last point only. -/
theorem flush12 : ∀ t : Fin cfg0.N, win0_12.flush t = true → t.val = 127 := (by decide +kernel : ∀ t : Fin grid0.N, _)

/-- The array of the states after the run is what the last point leaves. -/
theorem array12 (A : FVec Ideal S2x128x256 .f32)
    (hA : ∀ b r q, (outsAt0 m c final.val final.isLt).2.1 (ix3 b r q) = A (ix3 b r q)) : (dats m 0 c).arrAt 12 cfg0.N = A := by
  refine (dats m 0 c).arrAt_eq_of_covers 12 _ (by decide +kernel) fun t hf y => ?_
  obtain rfl : t = final := Fin.ext (flush12 t hf)
  blk_simp
  rw [after0_12]
  obtain ⟨b, r, q, rfl⟩ : ∃ (b : Fin 2) (r : Fin 128) (q : Fin 256), y = ix3 b r q :=
    ⟨y 0, y 1, y 2, funext fun x => by match x with | 0 => rfl | 1 => rfl | 2 => rfl⟩
  have e' : (win0_12.blk final).view.emb (ix3 b r q) = (ix3 b r q : S2x128x256.Idx) := by
    blk_ext [idx12 final]
  rw [e']
  exact hA b r q

/-- The reference's state, of real keys, values and gates. -/
theorem ref_closed (b : Fin 2) (h : Fin 4) (d : Fin 32) (n : Fin 64) (r : Fin 128) (q : Fin 256)
    (hr : r.val = 32 * h.val + d.val) (hq : q.val = 64 * h.val + n.val) (k v g : ℕ → ℝ)
    (hk : ∀ i : Fin 8192, arg1 m c (ix3 b i r) = ((k i.val : ℝ) : EReal))
    (hv : ∀ i : Fin 8192, arg2 m c (ix3 b i q) = ((v i.val : ℝ) : EReal))
    (hg : ∀ i : Fin 8192, logGate m c b r i = ((g i.val : ℝ) : EReal)) :
    val_main_v16 (F := Ideal) (arg1 m c) (arg2 m c) (arg3 m c) (arg5 m c) (arg6 m c) (ix4 b h d n)
      = ((closed k v g 8192 : ℝ) : EReal) :=
  (state_ref (arg1 m c) (arg2 m c) (arg3 m c) (arg5 m c) (arg6 m c) b h d n r q hr hq (logGate m c b r) fun s => rfl).trans
    (sum_closed 8191 rfl _ _ _ k v g hk hv hg)

/-- On finite inputs the states' diagonal blocks are the reference's state. -/
theorem state_apply (hk : ∀ b s r, Real' (arg1 m c (ix3 b s r))) (hv : ∀ b s q, Real' (arg2 m c (ix3 b s q)))
    (ha : ∀ b s j, Real' (arg3 m c (ix3 b s j))) (hw : ∀ j r, Real' (arg5 m c (ix2 j r))) (hb : ∀ r, Real' (arg6 m c (ix1 r)))
    (A : FVec Ideal S2x128x256 .f32) (hA : ∀ b r q, (outsAt0 m c final.val final.isLt).2.1 (ix3 b r q) = A (ix3 b r q))
    (b : Fin 2) (h : Fin 4) (d : Fin 32) (n : Fin 64) (r : Fin 128) (q : Fin 256)
    (hr : r.val = 32 * h.val + d.val) (hq : q.val = 64 * h.val + n.val) :
    A (ix3 b r q)
      = val_main_v16 (F := Ideal) (arg1 m c) (arg2 m c) (arg3 m c) (arg5 m c) (arg6 m c) (ix4 b h d n) := by
  have hd := d.isLt
  have hn := n.isLt
  obtain ⟨k, ek⟩ := real_rows fun i => hk b i r
  obtain ⟨v, ev⟩ := real_rows fun i => hv b i q
  obtain ⟨g, eg⟩ := real_rows fun i => gate_real ((Real'.sum _ _ fun j => (ha b i j).mul (hw j r)).add (hb r))
  exact (hA b r q).symm.trans ((last_apply m c b r q (by omega) k v g ek ev eg).trans
    (ref_closed m c b h d n r q hr hq k v g ek ev eg).symm)

/-! ## The result -/

/-- The diagonal blocks of an array, one head after another. -/
def diagonal (A : FVec Ideal S2x128x256 .f32) : FVec Ideal S2x4x32x64 .f32 :=
  concatenate S2x4x32x64 1
    [⟨S2x1x32x64, broadcastInDim S2x1x32x64 ![0, 2, 3] bcast_S2x32x64_S2x1x32x64_0_2_3 (shapeCast S2x32x64
      (extractStridedSlice S2x1x32x1x64 ![0, 0, 0, 0, 0] (shapeCast S2x4x32x4x64 A shapeCasts_S2x128x256_S2x4x32x4x64) slices_S2x4x32x4x64_S2x1x32x1x64_0_0_0_0_0) shapeCasts_S2x1x32x1x64_S2x32x64)⟩,
     ⟨S2x1x32x64, broadcastInDim S2x1x32x64 ![0, 2, 3] bcast_S2x32x64_S2x1x32x64_0_2_3 (shapeCast S2x32x64
      (extractStridedSlice S2x1x32x1x64 ![0, 1, 0, 1, 0] (shapeCast S2x4x32x4x64 A shapeCasts_S2x128x256_S2x4x32x4x64) slices_S2x4x32x4x64_S2x1x32x1x64_0_1_0_1_0) shapeCasts_S2x1x32x1x64_S2x32x64)⟩,
     ⟨S2x1x32x64, broadcastInDim S2x1x32x64 ![0, 2, 3] bcast_S2x32x64_S2x1x32x64_0_2_3 (shapeCast S2x32x64
      (extractStridedSlice S2x1x32x1x64 ![0, 2, 0, 2, 0] (shapeCast S2x4x32x4x64 A shapeCasts_S2x128x256_S2x4x32x4x64) slices_S2x4x32x4x64_S2x1x32x1x64_0_2_0_2_0) shapeCasts_S2x1x32x1x64_S2x32x64)⟩,
     ⟨S2x1x32x64, broadcastInDim S2x1x32x64 ![0, 2, 3] bcast_S2x32x64_S2x1x32x64_0_2_3 (shapeCast S2x32x64
      (extractStridedSlice S2x1x32x1x64 ![0, 3, 0, 3, 0] (shapeCast S2x4x32x4x64 A shapeCasts_S2x128x256_S2x4x32x4x64) slices_S2x4x32x4x64_S2x1x32x1x64_0_3_0_3_0) shapeCasts_S2x1x32x1x64_S2x32x64)⟩]
    concatenates_S2x1x32x64_S2x1x32x64_S2x1x32x64_S2x1x32x64_S2x4x32x64_d1

/-- An entry of the diagonal blocks. -/
theorem diagonal_apply (A : FVec Ideal S2x128x256 .f32) (b : Fin 2) (h : Fin 4) (d : Fin 32) (n : Fin 64) :
    diagonal A (ix4 b h d n) = A (ix3 b ⟨32 * h.val + d.val, by omega⟩ ⟨64 * h.val + n.val, by omega⟩) := by
  have hd := d.isLt
  have hn := n.isLt
  match h with
  | 0 => pointwise [diagonal]
  | 1 => pointwise [diagonal]
  | 2 => pointwise [diagonal]
  | 3 => pointwise [diagonal]

/-- The host code after the call takes the diagonal blocks. -/
theorem tail_v24 (W : Valuation τ sig (Elt Ideal)) (A : FVec Ideal S2x128x256 .f32) (hA : W (Proc.devRef .tc main_v10_1) = A) :
    StableHlo.after (List.flatten [hostOps1]) W (Proc.devRef .tc main_v24) = diagonal A := by
  subst hA
  simp only [hostOps1, List.flatten_cons, List.flatten_nil, List.append_nil, StableHlo.after_cons, StableHlo.after_nil]
  rfl

/-- The array of the state after the run, at the call's own name. -/
theorem at12 (A : FVec Ideal S2x128x256 .f32)
    (hA : ∀ b r q, (outsAt0 m c final.val final.isLt).2.1 (ix3 b r q) = A (ix3 b r q)) : Pipeline.withArrays (cfgs 0).spec c (V0 m c) (fun w => (dats m 0 c).arrAt w (cfgs 0).N) (Proc.devRef .tc main_v10_1)
    = A :=
  (Pipeline.withArrays_arr spec0 launch0.win.arr_inj c _ _ 12).trans (array12 m c A hA)

/-- On finite inputs the call's result is the reference's. -/
theorem out_v24 (hk : ∀ b s r, Real' (arg1 m c (ix3 b s r))) (hv : ∀ b s q, Real' (arg2 m c (ix3 b s q)))
    (ha : ∀ b s j, Real' (arg3 m c (ix3 b s j))) (hw : ∀ j r, Real' (arg5 m c (ix2 j r))) (hb : ∀ r, Real' (arg6 m c (ix1 r))) :
    Pipeline.afterTail₀ cfgs (dats m) 0 (V0 m) [hostOps1] c main_v24
      = val_main_v16 (F := Ideal) (arg1 m c) (arg2 m c) (arg3 m c) (arg5 m c) (arg6 m c) := by
  obtain ⟨A, hA⟩ : ∃ A : FVec Ideal S2x128x256 .f32, ∀ b r q, (outsAt0 m c final.val final.isLt).2.1 (ix3 b r q) = A (ix3 b r q) :=
    ⟨_, fun _ _ _ => rfl⟩
  refine (tail_v24 _ A (at12 m c A hA)).trans ?_
  funext i
  obtain ⟨b, h, d, n, rfl⟩ : ∃ (b : Fin 2) (h : Fin 4) (d : Fin 32) (n : Fin 64), i = ix4 b h d n :=
    ⟨i 0, i 1, i 2, i 3, funext fun x => by match x with | 0 => rfl | 1 => rfl | 2 => rfl | 3 => rfl⟩
  exact (diagonal_apply _ b h d n).trans (state_apply m c hk hv ha hw hb A hA b h d n _ _ rfl rfl)

end Cert.PromptState

end
-- ==== Proof.GlaFinite.lean ====
/-
  The precondition of the gated linear attention of the prompt batch: keys, values, and what the gates are made of are
  real numbers.
-/
module

public import proofs.«01_k».proof.Defs
public import proofs.«01_k».proof.Proof.Final
public import proofs.«01_k».proof.Proof.GlaResult

@[expose] public section

noncomputable section

namespace Cert.PromptState

open Cert.Routed (Real' real_of_abs_lt)
open Cert.GlaIdeal Idealize.ShloMosaic Idealize.ShloMosaic.TcCoe Idealize.SL.Sem

/-- The shape relations the precondition's function takes. -/
theorem pre_facts : Cert.Pre_finite_gates.Facts :=
  ⟨by decide, by decide, by decide, by decide, by decide, by decide, by decide, by decide, by decide, by decide, by decide⟩

variable (m : (ℓ : Loc nD τ sig) → Buf (Elt Ideal) ℓ)

/-- The precondition says that the keys, the values, the low rank, the weights and the bias are real numbers. -/
theorem real_of_pre [Cert.Pre_finite_gates.Facts] (hpre : Cert.Pre_GlaIdeal_finite_gates m) (c : Dev nD) :
    (∀ b s r, Real' (arg1 m c (ix3 b s r))) ∧ (∀ b s q, Real' (arg2 m c (ix3 b s q))) ∧ (∀ b s j, Real' (arg3 m c (ix3 b s j)))
      ∧ (∀ j r, Real' (arg5 m c (ix2 j r))) ∧ ∀ r, Real' (arg6 m c (ix1 r)) := by
  have h := congrFun (hpre c) ix0
  unfold Cert.Pre_finite_gates.fn Cert.Pre_finite_gates.fn_part1 at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  haveI : Subsingleton (Cert.Pre_finite_gates.S_).Idx := ⟨fun a b => funext fun x => x.elim0⟩
  exact ⟨fun b s r => real_of_abs_lt _ (Host.reduce_andi_all _ _ _ _ _ h1 (ix3 b s r)),
    fun b s q => real_of_abs_lt _ (Host.reduce_andi_all _ _ _ _ _ h2 (ix3 b s q)),
    fun b s j => real_of_abs_lt _ (Host.reduce_andi_all _ _ _ _ _ h3 (ix3 b s j)),
    fun j r => real_of_abs_lt _ (Host.reduce_andi_all _ _ _ _ _ h4 (ix2 j r)),
    fun r => real_of_abs_lt _ (Host.reduce_andi_all _ _ _ _ _ h5 (ix1 r))⟩

end Cert.PromptState

end
-- ==== Proof.lean ====
/-
  The proof of `Cert.Claim`: the frames are the generated runs; each value claim puts the kernel's run beside the
  reference's, and the `result_eq` (for the projections: the `out_` lemmas) of the call's module says that the arrays
  are the same.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn.Frame
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.Merge.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Gen.Project.Frame
public import proofs.«01_k».proof.Proof.Gen.ProjectIdeal.Frame
public import proofs.«01_k».proof.Proof.Gen.ProjectReferenceIdeal.Run
public import proofs.«01_k».proof.Proof.Gen.ProjectReferenceIdeal.Read
public import proofs.«01_k».proof.Proof.Gen.Norm.Frame
public import proofs.«01_k».proof.Proof.Gen.NormIdeal.Value
public import proofs.«01_k».proof.Proof.Gen.NormReferenceIdeal.Run
public import proofs.«01_k».proof.Proof.Gen.NormReferenceIdeal.Read
public import proofs.«01_k».proof.Proof.Gen.ProjectSample.Frame
public import proofs.«01_k».proof.Proof.Gen.ProjectSampleIdeal.Frame
public import proofs.«01_k».proof.Proof.Gen.ProjectSampleReferenceIdeal.Run
public import proofs.«01_k».proof.Proof.Gen.ProjectSampleReferenceIdeal.Read
public import proofs.«01_k».proof.Proof.Gen.NormSample.Frame
public import proofs.«01_k».proof.Proof.Gen.NormSampleIdeal.Value
public import proofs.«01_k».proof.Proof.Gen.NormSampleReferenceIdeal.Run
public import proofs.«01_k».proof.Proof.Gen.NormSampleReferenceIdeal.Read
public import proofs.«01_k».proof.Proof.Gen.Gla.Frame
public import proofs.«01_k».proof.Proof.Gen.GlaIdeal.Frame
public import proofs.«01_k».proof.Proof.Gen.GlaReferenceIdeal.Run
public import proofs.«01_k».proof.Proof.Gen.GlaReferenceIdeal.Read
public import proofs.«01_k».proof.Proof.Gen.GlaSample.Frame
public import proofs.«01_k».proof.Proof.Gen.GlaSampleIdeal.Frame
public import proofs.«01_k».proof.Proof.Gen.GlaSampleReferenceIdeal.Run
public import proofs.«01_k».proof.Proof.Gen.GlaSampleReferenceIdeal.Read
public import Idealize.ShloMosaic.Adequacy
public import Idealize.ShloMosaic.Init
public import Idealize.ShloMosaic.Lib.Quiescent
public import proofs.«01_k».proof.Proof.Final
public import proofs.«01_k».proof.Proof.FfnResult
public import proofs.«01_k».proof.Proof.MergeResult
public import proofs.«01_k».proof.Proof.ProjectResult
public import proofs.«01_k».proof.Proof.NormResult
public import proofs.«01_k».proof.Proof.ProjectSampleResult
public import proofs.«01_k».proof.Proof.NormSampleResult
public import proofs.«01_k».proof.Proof.GlaSampleFinite
public import proofs.«01_k».proof.Proof.GlaFinite

@[expose] public section

noncomputable section

namespace Cert.Proof

open Idealize.ShloMosaic Idealize.SL.Sem

/-- The reference runs, keeps its arguments and ends with its counters zero: it declares none. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference leave the same array. -/
theorem algebraic_KernelIdeal_ReferenceIdeal [Cert.Pre_finite_router.Facts] :
    algebraic_KernelIdeal_ReferenceIdeal_pre_finite_router := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hg, hr⟩ := Cert.Routed.real_of_pre m hpre c
  refine ((h c).1.trans ?_).trans (Cert.Routed.result_eq m c hg hr).symm
  obtain ⟨h0, h1, h2, h3, h4, h5⟩ := hagree c
  refine (Cert.ReferenceIdeal.Read.val_main_v149_eq (F := Ideal) _).trans ?_
  show Cert.ReferenceIdeal.Read.val_main_v149 (F := Ideal) (m' ((c.tc : Thread _ _).loc Cert.ReferenceIdeal.main_arg0))
    (m' ((c.tc : Thread _ _).loc Cert.ReferenceIdeal.main_arg1)) (m' ((c.tc : Thread _ _).loc Cert.ReferenceIdeal.main_arg2))
    (m' ((c.tc : Thread _ _).loc Cert.ReferenceIdeal.main_arg3)) (m' ((c.tc : Thread _ _).loc Cert.ReferenceIdeal.main_arg4))
    (m' ((c.tc : Thread _ _).loc Cert.ReferenceIdeal.main_arg5)) = _
  rw [h0, h1, h2, h3, h4, h5]

/-- Of the call Ffn: the first layer's feed-forward. Its reference runs, keeps its arguments and ends with its counters zero. -/
theorem quiescent_FfnReferenceIdeal : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- Over the extended reals the call and its reference leave the same array. -/
theorem algebraic_FfnIdeal_FfnReferenceIdeal :
    @algebraic_FfnIdeal_FfnReferenceIdeal Cert.FfnIdeal.Gen.facts Cert.FfnReferenceIdeal.Gen.facts := by
  intro m ρ m' ρ' hpre hagree
  refine ⟨_, Cert.FfnIdeal.Value.run (F := Ideal) m ρ, ?_⟩
  refine (θ_run Cert.FfnReferenceIdeal.defs _ _).mono (fun _ h c => ⟨?_, (h c).2⟩) (Cert.FfnReferenceIdeal.Value.run (F := Ideal) m' ρ')
  refine ((h c).1.trans ?_).trans (Cert.Dense.result_eq m c).symm
  obtain ⟨h0, h1, h2, h3, h4⟩ := hagree c
  refine (Cert.FfnReferenceIdeal.Read.val_main_v19_eq (F := Ideal) _ _ _ _ _).trans ?_
  show Cert.FfnReferenceIdeal.Read.val_main_v19 (F := Ideal)
    (m' ((c.tc : Thread _ _).loc Cert.FfnReferenceIdeal.main_arg0))
    (m' ((c.tc : Thread _ _).loc Cert.FfnReferenceIdeal.main_arg1))
    (m' ((c.tc : Thread _ _).loc Cert.FfnReferenceIdeal.main_arg2))
    (m' ((c.tc : Thread _ _).loc Cert.FfnReferenceIdeal.main_arg3))
    (m' ((c.tc : Thread _ _).loc Cert.FfnReferenceIdeal.main_arg4)) = _
  rw [h0, h1, h2, h3, h4]

/-- Of the call Merge: the gated merge. Its reference runs, keeps its arguments and ends with its counters zero. -/
theorem quiescent_MergeReferenceIdeal : quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- Over the extended reals the call and its reference leave the same array. -/
theorem algebraic_MergeIdeal_MergeReferenceIdeal :
    @algebraic_MergeIdeal_MergeReferenceIdeal Cert.MergeIdeal.Gen.facts Cert.MergeReferenceIdeal.Gen.facts := by
  intro m ρ m' ρ' hpre hagree
  refine ⟨_, Cert.MergeIdeal.Value.run_blocks (F := Ideal) m ρ, ?_⟩
  refine (θ_run Cert.MergeReferenceIdeal.defs _ _).mono (fun _ h c => ⟨?_, (h c).2⟩) (Cert.MergeReferenceIdeal.Value.run (F := Ideal) m' ρ')
  refine ((h c).1.trans ?_).trans (Cert.Gated.result_eq m c).symm
  obtain ⟨h0, h1, h2, h3, h4, h5, h6, h7, h8⟩ := hagree c
  refine (Cert.MergeReferenceIdeal.Read.val_main_v31_eq (F := Ideal) _ _ _ _ _ _ _ _ _).trans ?_
  show Cert.MergeReferenceIdeal.Read.val_main_v31 (F := Ideal)
    (m' ((c.tc : Thread _ _).loc Cert.MergeReferenceIdeal.main_arg0))
    (m' ((c.tc : Thread _ _).loc Cert.MergeReferenceIdeal.main_arg1))
    (m' ((c.tc : Thread _ _).loc Cert.MergeReferenceIdeal.main_arg2))
    (m' ((c.tc : Thread _ _).loc Cert.MergeReferenceIdeal.main_arg3))
    (m' ((c.tc : Thread _ _).loc Cert.MergeReferenceIdeal.main_arg4))
    (m' ((c.tc : Thread _ _).loc Cert.MergeReferenceIdeal.main_arg5))
    (m' ((c.tc : Thread _ _).loc Cert.MergeReferenceIdeal.main_arg6))
    (m' ((c.tc : Thread _ _).loc Cert.MergeReferenceIdeal.main_arg7))
    (m' ((c.tc : Thread _ _).loc Cert.MergeReferenceIdeal.main_arg8)) = _
  rw [h0, h1, h2, h3, h4, h5, h6, h7, h8]

/-- Of the call Project: the prompt's projection. Its reference runs, keeps its arguments and ends with its counters zero. -/
theorem quiescent_ProjectReferenceIdeal : quiescent_ProjectReferenceIdeal := fun m ρ _ =>
  (θ_run Cert.ProjectReferenceIdeal.defs _ _).mono (fun r h => ⟨fun c => (h c).2.2.2.2.2.2.2.2.2.2.2.2.2.2.2, sem_eq_zero_of_no_sems (by decide) r.2⟩)
    (Cert.ProjectReferenceIdeal.Value.run (F := Ideal) m ρ)

set_option maxHeartbeats 8000000 in
/-- Over the extended reals the call and its reference leave the same arrays. -/
theorem algebraic_ProjectIdeal_ProjectReferenceIdeal :
    @algebraic_ProjectIdeal_ProjectReferenceIdeal Cert.ProjectIdeal.Gen.facts Cert.ProjectReferenceIdeal.Gen.facts := by
  pair_intro
  · run_from (Cert.ProjectIdeal.Gen.run_main (F := Ideal) m g)
    · exact Cert.ProjectIdeal.Gen.W_main_arg0 m (Cert.ProjectIdeal.Gen.dats m) c
    · exact Cert.ProjectIdeal.Gen.W_main_arg1 m (Cert.ProjectIdeal.Gen.dats m) c
  · refine (θ_run Cert.ProjectReferenceIdeal.defs _ _).mono (fun _ h c => ?_) (Cert.ProjectReferenceIdeal.Value.run (F := Ideal) m' g')
    obtain ⟨h0, h1⟩ := hagree c
    obtain ⟨e_v29, e_v30, e_v31, e_v48, e_v33, e_v34, e_v49, e_v37, e_v40, e_v50, e_v51, e_v52, e_v46, e_v47, e_v54, ha⟩ := h c
    refine ⟨e_v29.trans ?_, e_v30.trans ?_, e_v31.trans ?_, e_v48.trans ?_, e_v33.trans ?_, e_v34.trans ?_, e_v49.trans ?_, e_v37.trans ?_, e_v40.trans ?_, e_v50.trans ?_, e_v51.trans ?_, e_v52.trans ?_, e_v46.trans ?_, e_v47.trans ?_, e_v54.trans ?_, ha⟩
    · exact (Cert.ProjectReferenceIdeal.Read.val_main_v1_eq (F := Ideal) _ _).trans
        ((congrArg₂ (Cert.ProjectReferenceIdeal.Read.val_main_v1 (F := Ideal)) h0 h1).trans (Cert.Columns.out_v29 m c).symm)
    · exact (Cert.ProjectReferenceIdeal.Read.val_main_v2_eq (F := Ideal) _ _).trans
        ((congrArg₂ (Cert.ProjectReferenceIdeal.Read.val_main_v2 (F := Ideal)) h0 h1).trans (Cert.Columns.out_v30 m c).symm)
    · exact (Cert.ProjectReferenceIdeal.Read.val_main_v3_eq (F := Ideal) _ _).trans
        ((congrArg₂ (Cert.ProjectReferenceIdeal.Read.val_main_v3 (F := Ideal)) h0 h1).trans (Cert.Columns.out_v31 m c).symm)
    · exact (Cert.ProjectReferenceIdeal.Read.val_main_v4_eq (F := Ideal) _ _).trans
        ((congrArg₂ (Cert.ProjectReferenceIdeal.Read.val_main_v4 (F := Ideal)) h0 h1).trans (Cert.Columns.out_v48 m c).symm)
    · exact (Cert.ProjectReferenceIdeal.Read.val_main_v5_eq (F := Ideal) _ _).trans
        ((congrArg₂ (Cert.ProjectReferenceIdeal.Read.val_main_v5 (F := Ideal)) h0 h1).trans (Cert.Columns.out_v33 m c).symm)
    · exact (Cert.ProjectReferenceIdeal.Read.val_main_v6_eq (F := Ideal) _ _).trans
        ((congrArg₂ (Cert.ProjectReferenceIdeal.Read.val_main_v6 (F := Ideal)) h0 h1).trans (Cert.Columns.out_v34 m c).symm)
    · exact (Cert.ProjectReferenceIdeal.Read.val_main_v8_eq (F := Ideal) _ _).trans
        ((congrArg₂ (Cert.ProjectReferenceIdeal.Read.val_main_v8 (F := Ideal)) h0 h1).trans (Cert.Columns.out_v49 m c).symm)
    · exact (Cert.ProjectReferenceIdeal.Read.val_main_v9_eq (F := Ideal) _ _).trans
        ((congrArg₂ (Cert.ProjectReferenceIdeal.Read.val_main_v9 (F := Ideal)) h0 h1).trans (Cert.Columns.out_v37 m c).symm)
    · exact (Cert.ProjectReferenceIdeal.Read.val_main_v12_eq (F := Ideal) _ _).trans
        ((congrArg₂ (Cert.ProjectReferenceIdeal.Read.val_main_v12 (F := Ideal)) h0 h1).trans (Cert.Columns.out_v40 m c).symm)
    · exact (Cert.ProjectReferenceIdeal.Read.val_main_v21_eq (F := Ideal) _ _).trans
        ((congrArg₂ (Cert.ProjectReferenceIdeal.Read.val_main_v21 (F := Ideal)) h0 h1).trans (Cert.Columns.out_v50 m c).symm)
    · exact (Cert.ProjectReferenceIdeal.Read.val_main_v22_eq (F := Ideal) _ _).trans
        ((congrArg₂ (Cert.ProjectReferenceIdeal.Read.val_main_v22 (F := Ideal)) h0 h1).trans (Cert.Columns.out_v51 m c).symm)
    · exact (Cert.ProjectReferenceIdeal.Read.val_main_v23_eq (F := Ideal) _ _).trans
        ((congrArg₂ (Cert.ProjectReferenceIdeal.Read.val_main_v23 (F := Ideal)) h0 h1).trans (Cert.Columns.out_v52 m c).symm)
    · exact (Cert.ProjectReferenceIdeal.Read.val_main_v19_eq (F := Ideal) _ _).trans
        ((congrArg₂ (Cert.ProjectReferenceIdeal.Read.val_main_v19 (F := Ideal)) h0 h1).trans (Cert.Columns.out_v46 m c).symm)
    · exact (Cert.ProjectReferenceIdeal.Read.val_main_v20_eq (F := Ideal) _ _).trans
        ((congrArg₂ (Cert.ProjectReferenceIdeal.Read.val_main_v20 (F := Ideal)) h0 h1).trans (Cert.Columns.out_v47 m c).symm)
    · exact (Cert.ProjectReferenceIdeal.Read.val_main_v25_eq (F := Ideal) _ _).trans
        ((congrArg₂ (Cert.ProjectReferenceIdeal.Read.val_main_v25 (F := Ideal)) h0 h1).trans (Cert.Columns.out_v54 m c).symm)

/-- Of the call Norm: the prompt's last norm. Its reference runs, keeps its arguments and ends with its counters zero. -/
theorem quiescent_NormReferenceIdeal : quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

/-- Over the extended reals the call and its reference leave the same array. -/
theorem algebraic_NormIdeal_NormReferenceIdeal :
    @algebraic_NormIdeal_NormReferenceIdeal Cert.NormIdeal.Gen.facts Cert.NormReferenceIdeal.Gen.facts := by
  intro m ρ m' ρ' hpre hagree
  refine ⟨_, Cert.NormIdeal.Value.run_blocks (F := Ideal) m ρ, ?_⟩
  refine (θ_run Cert.NormReferenceIdeal.defs _ _).mono (fun _ h c => ⟨?_, (h c).2⟩) (Cert.NormReferenceIdeal.Value.run (F := Ideal) m' ρ')
  refine ((h c).1.trans ?_).trans (Cert.NormRows.result_eq m c).symm
  obtain ⟨h0, h1⟩ := hagree c
  refine (Cert.NormReferenceIdeal.Read.val_main_v13_eq (F := Ideal) _ _).trans ?_
  show Cert.NormReferenceIdeal.Read.val_main_v13 (F := Ideal)
    (m' ((c.tc : Thread _ _).loc Cert.NormReferenceIdeal.main_arg0))
    (m' ((c.tc : Thread _ _).loc Cert.NormReferenceIdeal.main_arg1)) = _
  rw [h0, h1]

/-- Of the call ProjectSample: the sample's projection. Its reference runs, keeps its arguments and ends with its counters zero. -/
theorem quiescent_ProjectSampleReferenceIdeal : quiescent_ProjectSampleReferenceIdeal := fun m ρ _ =>
  (θ_run Cert.ProjectSampleReferenceIdeal.defs _ _).mono (fun r h => ⟨fun c => (h c).2.2.2.2.2.2.2.2.2.2.2.2.2.2.2, sem_eq_zero_of_no_sems (by decide) r.2⟩)
    (Cert.ProjectSampleReferenceIdeal.Value.run (F := Ideal) m ρ)

set_option maxHeartbeats 8000000 in
/-- Over the extended reals the call and its reference leave the same arrays. -/
theorem algebraic_ProjectSampleIdeal_ProjectSampleReferenceIdeal :
    @algebraic_ProjectSampleIdeal_ProjectSampleReferenceIdeal Cert.ProjectSampleIdeal.Gen.facts Cert.ProjectSampleReferenceIdeal.Gen.facts := by
  pair_intro
  · run_from (Cert.ProjectSampleIdeal.Gen.run_main (F := Ideal) m g)
    · exact Cert.ProjectSampleIdeal.Gen.W_main_arg0 m (Cert.ProjectSampleIdeal.Gen.dats m) c
    · exact Cert.ProjectSampleIdeal.Gen.W_main_arg1 m (Cert.ProjectSampleIdeal.Gen.dats m) c
    · exact Cert.ProjectSampleIdeal.Gen.W_main_arg2 m (Cert.ProjectSampleIdeal.Gen.dats m) c
  · refine (θ_run Cert.ProjectSampleReferenceIdeal.defs _ _).mono (fun _ h c => ?_) (Cert.ProjectSampleReferenceIdeal.Value.run (F := Ideal) m' g')
    obtain ⟨h0, h1, h2⟩ := hagree c
    obtain ⟨e_v29, e_v30, e_v31, e_v50, e_v33, e_v34, e_v51, e_v37, e_v40, e_v52, e_v53, e_v54, e_v46, e_v49, e_v56, ha⟩ := h c
    refine ⟨e_v29.trans ?_, e_v30.trans ?_, e_v31.trans ?_, e_v50.trans ?_, e_v33.trans ?_, e_v34.trans ?_, e_v51.trans ?_, e_v37.trans ?_, e_v40.trans ?_, e_v52.trans ?_, e_v53.trans ?_, e_v54.trans ?_, e_v46.trans ?_, e_v49.trans ?_, e_v56.trans ?_, ha⟩
    · exact (Cert.ProjectSampleReferenceIdeal.Read.val_main_v1_eq (F := Ideal) _ _).trans
        ((congrArg₂ (Cert.ProjectSampleReferenceIdeal.Read.val_main_v1 (F := Ideal)) h0 h1).trans (Cert.SampleColumns.out_v29 m c).symm)
    · exact (Cert.ProjectSampleReferenceIdeal.Read.val_main_v2_eq (F := Ideal) _ _).trans
        ((congrArg₂ (Cert.ProjectSampleReferenceIdeal.Read.val_main_v2 (F := Ideal)) h0 h1).trans (Cert.SampleColumns.out_v30 m c).symm)
    · exact (Cert.ProjectSampleReferenceIdeal.Read.val_main_v3_eq (F := Ideal) _ _).trans
        ((congrArg₂ (Cert.ProjectSampleReferenceIdeal.Read.val_main_v3 (F := Ideal)) h0 h1).trans (Cert.SampleColumns.out_v31 m c).symm)
    · exact (Cert.ProjectSampleReferenceIdeal.Read.val_main_v4_eq (F := Ideal) _ _).trans
        ((congrArg₂ (Cert.ProjectSampleReferenceIdeal.Read.val_main_v4 (F := Ideal)) h0 h1).trans (Cert.SampleColumns.out_v50 m c).symm)
    · exact (Cert.ProjectSampleReferenceIdeal.Read.val_main_v5_eq (F := Ideal) _ _).trans
        ((congrArg₂ (Cert.ProjectSampleReferenceIdeal.Read.val_main_v5 (F := Ideal)) h0 h1).trans (Cert.SampleColumns.out_v33 m c).symm)
    · exact (Cert.ProjectSampleReferenceIdeal.Read.val_main_v6_eq (F := Ideal) _ _).trans
        ((congrArg₂ (Cert.ProjectSampleReferenceIdeal.Read.val_main_v6 (F := Ideal)) h0 h1).trans (Cert.SampleColumns.out_v34 m c).symm)
    · exact (Cert.ProjectSampleReferenceIdeal.Read.val_main_v8_eq (F := Ideal) _ _).trans
        ((congrArg₂ (Cert.ProjectSampleReferenceIdeal.Read.val_main_v8 (F := Ideal)) h0 h1).trans (Cert.SampleColumns.out_v51 m c).symm)
    · exact (Cert.ProjectSampleReferenceIdeal.Read.val_main_v9_eq (F := Ideal) _ _).trans
        ((congrArg₂ (Cert.ProjectSampleReferenceIdeal.Read.val_main_v9 (F := Ideal)) h0 h1).trans (Cert.SampleColumns.out_v37 m c).symm)
    · exact (Cert.ProjectSampleReferenceIdeal.Read.val_main_v12_eq (F := Ideal) _ _).trans
        ((congrArg₂ (Cert.ProjectSampleReferenceIdeal.Read.val_main_v12 (F := Ideal)) h0 h1).trans (Cert.SampleColumns.out_v40 m c).symm)
    · exact (Cert.ProjectSampleReferenceIdeal.Read.val_main_v23_eq (F := Ideal) _ _).trans
        ((congrArg₂ (Cert.ProjectSampleReferenceIdeal.Read.val_main_v23 (F := Ideal)) h0 h1).trans (Cert.SampleColumns.out_v52 m c).symm)
    · exact (Cert.ProjectSampleReferenceIdeal.Read.val_main_v24_eq (F := Ideal) _ _).trans
        ((congrArg₂ (Cert.ProjectSampleReferenceIdeal.Read.val_main_v24 (F := Ideal)) h0 h1).trans (Cert.SampleColumns.out_v53 m c).symm)
    · exact (Cert.ProjectSampleReferenceIdeal.Read.val_main_v25_eq (F := Ideal) _ _).trans
        ((congrArg₂ (Cert.ProjectSampleReferenceIdeal.Read.val_main_v25 (F := Ideal)) h0 h1).trans (Cert.SampleColumns.out_v54 m c).symm)
    · exact (Cert.ProjectSampleReferenceIdeal.Read.val_main_v19_eq (F := Ideal) _ _).trans
        ((congrArg₂ (Cert.ProjectSampleReferenceIdeal.Read.val_main_v19 (F := Ideal)) h0 h1).trans (Cert.SampleColumns.out_v46 m c).symm)
    · exact (Cert.ProjectSampleReferenceIdeal.Read.val_main_v22_eq (F := Ideal) _ _ _).trans
        ((congr (congrArg₂ (Cert.ProjectSampleReferenceIdeal.Read.val_main_v22 (F := Ideal)) h0 h1) h2).trans (Cert.SampleColumns.out_v49 m c).symm)
    · exact (Cert.ProjectSampleReferenceIdeal.Read.val_main_v27_eq (F := Ideal) _ _).trans
        ((congrArg₂ (Cert.ProjectSampleReferenceIdeal.Read.val_main_v27 (F := Ideal)) h0 h1).trans (Cert.SampleColumns.out_v56 m c).symm)

/-- Of the call NormSample: the sample's last norm. Its reference runs, keeps its arguments and ends with its counters zero. -/
theorem quiescent_NormSampleReferenceIdeal : quiescent_NormSampleReferenceIdeal := fun m ρ _ =>
  (θ_run Cert.NormSampleReferenceIdeal.defs _ _).mono (fun r h => ⟨fun c => (h c).2, sem_eq_zero_of_no_sems (by decide) r.2⟩)
    (Cert.NormSampleReferenceIdeal.Value.run (F := Ideal) m ρ)

/-- Over the extended reals the call and its reference leave the same array. -/
theorem algebraic_NormSampleIdeal_NormSampleReferenceIdeal :
    @algebraic_NormSampleIdeal_NormSampleReferenceIdeal Cert.NormSampleIdeal.Gen.facts Cert.NormSampleReferenceIdeal.Gen.facts := by
  intro m ρ m' ρ' hpre hagree
  refine ⟨_, Cert.NormSampleIdeal.Value.run_blocks (F := Ideal) m ρ, ?_⟩
  refine (θ_run Cert.NormSampleReferenceIdeal.defs _ _).mono (fun _ h c => ⟨?_, (h c).2⟩) (Cert.NormSampleReferenceIdeal.Value.run (F := Ideal) m' ρ')
  refine ((h c).1.trans ?_).trans (Cert.NormSampleRows.result_eq m c).symm
  obtain ⟨h0, h1⟩ := hagree c
  refine (Cert.NormSampleReferenceIdeal.Read.val_main_v13_eq (F := Ideal) _ _).trans ?_
  show Cert.NormSampleReferenceIdeal.Read.val_main_v13 (F := Ideal)
    (m' ((c.tc : Thread _ _).loc Cert.NormSampleReferenceIdeal.main_arg0))
    (m' ((c.tc : Thread _ _).loc Cert.NormSampleReferenceIdeal.main_arg1)) = _
  rw [h0, h1]

/-- Of the call GlaSample: the sample's recurrence. Its reference runs, keeps its arguments and ends with its counters zero. -/
theorem quiescent_GlaSampleReferenceIdeal : quiescent_GlaSampleReferenceIdeal := fun m ρ _ =>
  (θ_run Cert.GlaSampleReferenceIdeal.defs _ _).mono (fun r h => ⟨fun c => (h c).2, sem_eq_zero_of_no_sems (by decide) r.2⟩)
    (Cert.GlaSampleReferenceIdeal.Value.run (F := Ideal) m ρ)

set_option maxHeartbeats 8000000 in
/-- Over the extended reals, on finite keys and values, the call and its reference leave the same state. -/
theorem algebraic_GlaSampleIdeal_GlaSampleReferenceIdeal [Cert.Pre_finite_kv.Facts] :
    @algebraic_GlaSampleIdeal_GlaSampleReferenceIdeal_pre_finite_kv Cert.GlaSampleIdeal.Gen.facts Cert.GlaSampleReferenceIdeal.Gen.facts _ := by
  pair_intro
  · run_from (Cert.GlaSampleIdeal.Gen.run_main (F := Ideal) m g)
    · exact Cert.GlaSampleIdeal.Gen.W_main_arg3 m (Cert.GlaSampleIdeal.Gen.dats m) c
    · exact Cert.GlaSampleIdeal.Gen.W_main_arg5 m (Cert.GlaSampleIdeal.Gen.dats m) c
    · exact Cert.GlaSampleIdeal.Gen.W_main_arg6 m (Cert.GlaSampleIdeal.Gen.dats m) c
    · exact Cert.GlaSampleIdeal.Gen.W_main_arg7 m (Cert.GlaSampleIdeal.Gen.dats m) c
    · exact Cert.GlaSampleIdeal.Gen.W_main_arg8 m (Cert.GlaSampleIdeal.Gen.dats m) c
  · refine (θ_run Cert.GlaSampleReferenceIdeal.defs _ _).mono (fun _ h c => ?_) (Cert.GlaSampleReferenceIdeal.Value.run (F := Ideal) m' g')
    obtain ⟨h0, h1, h2, h3, h4, h5, h6, h7, h8⟩ := hagree c
    obtain ⟨hk, hv⟩ := Cert.SampleState.real_of_pre m hpre c
    refine ⟨(h c).1.trans ?_, (h c).2⟩
    refine Eq.trans ?_ (Cert.SampleState.out_v35 m c hk hv).symm
    refine (Cert.GlaSampleReferenceIdeal.Read.val_main_v22_eq (F := Ideal) _ _).trans ?_
    show Cert.GlaSampleReferenceIdeal.Read.val_main_v22 (F := Ideal)
      (m' ((c.tc : Thread _ _).loc Cert.GlaSampleReferenceIdeal.main_arg1))
      (m' ((c.tc : Thread _ _).loc Cert.GlaSampleReferenceIdeal.main_arg2))
      (m' ((c.tc : Thread _ _).loc Cert.GlaSampleReferenceIdeal.main_arg3))
      (m' ((c.tc : Thread _ _).loc Cert.GlaSampleReferenceIdeal.main_arg5))
      (m' ((c.tc : Thread _ _).loc Cert.GlaSampleReferenceIdeal.main_arg6))
      (m' ((c.tc : Thread _ _).loc Cert.GlaSampleReferenceIdeal.main_arg8)) = _
    rw [h1, h2, h3, h5, h6, h8]

/-- Of the call Gla: the prompt's recurrence. Its reference runs, keeps its arguments and ends with its counters zero. -/
theorem quiescent_GlaReferenceIdeal : quiescent_GlaReferenceIdeal := fun m ρ _ =>
  (θ_run Cert.GlaReferenceIdeal.defs _ _).mono (fun r h => ⟨fun c => (h c).2, sem_eq_zero_of_no_sems (by decide) r.2⟩)
    (Cert.GlaReferenceIdeal.Value.run (F := Ideal) m ρ)

set_option maxHeartbeats 8000000 in
/-- Over the extended reals, on finite keys, values and gates, the call and its reference leave the same state. -/
theorem algebraic_GlaIdeal_GlaReferenceIdeal [Cert.Pre_finite_gates.Facts] :
    @algebraic_GlaIdeal_GlaReferenceIdeal_pre_finite_gates Cert.GlaIdeal.Gen.facts Cert.GlaReferenceIdeal.Gen.facts _ := by
  pair_intro
  · run_from (Cert.GlaIdeal.Gen.run_main (F := Ideal) m g)
    · exact Cert.GlaIdeal.Gen.W_main_arg3 m (Cert.GlaIdeal.Gen.dats m) c
    · exact Cert.GlaIdeal.Gen.W_main_arg5 m (Cert.GlaIdeal.Gen.dats m) c
    · exact Cert.GlaIdeal.Gen.W_main_arg6 m (Cert.GlaIdeal.Gen.dats m) c
    · exact Cert.GlaIdeal.Gen.W_main_arg7 m (Cert.GlaIdeal.Gen.dats m) c
  · refine (θ_run Cert.GlaReferenceIdeal.defs _ _).mono (fun _ h c => ?_) (Cert.GlaReferenceIdeal.Value.run (F := Ideal) m' g')
    obtain ⟨h0, h1, h2, h3, h4, h5, h6, h7⟩ := hagree c
    obtain ⟨hk, hv, ha, hw, hb⟩ := Cert.PromptState.real_of_pre m hpre c
    refine ⟨(h c).1.trans ?_, (h c).2⟩
    refine Eq.trans ?_ (Cert.PromptState.out_v24 m c hk hv ha hw hb).symm
    refine (Cert.GlaReferenceIdeal.Read.val_main_v16_eq (F := Ideal) _ _).trans ?_
    show Cert.GlaReferenceIdeal.Read.val_main_v16 (F := Ideal)
      (m' ((c.tc : Thread _ _).loc Cert.GlaReferenceIdeal.main_arg1))
      (m' ((c.tc : Thread _ _).loc Cert.GlaReferenceIdeal.main_arg2))
      (m' ((c.tc : Thread _ _).loc Cert.GlaReferenceIdeal.main_arg3))
      (m' ((c.tc : Thread _ _).loc Cert.GlaReferenceIdeal.main_arg5))
      (m' ((c.tc : Thread _ _).loc Cert.GlaReferenceIdeal.main_arg6)) = _
    rw [h1, h2, h3, h5, h6]

/-- Everything that is claimed: side conditions, frames, the idealizations, and the value claims. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Merge.Gen.facts, Cert.MergeIdeal.Gen.facts, Cert.MergeReferenceIdeal.Gen.facts,
    Cert.Project.Gen.facts, Cert.ProjectIdeal.Gen.facts, Cert.ProjectReferenceIdeal.Gen.facts,
    Cert.Norm.Gen.facts, Cert.NormIdeal.Gen.facts, Cert.NormReferenceIdeal.Gen.facts,
    Cert.ProjectSample.Gen.facts, Cert.ProjectSampleIdeal.Gen.facts, Cert.ProjectSampleReferenceIdeal.Gen.facts,
    Cert.NormSample.Gen.facts, Cert.NormSampleIdeal.Gen.facts, Cert.NormSampleReferenceIdeal.Gen.facts,
    Cert.GlaSample.Gen.facts, Cert.GlaSampleIdeal.Gen.facts, Cert.GlaSampleReferenceIdeal.Gen.facts,
    Cert.Gla.Gen.facts, Cert.GlaIdeal.Gen.facts, Cert.GlaReferenceIdeal.Gen.facts,
    Cert.Routed.pre_facts, Cert.SampleState.pre_facts, Cert.PromptState.pre_facts,
    fun m ρ _ => Cert.Kernel.Gen.frame m ρ, fun m ρ _ => Cert.KernelIdeal.Gen.frame m ρ, fun m ρ _ => Cert.KernelIdeal.Gen.frame m ρ,
    quiescent_ReferenceIdeal, fun m ρ _ => quiescent_ReferenceIdeal m ρ trivial,
    fun m ρ _ => Cert.Ffn.Gen.frame m ρ, fun m ρ _ => Cert.FfnIdeal.Gen.frame m ρ, quiescent_FfnReferenceIdeal,
    fun m ρ _ => Cert.Merge.Gen.frame m ρ, fun m ρ _ => Cert.MergeIdeal.Gen.frame m ρ, quiescent_MergeReferenceIdeal,
    fun m ρ _ => Cert.Project.Gen.frame m ρ, fun m ρ _ => Cert.ProjectIdeal.Gen.frame m ρ, quiescent_ProjectReferenceIdeal,
    fun m ρ _ => Cert.Norm.Gen.frame m ρ, fun m ρ _ => Cert.NormIdeal.Gen.frame m ρ, quiescent_NormReferenceIdeal,
    fun m ρ _ => Cert.ProjectSample.Gen.frame m ρ, fun m ρ _ => Cert.ProjectSampleIdeal.Gen.frame m ρ, quiescent_ProjectSampleReferenceIdeal,
    fun m ρ _ => Cert.NormSample.Gen.frame m ρ, fun m ρ _ => Cert.NormSampleIdeal.Gen.frame m ρ, quiescent_NormSampleReferenceIdeal,
    fun m ρ _ => Cert.GlaSample.Gen.frame m ρ, fun m ρ _ => Cert.GlaSampleIdeal.Gen.frame m ρ, fun m ρ _ => Cert.GlaSampleIdeal.Gen.frame m ρ,
    quiescent_GlaSampleReferenceIdeal, fun m ρ _ => quiescent_GlaSampleReferenceIdeal m ρ trivial,
    fun m ρ _ => Cert.Gla.Gen.frame m ρ, fun m ρ _ => Cert.GlaIdeal.Gen.frame m ρ, fun m ρ _ => Cert.GlaIdeal.Gen.frame m ρ,
    quiescent_GlaReferenceIdeal, fun m ρ _ => quiescent_GlaReferenceIdeal m ρ trivial,
    (trivial : preserves_Kernel_KernelIdeal), (haveI := Cert.Routed.pre_facts; algebraic_KernelIdeal_ReferenceIdeal),
    (trivial : preserves_Ffn_FfnIdeal), algebraic_FfnIdeal_FfnReferenceIdeal,
    (trivial : preserves_Merge_MergeIdeal), algebraic_MergeIdeal_MergeReferenceIdeal,
    (trivial : preserves_Project_ProjectIdeal), algebraic_ProjectIdeal_ProjectReferenceIdeal,
    (trivial : preserves_Norm_NormIdeal), algebraic_NormIdeal_NormReferenceIdeal,
    (trivial : preserves_ProjectSample_ProjectSampleIdeal), algebraic_ProjectSampleIdeal_ProjectSampleReferenceIdeal,
    (trivial : preserves_NormSample_NormSampleIdeal), algebraic_NormSampleIdeal_NormSampleReferenceIdeal,
    (trivial : preserves_GlaSample_GlaSampleIdeal), (haveI := Cert.SampleState.pre_facts; algebraic_GlaSampleIdeal_GlaSampleReferenceIdeal),
    (trivial : preserves_Gla_GlaIdeal), (haveI := Cert.PromptState.pre_facts; algebraic_GlaIdeal_GlaReferenceIdeal)⟩

end Cert.Proof

end
